-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "exp2_scale" .f32 0x3E16C740#32 (((3424635 / 33554432) * (Real.log 2)⁻¹ : ℝ) : EReal)
  ∧ IdealRules.named_const.Statement Cert.KernelIdeal.κ "log2_e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)) (v2 : (c : Dev Cert.KernelIdeal.nD) → Buf (Elt Ideal) ((c.tc : Thread Cert.KernelIdeal.nD Cert.KernelIdeal.τ).loc Cert.KernelIdeal.main_v29_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_v29_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v20) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_v15) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v25) = v0 c
          ∧ r.2.mem ((c.tc : Thread Cert.Reference7Ideal.nD Cert.Reference7Ideal.τ).loc Cert.Reference7Ideal.main_v27) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v32_0)) (v1 : (c : Dev Cert.Kernel8Ideal.nD) → Buf (Elt Ideal) ((c.tc : Thread Cert.Kernel8Ideal.nD Cert.Kernel8Ideal.τ).loc Cert.Kernel8Ideal.main_v32_1)) (v2 : (c : Dev Cert.Kernel8Ideal.nD) → Buf (Elt Ideal) ((c.tc : Thread Cert.Kernel8Ideal.nD Cert.Kernel8Ideal.τ).loc Cert.Kernel8Ideal.main_v32_2)) (v3 : (c : Dev Cert.Kernel8Ideal.nD) → Buf (Elt Ideal) ((c.tc : Thread Cert.Kernel8Ideal.nD Cert.Kernel8Ideal.τ).loc Cert.Kernel8Ideal.main_v32_3)) (v4 : (c : Dev Cert.Kernel8Ideal.nD) → Buf (Elt Ideal) ((c.tc : Thread Cert.Kernel8Ideal.nD Cert.Kernel8Ideal.τ).loc Cert.Kernel8Ideal.main_v32_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v32_0) = v0 c
          ∧ r.2.mem ((c.tc : Thread Cert.Kernel8Ideal.nD Cert.Kernel8Ideal.τ).loc Cert.Kernel8Ideal.main_v32_1) = v1 c
          ∧ r.2.mem ((c.tc : Thread Cert.Kernel8Ideal.nD Cert.Kernel8Ideal.τ).loc Cert.Kernel8Ideal.main_v32_2) = v2 c
          ∧ r.2.mem ((c.tc : Thread Cert.Kernel8Ideal.nD Cert.Kernel8Ideal.τ).loc Cert.Kernel8Ideal.main_v32_3) = v3 c
          ∧ r.2.mem ((c.tc : Thread Cert.Kernel8Ideal.nD Cert.Kernel8Ideal.τ).loc Cert.Kernel8Ideal.main_v32_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v53) = v0 c
          ∧ r.2.mem ((c.tc : Thread Cert.Reference8Ideal.nD Cert.Reference8Ideal.τ).loc Cert.Reference8Ideal.main_v55) = v1 c
          ∧ r.2.mem ((c.tc : Thread Cert.Reference8Ideal.nD Cert.Reference8Ideal.τ).loc Cert.Reference8Ideal.main_v56) = v2 c
          ∧ r.2.mem ((c.tc : Thread Cert.Reference8Ideal.nD Cert.Reference8Ideal.τ).loc Cert.Reference8Ideal.main_v32) = v3 c
          ∧ r.2.mem ((c.tc : Thread Cert.Reference8Ideal.nD Cert.Reference8Ideal.τ).loc Cert.Reference8Ideal.main_v44) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
-- ==== Pre_finite.lean ====
abbrev S8x8208x96 : Shape := ⟨3, ![8, 8208, 96]⟩
abbrev S8x8208x64 : Shape := ⟨3, ![8, 8208, 64]⟩
abbrev S_ : Shape := ⟨0, ![]⟩

class Facts : Prop where
  bcast_S_S8x8208x96 : S_.BroadcastsInDim S8x8208x96 (![] : Fin 0 → Fin S8x8208x96.rank)
  reducesTo_S8x8208x96_S_d0_1_2 : S8x8208x96.ReducesTo [0, 1, 2] S_
  h_S_ : 0 < S_.numel
  bcast_S_S8x8208x64 : S_.BroadcastsInDim S8x8208x64 (![] : Fin 0 → Fin S8x8208x64.rank)
  reducesTo_S8x8208x64_S_d0_1_2 : S8x8208x64.ReducesTo [0, 1, 2] S_

variable [Facts]

def fn_part1 {F : FTy → Type} [FloatOps F] (main_v13 : IVec S_ 1) (main_v16 : IVec S8x8208x64 1) : IVec S_ 1 :=
  let main_c_5 : IVec S_ 1 := constantI S_ 1 1#1
  let main_v17 : IVec S_ 1 := (fun x v => Host.reduce IntOp.andi x v reducesTo_S8x8208x64_S_d0_1_2 h_S_) main_v16 main_c_5
  let main_v18 : IVec S_ 1 := andi main_v13 main_v17
  main_v18

def fn {F : FTy → Type} [FloatOps F] (main_arg0 : FVec F S8x8208x96 .f32) (main_arg1 : FVec F S8x8208x96 .f32) (main_arg2 : FVec F S8x8208x64 .f32) (main_arg3 : FVec F S8x8208x64 .f32) : IVec S_ 1 :=
  let main_v0 : FVec F S8x8208x96 .f32 := Host.absf main_arg0
  let main_cst : FVec F S_ .f32 := constant S_ .f32 0x7F800000#32
  let main_v1 : FVec F S8x8208x96 .f32 := broadcastInDim S8x8208x96 ![] bcast_S_S8x8208x96 main_cst
  let main_v2 : IVec S8x8208x96 1 := cmpf .olt main_v0 main_v1
  let main_c : IVec S_ 1 := constantI S_ 1 1#1
  let main_v3 : IVec S_ 1 := (fun x v => Host.reduce IntOp.andi x v reducesTo_S8x8208x96_S_d0_1_2 h_S_) main_v2 main_c
  let main_v4 : FVec F S8x8208x96 .f32 := Host.absf main_arg1
  let main_cst_0 : FVec F S_ .f32 := constant S_ .f32 0x7F800000#32
  let main_v5 : FVec F S8x8208x96 .f32 := broadcastInDim S8x8208x96 ![] bcast_S_S8x8208x96 main_cst_0
  let main_v6 : IVec S8x8208x96 1 := cmpf .olt main_v4 main_v5
  let main_c_1 : IVec S_ 1 := constantI S_ 1 1#1
  let main_v7 : IVec S_ 1 := (fun x v => Host.reduce IntOp.andi x v reducesTo_S8x8208x96_S_d0_1_2 h_S_) main_v6 main_c_1
  let main_v8 : IVec S_ 1 := andi main_v3 main_v7
  let main_v9 : FVec F S8x8208x64 .f32 := Host.absf main_arg2
  let main_cst_2 : FVec F S_ .f32 := constant S_ .f32 0x7F800000#32
  let main_v10 : FVec F S8x8208x64 .f32 := broadcastInDim S8x8208x64 ![] bcast_S_S8x8208x64 main_cst_2
  let main_v11 : IVec S8x8208x64 1 := cmpf .olt main_v9 main_v10
  let main_c_3 : IVec S_ 1 := constantI S_ 1 1#1
  let main_v12 : IVec S_ 1 := (fun x v => Host.reduce IntOp.andi x v reducesTo_S8x8208x64_S_d0_1_2 h_S_) main_v11 main_c_3
  let main_v13 : IVec S_ 1 := andi main_v8 main_v12
  let main_v14 : FVec F S8x8208x64 .f32 := Host.absf main_arg3
  let main_cst_4 : FVec F S_ .f32 := constant S_ .f32 0x7F800000#32
  let main_v15 : FVec F S8x8208x64 .f32 := broadcastInDim S8x8208x64 ![] bcast_S_S8x8208x64 main_cst_4
  let main_v16 : IVec S8x8208x64 1 := cmpf .olt main_v14 main_v15
  fn_part1 (F := F) main_v13 main_v16
-- ==== Pre_finite8.lean ====
abbrev S8208x1024 : Shape := ⟨2, ![8208, 1024]⟩
abbrev S8208x4736 : Shape := ⟨2, ![8208, 4736]⟩
abbrev S8x8208x64 : Shape := ⟨3, ![8, 8208, 64]⟩
abbrev S512x1024 : Shape := ⟨2, ![512, 1024]⟩
abbrev S1024x1024 : Shape := ⟨2, ![1024, 1024]⟩
abbrev S_ : Shape := ⟨0, ![]⟩

class Facts : Prop where
  bcast_S_S8208x1024 : S_.BroadcastsInDim S8208x1024 (![] : Fin 0 → Fin S8208x1024.rank)
  reducesTo_S8208x1024_S_d0_1 : S8208x1024.ReducesTo [0, 1] S_
  h_S_ : 0 < S_.numel
  bcast_S_S8x8208x64 : S_.BroadcastsInDim S8x8208x64 (![] : Fin 0 → Fin S8x8208x64.rank)
  reducesTo_S8x8208x64_S_d0_1_2 : S8x8208x64.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S8208x1024 .f32) (main_arg1 : FVec F S8208x4736 .f32) (main_arg2 : FVec F S8x8208x64 .f32) (main_arg3 : FVec F S8208x1024 .f32) (main_arg4 : FVec F S512x1024 .f32) (main_arg5 : FVec F S1024x1024 .f32) : IVec S_ 1 :=
  let main_v0 : FVec F S8208x1024 .f32 := Host.absf main_arg0
  let main_cst : FVec F S_ .f32 := constant S_ .f32 0x7F800000#32
  let main_v1 : FVec F S8208x1024 .f32 := broadcastInDim S8208x1024 ![] bcast_S_S8208x1024 main_cst
  let main_v2 : IVec S8208x1024 1 := cmpf .olt main_v0 main_v1
  let main_c : IVec S_ 1 := constantI S_ 1 1#1
  let main_v3 : IVec S_ 1 := (fun x v => Host.reduce IntOp.andi x v reducesTo_S8208x1024_S_d0_1 h_S_) main_v2 main_c
  let main_v4 : FVec F S8x8208x64 .f32 := Host.absf main_arg2
  let main_cst_0 : FVec F S_ .f32 := constant S_ .f32 0x7F800000#32
  let main_v5 : FVec F S8x8208x64 .f32 := broadcastInDim S8x8208x64 ![] bcast_S_S8x8208x64 main_cst_0
  let main_v6 : IVec S8x8208x64 1 := cmpf .olt main_v4 main_v5
  let main_c_1 : IVec S_ 1 := constantI S_ 1 1#1
  let main_v7 : IVec S_ 1 := (fun x v => Host.reduce IntOp.andi x v reducesTo_S8x8208x64_S_d0_1_2 h_S_) main_v6 main_c_1
  let main_v8 : IVec S_ 1 := andi main_v3 main_v7
  let main_v9 : FVec F S512x1024 .f32 := Host.absf main_arg4
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S1024x1024 .f32 := Host.absf main_arg5
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S8x8208x96 : Shape := ⟨3, ![8, 8208, 96]⟩
abbrev S8x8208x64 : Shape := ⟨3, ![8, 8208, 64]⟩
abbrev S8x8208x8208 : Shape := ⟨3, ![8, 8208, 8208]⟩
abbrev S_ : Shape := ⟨0, ![]⟩
abbrev S8x8208 : Shape := ⟨2, ![8, 8208]⟩
abbrev S8x8208x1 : Shape := ⟨3, ![8, 8208, 1]⟩
abbrev S8x1x8208 : Shape := ⟨3, ![8, 1, 8208]⟩
abbrev S8x8320x128 : Shape := ⟨3, ![8, 8320, 128]⟩
abbrev S8x8320x64 : Shape := ⟨3, ![8, 8320, 64]⟩
abbrev S8x1x8320 : Shape := ⟨3, ![8, 1, 8320]⟩
abbrev S4x640x128 : Shape := ⟨3, ![4, 640, 128]⟩
abbrev S4x640x64 : Shape := ⟨3, ![4, 640, 64]⟩
abbrev S4x1x640 : Shape := ⟨3, ![4, 1, 640]⟩
abbrev S4x8320x128 : Shape := ⟨3, ![4, 8320, 128]⟩
abbrev S4x13x1x640 : Shape := ⟨4, ![4, 13, 1, 640]⟩
abbrev S640x64 : Shape := ⟨2, ![640, 64]⟩
abbrev S1x640x64 : Shape := ⟨3, ![1, 640, 64]⟩
abbrev S640x128 : Shape := ⟨2, ![640, 128]⟩
abbrev S128x640 : Shape := ⟨2, ![128, 640]⟩
abbrev S640 : Shape := ⟨1, ![640]⟩
abbrev S1x640 : Shape := ⟨2, ![1, 640]⟩
abbrev S1x1x1x640 : Shape := ⟨4, ![1, 1, 1, 640]⟩
abbrev S1x640x128 : Shape := ⟨3, ![1, 640, 128]⟩
abbrev S640x640 : Shape := ⟨2, ![640, 640]⟩
abbrev S1x1x640 : Shape := ⟨3, ![1, 1, 640]⟩

abbrev nBuf : Space → Nat
  | .hbm => 48
  | .vmem => 20
  | .smem => 0
  | _ => 0

abbrev bufTy : (tb : Table) → Fin (tcTables nBuf tb) → BufTy
  | .hbm, ⟨0, _⟩ => ⟨S8x8208x96, .f32⟩
  | .hbm, ⟨1, _⟩ => ⟨S8x8208x96, .f32⟩
  | .hbm, ⟨2, _⟩ => ⟨S8x8208x64, .f32⟩
  | .hbm, ⟨3, _⟩ => ⟨S8x8208x64, .f32⟩
  | .hbm, ⟨4, _⟩ => ⟨S8x8208x8208, .f32⟩
  | .hbm, ⟨5, _⟩ => ⟨S_, .f32⟩
  | .hbm, ⟨6, _⟩ => ⟨S8x8208x8208, .f32⟩
  | .hbm, ⟨7, _⟩ => ⟨S8x8208x8208, .f32⟩
  | .hbm, ⟨8, _⟩ => ⟨S8x8208x8208, .i32⟩
  | .hbm, ⟨9, _⟩ => ⟨S8x8208x8208, .i32⟩
  | .hbm, ⟨10, _⟩ => ⟨S8x8208x8208, .i1⟩
  | .hbm, ⟨11, _⟩ => ⟨S_, .f32⟩
  | .hbm, ⟨12, _⟩ => ⟨S_, .f32⟩
  | .hbm, ⟨13, _⟩ => ⟨S8x8208x8208, .f32⟩
  | .hbm, ⟨14, _⟩ => ⟨S8x8208x8208, .f32⟩
  | .hbm, ⟨15, _⟩ => ⟨S_, .f32⟩
  | .hbm, ⟨16, _⟩ => ⟨S8x8208, .f32⟩
  | .hbm, ⟨17, _⟩ => ⟨S8x8208x1, .f32⟩
  | .hbm, ⟨18, _⟩ => ⟨S8x8208x8208, .f32⟩
  | .hbm, ⟨19, _⟩ => ⟨S8x8208x8208, .f32⟩
  | .hbm, ⟨20, _⟩ => ⟨S8x8208x8208, .f32⟩
  | .hbm, ⟨21, _⟩ => ⟨S_, .f32⟩
  | .hbm, ⟨22, _⟩ => ⟨S8x8208, .f32⟩
  | .hbm, ⟨23, _⟩ => ⟨S8x8208x1, .f32⟩
  | .hbm, ⟨24, _⟩ => ⟨S8x8208x8208, .f32⟩
  | .hbm, ⟨25, _⟩ => ⟨S8x8208x8208, .f32⟩
  | .hbm, ⟨26, _⟩ => ⟨S8x8208x64, .f32⟩
  | .hbm, ⟨27, _⟩ => ⟨S8x8208x1, .f32⟩
  | .hbm, ⟨28, _⟩ => ⟨S8x8208x1, .f32⟩
  | .hbm, ⟨29, _⟩ => ⟨S8x1x8208, .f32⟩
  | .hbm, ⟨30, _⟩ => ⟨S_, .f32⟩
  | .hbm, ⟨31, _⟩ => ⟨S8x8320x128, .f32⟩
  | .hbm, ⟨32, _⟩ => ⟨S8x8320x128, .bf16⟩
  | .hbm, ⟨33, _⟩ => ⟨S_, .f32⟩
  | .hbm, ⟨34, _⟩ => ⟨S8x8320x128, .f32⟩
  | .hbm, ⟨35, _⟩ => ⟨S8x8320x128, .bf16⟩
  | .hbm, ⟨36, _⟩ => ⟨S_, .f32⟩
  | .hbm, ⟨37, _⟩ => ⟨S8x8320x128, .f32⟩
  | .hbm, ⟨38, _⟩ => ⟨S8x8320x128, .bf16⟩
  | .hbm, ⟨39, _⟩ => ⟨S_, .f32⟩
  | .hbm, ⟨40, _⟩ => ⟨S8x8320x64, .f32⟩
  | .hbm, ⟨41, _⟩ => ⟨S_, .f32⟩
  | .hbm, ⟨42, _⟩ => ⟨S8x1x8320, .f32⟩
  | .hbm, ⟨43, _⟩ => ⟨S_, .f32⟩
  | .hbm, ⟨44, _⟩ => ⟨S8x8320x64, .f32⟩
  | .hbm, ⟨45, _⟩ => ⟨S8x8320x128, .f32⟩
  | .hbm, ⟨46, _⟩ => ⟨S8x8320x128, .f32⟩
  | .hbm, ⟨47, _⟩ => ⟨S8x8320x64, .f32⟩
  | .local _ .vmem, ⟨0, _⟩ => ⟨S4x640x128, .bf16⟩
  | .local _ .vmem, ⟨1, _⟩ => ⟨S4x640x128, .bf16⟩
  | .local _ .vmem, ⟨2, _⟩ => ⟨S4x640x128, .bf16⟩
  | .local _ .vmem, ⟨3, _⟩ => ⟨S4x640x128, .bf16⟩
  | .local _ .vmem, ⟨4, _⟩ => ⟨S4x640x128, .bf16⟩
  | .local _ .vmem, ⟨5, _⟩ => ⟨S4x640x128, .bf16⟩
  | .local _ .vmem, ⟨6, _⟩ => ⟨S4x640x64, .f32⟩
  | .local _ .vmem, ⟨7, _⟩ => ⟨S4x640x64, .f32⟩
  | .local _ .vmem, ⟨8, _⟩ => ⟨S4x1x640, .f32⟩
  | .local _ .vmem, ⟨9, _⟩ => ⟨S4x1x640, .f32⟩
  | .local _ .vmem, ⟨10, _⟩ => ⟨S4x640x64, .f32⟩
  | .local _ .vmem, ⟨11, _⟩ => ⟨S4x640x64, .f32⟩
  | .local _ .vmem, ⟨12, _⟩ => ⟨S4x8320x128, .f32⟩
  | .local _ .vmem, ⟨13, _⟩ => ⟨S4x640x128, .f32⟩
  | .local _ .vmem, ⟨14, _⟩ => ⟨S4x640x128, .f32⟩
  | .local _ .vmem, ⟨15, _⟩ => ⟨S4x640x64, .f32⟩
  | .local _ .vmem, ⟨16, _⟩ => ⟨S4x640x64, .f32⟩
  | .local _ .vmem, ⟨17, _⟩ => ⟨S4x640x128, .f32⟩
  | .local _ .vmem, ⟨18, _⟩ => ⟨S4x640x64, .f32⟩
  | .local _ .vmem, ⟨19, _⟩ => ⟨S4x13x1x640, .f32⟩
  | _, _ => ⟨S8x8208x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_v29_0 : Ref sig .tc := ⟨.hbm, 45, rfl⟩
abbrev main_v29_1 : Ref sig .tc := ⟨.hbm, 46, rfl⟩
abbrev main_v29_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![2, 13, 13], ![false, false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_off1 (i : grid0.Coords) : Fin 4 → Nat :=
  let c0_17 : Index := 0#32
  let arg2 : BitVec 32 := BitVec.ofNat 32 (i 2).val
  let v36 : Index := Scalar.indexCast arg2
  let c0_18 : Index := 0#32
  let c0_19 : Index := 0#32
  ![0, v36.toNat, 0, 0]
def k0_off2 (i : grid0.Coords) : Fin 4 → Nat :=
  let c1_26 : Index := 1#32
  let arg2 : BitVec 32 := BitVec.ofNat 32 (i 2).val
  let v49 : Index := Scalar.indexCast arg2
  let c0_27 : Index := 0#32
  let c0_28 : Index := 0#32
  ![1, v49.toNat, 0, 0]
def k0_off3 (i : grid0.Coords) : Fin 4 → Nat :=
  let c2_35 : Index := 2#32
  let arg2 : BitVec 32 := BitVec.ofNat 32 (i 2).val
  let v62 : Index := Scalar.indexCast arg2
  let c0_36 : Index := 0#32
  let c0_37 : Index := 0#32
  ![2, v62.toNat, 0, 0]
def k0_off4 (i : grid0.Coords) : Fin 4 → Nat :=
  let c3_44 : Index := 3#32
  let arg2 : BitVec 32 := BitVec.ofNat 32 (i 2).val
  let v75 : Index := Scalar.indexCast arg2
  let c0_45 : Index := 0#32
  let c0_46 : Index := 0#32
  ![3, v75.toNat, 0, 0]
def k0_cond4 (i : grid0.Coords) : BitVec 1 :=
  let arg2 : BitVec 32 := BitVec.ofNat 32 (i 2).val
  let arg1 : BitVec 32 := BitVec.ofNat 32 (i 1).val
  let v14 : BitVec 1 := Scalar.cmpi .sge arg2 arg1
  let v11 : BitVec 1 := Scalar.cmpi .eq arg1 arg2
  let c0_i32_6 : BitVec 32 := 0#32
  let v12 : BitVec 1 := Scalar.cmpi .eq arg1 c0_i32_6
  let v13 : BitVec 1 := Scalar.ori v11 v12
  let v15 : BitVec 1 := Scalar.andi v14 v13
  let v16 : BitVec 32 := Scalar.extui v15
  let c0_i32_7 : BitVec 32 := 0#32
  let v17 : BitVec 1 := Scalar.cmpi .ne v16 c0_i32_7
  v17

def k0_off5 (i : grid0.Coords) : Fin 4 → Nat :=
  let c0_87 : Index := 0#32
  let arg2 : BitVec 32 := BitVec.ofNat 32 (i 2).val
  let v126 : Index := Scalar.indexCast arg2
  let c0_88 : Index := 0#32
  let c0_89 : Index := 0#32
  ![0, v126.toNat, 0, 0]
def k0_off6 (i : grid0.Coords) : Fin 4 → Nat :=
  let c1_90 : Index := 1#32
  let arg2 : BitVec 32 := BitVec.ofNat 32 (i 2).val
  let v132 : Index := Scalar.indexCast arg2
  let c0_91 : Index := 0#32
  let c0_92 : Index := 0#32
  ![1, v132.toNat, 0, 0]
def k0_off7 (i : grid0.Coords) : Fin 4 → Nat :=
  let c2_93 : Index := 2#32
  let arg2 : BitVec 32 := BitVec.ofNat 32 (i 2).val
  let v138 : Index := Scalar.indexCast arg2
  let c0_94 : Index := 0#32
  let c0_95 : Index := 0#32
  ![2, v138.toNat, 0, 0]
def k0_off8 (i : grid0.Coords) : Fin 4 → Nat :=
  let c3_96 : Index := 3#32
  let arg2 : BitVec 32 := BitVec.ofNat 32 (i 2).val
  let v144 : Index := Scalar.indexCast arg2
  let c0_97 : Index := 0#32
  let c0_98 : Index := 0#32
  ![3, v144.toNat, 0, 0]
def k0_mult1 (i : grid0.Coords) : BitVec 32 :=
  let arg2 : BitVec 32 := BitVec.ofNat 32 (i 2).val
  let c640_i32_99 : BitVec 32 := 640#32
  let v150 : BitVec 32 := Scalar.muli arg2 c640_i32_99
  v150
def k0_off9 (i : grid0.Coords) : Fin 3 → Nat :=
  let c0_120 : Index := 0#32
  let arg2 : BitVec 32 := BitVec.ofNat 32 (i 2).val
  let c640_i32_99 : BitVec 32 := 640#32
  let v150 : BitVec 32 := Scalar.muli arg2 c640_i32_99
  let v151 : BitVec 32 := v150
  let v173 : Index := Scalar.indexCast v151
  let c0_121 : Index := 0#32
  ![0, v173.toNat, 0]
def k0_off10 (i : grid0.Coords) : Fin 3 → Nat :=
  let c1_149 : Index := 1#32
  let arg2 : BitVec 32 := BitVec.ofNat 32 (i 2).val
  let c640_i32_99 : BitVec 32 := 640#32
  let v150 : BitVec 32 := Scalar.muli arg2 c640_i32_99
  let v151 : BitVec 32 := v150
  let v208 : Index := Scalar.indexCast v151
  let c0_150 : Index := 0#32
  ![1, v208.toNat, 0]
def k0_off11 (i : grid0.Coords) : Fin 3 → Nat :=
  let c2_178 : Index := 2#32
  let arg2 : BitVec 32 := BitVec.ofNat 32 (i 2).val
  let c640_i32_99 : BitVec 32 := 640#32
  let v150 : BitVec 32 := Scalar.muli arg2 c640_i32_99
  let v151 : BitVec 32 := v150
  let v243 : Index := Scalar.indexCast v151
  let c0_179 : Index := 0#32
  ![2, v243.toNat, 0]
def k0_off12 (i : grid0.Coords) : Fin 3 → Nat :=
  let c3_207 : Index := 3#32
  let arg2 : BitVec 32 := BitVec.ofNat 32 (i 2).val
  let c640_i32_99 : BitVec 32 := 640#32
  let v150 : BitVec 32 := Scalar.muli arg2 c640_i32_99
  let v151 : BitVec 32 := v150
  let v278 : Index := Scalar.indexCast v151
  let c0_208 : Index := 0#32
  ![3, v278.toNat, 0]
def k0_cond5 (i : grid0.Coords) : BitVec 1 :=
  let arg2 : BitVec 32 := BitVec.ofNat 32 (i 2).val
  let arg1 : BitVec 32 := BitVec.ofNat 32 (i 1).val
  let v18 : BitVec 1 := Scalar.cmpi .sgt arg2 arg1
  let c0_i32_8 : BitVec 32 := 0#32
  let v19 : BitVec 1 := Scalar.cmpi .sgt arg1 c0_i32_8
  let v20 : BitVec 1 := Scalar.andi v18 v19
  let v21 : BitVec 32 := Scalar.extui v20
  let c0_i32_9 : BitVec 32 := 0#32
  let v22 : BitVec 1 := Scalar.cmpi .ne v21 c0_i32_9
  v22

def k0_off13 (i : grid0.Coords) : Fin 4 → Nat :=
  let c0_82 : Index := 0#32
  let arg2 : BitVec 32 := BitVec.ofNat 32 (i 2).val
  let v106 : Index := Scalar.indexCast arg2
  let c0_83 : Index := 0#32
  let c0_84 : Index := 0#32
  ![0, v106.toNat, 0, 0]
def k0_off14 (i : grid0.Coords) : Fin 4 → Nat :=
  let c1_85 : Index := 1#32
  let arg2 : BitVec 32 := BitVec.ofNat 32 (i 2).val
  let v112 : Index := Scalar.indexCast arg2
  let c0_86 : Index := 0#32
  let c0_87 : Index := 0#32
  ![1, v112.toNat, 0, 0]
def k0_off15 (i : grid0.Coords) : Fin 4 → Nat :=
  let c2_88 : Index := 2#32
  let arg2 : BitVec 32 := BitVec.ofNat 32 (i 2).val
  let v118 : Index := Scalar.indexCast arg2
  let c0_89 : Index := 0#32
  let c0_90 : Index := 0#32
  ![2, v118.toNat, 0, 0]
def k0_off16 (i : grid0.Coords) : Fin 4 → Nat :=
  let c3_91 : Index := 3#32
  let arg2 : BitVec 32 := BitVec.ofNat 32 (i 2).val
  let v124 : Index := Scalar.indexCast arg2
  let c0_92 : Index := 0#32
  let c0_93 : Index := 0#32
  ![3, v124.toNat, 0, 0]
def k0_mult2 (i : grid0.Coords) : BitVec 32 :=
  let arg2 : BitVec 32 := BitVec.ofNat 32 (i 2).val
  let c640_i32 : BitVec 32 := 640#32
  let v130 : BitVec 32 := Scalar.muli arg2 c640_i32
  v130
def k0_off17 (i : grid0.Coords) : Fin 3 → Nat :=
  let c0_114 : Index := 0#32
  let arg2 : BitVec 32 := BitVec.ofNat 32 (i 2).val
  let c640_i32 : BitVec 32 := 640#32
  let v130 : BitVec 32 := Scalar.muli arg2 c640_i32
  let v131 : BitVec 32 := v130
  let v153 : Index := Scalar.indexCast v131
  let c0_115 : Index := 0#32
  ![0, v153.toNat, 0]
def k0_off18 (i : grid0.Coords) : Fin 3 → Nat :=
  let c1_143 : Index := 1#32
  let arg2 : BitVec 32 := BitVec.ofNat 32 (i 2).val
  let c640_i32 : BitVec 32 := 640#32
  let v130 : BitVec 32 := Scalar.muli arg2 c640_i32
  let v131 : BitVec 32 := v130
  let v188 : Index := Scalar.indexCast v131
  let c0_144 : Index := 0#32
  ![1, v188.toNat, 0]
def k0_off19 (i : grid0.Coords) : Fin 3 → Nat :=
  let c2_172 : Index := 2#32
  let arg2 : BitVec 32 := BitVec.ofNat 32 (i 2).val
  let c640_i32 : BitVec 32 := 640#32
  let v130 : BitVec 32 := Scalar.muli arg2 c640_i32
  let v131 : BitVec 32 := v130
  let v223 : Index := Scalar.indexCast v131
  let c0_173 : Index := 0#32
  ![2, v223.toNat, 0]
def k0_off20 (i : grid0.Coords) : Fin 3 → Nat :=
  let c3_201 : Index := 3#32
  let arg2 : BitVec 32 := BitVec.ofNat 32 (i 2).val
  let c640_i32 : BitVec 32 := 640#32
  let v130 : BitVec 32 := Scalar.muli arg2 c640_i32
  let v131 : BitVec 32 := v130
  let v258 : Index := Scalar.indexCast v131
  let c0_202 : Index := 0#32
  ![3, v258.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond6 (i : grid0.Coords) : BitVec 1 :=
  let arg2 : BitVec 32 := BitVec.ofNat 32 (i 2).val
  let c12_i32 : BitVec 32 := 12#32
  let v23 : BitVec 1 := Scalar.cmpi .eq arg2 c12_i32
  let v24 : BitVec 32 := Scalar.extui v23
  let c0_i32_10 : BitVec 32 := 0#32
  let v25 : BitVec 1 := Scalar.cmpi .ne v24 c0_i32_10
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 32 := Scalar.select v0 arg2 c0_i32_0
  let c0_i32_1 : BitVec 32 := 0#32
  let c0_i32_2 : BitVec 32 := 0#32
  ![arg0.toNat, v1.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S4x640x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4x640x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4x640x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4x640x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4x1x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S4x640x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 1 → Memref sig .tc .vmem S4x8320x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false, false]

abbrev stage0_7 : Fin 2 → Memref sig .tc .vmem S4x640x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S4x640x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== KernelIdeal.lean ====
variable {F : FTy → Type} [FloatOps F] [Named F]
def κ : String → Option EReal := fun
  | "exp2_scale" => some (((3424635 / 33554432) * (Real.log 2)⁻¹ : ℝ) : EReal)
  | "log2_e" => some (((Real.log 2)⁻¹ : ℝ) : EReal)
  | "mask" => some ⊥
  | _ => none
-- ==== ReferenceIdeal.lean ====
abbrev S8x8208x96 : Shape := ⟨3, ![8, 8208, 96]⟩
abbrev S8x8208x64 : Shape := ⟨3, ![8, 8208, 64]⟩
abbrev S8x8208x8208 : Shape := ⟨3, ![8, 8208, 8208]⟩
abbrev S_ : Shape := ⟨0, ![]⟩
abbrev S8x8208 : Shape := ⟨2, ![8, 8208]⟩
abbrev S8x8208x1 : Shape := ⟨3, ![8, 8208, 1]⟩
abbrev S8x64x8208 : Shape := ⟨3, ![8, 64, 8208]⟩
abbrev S8x8320x128 : Shape := ⟨3, ![8, 8320, 128]⟩
abbrev S8x8320x64 : Shape := ⟨3, ![8, 8320, 64]⟩

abbrev nBuf : Space → Nat
  | .hbm => 87
  | .vmem => 0
  | .smem => 0
  | _ => 0

abbrev bufTy : (tb : Table) → Fin (tcTables nBuf tb) → BufTy
  | .hbm, ⟨0, _⟩ => ⟨S8x8208x96, .f32⟩
  | .hbm, ⟨1, _⟩ => ⟨S8x8208x96, .f32⟩
  | .hbm, ⟨2, _⟩ => ⟨S8x8208x64, .f32⟩
  | .hbm, ⟨3, _⟩ => ⟨S8x8208x64, .f32⟩
  | .hbm, ⟨4, _⟩ => ⟨S8x8208x8208, .f32⟩
  | .hbm, ⟨5, _⟩ => ⟨S_, .f32⟩
  | .hbm, ⟨6, _⟩ => ⟨S8x8208x8208, .f32⟩
  | .hbm, ⟨7, _⟩ => ⟨S8x8208x8208, .f32⟩
  | .hbm, ⟨8, _⟩ => ⟨S8x8208x8208, .i32⟩
  | .hbm, ⟨9, _⟩ => ⟨S8x8208x8208, .i32⟩
  | .hbm, ⟨10, _⟩ => ⟨S8x8208x8208, .i1⟩
  | .hbm, ⟨11, _⟩ => ⟨S_, .f32⟩
  | .hbm, ⟨12, _⟩ => ⟨S_, .f32⟩
  | .hbm, ⟨13, _⟩ => ⟨S8x8208x8208, .f32⟩
  | .hbm, ⟨14, _⟩ => ⟨S8x8208x8208, .f32⟩
  | .hbm, ⟨15, _⟩ => ⟨S_, .f32⟩
  | .hbm, ⟨16, _⟩ => ⟨S8x8208x8208, .f32⟩
  | .hbm, ⟨17, _⟩ => ⟨S_, .f32⟩
  | .hbm, ⟨18, _⟩ => ⟨S8x8208, .f32⟩
  | .hbm, ⟨19, _⟩ => ⟨S8x8208x1, .f32⟩
  | .hbm, ⟨20, _⟩ => ⟨S8x8208x8208, .f32⟩
  | .hbm, ⟨21, _⟩ => ⟨S8x8208x8208, .i1⟩
  | .hbm, ⟨22, _⟩ => ⟨S8x8208x8208, .f32⟩
  | .hbm, ⟨23, _⟩ => ⟨S_, .f32⟩
  | .hbm, ⟨24, _⟩ => ⟨S8x8208, .f32⟩
  | .hbm, ⟨25, _⟩ => ⟨S_, .f32⟩
  | .hbm, ⟨26, _⟩ => ⟨S8x8208, .f32⟩
  | .hbm, ⟨27, _⟩ => ⟨S8x8208, .f32⟩
  | .hbm, ⟨28, _⟩ => ⟨S_, .f32⟩
  | .hbm, ⟨29, _⟩ => ⟨S8x8208, .f32⟩
  | .hbm, ⟨30, _⟩ => ⟨S8x8208, .i1⟩
  | .hbm, ⟨31, _⟩ => ⟨S_, .f32⟩
  | .hbm, ⟨32, _⟩ => ⟨S8x8208, .f32⟩
  | .hbm, ⟨33, _⟩ => ⟨S8x8208, .i1⟩
  | .hbm, ⟨34, _⟩ => ⟨S_, .f32⟩
  | .hbm, ⟨35, _⟩ => ⟨S8x8208, .f32⟩
  | .hbm, ⟨36, _⟩ => ⟨S_, .f32⟩
  | .hbm, ⟨37, _⟩ => ⟨S8x8208, .f32⟩
  | .hbm, ⟨38, _⟩ => ⟨S_, .f32⟩
  | .hbm, ⟨39, _⟩ => ⟨S8x8208, .f32⟩
  | .hbm, ⟨40, _⟩ => ⟨S8x8208, .f32⟩
  | .hbm, ⟨41, _⟩ => ⟨S8x8208, .f32⟩
  | .hbm, ⟨42, _⟩ => ⟨S8x8208x1, .f32⟩
  | .hbm, ⟨43, _⟩ => ⟨S8x8208x8208, .f32⟩
  | .hbm, ⟨44, _⟩ => ⟨S8x8208x8208, .f32⟩
  | .hbm, ⟨45, _⟩ => ⟨S8x8208x8208, .f32⟩
  | .hbm, ⟨46, _⟩ => ⟨S_, .f32⟩
  | .hbm, ⟨47, _⟩ => ⟨S8x8208, .f32⟩
  | .hbm, ⟨48, _⟩ => ⟨S8x8208x1, .f32⟩
  | .hbm, ⟨49, _⟩ => ⟨S8x8208x8208, .f32⟩
  | .hbm, ⟨50, _⟩ => ⟨S8x8208x8208, .f32⟩
  | .hbm, ⟨51, _⟩ => ⟨S8x8208x1, .f32⟩
  | .hbm, ⟨52, _⟩ => ⟨S_, .f32⟩
  | .hbm, ⟨53, _⟩ => ⟨S8x8208x1, .f32⟩
  | .hbm, ⟨54, _⟩ => ⟨S8x8208x1, .f32⟩
  | .hbm, ⟨55, _⟩ => ⟨S8x8208x64, .f32⟩
  | .hbm, ⟨56, _⟩ => ⟨S8x64x8208, .f32⟩
  | .hbm, ⟨57, _⟩ => ⟨S8x8208x64, .f32⟩
  | .hbm, ⟨58, _⟩ => ⟨S8x8208x8208, .f32⟩
  | .hbm, ⟨59, _⟩ => ⟨S8x8208x8208, .f32⟩
  | .hbm, ⟨60, _⟩ => ⟨S8x8208x8208, .f32⟩
  | .hbm, ⟨61, _⟩ => ⟨S8x8208x8208, .f32⟩
  | .hbm, ⟨62, _⟩ => ⟨S_, .f32⟩
  | .hbm, ⟨63, _⟩ => ⟨S8x8208, .f32⟩
  | .hbm, ⟨64, _⟩ => ⟨S8x8208x1, .f32⟩
  | .hbm, ⟨65, _⟩ => ⟨S8x8208x1, .f32⟩
  | .hbm, ⟨66, _⟩ => ⟨S8x8208x8208, .f32⟩
  | .hbm, ⟨67, _⟩ => ⟨S8x8208x8208, .f32⟩
  | .hbm, ⟨68, _⟩ => ⟨S_, .f32⟩
  | .hbm, ⟨69, _⟩ => ⟨S8x8208, .f32⟩
  | .hbm, ⟨70, _⟩ => ⟨S8x8208x8208, .f32⟩
  | .hbm, ⟨71, _⟩ => ⟨S8x8208x8208, .f32⟩
  | .hbm, ⟨72, _⟩ => ⟨S8x8208x8208, .f32⟩
  | .hbm, ⟨73, _⟩ => ⟨S_, .f32⟩
  | .hbm, ⟨74, _⟩ => ⟨S8x8208x8208, .f32⟩
  | .hbm, ⟨75, _⟩ => ⟨S8x8208x8208, .f32⟩
  | .hbm, ⟨76, _⟩ => ⟨S_, .f32⟩
  | .hbm, ⟨77, _⟩ => ⟨S8x8208x8208, .f32⟩
  | .hbm, ⟨78, _⟩ => ⟨S8x8208x8208, .f32⟩
  | .hbm, ⟨79, _⟩ => ⟨S8x8208x96, .f32⟩
  | .hbm, ⟨80, _⟩ => ⟨S8x8208x96, .f32⟩
  | .hbm, ⟨81, _⟩ => ⟨S_, .f32⟩
  | .hbm, ⟨82, _⟩ => ⟨S8x8320x128, .f32⟩
  | .hbm, ⟨83, _⟩ => ⟨S_, .f32⟩
  | .hbm, ⟨84, _⟩ => ⟨S8x8320x128, .f32⟩
  | .hbm, ⟨85, _⟩ => ⟨S_, .f32⟩
  | .hbm, ⟨86, _⟩ => ⟨S8x8320x64, .f32⟩
  | _, _ => ⟨S8x8208x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v6_0 : Ref sig .tc := ⟨.hbm, 14, rfl⟩
abbrev main_call0_cst : Ref sig .tc := ⟨.hbm, 15, rfl⟩
abbrev main_v6_1 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_cst_8 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_9 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_11 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_12 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call1_cst : Ref sig .tc := ⟨.hbm, 73, rfl⟩
abbrev main_call1_v0 : Ref sig .tc := ⟨.hbm, 74, rfl⟩
abbrev main_v51 : Ref sig .tc := ⟨.hbm, 75, rfl⟩
abbrev main_cst_13 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_14 : Ref sig .tc := ⟨.hbm, 81, rfl⟩
abbrev main_v56 : Ref sig .tc := ⟨.hbm, 82, rfl⟩
abbrev main_cst_15 : Ref sig .tc := ⟨.hbm, 83, rfl⟩
abbrev main_v57 : Ref sig .tc := ⟨.hbm, 84, rfl⟩
abbrev main_cst_16 : Ref sig .tc := ⟨.hbm, 85, rfl⟩
abbrev main_v58 : Ref sig .tc := ⟨.hbm, 86, rfl⟩

abbrev nD : Nat := 1
abbrev τ : Topo := Topo.v7x

variable {F : FTy → Type} [FloatOps F]
-- ==== Kernel2.lean ====
abbrev S8208x1024 : Shape := ⟨2, ![8208, 1024]⟩
abbrev S8208x2560 : Shape := ⟨2, ![8208, 2560]⟩
abbrev S_ : Shape := ⟨0, ![]⟩
abbrev S8320x1024 : Shape := ⟨2, ![8320, 1024]⟩
abbrev S8320x2560 : Shape := ⟨2, ![8320, 2560]⟩
abbrev S1024x2560 : Shape := ⟨2, ![1024, 2560]⟩
abbrev S1664x1024 : Shape := ⟨2, ![1664, 1024]⟩
abbrev S1664x1280 : Shape := ⟨2, ![1664, 1280]⟩
abbrev S1024x1280 : Shape := ⟨2, ![1024, 1280]⟩

abbrev nBuf : Space → Nat
  | .hbm => 9
  | .vmem => 6
  | .smem => 0
  | _ => 0

abbrev bufTy : (tb : Table) → Fin (tcTables nBuf tb) → BufTy
  | .hbm, ⟨0, _⟩ => ⟨S8208x1024, .f32⟩
  | .hbm, ⟨1, _⟩ => ⟨S8208x2560, .f32⟩
  | .hbm, ⟨2, _⟩ => ⟨S_, .f32⟩
  | .hbm, ⟨3, _⟩ => ⟨S8320x1024, .f32⟩
  | .hbm, ⟨4, _⟩ => ⟨S8320x1024, .bf16⟩
  | .hbm, ⟨5, _⟩ => ⟨S_, .f32⟩
  | .hbm, ⟨6, _⟩ => ⟨S8320x2560, .f32⟩
  | .hbm, ⟨7, _⟩ => ⟨S8320x2560, .bf16⟩
  | .hbm, ⟨8, _⟩ => ⟨S1024x2560, .f32⟩
  | .local _ .vmem, ⟨0, _⟩ => ⟨S1664x1024, .bf16⟩
  | .local _ .vmem, ⟨1, _⟩ => ⟨S1664x1024, .bf16⟩
  | .local _ .vmem, ⟨2, _⟩ => ⟨S1664x1280, .bf16⟩
  | .local _ .vmem, ⟨3, _⟩ => ⟨S1664x1280, .bf16⟩
  | .local _ .vmem, ⟨4, _⟩ => ⟨S1024x1280, .f32⟩
  | .local _ .vmem, ⟨5, _⟩ => ⟨S1024x1280, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 5], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32 : BitVec 32 := 0#32
  let v5 : BitVec 1 := Scalar.cmpi .eq arg1 c0_i32
  let v_true : BitVec 1 := 1#1
  let v8 : BitVec 1 := Scalar.xori v5 v_true
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1664x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Kernel2Ideal.lean ====
abbrev S8208x1024 : Shape := ⟨2, ![8208, 1024]⟩
abbrev S8208x2560 : Shape := ⟨2, ![8208, 2560]⟩
abbrev S_ : Shape := ⟨0, ![]⟩
abbrev S8320x1024 : Shape := ⟨2, ![8320, 1024]⟩
abbrev S8320x2560 : Shape := ⟨2, ![8320, 2560]⟩
abbrev S1024x2560 : Shape := ⟨2, ![1024, 2560]⟩
abbrev S1664x1024 : Shape := ⟨2, ![1664, 1024]⟩
abbrev S1664x1280 : Shape := ⟨2, ![1664, 1280]⟩
abbrev S1024x1280 : Shape := ⟨2, ![1024, 1280]⟩

abbrev nBuf : Space → Nat
  | .hbm => 9
  | .vmem => 6
  | .smem => 0
  | _ => 0

abbrev bufTy : (tb : Table) → Fin (tcTables nBuf tb) → BufTy
  | .hbm, ⟨0, _⟩ => ⟨S8208x1024, .f32⟩
  | .hbm, ⟨1, _⟩ => ⟨S8208x2560, .f32⟩
  | .hbm, ⟨2, _⟩ => ⟨S_, .f32⟩
  | .hbm, ⟨3, _⟩ => ⟨S8320x1024, .f32⟩
  | .hbm, ⟨4, _⟩ => ⟨S8320x1024, .bf16⟩
  | .hbm, ⟨5, _⟩ => ⟨S_, .f32⟩
  | .hbm, ⟨6, _⟩ => ⟨S8320x2560, .f32⟩
  | .hbm, ⟨7, _⟩ => ⟨S8320x2560, .bf16⟩
  | .hbm, ⟨8, _⟩ => ⟨S1024x2560, .f32⟩
  | .local _ .vmem, ⟨0, _⟩ => ⟨S1664x1024, .bf16⟩
  | .local _ .vmem, ⟨1, _⟩ => ⟨S1664x1024, .bf16⟩
  | .local _ .vmem, ⟨2, _⟩ => ⟨S1664x1280, .bf16⟩
  | .local _ .vmem, ⟨3, _⟩ => ⟨S1664x1280, .bf16⟩
  | .local _ .vmem, ⟨4, _⟩ => ⟨S1024x1280, .f32⟩
  | .local _ .vmem, ⟨5, _⟩ => ⟨S1024x1280, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 5], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32 : BitVec 32 := 0#32
  let v5 : BitVec 1 := Scalar.cmpi .eq arg1 c0_i32
  let v_true : BitVec 1 := 1#1
  let v8 : BitVec 1 := Scalar.xori v5 v_true
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1664x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8208x1024 : Shape := ⟨2, ![8208, 1024]⟩
abbrev S8208x2560 : Shape := ⟨2, ![8208, 2560]⟩
abbrev S_ : Shape := ⟨0, ![]⟩
abbrev S1024x2560 : Shape := ⟨2, ![1024, 2560]⟩
abbrev S2560x1024 : Shape := ⟨2, ![2560, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x2560, .f32⟩
  | .hbm, ⟨2, _⟩ => ⟨S_, .f32⟩
  | .hbm, ⟨3, _⟩ => ⟨S1024x2560, .f32⟩
  | .hbm, ⟨4, _⟩ => ⟨S8208x2560, .f32⟩
  | .hbm, ⟨5, _⟩ => ⟨S2560x1024, .f32⟩
  | .hbm, ⟨6, _⟩ => ⟨S1024x2560, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S8208x1024 : Shape := ⟨2, ![8208, 1024]⟩
abbrev S8208x2560 : Shape := ⟨2, ![8208, 2560]⟩
abbrev S8208x128 : Shape := ⟨2, ![8208, 128]⟩
abbrev S1024x4736 : Shape := ⟨2, ![1024, 4736]⟩
abbrev S1x1024 : Shape := ⟨2, ![1, 1024]⟩
abbrev S_ : Shape := ⟨0, ![]⟩
abbrev S8320x1024 : Shape := ⟨2, ![8320, 1024]⟩
abbrev S8320x2560 : Shape := ⟨2, ![8320, 2560]⟩
abbrev S8320x128 : Shape := ⟨2, ![8320, 128]⟩
abbrev S320x1024 : Shape := ⟨2, ![320, 1024]⟩
abbrev S320x2560 : Shape := ⟨2, ![320, 2560]⟩
abbrev S320x128 : Shape := ⟨2, ![320, 128]⟩
abbrev S1024x1024 : Shape := ⟨2, ![1024, 1024]⟩
abbrev S1024x2560 : Shape := ⟨2, ![1024, 2560]⟩
abbrev S1024x128 : Shape := ⟨2, ![1024, 128]⟩
abbrev S320 : Shape := ⟨1, ![320]⟩
abbrev S320x1 : Shape := ⟨2, ![320, 1]⟩
abbrev S1024 : Shape := ⟨1, ![1024]⟩

abbrev nBuf : Space → Nat
  | .hbm => 27
  | .vmem => 17
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S8208x2560, .f32⟩
  | .hbm, ⟨3, _⟩ => ⟨S8208x128, .f32⟩
  | .hbm, ⟨4, _⟩ => ⟨S1024x4736, .f32⟩
  | .hbm, ⟨5, _⟩ => ⟨S8208x1024, .f32⟩
  | .hbm, ⟨6, _⟩ => ⟨S1x1024, .f32⟩
  | .hbm, ⟨7, _⟩ => ⟨S8208x1024, .f32⟩
  | .hbm, ⟨8, _⟩ => ⟨S_, .f32⟩
  | .hbm, ⟨9, _⟩ => ⟨S8320x1024, .f32⟩
  | .hbm, ⟨10, _⟩ => ⟨S8320x1024, .bf16⟩
  | .hbm, ⟨11, _⟩ => ⟨S_, .f32⟩
  | .hbm, ⟨12, _⟩ => ⟨S8320x1024, .f32⟩
  | .hbm, ⟨13, _⟩ => ⟨S8320x1024, .bf16⟩
  | .hbm, ⟨14, _⟩ => ⟨S_, .f32⟩
  | .hbm, ⟨15, _⟩ => ⟨S8320x2560, .f32⟩
  | .hbm, ⟨16, _⟩ => ⟨S8320x2560, .bf16⟩
  | .hbm, ⟨17, _⟩ => ⟨S_, .f32⟩
  | .hbm, ⟨18, _⟩ => ⟨S8320x128, .f32⟩
  | .hbm, ⟨19, _⟩ => ⟨S8320x128, .bf16⟩
  | .hbm, ⟨20, _⟩ => ⟨S1024x4736, .bf16⟩
  | .hbm, ⟨21, _⟩ => ⟨S_, .f32⟩
  | .hbm, ⟨22, _⟩ => ⟨S8320x1024, .f32⟩
  | .hbm, ⟨23, _⟩ => ⟨S_, .f32⟩
  | .hbm, ⟨24, _⟩ => ⟨S8320x1024, .f32⟩
  | .hbm, ⟨25, _⟩ => ⟨S8320x1024, .f32⟩
  | .hbm, ⟨26, _⟩ => ⟨S1x1024, .f32⟩
  | .local _ .vmem, ⟨0, _⟩ => ⟨S320x1024, .bf16⟩
  | .local _ .vmem, ⟨1, _⟩ => ⟨S320x1024, .bf16⟩
  | .local _ .vmem, ⟨2, _⟩ => ⟨S320x1024, .bf16⟩
  | .local _ .vmem, ⟨3, _⟩ => ⟨S320x1024, .bf16⟩
  | .local _ .vmem, ⟨4, _⟩ => ⟨S320x2560, .bf16⟩
  | .local _ .vmem, ⟨5, _⟩ => ⟨S320x2560, .bf16⟩
  | .local _ .vmem, ⟨6, _⟩ => ⟨S320x128, .bf16⟩
  | .local _ .vmem, ⟨7, _⟩ => ⟨S320x128, .bf16⟩
  | .local _ .vmem, ⟨8, _⟩ => ⟨S1024x4736, .bf16⟩
  | .local _ .vmem, ⟨9, _⟩ => ⟨S320x1024, .f32⟩
  | .local _ .vmem, ⟨10, _⟩ => ⟨S320x1024, .f32⟩
  | .local _ .vmem, ⟨11, _⟩ => ⟨S1x1024, .f32⟩
  | .local _ .vmem, ⟨12, _⟩ => ⟨S320x1024, .f32⟩
  | .local _ .vmem, ⟨13, _⟩ => ⟨S320x1024, .f32⟩
  | .local _ .vmem, ⟨14, _⟩ => ⟨S320x1024, .f32⟩
  | .local _ .vmem, ⟨15, _⟩ => ⟨S320x1024, .f32⟩
  | .local _ .vmem, ⟨16, _⟩ => ⟨S1x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_cst_4 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![26], ![false]⟩

def k0_cond1 (i : grid0.Coords) : BitVec 1 :=
  let arg0 : BitVec 32 := BitVec.ofNat 32 (i 0).val
  let c0_i32 : BitVec 32 := 0#32
  let v51 : BitVec 1 := Scalar.cmpi .eq arg0 c0_i32
  let v52 : BitVec 32 := Scalar.extui v51
  let c0_i32_25 : BitVec 32 := 0#32
  let v53 : BitVec 1 := Scalar.cmpi .ne v52 c0_i32_25
  v53

def k0_cond2 (i : grid0.Coords) : BitVec 1 :=
  let arg0 : BitVec 32 := BitVec.ofNat 32 (i 0).val
  let c0_i32 : BitVec 32 := 0#32
  let v51 : BitVec 1 := Scalar.cmpi .eq arg0 c0_i32
  let v_true : BitVec 1 := 1#1
  let v54 : BitVec 1 := Scalar.xori v51 v_true
  let v55 : BitVec 32 := Scalar.extui v54
  let c0_i32_26 : BitVec 32 := 0#32
  let v56 : BitVec 1 := Scalar.cmpi .ne v55 c0_i32_26
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x4736 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S320x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S320x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S320x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S8208x1024 : Shape := ⟨2, ![8208, 1024]⟩
abbrev S8208x2560 : Shape := ⟨2, ![8208, 2560]⟩
abbrev S8208x128 : Shape := ⟨2, ![8208, 128]⟩
abbrev S1024x4736 : Shape := ⟨2, ![1024, 4736]⟩
abbrev S1x1024 : Shape := ⟨2, ![1, 1024]⟩
abbrev S_ : Shape := ⟨0, ![]⟩
abbrev S8208 : Shape := ⟨1, ![8208]⟩
abbrev S8208x1 : Shape := ⟨2, ![8208, 1]⟩
abbrev S8208x4736 : Shape := ⟨2, ![8208, 4736]⟩
abbrev S1024 : Shape := ⟨1, ![1024]⟩
abbrev S8320x1024 : Shape := ⟨2, ![8320, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S8208x2560, .f32⟩
  | .hbm, ⟨3, _⟩ => ⟨S8208x128, .f32⟩
  | .hbm, ⟨4, _⟩ => ⟨S1024x4736, .f32⟩
  | .hbm, ⟨5, _⟩ => ⟨S8208x1024, .f32⟩
  | .hbm, ⟨6, _⟩ => ⟨S1x1024, .f32⟩
  | .hbm, ⟨7, _⟩ => ⟨S8208x1024, .f32⟩
  | .hbm, ⟨8, _⟩ => ⟨S8208x1024, .f32⟩
  | .hbm, ⟨9, _⟩ => ⟨S_, .f32⟩
  | .hbm, ⟨10, _⟩ => ⟨S8208, .f32⟩
  | .hbm, ⟨11, _⟩ => ⟨S8208x1, .f32⟩
  | .hbm, ⟨12, _⟩ => ⟨S_, .f32⟩
  | .hbm, ⟨13, _⟩ => ⟨S8208x1, .f32⟩
  | .hbm, ⟨14, _⟩ => ⟨S8208x1, .f32⟩
  | .hbm, ⟨15, _⟩ => ⟨S_, .f32⟩
  | .hbm, ⟨16, _⟩ => ⟨S8208x1, .f32⟩
  | .hbm, ⟨17, _⟩ => ⟨S8208x1, .f32⟩
  | .hbm, ⟨18, _⟩ => ⟨S8208x1, .f32⟩
  | .hbm, ⟨19, _⟩ => ⟨S8208x1, .f32⟩
  | .hbm, ⟨20, _⟩ => ⟨S_, .f32⟩
  | .hbm, ⟨21, _⟩ => ⟨S8208x1, .f32⟩
  | .hbm, ⟨22, _⟩ => ⟨S8208x1, .f32⟩
  | .hbm, ⟨23, _⟩ => ⟨S8208x1024, .f32⟩
  | .hbm, ⟨24, _⟩ => ⟨S8208x1024, .f32⟩
  | .hbm, ⟨25, _⟩ => ⟨S8208x1024, .f32⟩
  | .hbm, ⟨26, _⟩ => ⟨S8208x1024, .f32⟩
  | .hbm, ⟨27, _⟩ => ⟨S8208x4736, .f32⟩
  | .hbm, ⟨28, _⟩ => ⟨S8208x4736, .f32⟩
  | .hbm, ⟨29, _⟩ => ⟨S8208x1024, .f32⟩
  | .hbm, ⟨30, _⟩ => ⟨S8208x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8208x1024, .f32⟩
  | .hbm, ⟨35, _⟩ => ⟨S8208x1024, .f32⟩
  | .hbm, ⟨36, _⟩ => ⟨S8208x1024, .f32⟩
  | .hbm, ⟨37, _⟩ => ⟨S_, .f32⟩
  | .hbm, ⟨38, _⟩ => ⟨S8208, .f32⟩
  | .hbm, ⟨39, _⟩ => ⟨S8208x1, .f32⟩
  | .hbm, ⟨40, _⟩ => ⟨S8208x1024, .f32⟩
  | .hbm, ⟨41, _⟩ => ⟨S8208x1024, .f32⟩
  | .hbm, ⟨42, _⟩ => ⟨S8208x1024, .f32⟩
  | .hbm, ⟨43, _⟩ => ⟨S8208x1, .f32⟩
  | .hbm, ⟨44, _⟩ => ⟨S_, .f32⟩
  | .hbm, ⟨45, _⟩ => ⟨S8208x1, .f32⟩
  | .hbm, ⟨46, _⟩ => ⟨S8208x1, .f32⟩
  | .hbm, ⟨47, _⟩ => ⟨S_, .f32⟩
  | .hbm, ⟨48, _⟩ => ⟨S8208, .f32⟩
  | .hbm, ⟨49, _⟩ => ⟨S8208x1024, .f32⟩
  | .hbm, ⟨50, _⟩ => ⟨S8208x1024, .f32⟩
  | .hbm, ⟨51, _⟩ => ⟨S8208x1024, .f32⟩
  | .hbm, ⟨52, _⟩ => ⟨S8208x1024, .f32⟩
  | .hbm, ⟨53, _⟩ => ⟨S8208x1024, .f32⟩
  | .hbm, ⟨54, _⟩ => ⟨S_, .f32⟩
  | .hbm, ⟨55, _⟩ => ⟨S8320x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== Kernel4.lean ====
abbrev S8208x1024 : Shape := ⟨2, ![8208, 1024]⟩
abbrev S_ : Shape := ⟨0, ![]⟩
abbrev S8320x1024 : Shape := ⟨2, ![8320, 1024]⟩
abbrev S1024x1024 : Shape := ⟨2, ![1024, 1024]⟩
abbrev S1664x1024 : Shape := ⟨2, ![1664, 1024]⟩

abbrev nBuf : Space → Nat
  | .hbm => 9
  | .vmem => 5
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S_, .f32⟩
  | .hbm, ⟨3, _⟩ => ⟨S8320x1024, .f32⟩
  | .hbm, ⟨4, _⟩ => ⟨S8320x1024, .bf16⟩
  | .hbm, ⟨5, _⟩ => ⟨S_, .f32⟩
  | .hbm, ⟨6, _⟩ => ⟨S8320x1024, .f32⟩
  | .hbm, ⟨7, _⟩ => ⟨S8320x1024, .bf16⟩
  | .hbm, ⟨8, _⟩ => ⟨S1024x1024, .f32⟩
  | .local _ .vmem, ⟨0, _⟩ => ⟨S1664x1024, .bf16⟩
  | .local _ .vmem, ⟨1, _⟩ => ⟨S1664x1024, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 5], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32 : BitVec 32 := 0#32
  let v5 : BitVec 1 := Scalar.cmpi .eq arg1 c0_i32
  let v_true : BitVec 1 := 1#1
  let v8 : BitVec 1 := Scalar.xori v5 v_true
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Kernel4Ideal.lean ====
abbrev S8208x1024 : Shape := ⟨2, ![8208, 1024]⟩
abbrev S_ : Shape := ⟨0, ![]⟩
abbrev S8320x1024 : Shape := ⟨2, ![8320, 1024]⟩
abbrev S1024x1024 : Shape := ⟨2, ![1024, 1024]⟩
abbrev S1664x1024 : Shape := ⟨2, ![1664, 1024]⟩

abbrev nBuf : Space → Nat
  | .hbm => 9
  | .vmem => 5
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S_, .f32⟩
  | .hbm, ⟨3, _⟩ => ⟨S8320x1024, .f32⟩
  | .hbm, ⟨4, _⟩ => ⟨S8320x1024, .bf16⟩
  | .hbm, ⟨5, _⟩ => ⟨S_, .f32⟩
  | .hbm, ⟨6, _⟩ => ⟨S8320x1024, .f32⟩
  | .hbm, ⟨7, _⟩ => ⟨S8320x1024, .bf16⟩
  | .hbm, ⟨8, _⟩ => ⟨S1024x1024, .f32⟩
  | .local _ .vmem, ⟨0, _⟩ => ⟨S1664x1024, .bf16⟩
  | .local _ .vmem, ⟨1, _⟩ => ⟨S1664x1024, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 5], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32 : BitVec 32 := 0#32
  let v5 : BitVec 1 := Scalar.cmpi .eq arg1 c0_i32
  let v_true : BitVec 1 := 1#1
  let v8 : BitVec 1 := Scalar.xori v5 v_true
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference4Ideal.lean ====
abbrev S8208x1024 : Shape := ⟨2, ![8208, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S_, .f32⟩
  | .hbm, ⟨3, _⟩ => ⟨S1024x1024, .f32⟩
  | .hbm, ⟨4, _⟩ => ⟨S8208x1024, .f32⟩
  | .hbm, ⟨5, _⟩ => ⟨S1024x1024, .f32⟩
  | .hbm, ⟨6, _⟩ => ⟨S1024x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S8208x1024 : Shape := ⟨2, ![8208, 1024]⟩
abbrev S8208x128 : Shape := ⟨2, ![8208, 128]⟩
abbrev S_ : Shape := ⟨0, ![]⟩
abbrev S8320x1024 : Shape := ⟨2, ![8320, 1024]⟩
abbrev S8320x128 : Shape := ⟨2, ![8320, 128]⟩
abbrev S1024x128 : Shape := ⟨2, ![1024, 128]⟩
abbrev S1664x1024 : Shape := ⟨2, ![1664, 1024]⟩
abbrev S1664x128 : Shape := ⟨2, ![1664, 128]⟩

abbrev nBuf : Space → Nat
  | .hbm => 9
  | .vmem => 5
  | .smem => 0
  | _ => 0

abbrev bufTy : (tb : Table) → Fin (tcTables nBuf tb) → BufTy
  | .hbm, ⟨0, _⟩ => ⟨S8208x1024, .f32⟩
  | .hbm, ⟨1, _⟩ => ⟨S8208x128, .f32⟩
  | .hbm, ⟨2, _⟩ => ⟨S_, .f32⟩
  | .hbm, ⟨3, _⟩ => ⟨S8320x1024, .f32⟩
  | .hbm, ⟨4, _⟩ => ⟨S8320x1024, .bf16⟩
  | .hbm, ⟨5, _⟩ => ⟨S_, .f32⟩
  | .hbm, ⟨6, _⟩ => ⟨S8320x128, .f32⟩
  | .hbm, ⟨7, _⟩ => ⟨S8320x128, .bf16⟩
  | .hbm, ⟨8, _⟩ => ⟨S1024x128, .f32⟩
  | .local _ .vmem, ⟨0, _⟩ => ⟨S1664x1024, .bf16⟩
  | .local _ .vmem, ⟨1, _⟩ => ⟨S1664x1024, .bf16⟩
  | .local _ .vmem, ⟨2, _⟩ => ⟨S1664x128, .bf16⟩
  | .local _ .vmem, ⟨3, _⟩ => ⟨S1664x128, .bf16⟩
  | .local _ .vmem, ⟨4, _⟩ => ⟨S1024x128, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 5], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32 : BitVec 32 := 0#32
  let v5 : BitVec 1 := Scalar.cmpi .eq arg1 c0_i32
  let v_true : BitVec 1 := 1#1
  let v8 : BitVec 1 := Scalar.xori v5 v_true
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1664x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference5Ideal.lean ====
abbrev S8208x1024 : Shape := ⟨2, ![8208, 1024]⟩
abbrev S8208x128 : Shape := ⟨2, ![8208, 128]⟩
abbrev S_ : Shape := ⟨0, ![]⟩
abbrev S1024x128 : Shape := ⟨2, ![1024, 128]⟩
abbrev S128x1024 : Shape := ⟨2, ![128, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x128, .f32⟩
  | .hbm, ⟨2, _⟩ => ⟨S_, .f32⟩
  | .hbm, ⟨3, _⟩ => ⟨S1024x128, .f32⟩
  | .hbm, ⟨4, _⟩ => ⟨S8208x128, .f32⟩
  | .hbm, ⟨5, _⟩ => ⟨S128x1024, .f32⟩
  | .hbm, ⟨6, _⟩ => ⟨S1024x128, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S8208x1024 : Shape := ⟨2, ![8208, 1024]⟩
abbrev S1x1024 : Shape := ⟨2, ![1, 1024]⟩
abbrev S1024x4736 : Shape := ⟨2, ![1024, 4736]⟩
abbrev S_ : Shape := ⟨0, ![]⟩
abbrev S8320x1024 : Shape := ⟨2, ![8320, 1024]⟩
abbrev S8320x4736 : Shape := ⟨2, ![8320, 4736]⟩
abbrev S320x1024 : Shape := ⟨2, ![320, 1024]⟩
abbrev S320x4736 : Shape := ⟨2, ![320, 4736]⟩
abbrev S320 : Shape := ⟨1, ![320]⟩
abbrev S320x1 : Shape := ⟨2, ![320, 1]⟩
abbrev S1024x1024 : Shape := ⟨2, ![1024, 1024]⟩
abbrev S1024x640 : Shape := ⟨2, ![1024, 640]⟩
abbrev S320x640 : Shape := ⟨2, ![320, 640]⟩

abbrev nBuf : Space → Nat
  | .hbm => 8
  | .vmem => 8
  | .smem => 0
  | _ => 0

abbrev bufTy : (tb : Table) → Fin (tcTables nBuf tb) → BufTy
  | .hbm, ⟨0, _⟩ => ⟨S8208x1024, .f32⟩
  | .hbm, ⟨1, _⟩ => ⟨S1x1024, .f32⟩
  | .hbm, ⟨2, _⟩ => ⟨S1024x4736, .f32⟩
  | .hbm, ⟨3, _⟩ => ⟨S_, .f32⟩
  | .hbm, ⟨4, _⟩ => ⟨S8320x1024, .f32⟩
  | .hbm, ⟨5, _⟩ => ⟨S1024x4736, .bf16⟩
  | .hbm, ⟨6, _⟩ => ⟨S8320x1024, .bf16⟩
  | .hbm, ⟨7, _⟩ => ⟨S8320x4736, .f32⟩
  | .local _ .vmem, ⟨0, _⟩ => ⟨S320x1024, .f32⟩
  | .local _ .vmem, ⟨1, _⟩ => ⟨S320x1024, .f32⟩
  | .local _ .vmem, ⟨2, _⟩ => ⟨S1x1024, .f32⟩
  | .local _ .vmem, ⟨3, _⟩ => ⟨S1024x4736, .bf16⟩
  | .local _ .vmem, ⟨4, _⟩ => ⟨S320x1024, .bf16⟩
  | .local _ .vmem, ⟨5, _⟩ => ⟨S320x1024, .bf16⟩
  | .local _ .vmem, ⟨6, _⟩ => ⟨S320x4736, .f32⟩
  | .local _ .vmem, ⟨7, _⟩ => ⟨S320x4736, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4736 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S320x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x4736 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S8208x1024 : Shape := ⟨2, ![8208, 1024]⟩
abbrev S1x1024 : Shape := ⟨2, ![1, 1024]⟩
abbrev S1024x4736 : Shape := ⟨2, ![1024, 4736]⟩
abbrev S_ : Shape := ⟨0, ![]⟩
abbrev S8208 : Shape := ⟨1, ![8208]⟩
abbrev S8208x1 : Shape := ⟨2, ![8208, 1]⟩
abbrev S8320x1024 : Shape := ⟨2, ![8320, 1024]⟩
abbrev S8208x4736 : Shape := ⟨2, ![8208, 4736]⟩
abbrev S8320x4736 : Shape := ⟨2, ![8320, 4736]⟩

abbrev nBuf : Space → Nat
  | .hbm => 24
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1x1024, .f32⟩
  | .hbm, ⟨2, _⟩ => ⟨S1024x4736, .f32⟩
  | .hbm, ⟨3, _⟩ => ⟨S8208x1024, .f32⟩
  | .hbm, ⟨4, _⟩ => ⟨S_, .f32⟩
  | .hbm, ⟨5, _⟩ => ⟨S8208, .f32⟩
  | .hbm, ⟨6, _⟩ => ⟨S8208x1, .f32⟩
  | .hbm, ⟨7, _⟩ => ⟨S_, .f32⟩
  | .hbm, ⟨8, _⟩ => ⟨S8208x1, .f32⟩
  | .hbm, ⟨9, _⟩ => ⟨S8208x1, .f32⟩
  | .hbm, ⟨10, _⟩ => ⟨S_, .f32⟩
  | .hbm, ⟨11, _⟩ => ⟨S8208x1, .f32⟩
  | .hbm, ⟨12, _⟩ => ⟨S8208x1, .f32⟩
  | .hbm, ⟨13, _⟩ => ⟨S8208x1, .f32⟩
  | .hbm, ⟨14, _⟩ => ⟨S8208x1024, .f32⟩
  | .hbm, ⟨15, _⟩ => ⟨S8208x1024, .f32⟩
  | .hbm, ⟨16, _⟩ => ⟨S8208x1024, .f32⟩
  | .hbm, ⟨17, _⟩ => ⟨S8208x1024, .f32⟩
  | .hbm, ⟨18, _⟩ => ⟨S8208x1024, .bf16⟩
  | .hbm, ⟨19, _⟩ => ⟨S_, .bf16⟩
  | .hbm, ⟨20, _⟩ => ⟨S8320x1024, .bf16⟩
  | .hbm, ⟨21, _⟩ => ⟨S8208x4736, .f32⟩
  | .hbm, ⟨22, _⟩ => ⟨S_, .f32⟩
  | .hbm, ⟨23, _⟩ => ⟨S8320x4736, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel7.lean ====
abbrev S8208x1024 : Shape := ⟨2, ![8208, 1024]⟩
abbrev S8208x4736 : Shape := ⟨2, ![8208, 4736]⟩
abbrev S8x8208x64 : Shape := ⟨3, ![8, 8208, 64]⟩
abbrev S512x1024 : Shape := ⟨2, ![512, 1024]⟩
abbrev S1024x1024 : Shape := ⟨2, ![1024, 1024]⟩
abbrev S_ : Shape := ⟨0, ![]⟩
abbrev S8320x1024 : Shape := ⟨2, ![8320, 1024]⟩
abbrev S8320x4736 : Shape := ⟨2, ![8320, 4736]⟩
abbrev S8x8320x64 : Shape := ⟨3, ![8, 8320, 64]⟩
abbrev S320x1024 : Shape := ⟨2, ![320, 1024]⟩
abbrev S320x2048 : Shape := ⟨2, ![320, 2048]⟩
abbrev S320x512 : Shape := ⟨2, ![320, 512]⟩
abbrev S8x320x64 : Shape := ⟨3, ![8, 320, 64]⟩
abbrev S1x320x64 : Shape := ⟨3, ![1, 320, 64]⟩
abbrev S320x64 : Shape := ⟨2, ![320, 64]⟩

abbrev nBuf : Space → Nat
  | .hbm => 18
  | .vmem => 16
  | .smem => 0
  | _ => 0

abbrev bufTy : (tb : Table) → Fin (tcTables nBuf tb) → BufTy
  | .hbm, ⟨0, _⟩ => ⟨S8208x1024, .f32⟩
  | .hbm, ⟨1, _⟩ => ⟨S8208x4736, .f32⟩
  | .hbm, ⟨2, _⟩ => ⟨S8x8208x64, .f32⟩
  | .hbm, ⟨3, _⟩ => ⟨S8208x1024, .f32⟩
  | .hbm, ⟨4, _⟩ => ⟨S512x1024, .f32⟩
  | .hbm, ⟨5, _⟩ => ⟨S1024x1024, .f32⟩
  | .hbm, ⟨6, _⟩ => ⟨S_, .f32⟩
  | .hbm, ⟨7, _⟩ => ⟨S8320x1024, .f32⟩
  | .hbm, ⟨8, _⟩ => ⟨S_, .f32⟩
  | .hbm, ⟨9, _⟩ => ⟨S8320x4736, .f32⟩
  | .hbm, ⟨10, _⟩ => ⟨S_, .f32⟩
  | .hbm, ⟨11, _⟩ => ⟨S8x8320x64, .f32⟩
  | .hbm, ⟨12, _⟩ => ⟨S_, .f32⟩
  | .hbm, ⟨13, _⟩ => ⟨S8320x1024, .f32⟩
  | .hbm, ⟨14, _⟩ => ⟨S512x1024, .bf16⟩
  | .hbm, ⟨15, _⟩ => ⟨S1024x1024, .bf16⟩
  | .hbm, ⟨16, _⟩ => ⟨S8320x1024, .f32⟩
  | .hbm, ⟨17, _⟩ => ⟨S8320x1024, .f32⟩
  | .local _ .vmem, ⟨0, _⟩ => ⟨S320x1024, .f32⟩
  | .local _ .vmem, ⟨1, _⟩ => ⟨S320x1024, .f32⟩
  | .local _ .vmem, ⟨2, _⟩ => ⟨S320x2048, .f32⟩
  | .local _ .vmem, ⟨3, _⟩ => ⟨S320x2048, .f32⟩
  | .local _ .vmem, ⟨4, _⟩ => ⟨S320x512, .f32⟩
  | .local _ .vmem, ⟨5, _⟩ => ⟨S320x512, .f32⟩
  | .local _ .vmem, ⟨6, _⟩ => ⟨S8x320x64, .f32⟩
  | .local _ .vmem, ⟨7, _⟩ => ⟨S8x320x64, .f32⟩
  | .local _ .vmem, ⟨8, _⟩ => ⟨S320x1024, .f32⟩
  | .local _ .vmem, ⟨9, _⟩ => ⟨S320x1024, .f32⟩
  | .local _ .vmem, ⟨10, _⟩ => ⟨S512x1024, .bf16⟩
  | .local _ .vmem, ⟨11, _⟩ => ⟨S1024x1024, .bf16⟩
  | .local _ .vmem, ⟨12, _⟩ => ⟨S320x1024, .f32⟩
  | .local _ .vmem, ⟨13, _⟩ => ⟨S320x1024, .f32⟩
  | .local _ .vmem, ⟨14, _⟩ => ⟨S320x1024, .f32⟩
  | .local _ .vmem, ⟨15, _⟩ => ⟨S320x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_cst_2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x320x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S320x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S320x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S8208x1024 : Shape := ⟨2, ![8208, 1024]⟩
abbrev S8208x4736 : Shape := ⟨2, ![8208, 4736]⟩
abbrev S8x8208x64 : Shape := ⟨3, ![8, 8208, 64]⟩
abbrev S512x1024 : Shape := ⟨2, ![512, 1024]⟩
abbrev S1024x1024 : Shape := ⟨2, ![1024, 1024]⟩
abbrev S8208x2048 : Shape := ⟨2, ![8208, 2048]⟩
abbrev S8208x512 : Shape := ⟨2, ![8208, 512]⟩
abbrev S8208x8x64 : Shape := ⟨3, ![8208, 8, 64]⟩
abbrev S_ : Shape := ⟨0, ![]⟩
abbrev S8320x1024 : Shape := ⟨2, ![8320, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x4736, .f32⟩
  | .hbm, ⟨2, _⟩ => ⟨S8x8208x64, .f32⟩
  | .hbm, ⟨3, _⟩ => ⟨S8208x1024, .f32⟩
  | .hbm, ⟨4, _⟩ => ⟨S512x1024, .f32⟩
  | .hbm, ⟨5, _⟩ => ⟨S1024x1024, .f32⟩
  | .hbm, ⟨6, _⟩ => ⟨S8208x2048, .f32⟩
  | .hbm, ⟨7, _⟩ => ⟨S8208x512, .f32⟩
  | .hbm, ⟨8, _⟩ => ⟨S8208x8x64, .f32⟩
  | .hbm, ⟨9, _⟩ => ⟨S8208x512, .f32⟩
  | .hbm, ⟨10, _⟩ => ⟨S8208x512, .f32⟩
  | .hbm, ⟨11, _⟩ => ⟨S8208x512, .f32⟩
  | .hbm, ⟨12, _⟩ => ⟨S_, .f32⟩
  | .hbm, ⟨13, _⟩ => ⟨S8208x512, .f32⟩
  | .hbm, ⟨14, _⟩ => ⟨S8208x512, .f32⟩
  | .hbm, ⟨15, _⟩ => ⟨S_, .f32⟩
  | .hbm, ⟨16, _⟩ => ⟨S8208x512, .f32⟩
  | .hbm, ⟨17, _⟩ => ⟨S8208x512, .f32⟩
  | .hbm, ⟨18, _⟩ => ⟨S8208x512, .f32⟩
  | .hbm, ⟨19, _⟩ => ⟨S8208x512, .f32⟩
  | .hbm, ⟨20, _⟩ => ⟨S8208x1024, .f32⟩
  | .hbm, ⟨21, _⟩ => ⟨S8208x1024, .f32⟩
  | .hbm, ⟨22, _⟩ => ⟨S8208x1024, .f32⟩
  | .hbm, ⟨23, _⟩ => ⟨S8208x1024, .f32⟩
  | .hbm, ⟨24, _⟩ => ⟨S_, .f32⟩
  | .hbm, ⟨25, _⟩ => ⟨S8208x1024, .f32⟩
  | .hbm, ⟨26, _⟩ => ⟨S8208x1024, .f32⟩
  | .hbm, ⟨27, _⟩ => ⟨S_, .f32⟩
  | .hbm, ⟨28, _⟩ => ⟨S8208x1024, .f32⟩
  | .hbm, ⟨29, _⟩ => ⟨S8208x1024, .f32⟩
  | .hbm, ⟨30, _⟩ => ⟨S8208x1024, .f32⟩
  | .hbm, ⟨31, _⟩ => ⟨S8208x1024, .f32⟩
  | .hbm, ⟨32, _⟩ => ⟨S8208x1024, .f32⟩
  | .hbm, ⟨33, _⟩ => ⟨S8208x1024, .f32⟩
  | .hbm, ⟨34, _⟩ => ⟨S_, .f32⟩
  | .hbm, ⟨35, _⟩ => ⟨S8208x1024, .f32⟩
  | .hbm, ⟨36, _⟩ => ⟨S8208x1024, .f32⟩
  | .hbm, ⟨37, _⟩ => ⟨S_, .f32⟩
  | .hbm, ⟨38, _⟩ => ⟨S8208x1024, .f32⟩
  | .hbm, ⟨39, _⟩ => ⟨S8208x1024, .f32⟩
  | .hbm, ⟨40, _⟩ => ⟨S8208x1024, .f32⟩
  | .hbm, ⟨41, _⟩ => ⟨S8208x1024, .f32⟩
  | .hbm, ⟨42, _⟩ => ⟨S8208x1024, .f32⟩
  | .hbm, ⟨43, _⟩ => ⟨S_, .f32⟩
  | .hbm, ⟨44, _⟩ => ⟨S8320x1024, .f32⟩
  | .hbm, ⟨45, _⟩ => ⟨S8208x1024, .f32⟩
  | .hbm, ⟨46, _⟩ => ⟨S_, .f32⟩
  | .hbm, ⟨47, _⟩ => ⟨S8320x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩

abbrev nD : Nat := 1
abbrev τ : Topo := Topo.v7x

variable {F : FTy → Type} [FloatOps F]
-- ==== Kernel8.lean ====
abbrev S8208x1024 : Shape := ⟨2, ![8208, 1024]⟩
abbrev S8208x4736 : Shape := ⟨2, ![8208, 4736]⟩
abbrev S8x8208x64 : Shape := ⟨3, ![8, 8208, 64]⟩
abbrev S512x1024 : Shape := ⟨2, ![512, 1024]⟩
abbrev S1024x1024 : Shape := ⟨2, ![1024, 1024]⟩
abbrev S8208x2048 : Shape := ⟨2, ![8208, 2048]⟩
abbrev S8208x512 : Shape := ⟨2, ![8208, 512]⟩
abbrev S8208x8x64 : Shape := ⟨3, ![8208, 8, 64]⟩
abbrev S_ : Shape := ⟨0, ![]⟩
abbrev S8320x1024 : Shape := ⟨2, ![8320, 1024]⟩
abbrev S8320x4736 : Shape := ⟨2, ![8320, 4736]⟩
abbrev S8x8320x64 : Shape := ⟨3, ![8, 8320, 64]⟩
abbrev S8320x2560 : Shape := ⟨2, ![8320, 2560]⟩
abbrev S320x1024 : Shape := ⟨2, ![320, 1024]⟩
abbrev S320x2048 : Shape := ⟨2, ![320, 2048]⟩
abbrev S320x512 : Shape := ⟨2, ![320, 512]⟩
abbrev S8x320x64 : Shape := ⟨3, ![8, 320, 64]⟩
abbrev S320x2560 : Shape := ⟨2, ![320, 2560]⟩
abbrev S1x320x64 : Shape := ⟨3, ![1, 320, 64]⟩
abbrev S320x64 : Shape := ⟨2, ![320, 64]⟩

abbrev nBuf : Space → Nat
  | .hbm => 60
  | .vmem => 22
  | .smem => 0
  | _ => 0

abbrev bufTy : (tb : Table) → Fin (tcTables nBuf tb) → BufTy
  | .hbm, ⟨0, _⟩ => ⟨S8208x1024, .f32⟩
  | .hbm, ⟨1, _⟩ => ⟨S8208x4736, .f32⟩
  | .hbm, ⟨2, _⟩ => ⟨S8x8208x64, .f32⟩
  | .hbm, ⟨3, _⟩ => ⟨S8208x1024, .f32⟩
  | .hbm, ⟨4, _⟩ => ⟨S512x1024, .f32⟩
  | .hbm, ⟨5, _⟩ => ⟨S1024x1024, .f32⟩
  | .hbm, ⟨6, _⟩ => ⟨S8208x2048, .f32⟩
  | .hbm, ⟨7, _⟩ => ⟨S8208x512, .f32⟩
  | .hbm, ⟨8, _⟩ => ⟨S8208x8x64, .f32⟩
  | .hbm, ⟨9, _⟩ => ⟨S8208x512, .f32⟩
  | .hbm, ⟨10, _⟩ => ⟨S8208x512, .f32⟩
  | .hbm, ⟨11, _⟩ => ⟨S8208x512, .f32⟩
  | .hbm, ⟨12, _⟩ => ⟨S_, .f32⟩
  | .hbm, ⟨13, _⟩ => ⟨S8208x512, .f32⟩
  | .hbm, ⟨14, _⟩ => ⟨S8208x512, .f32⟩
  | .hbm, ⟨15, _⟩ => ⟨S_, .f32⟩
  | .hbm, ⟨16, _⟩ => ⟨S8208x512, .f32⟩
  | .hbm, ⟨17, _⟩ => ⟨S8208x512, .f32⟩
  | .hbm, ⟨18, _⟩ => ⟨S8208x512, .f32⟩
  | .hbm, ⟨19, _⟩ => ⟨S8208x512, .f32⟩
  | .hbm, ⟨20, _⟩ => ⟨S8208x1024, .f32⟩
  | .hbm, ⟨21, _⟩ => ⟨S8208x1024, .f32⟩
  | .hbm, ⟨22, _⟩ => ⟨S8208x1024, .f32⟩
  | .hbm, ⟨23, _⟩ => ⟨S8208x1024, .f32⟩
  | .hbm, ⟨24, _⟩ => ⟨S_, .f32⟩
  | .hbm, ⟨25, _⟩ => ⟨S8208x1024, .f32⟩
  | .hbm, ⟨26, _⟩ => ⟨S8208x1024, .f32⟩
  | .hbm, ⟨27, _⟩ => ⟨S_, .f32⟩
  | .hbm, ⟨28, _⟩ => ⟨S8208x1024, .f32⟩
  | .hbm, ⟨29, _⟩ => ⟨S8208x1024, .f32⟩
  | .hbm, ⟨30, _⟩ => ⟨S8208x1024, .f32⟩
  | .hbm, ⟨31, _⟩ => ⟨S8208x1024, .f32⟩
  | .hbm, ⟨32, _⟩ => ⟨S8208x1024, .f32⟩
  | .hbm, ⟨33, _⟩ => ⟨S8208x1024, .f32⟩
  | .hbm, ⟨34, _⟩ => ⟨S_, .f32⟩
  | .hbm, ⟨35, _⟩ => ⟨S8208x1024, .f32⟩
  | .hbm, ⟨36, _⟩ => ⟨S8208x1024, .f32⟩
  | .hbm, ⟨37, _⟩ => ⟨S_, .f32⟩
  | .hbm, ⟨38, _⟩ => ⟨S8208x1024, .f32⟩
  | .hbm, ⟨39, _⟩ => ⟨S8208x1024, .f32⟩
  | .hbm, ⟨40, _⟩ => ⟨S8208x1024, .f32⟩
  | .hbm, ⟨41, _⟩ => ⟨S8208x1024, .f32⟩
  | .hbm, ⟨42, _⟩ => ⟨S8208x1024, .f32⟩
  | .hbm, ⟨43, _⟩ => ⟨S_, .f32⟩
  | .hbm, ⟨44, _⟩ => ⟨S8320x1024, .f32⟩
  | .hbm, ⟨45, _⟩ => ⟨S_, .f32⟩
  | .hbm, ⟨46, _⟩ => ⟨S8320x4736, .f32⟩
  | .hbm, ⟨47, _⟩ => ⟨S_, .f32⟩
  | .hbm, ⟨48, _⟩ => ⟨S8x8320x64, .f32⟩
  | .hbm, ⟨49, _⟩ => ⟨S_, .f32⟩
  | .hbm, ⟨50, _⟩ => ⟨S8320x1024, .f32⟩
  | .hbm, ⟨51, _⟩ => ⟨S_, .f32⟩
  | .hbm, ⟨52, _⟩ => ⟨S8320x1024, .f32⟩
  | .hbm, ⟨53, _⟩ => ⟨S512x1024, .bf16⟩
  | .hbm, ⟨54, _⟩ => ⟨S1024x1024, .bf16⟩
  | .hbm, ⟨55, _⟩ => ⟨S8320x2560, .bf16⟩
  | .hbm, ⟨56, _⟩ => ⟨S8320x1024, .bf16⟩
  | .hbm, ⟨57, _⟩ => ⟨S8x8320x64, .f32⟩
  | .hbm, ⟨58, _⟩ => ⟨S1024x1024, .f32⟩
  | .hbm, ⟨59, _⟩ => ⟨S512x1024, .f32⟩
  | .local _ .vmem, ⟨0, _⟩ => ⟨S320x1024, .f32⟩
  | .local _ .vmem, ⟨1, _⟩ => ⟨S320x1024, .f32⟩
  | .local _ .vmem, ⟨2, _⟩ => ⟨S320x2048, .f32⟩
  | .local _ .vmem, ⟨3, _⟩ => ⟨S320x2048, .f32⟩
  | .local _ .vmem, ⟨4, _⟩ => ⟨S320x512, .f32⟩
  | .local _ .vmem, ⟨5, _⟩ => ⟨S320x512, .f32⟩
  | .local _ .vmem, ⟨6, _⟩ => ⟨S8x320x64, .f32⟩
  | .local _ .vmem, ⟨7, _⟩ => ⟨S8x320x64, .f32⟩
  | .local _ .vmem, ⟨8, _⟩ => ⟨S320x1024, .f32⟩
  | .local _ .vmem, ⟨9, _⟩ => ⟨S320x1024, .f32⟩
  | .local _ .vmem, ⟨10, _⟩ => ⟨S320x1024, .f32⟩
  | .local _ .vmem, ⟨11, _⟩ => ⟨S320x1024, .f32⟩
  | .local _ .vmem, ⟨12, _⟩ => ⟨S512x1024, .bf16⟩
  | .local _ .vmem, ⟨13, _⟩ => ⟨S1024x1024, .bf16⟩
  | .local _ .vmem, ⟨14, _⟩ => ⟨S320x2560, .bf16⟩
  | .local _ .vmem, ⟨15, _⟩ => ⟨S320x2560, .bf16⟩
  | .local _ .vmem, ⟨16, _⟩ => ⟨S320x1024, .bf16⟩
  | .local _ .vmem, ⟨17, _⟩ => ⟨S320x1024, .bf16⟩
  | .local _ .vmem, ⟨18, _⟩ => ⟨S8x320x64, .f32⟩
  | .local _ .vmem, ⟨19, _⟩ => ⟨S8x320x64, .f32⟩
  | .local _ .vmem, ⟨20, _⟩ => ⟨S1024x1024, .f32⟩
  | .local _ .vmem, ⟨21, _⟩ => ⟨S512x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_cst_6 : Ref sig .tc := ⟨.hbm, 49, rfl⟩
abbrev main_v28 : Ref sig .tc := ⟨.hbm, 50, rfl⟩
abbrev main_cst_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32_0 : Ref sig .tc := ⟨.hbm, 55, rfl⟩
abbrev main_v32_1 : Ref sig .tc := ⟨.hbm, 56, rfl⟩
abbrev main_v32_2 : Ref sig .tc := ⟨.hbm, 57, rfl⟩
abbrev main_v32_3 : Ref sig .tc := ⟨.hbm, 58, rfl⟩
abbrev main_v32_4 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![26], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v85 : BitVec 32 := Scalar.extui v0
  let c0_i32_48 : BitVec 32 := 0#32
  let v86 : BitVec 1 := Scalar.cmpi .ne v85 c0_i32_48
  v86

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v87 : BitVec 1 := Scalar.xori v0 v_true
  let v88 : BitVec 32 := Scalar.extui v87
  let c0_i32_49 : BitVec 32 := 0#32
  let v89 : BitVec 1 := Scalar.cmpi .ne v88 c0_i32_49
  v89

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v137 : BitVec 32 := Scalar.extui v0
  let c0_i32_78 : BitVec 32 := 0#32
  let v138 : BitVec 1 := Scalar.cmpi .ne v137 c0_i32_78
  v138

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_79 : BitVec 1 := 1#1
  let v139 : BitVec 1 := Scalar.xori v0 true_79
  let v140 : BitVec 32 := Scalar.extui v139
  let c0_i32_80 : BitVec 32 := 0#32
  let v141 : BitVec 1 := Scalar.cmpi .ne v140 c0_i32_80
  v141

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x320x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S320x2560 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S320x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x320x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference8Ideal.lean ====
abbrev S8208x1024 : Shape := ⟨2, ![8208, 1024]⟩
abbrev S8208x4736 : Shape := ⟨2, ![8208, 4736]⟩
abbrev S8x8208x64 : Shape := ⟨3, ![8, 8208, 64]⟩
abbrev S512x1024 : Shape := ⟨2, ![512, 1024]⟩
abbrev S1024x1024 : Shape := ⟨2, ![1024, 1024]⟩
abbrev S8208x2048 : Shape := ⟨2, ![8208, 2048]⟩
abbrev S8208x512 : Shape := ⟨2, ![8208, 512]⟩
abbrev S8208x8x64 : Shape := ⟨3, ![8208, 8, 64]⟩
abbrev S_ : Shape := ⟨0, ![]⟩
abbrev S1024x512 : Shape := ⟨2, ![1024, 512]⟩
abbrev S8208x2560 : Shape := ⟨2, ![8208, 2560]⟩
abbrev S8320x2560 : Shape := ⟨2, ![8320, 2560]⟩
abbrev S8320x1024 : Shape := ⟨2, ![8320, 1024]⟩
abbrev S8x8320x64 : Shape := ⟨3, ![8, 8320, 64]⟩

abbrev nBuf : Space → Nat
  | .hbm => 89
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x4736, .f32⟩
  | .hbm, ⟨2, _⟩ => ⟨S8x8208x64, .f32⟩
  | .hbm, ⟨3, _⟩ => ⟨S8208x1024, .f32⟩
  | .hbm, ⟨4, _⟩ => ⟨S512x1024, .f32⟩
  | .hbm, ⟨5, _⟩ => ⟨S1024x1024, .f32⟩
  | .hbm, ⟨6, _⟩ => ⟨S8208x2048, .f32⟩
  | .hbm, ⟨7, _⟩ => ⟨S8208x512, .f32⟩
  | .hbm, ⟨8, _⟩ => ⟨S8208x8x64, .f32⟩
  | .hbm, ⟨9, _⟩ => ⟨S8208x512, .f32⟩
  | .hbm, ⟨10, _⟩ => ⟨S8208x512, .f32⟩
  | .hbm, ⟨11, _⟩ => ⟨S8208x512, .f32⟩
  | .hbm, ⟨12, _⟩ => ⟨S_, .f32⟩
  | .hbm, ⟨13, _⟩ => ⟨S8208x512, .f32⟩
  | .hbm, ⟨14, _⟩ => ⟨S8208x512, .f32⟩
  | .hbm, ⟨15, _⟩ => ⟨S_, .f32⟩
  | .hbm, ⟨16, _⟩ => ⟨S8208x512, .f32⟩
  | .hbm, ⟨17, _⟩ => ⟨S8208x512, .f32⟩
  | .hbm, ⟨18, _⟩ => ⟨S_, .f32⟩
  | .hbm, ⟨19, _⟩ => ⟨S8208x512, .f32⟩
  | .hbm, ⟨20, _⟩ => ⟨S8208x512, .f32⟩
  | .hbm, ⟨21, _⟩ => ⟨S8208x512, .f32⟩
  | .hbm, ⟨22, _⟩ => ⟨S8208x512, .f32⟩
  | .hbm, ⟨23, _⟩ => ⟨S8208x512, .f32⟩
  | .hbm, ⟨24, _⟩ => ⟨S8208x1024, .f32⟩
  | .hbm, ⟨25, _⟩ => ⟨S8208x1024, .f32⟩
  | .hbm, ⟨26, _⟩ => ⟨S8208x1024, .f32⟩
  | .hbm, ⟨27, _⟩ => ⟨S8208x1024, .f32⟩
  | .hbm, ⟨28, _⟩ => ⟨S_, .f32⟩
  | .hbm, ⟨29, _⟩ => ⟨S8208x1024, .f32⟩
  | .hbm, ⟨30, _⟩ => ⟨S8208x1024, .f32⟩
  | .hbm, ⟨31, _⟩ => ⟨S_, .f32⟩
  | .hbm, ⟨32, _⟩ => ⟨S8208x1024, .f32⟩
  | .hbm, ⟨33, _⟩ => ⟨S8208x1024, .f32⟩
  | .hbm, ⟨34, _⟩ => ⟨S_, .f32⟩
  | .hbm, ⟨35, _⟩ => ⟨S8208x1024, .f32⟩
  | .hbm, ⟨36, _⟩ => ⟨S8208x1024, .f32⟩
  | .hbm, ⟨37, _⟩ => ⟨S8208x1024, .f32⟩
  | .hbm, ⟨38, _⟩ => ⟨S8208x1024, .f32⟩
  | .hbm, ⟨39, _⟩ => ⟨S8208x1024, .f32⟩
  | .hbm, ⟨40, _⟩ => ⟨S8208x1024, .f32⟩
  | .hbm, ⟨41, _⟩ => ⟨S8208x1024, .f32⟩
  | .hbm, ⟨42, _⟩ => ⟨S_, .f32⟩
  | .hbm, ⟨43, _⟩ => ⟨S8208x1024, .f32⟩
  | .hbm, ⟨44, _⟩ => ⟨S8208x1024, .f32⟩
  | .hbm, ⟨45, _⟩ => ⟨S_, .f32⟩
  | .hbm, ⟨46, _⟩ => ⟨S8208x1024, .f32⟩
  | .hbm, ⟨47, _⟩ => ⟨S8208x1024, .f32⟩
  | .hbm, ⟨48, _⟩ => ⟨S_, .f32⟩
  | .hbm, ⟨49, _⟩ => ⟨S8208x1024, .f32⟩
  | .hbm, ⟨50, _⟩ => ⟨S8208x1024, .f32⟩
  | .hbm, ⟨51, _⟩ => ⟨S8208x1024, .f32⟩
  | .hbm, ⟨52, _⟩ => ⟨S8208x1024, .f32⟩
  | .hbm, ⟨53, _⟩ => ⟨S8208x1024, .f32⟩
  | .hbm, ⟨54, _⟩ => ⟨S8208x1024, .f32⟩
  | .hbm, ⟨55, _⟩ => ⟨S1024x1024, .f32⟩
  | .hbm, ⟨56, _⟩ => ⟨S1024x1024, .f32⟩
  | .hbm, ⟨57, _⟩ => ⟨S8208x1024, .f32⟩
  | .hbm, ⟨58, _⟩ => ⟨S8208x1024, .f32⟩
  | .hbm, ⟨59, _⟩ => ⟨S8208x1024, .f32⟩
  | .hbm, ⟨60, _⟩ => ⟨S8208x1024, .f32⟩
  | .hbm, ⟨61, _⟩ => ⟨S_, .f32⟩
  | .hbm, ⟨62, _⟩ => ⟨S8208x2048, .f32⟩
  | .hbm, ⟨63, _⟩ => ⟨S8208x1024, .f32⟩
  | .hbm, ⟨64, _⟩ => ⟨S8208x1024, .f32⟩
  | .hbm, ⟨65, _⟩ => ⟨S8208x1024, .f32⟩
  | .hbm, ⟨66, _⟩ => ⟨S_, .f32⟩
  | .hbm, ⟨67, _⟩ => ⟨S8208x2048, .f32⟩
  | .hbm, ⟨68, _⟩ => ⟨S8208x2048, .f32⟩
  | .hbm, ⟨69, _⟩ => ⟨S1024x512, .f32⟩
  | .hbm, ⟨70, _⟩ => ⟨S512x1024, .f32⟩
  | .hbm, ⟨71, _⟩ => ⟨S8208x512, .f32⟩
  | .hbm, ⟨72, _⟩ => ⟨S8208x512, .f32⟩
  | .hbm, ⟨73, _⟩ => ⟨S8208x512, .f32⟩
  | .hbm, ⟨74, _⟩ => ⟨S8208x512, .f32⟩
  | .hbm, ⟨75, _⟩ => ⟨S8208x512, .f32⟩
  | .hbm, ⟨76, _⟩ => ⟨S8208x512, .f32⟩
  | .hbm, ⟨77, _⟩ => ⟨S8208x512, .f32⟩
  | .hbm, ⟨78, _⟩ => ⟨S8208x8x64, .f32⟩
  | .hbm, ⟨79, _⟩ => ⟨S8x8208x64, .f32⟩
  | .hbm, ⟨80, _⟩ => ⟨S8208x2560, .f32⟩
  | .hbm, ⟨81, _⟩ => ⟨S8208x2560, .bf16⟩
  | .hbm, ⟨82, _⟩ => ⟨S_, .bf16⟩
  | .hbm, ⟨83, _⟩ => ⟨S8320x2560, .bf16⟩
  | .hbm, ⟨84, _⟩ => ⟨S8208x1024, .bf16⟩
  | .hbm, ⟨85, _⟩ => ⟨S_, .bf16⟩
  | .hbm, ⟨86, _⟩ => ⟨S8320x1024, .bf16⟩
  | .hbm, ⟨87, _⟩ => ⟨S_, .f32⟩
  | .hbm, ⟨88, _⟩ => ⟨S8x8320x64, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v4_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v4_1 : Ref sig .tc := ⟨.hbm, 21, rfl⟩
abbrev main_v4_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_cst_0 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_2 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_5 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_6 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_7 : Ref sig .tc := ⟨.hbm, 82, rfl⟩
abbrev main_v53 : Ref sig .tc := ⟨.hbm, 83, rfl⟩
abbrev main_v54 : Ref sig .tc := ⟨.hbm, 84, rfl⟩
abbrev main_cst_8 : Ref sig .tc := ⟨.hbm, 85, rfl⟩
abbrev main_v55 : Ref sig .tc := ⟨.hbm, 86, rfl⟩
abbrev main_cst_9 : Ref sig .tc := ⟨.hbm, 87, rfl⟩
abbrev main_v56 : Ref sig .tc := ⟨.hbm, 88, rfl⟩

abbrev nD : Nat := 1
abbrev τ : Topo := Topo.v7x

variable {F : FTy → Type} [FloatOps F]
-- ==== Proof.IdealRegions.lean ====
/- The kernel body as six conditional regions, one after the other: `tail k` is the body from region `k` on, its text the
   printed skeleton's. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Tactic

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The body from region 6 on: the key block's results, at its last point. -/
def tail6 (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) :
    Prog (TpuEff nD τ sig (Elt F) Λ₀ .tc) PUnit := do
  if k0_h6 : k0_cond6 i = 1#1 then do
    let v26 : Vec F S4x640x128 .f32 ← Prog.lift (.load arg12 (Rect.unit (s := S4x640x128) ![0, 0, 0] S4x640x128.size inb_S4x640x128_S4x640x128_0_0_0).toLoadRect (View.loadsAt_vmem h_S4x640x128))
    let v29 : Vec F S4x640x128 .f32 ← Prog.lift (.load arg10 (Rect.unit (s := S4x640x128) ![0, 0, 0] S4x640x128.size inb_S4x640x128_S4x640x128_0_0_0).toLoadRect (View.loadsAt_vmem h_S4x640x128))
    Prog.lift (.store arg10 (Rect.unit (s := S4x640x128) ![0, 0, 0] S4x640x128.size inb_S4x640x128_S4x640x128_0_0_0) (k0_pay9 v26) Finset.univ (View.stores_vmem_bits_univ h_S4x640x128 rfl) (.inl rfl))
    let v30 : Vec F S4x640x64 .f32 ← Prog.lift (.load arg13 (Rect.unit (s := S4x640x64) ![0, 0, 0] S4x640x64.size inb_S4x640x64_S4x640x64_0_0_0).toLoadRect (View.loadsAt_vmem h_S4x640x64))
    let v31 : Vec F S4x640x64 .f32 ← Prog.lift (.load arg11 (Rect.unit (s := S4x640x64) ![0, 0, 0] S4x640x64.size inb_S4x640x64_S4x640x64_0_0_0).toLoadRect (View.loadsAt_vmem h_S4x640x64))
    Prog.lift (.store arg11 (Rect.unit (s := S4x640x64) ![0, 0, 0] S4x640x64.size inb_S4x640x64_S4x640x64_0_0_0) v30 Finset.univ (View.stores_vmem_bits_univ h_S4x640x64 rfl) (.inl rfl))
    pure ⟨⟩
  else do
    pure ⟨⟩
  pure ⟨⟩

/-- The body from region 5 on: the step of a pair of blocks wholly below the diagonal. -/
def tail5 (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) :
    Prog (TpuEff nD τ sig (Elt F) Λ₀ .tc) PUnit := do
  let arg2 : BitVec 32 := BitVec.ofNat 32 (i 2).val
  if k0_h5 : k0_cond5 i = 1#1 then do
    let ⟨v30, v35, v40, v45, v47, v50, cst_40⟩ : Σ' (v30 : FVec F S640x640 .f32) (v35 : FVec F S640x640 .f32) (v40 : FVec F S640x640 .f32) (v45 : FVec F S640x640 .f32) (v47 : FVec F S640x64 .bf16) (v50 : FVec F S640x64 .bf16), FVec F S640x640 .f32 ← k0_part10 i arg3 harg3 arg4 harg4 arg5 harg5 arg6 harg6 arg7 harg7 arg8 harg8 arg9 harg9 arg10 harg10 arg11 harg11 arg12 harg12 arg13 harg13 arg14 harg14
    let ⟨v51, v57, v63, v69, v78, v80⟩ : Σ' (v51 : FVec F S640x640 .f32) (v57 : FVec F S640x640 .f32) (v63 : FVec F S640x640 .f32) (v69 : FVec F S640x640 .f32) (v78 : FVec F S640x640 .f32), FVec F S640x640 .f32 ← k0_part11 i arg3 harg3 arg4 harg4 arg5 harg5 arg6 harg6 arg7 harg7 arg8 harg8 arg9 harg9 arg10 harg10 arg11 harg11 arg12 harg12 arg13 harg13 arg14 harg14 v30 v35 v47 v50 cst_40
    let ⟨v87, v96, v105, v111, v117, v120⟩ : Σ' (v87 : FVec F S640x640 .f32) (v96 : FVec F S640x640 .f32) (v105 : FVec F S640x640 .f32) (v111 : FVec F S640x640 .f32) (v117 : FVec F S640x640 .f32), FVec F S1x640 .f32 ← k0_part12 i arg3 harg3 arg4 harg4 arg5 harg5 arg6 harg6 arg7 harg7 arg8 harg8 arg9 harg9 arg10 harg10 arg11 harg11 arg12 harg12 arg13 harg13 arg14 harg14 arg2 k0_h5 v40 v45 v51 v57 v78 v80
    let ⟨v123, v129, v131⟩ : Σ' (v123 : FVec F S640x640 .f32) (v129 : FVec F S640x640 .f32), BitVec 32 ← k0_part13 i arg3 harg3 arg4 harg4 arg5 harg5 arg6 harg6 arg7 harg7 arg8 harg8 arg9 harg9 arg10 harg10 arg11 harg11 arg12 harg12 arg13 harg13 arg14 harg14 arg2 k0_h5 v63 v69 v78 v96 v105 v111 v120
    let v184 : FVec F S640x128 .f32 ← k0_part14 i arg3 harg3 arg4 harg4 arg5 harg5 arg6 harg6 arg7 harg7 arg8 harg8 arg9 harg9 arg10 harg10 arg11 harg11 arg12 harg12 arg13 harg13 arg14 harg14 k0_h5 v87 v111 v117 v131
    let ⟨v214, v215⟩ : Σ' (v214 : FVec F S640x128 .f32), Vec F S1x640x128 .bf16 ← k0_part15 i arg3 harg3 arg4 harg4 arg5 harg5 arg6 harg6 arg7 harg7 arg8 harg8 arg9 harg9 arg10 harg10 arg11 harg11 arg12 harg12 arg13 harg13 arg14 harg14 k0_h5 v96 v117 v131 v184
    k0_part16 i arg3 harg3 arg4 harg4 arg5 harg5 arg6 harg6 arg7 harg7 arg8 harg8 arg9 harg9 arg10 harg10 arg11 harg11 arg12 harg12 arg13 harg13 arg14 harg14 k0_h5 v105 v123 v131 v214 v215
    let v248 : Vec F S1x640x128 .f32 ← Prog.lift (.load arg12 (Rect.unit (s := S4x640x128) ![3, 0, 0] S1x640x128.size inb_S4x640x128_S1x640x128_3_0_0).toLoadRect (View.loadsAt_vmem h_S1x640x128))
    let v250 : Vec F S1x640x128 .bf16 ← Prog.lift (.load arg3 (Rect.unit (s := S4x640x128) ![3, 0, 0] S1x640x128.size inb_S4x640x128_S1x640x128_3_0_0).toLoadRect (View.loadsAt_vmem h_S1x640x128))
    let v255 : Vec F S1x640x128 .f32 ← Prog.lift (.load arg12 (Rect.unit (s := S4x640x128) ![3, 0, 0] S1x640x128.size inb_S4x640x128_S1x640x128_3_0_0).toLoadRect (View.loadsAt_vmem h_S1x640x128))
    Prog.lift (.store arg12 (Rect.unit (s := S4x640x128) ![3, 0, 0] S1x640x128.size inb_S4x640x128_S1x640x128_3_0_0) (k0_pay7 v129 v248 v250) Finset.univ (View.stores_vmem_bits_univ h_S1x640x128 rfl) (.inl rfl))
    let v259 : Vec F S1x640x128 .f32 ← Prog.lift (.load arg9 (Rect.unit (s := S4x8320x128) (k0_off20 i) S1x640x128.size (k0_off20_inb i k0_h5)).toLoadRect (View.loadsAt_vmem h_S1x640x128))
    let v261 : Vec F S1x640x128 .bf16 ← Prog.lift (.load arg4 (Rect.unit (s := S4x640x128) ![3, 0, 0] S1x640x128.size inb_S4x640x128_S1x640x128_3_0_0).toLoadRect (View.loadsAt_vmem h_S1x640x128))
    let v269 : Vec F S1x640x128 .f32 ← Prog.lift (.load arg9 (Rect.unit (s := S4x8320x128) (k0_off20 i) S1x640x128.size (k0_off20_inb i k0_h5)).toLoadRect (View.loadsAt_vmem h_S1x640x128))
    Prog.lift (.store arg9 (Rect.unit (s := S4x8320x128) (k0_off20 i) S1x640x128.size (k0_off20_inb i k0_h5)) (k0_pay8 v129 v259 v261) Finset.univ (View.stores_vmem_bits_univ h_S1x640x128 rfl) (.inl rfl))
    pure ⟨⟩
  else do
    pure ⟨⟩
  tail6 i arg3 harg3 arg4 harg4 arg5 harg5 arg6 harg6 arg7 harg7 arg8 harg8 arg9 harg9 arg10 harg10 arg11 harg11 arg12 harg12 arg13 harg13 arg14 harg14

/-- The body from region 4 on: the step of a pair of blocks on the mask's edge. -/
def tail4 (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) :
    Prog (TpuEff nD τ sig (Elt F) Λ₀ .tc) PUnit := do
  let arg1 : BitVec 32 := BitVec.ofNat 32 (i 1).val
  let arg2 : BitVec 32 := BitVec.ofNat 32 (i 2).val
  if k0_h4 : k0_cond4 i = 1#1 then do
    let ⟨v30, v35, v40, v45, v47, v50, cst_40⟩ : Σ' (v30 : FVec F S640x640 .f32) (v35 : FVec F S640x640 .f32) (v40 : FVec F S640x640 .f32) (v45 : FVec F S640x640 .f32) (v47 : FVec F S640x64 .bf16) (v50 : FVec F S640x64 .bf16), FVec F S640x640 .f32 ← k0_part2 i arg3 harg3 arg4 harg4 arg5 harg5 arg6 harg6 arg7 harg7 arg8 harg8 arg9 harg9 arg10 harg10 arg11 harg11 arg12 harg12 arg13 harg13 arg14 harg14
    let ⟨v51, v57, v63, v69, v81, v83, v84⟩ : Σ' (v51 : FVec F S640x640 .f32) (v57 : FVec F S640x640 .f32) (v63 : FVec F S640x640 .f32) (v69 : FVec F S640x640 .f32) (v81 : IVec S640x640 1) (v83 : FVec F S640x640 .f32), FVec F S640x640 .f32 ← k0_part3 i arg3 harg3 arg4 harg4 arg5 harg5 arg6 harg6 arg7 harg7 arg8 harg8 arg9 harg9 arg10 harg10 arg11 harg11 arg12 harg12 arg13 harg13 arg14 harg14 arg1 arg2 v30 v47 v50 cst_40
    let ⟨v98, v107, v116, v118, v122⟩ : Σ' (v98 : FVec F S640x640 .f32) (v107 : FVec F S640x640 .f32) (v116 : FVec F S640x640 .f32) (v118 : FVec F S640x640 .f32), FVec F S1x640 .f32 ← k0_part4 i arg3 harg3 arg4 harg4 arg5 harg5 arg6 harg6 arg7 harg7 arg8 harg8 arg9 harg9 arg10 harg10 arg11 harg11 arg12 harg12 arg13 harg13 arg14 harg14 v35 v40 v45 v81 v83 v84
    let ⟨v125, v131, v137, v143, v149, v151, v159⟩ : Σ' (v125 : FVec F S640x640 .f32) (v131 : FVec F S640x640 .f32) (v137 : FVec F S640x640 .f32) (v143 : FVec F S640x640 .f32) (v149 : FVec F S640x640 .f32) (v151 : BitVec 32), FVec F S640x64 .f32 ← k0_part5 i arg3 harg3 arg4 harg4 arg5 harg5 arg6 harg6 arg7 harg7 arg8 harg8 arg9 harg9 arg10 harg10 arg11 harg11 arg12 harg12 arg13 harg13 arg14 harg14 arg2 k0_h4 v51 v57 v63 v69 v98 v107 v116 v118 v122
    let ⟨v188, v190, v191⟩ : Σ' (v188 : FVec F S640x64 .f32) (v190 : FVec F S640x64 .f32), FVec F S640x640 .bf16 ← k0_part6 i arg3 harg3 arg4 harg4 arg5 harg5 arg6 harg6 arg7 harg7 arg8 harg8 arg9 harg9 arg10 harg10 arg11 harg11 arg12 harg12 arg13 harg13 arg14 harg14 k0_h4 v107 v131 v151 v159
    let v222 : Vec F S1x640x64 .f32 ← k0_part7 i arg3 harg3 arg4 harg4 arg5 harg5 arg6 harg6 arg7 harg7 arg8 harg8 arg9 harg9 arg10 harg10 arg11 harg11 arg12 harg12 arg13 harg13 arg14 harg14 k0_h4 v137 v151 v188 v190 v191
    let ⟨v252, v254⟩ : Σ' (v252 : FVec F S640x128 .f32), Vec F S1x640x128 .f32 ← k0_part8 i arg3 harg3 arg4 harg4 arg5 harg5 arg6 harg6 arg7 harg7 arg8 harg8 arg9 harg9 arg10 harg10 arg11 harg11 arg12 harg12 arg13 harg13 arg14 harg14 k0_h4 v116 v143 v151 v222
    let ⟨v280, v284, cst_213⟩ : Σ' (v280 : FVec F S640x128 .f32) (v284 : FVec F S640x128 .f32), F .f32 ← k0_part9 i arg3 harg3 arg4 harg4 arg5 harg5 arg6 harg6 arg7 harg7 arg8 harg8 arg9 harg9 arg10 harg10 arg11 harg11 arg12 harg12 arg13 harg13 arg14 harg14 k0_h4 v125 v149 v151 v252 v254
    let v289 : Vec F S1x640x128 .f32 ← Prog.lift (.load arg9 (Rect.unit (s := S4x8320x128) (k0_off12 i) S1x640x128.size (k0_off12_inb i k0_h4)).toLoadRect (View.loadsAt_vmem h_S1x640x128))
    Prog.lift (.store arg9 (Rect.unit (s := S4x8320x128) (k0_off12 i) S1x640x128.size (k0_off12_inb i k0_h4)) (k0_pay6 v280 v284 cst_213) Finset.univ (View.stores_vmem_bits_univ h_S1x640x128 rfl) (.inl rfl))
    pure ⟨⟩
  else do
    pure ⟨⟩
  tail5 i arg3 harg3 arg4 harg4 arg5 harg5 arg6 harg6 arg7 harg7 arg8 harg8 arg9 harg9 arg10 harg10 arg11 harg11 arg12 harg12 arg13 harg13 arg14 harg14

/-- The body from region 3 on: `dk_sc, dv_sc := 0` at a key block's first point. -/
def tail3 (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) :
    Prog (TpuEff nD τ sig (Elt F) Λ₀ .tc) PUnit := do
  if k0_h3 : (Scalar.cmpi .ne (Scalar.extui (Scalar.cmpi .eq (BitVec.ofNat 32 (i 2).val) 0#32)) 0#32 : BitVec 1) = 1#1 then do
    let v27 : Vec F S4x640x128 .f32 ← Prog.lift (.load arg12 (Rect.unit (s := S4x640x128) ![0, 0, 0] S4x640x128.size inb_S4x640x128_S4x640x128_0_0_0).toLoadRect (View.loadsAt_vmem h_S4x640x128))
    Prog.lift (.store arg12 (Rect.unit (s := S4x640x128) ![0, 0, 0] S4x640x128.size inb_S4x640x128_S4x640x128_0_0_0) (k0_pay4 (F := F)) Finset.univ (View.stores_vmem_bits_univ h_S4x640x128 rfl) (.inl rfl))
    let v31 : Vec F S4x640x64 .f32 ← Prog.lift (.load arg13 (Rect.unit (s := S4x640x64) ![0, 0, 0] S4x640x64.size inb_S4x640x64_S4x640x64_0_0_0).toLoadRect (View.loadsAt_vmem h_S4x640x64))
    Prog.lift (.store arg13 (Rect.unit (s := S4x640x64) ![0, 0, 0] S4x640x64.size inb_S4x640x64_S4x640x64_0_0_0) (k0_pay5 (F := F)) Finset.univ (View.stores_vmem_bits_univ h_S4x640x64 rfl) (.inl rfl))
    pure ⟨⟩
  else do
    pure ⟨⟩
  tail4 i arg3 harg3 arg4 harg4 arg5 harg5 arg6 harg6 arg7 harg7 arg8 harg8 arg9 harg9 arg10 harg10 arg11 harg11 arg12 harg12 arg13 harg13 arg14 harg14

/-- The body from region 2 on: the rows of `delta` of one query block, at the first key block. -/
def tail2 (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) :
    Prog (TpuEff nD τ sig (Elt F) Λ₀ .tc) PUnit := do
  let arg2 : BitVec 32 := BitVec.ofNat 32 (i 2).val
  if k0_h2 : k0_cond2 i = 1#1 then do
    let ⟨v26, v54, v56⟩ : Σ' (v26 : FVec F S640x64 .f32) (v54 : FVec F S640x64 .f32), FVec F S640x64 .f32 ← k0_part1 i arg3 harg3 arg4 harg4 arg5 harg5 arg6 harg6 arg7 harg7 arg8 harg8 arg9 harg9 arg10 harg10 arg11 harg11 arg12 harg12 arg13 harg13 arg14 harg14 arg2 k0_h2
    let v63 : Vec F S1x1x1x640 .f32 ← Prog.lift (.load arg14 (Rect.unit (s := S4x13x1x640) (k0_off3 i) S1x1x1x640.size (k0_off3_inb i k0_h2)).toLoadRect (View.loadsAt_vmem h_S1x1x1x640))
    Prog.lift (.store arg14 (Rect.unit (s := S4x13x1x640) (k0_off3 i) S1x1x1x640.size (k0_off3_inb i k0_h2)) (k0_pay2 v26 v54 v56) Finset.univ (View.stores_vmem_bits_univ h_S1x1x1x640 rfl) (.inl rfl))
    let v66 : Vec F S1x640x64 .f32 ← Prog.lift (.load arg6 (Rect.unit (s := S4x640x64) ![3, 0, 0] S1x640x64.size inb_S4x640x64_S1x640x64_3_0_0).toLoadRect (View.loadsAt_vmem h_S1x640x64))
    let v68 : Vec F S1x640x64 .f32 ← Prog.lift (.load arg8 (Rect.unit (s := S4x640x64) ![3, 0, 0] S1x640x64.size inb_S4x640x64_S1x640x64_3_0_0).toLoadRect (View.loadsAt_vmem h_S1x640x64))
    let v76 : Vec F S1x1x1x640 .f32 ← Prog.lift (.load arg14 (Rect.unit (s := S4x13x1x640) (k0_off4 i) S1x1x1x640.size (k0_off4_inb i k0_h2)).toLoadRect (View.loadsAt_vmem h_S1x1x1x640))
    Prog.lift (.store arg14 (Rect.unit (s := S4x13x1x640) (k0_off4 i) S1x1x1x640.size (k0_off4_inb i k0_h2)) (k0_pay3 v26 v66 v68) Finset.univ (View.stores_vmem_bits_univ h_S1x1x1x640 rfl) (.inl rfl))
    pure ⟨⟩
  else do
    pure ⟨⟩
  tail3 i arg3 harg3 arg4 harg4 arg5 harg5 arg6 harg6 arg7 harg7 arg8 harg8 arg9 harg9 arg10 harg10 arg11 harg11 arg12 harg12 arg13 harg13 arg14 harg14

/-- The body from region 1 on: `dq := 0` at a group's first point. -/
def tail1 (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) :
    Prog (TpuEff nD τ sig (Elt F) Λ₀ .tc) PUnit := do
  if k0_h1 : k0_cond1 i = 1#1 then do
    let v27 : Vec F S4x8320x128 .f32 ← Prog.lift (.load arg9 (Rect.unit (s := S4x8320x128) ![0, 0, 0] S4x8320x128.size inb_S4x8320x128_S4x8320x128_0_0_0).toLoadRect (View.loadsAt_vmem h_S4x8320x128))
    Prog.lift (.store arg9 (Rect.unit (s := S4x8320x128) ![0, 0, 0] S4x8320x128.size inb_S4x8320x128_S4x8320x128_0_0_0) (k0_pay1 (F := F)) Finset.univ (View.stores_vmem_bits_univ h_S4x8320x128 rfl) (.inl rfl))
    pure ⟨⟩
  else do
    pure ⟨⟩
  tail2 i arg3 harg3 arg4 harg4 arg5 harg5 arg6 harg6 arg7 harg7 arg8 harg8 arg9 harg9 arg10 harg10 arg11 harg11 arg12 harg12 arg13 harg13 arg14 harg14

/-- The body is its first tail. -/
theorem body_eq (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) :
    cc0_attn_bwd (F := F) i arg3 harg3 arg4 harg4 arg5 harg5 arg6 harg6 arg7 harg7 arg8 harg8 arg9 harg9 arg10 harg10 arg11 harg11 arg12 harg12 arg13 harg13 arg14 harg14 = tail1 i arg3 harg3 arg4 harg4 arg5 harg5 arg6 harg6 arg7 harg7 arg8 harg8 arg9 harg9 arg10 harg10 arg11 harg11 arg12 harg12 arg13 harg13 arg14 harg14 := by
  simp only [cc0_attn_bwd_eq_skeleton]
  rfl

end Cert.KernelIdeal.Body

end
-- ==== Proof.IdealRun1.lean ====
/- Region 1 of the body: `dq := 0` at a group's first point. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Tactic
public import proofs.«01_k».proof.Proof.IdealRegions

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

set_option maxHeartbeats 4000000 in
/-- Region 1 taken: the pieces its stores leave in each buffer that it stores into, with the proof that it runs to the
    next region with them. -/
def run1 (c : Dev nD) (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) (x3 : Vec F S4x640x128 .bf16) (x4 : Vec F S4x640x128 .bf16) (x5 : Vec F S4x640x128 .bf16) (x6 : Vec F S4x640x64 .f32) (x7 : Vec F S4x1x640 .f32) (x8 : Vec F S4x640x64 .f32) (x9 : Vec F S4x8320x128 .f32) (x10 : Vec F S4x640x128 .f32) (x11 : Vec F S4x640x64 .f32) (x12 : Vec F S4x640x128 .f32) (x13 : Vec F S4x640x64 .f32) (x14 : Vec F S4x13x1x640 .f32) (h : k0_cond1 i = 1#1) :
    { L9 : List (View.Piece (Elt F) S4x8320x128 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (arg9.view.loc (c : Thread nD τ) ↦[arg9.view.set]{fullShare} arg9.view.writes (Elt F) (harg9.unread x9) L9) ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14) -∗ wp frame (wpE (defs₀ (F := F)) Variants.none c none) E (tail2 (F := F) i arg3 harg3 arg4 harg4 arg5 harg5 arg6 harg6 arg7 harg7 arg8 harg8 arg9 harg9 arg10 harg10 arg11 harg11 arg12 harg12 arg13 harg13 arg14 harg14) K))
          ⊢ wp frame (wpE (defs₀ (F := F)) Variants.none c none) E (tail1 i arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    unfold tail1 owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    simp only [dif_pos h]
    generalize tail2 (F := F) i arg3 harg3 arg4 harg4 arg5 harg5 arg6 harg6 arg7 harg7 arg8 harg8 arg9 harg9 arg10 harg10 arg11 harg11 arg12 harg12 arg13 harg13 arg14 harg14 = next
    sl_exec (disch := first | sl_exact h)
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    iexists _; isplitr; · ipureintro; exact harg14.read_unread _
    iexact H14

end Cert.KernelIdeal.Body

end
-- ==== Proof.Rows.lean ====
/- Four heads' rows of a buffer: reading one head's rows, one block of one head's rows, and what four stores, one per head,
   leave. The buffers are indexed (head, row, lane); the row sums are indexed (head, block, 0, row). -/
module

public import Idealize.ShloMosaic.Lib.Pipeline.FrameBody
public import Idealize.ShloMosaic.Lib.ValueIdxCore
public import Idealize.ShloMosaic.Lib.Tactic

@[expose] public section

set_option maxRecDepth 16384

noncomputable section

namespace Cert.Rows

open Idealize.ShloMosaic Idealize.ShloMosaic.ValueIdx

/-- Four heads of `n` rows of `w` lanes. -/
abbrev Sh (n w : ℕ) : Shape := ⟨3, ![4, n, w]⟩
/-- One head of `n` rows of `w` lanes. -/
abbrev S1 (n w : ℕ) : Shape := ⟨3, ![1, n, w]⟩
/-- The row sums of four heads of 13 blocks. -/
abbrev ShD : Shape := ⟨4, ![4, 13, 1, 640]⟩
/-- The row sums of one block of one head. -/
abbrev S1D : Shape := ⟨4, ![1, 1, 1, 640]⟩

variable {α : Type}

/-- Head `h` of a buffer. -/
def hd {n w : ℕ} (X : (Sh n w).Idx → α) (h : Fin 4) : (S1 n w).Idx → α := fun x => X (ix3 h (x 1) (x 2))

/-- The first 64 of 128 lanes of head `h`. -/
def hdV (X : (Sh 640 128).Idx → α) (h : Fin 4) : (S1 640 64).Idx → α :=
  fun x => X (ix3 h (x 1) ⟨(x 2).val, lt_of_lt_of_le (x 2).isLt (by decide)⟩)

/-- The rows of block `b` of head `h` of a buffer of 13 blocks of 640 rows. -/
def hdQ {w : ℕ} (X : (Sh 8320 w).Idx → α) (h : Fin 4) (b : Fin 13) : (S1 640 w).Idx → α :=
  fun x => X (ix3 h ⟨b.val * 640 + (x 1).val, by have h1 : (x 1).val < 640 := (x 1).isLt; have := b.isLt; omega⟩ (x 2))

/-- The row sums of block `b` of head `h`. -/
def hdD (X : ShD.Idx → α) (h : Fin 4) (b : Fin 13) : S1D.Idx → α := fun x => X (ix4 h b (x 2) (x 3))

/-- A buffer from its four heads. -/
def putHd {w : ℕ} (p : Fin 4 → (S1 640 w).Idx → α) : (Sh 640 w).Idx → α := fun y => p (y 0) (ix3 0 (y 1) (y 2))

/-- A buffer of 13 blocks with block `b` of every head replaced. -/
def putQ {w : ℕ} (X : (Sh 8320 w).Idx → α) (b : Fin 13) (p : Fin 4 → (S1 640 w).Idx → α) : (Sh 8320 w).Idx → α :=
  fun y => if (y 1).val / 640 = b.val then p (y 0) (ix3 0 ⟨(y 1).val % 640, Nat.mod_lt _ (by decide)⟩ (y 2)) else X y

/-- The row sums with block `b` of every head replaced. -/
def putD (X : ShD.Idx → α) (b : Fin 13) (p : Fin 4 → S1D.Idx → α) : ShD.Idx → α :=
  fun y => if (y 1).val = b.val then p (y 0) (ix4 0 0 (y 2) (y 3)) else X y

section Read
variable {sig : RefSig} {κ : Kind} {sp : Space} {e : EltTy} {Val : EltTy → Type}

theorem readAt_hd {n w : ℕ} {v : View sig κ sp (Sh n w) e} {f : v.ty.Contents Val} {X : (Sh n w).Idx → Val e} (hf : v.read Val f = X)
    (h : Fin 4) (off : Fin 3 → ℕ) (ho : off = ![h.val, 0, 0]) (inb) :
    v.readAt Val (Rect.unit (s := Sh n w) off (S1 n w).size inb).toLoadRect f = hd X h := by
  subst ho hf; funext x
  refine congrArg (v.read Val f) (funext fun a => Fin.ext ?_)
  have h0 : (x 0).val = 0 := by have : (x 0).val < 1 := (x 0).isLt; omega
  match a with
  | ⟨0, _⟩ => simp [LoadRect.idx, Rect.unit]; exact h0
  | ⟨1, _⟩ => simp [LoadRect.idx, Rect.unit]
  | ⟨2, _⟩ => simp [LoadRect.idx, Rect.unit]

theorem readAt_hdV {v : View sig κ sp (Sh 640 128) e} {f : v.ty.Contents Val} {X : (Sh 640 128).Idx → Val e} (hf : v.read Val f = X)
    (h : Fin 4) (off : Fin 3 → ℕ) (ho : off = ![h.val, 0, 0]) (inb) :
    v.readAt Val (Rect.unit (s := Sh 640 128) off (S1 640 64).size inb).toLoadRect f = hdV X h := by
  subst ho hf; funext x
  refine congrArg (v.read Val f) (funext fun a => Fin.ext ?_)
  have h0 : (x 0).val = 0 := by have : (x 0).val < 1 := (x 0).isLt; omega
  match a with
  | ⟨0, _⟩ => simp [LoadRect.idx, Rect.unit]; exact h0
  | ⟨1, _⟩ => simp [LoadRect.idx, Rect.unit]
  | ⟨2, _⟩ => simp [LoadRect.idx, Rect.unit]

theorem readAt_hdQ {w : ℕ} {v : View sig κ sp (Sh 8320 w) e} {f : v.ty.Contents Val} {X : (Sh 8320 w).Idx → Val e} (hf : v.read Val f = X)
    (h : Fin 4) (b : Fin 13) (off : Fin 3 → ℕ) (ho : off = ![h.val, b.val * 640, 0]) (inb) :
    v.readAt Val (Rect.unit (s := Sh 8320 w) off (S1 640 w).size inb).toLoadRect f = hdQ X h b := by
  subst ho hf; funext x
  refine congrArg (v.read Val f) (funext fun a => Fin.ext ?_)
  have h0 : (x 0).val = 0 := by have : (x 0).val < 1 := (x 0).isLt; omega
  match a with
  | ⟨0, _⟩ => simp [LoadRect.idx, Rect.unit]; exact h0
  | ⟨1, _⟩ => simp [LoadRect.idx, Rect.unit]
  | ⟨2, _⟩ => simp [LoadRect.idx, Rect.unit]

theorem readAt_hdD {v : View sig κ sp ShD e} {f : v.ty.Contents Val} {X : ShD.Idx → Val e} (hf : v.read Val f = X)
    (h : Fin 4) (b : Fin 13) (off : Fin 4 → ℕ) (ho : off = ![h.val, b.val, 0, 0]) (inb) :
    v.readAt Val (Rect.unit (s := ShD) off S1D.size inb).toLoadRect f = hdD X h b := by
  subst ho hf; funext x
  refine congrArg (v.read Val f) (funext fun a => Fin.ext ?_)
  have h0 : (x 0).val = 0 := by have : (x 0).val < 1 := (x 0).isLt; omega
  have h1 : (x 1).val = 0 := by have : (x 1).val < 1 := (x 1).isLt; omega
  match a with
  | ⟨0, _⟩ => simp [LoadRect.idx, Rect.unit]; exact h0
  | ⟨1, _⟩ => simp [LoadRect.idx, Rect.unit]; exact h1
  | ⟨2, _⟩ => show 0 + 1 * (x 2).val = (x 2).val; omega
  | ⟨3, _⟩ => simp [LoadRect.idx, Rect.unit]

theorem missH {w : ℕ} (v : View sig κ sp (Sh 640 w) e) (f : v.ty.Contents Val) {k : ℕ} (inb) (p : (S1 640 w).Idx → Val e) (L)
    (y : (Sh 640 w).Idx) (hy : (y 0).val ≠ k) :
    v.read Val (v.writes Val f (⟨Rect.unit (s := Sh 640 w) ![k, 0, 0] (S1 640 w).size inb, p⟩ :: L)) y = v.read Val (v.writes Val f L) y :=
  View.read_writes_cons_miss_of_axis v f _ _ _ 0 k 1 rfl rfl rfl (by omega)

theorem hitH {w : ℕ} (v : View sig κ sp (Sh 640 w) e) (f : v.ty.Contents Val) {k : ℕ} (inb) (p : (S1 640 w).Idx → Val e) (L)
    (y : (Sh 640 w).Idx) (hy : (y 0).val = k) :
    v.read Val (v.writes Val f (⟨Rect.unit (s := Sh 640 w) ![k, 0, 0] (S1 640 w).size inb, p⟩ :: L)) y = p (ix3 0 (y 1) (y 2)) := by
  refine View.read_writes_cons_hit_of_coords v f (Rect.unit (s := Sh 640 w) ![k, 0, 0] (S1 640 w).size inb) p L
    (show (S1 640 w).Idx from ix3 0 (y 1) (y 2)) _ fun a => ?_
  match a with
  | ⟨0, _⟩ => simpa [Rect.unit] using hy
  | ⟨1, _⟩ => simp [Rect.unit]
  | ⟨2, _⟩ => simp [Rect.unit]

/-- Four stores, one per head, leave the buffer of those heads. -/
theorem read_heads {w : ℕ} (v : View sig κ sp (Sh 640 w) e) (f : v.ty.Contents Val) (p : Fin 4 → (S1 640 w).Idx → Val e) (i3 i2 i1 i0) :
    v.read Val (v.writes Val f [⟨Rect.unit (s := Sh 640 w) ![3, 0, 0] (S1 640 w).size i3, p 3⟩,
      ⟨Rect.unit (s := Sh 640 w) ![2, 0, 0] (S1 640 w).size i2, p 2⟩, ⟨Rect.unit (s := Sh 640 w) ![1, 0, 0] (S1 640 w).size i1, p 1⟩,
      ⟨Rect.unit (s := Sh 640 w) ![0, 0, 0] (S1 640 w).size i0, p 0⟩]) = putHd p := by
  funext y
  obtain ⟨h, r, l, rfl⟩ : ∃ h r l, y = ix3 h r l := ⟨y 0, y 1, y 2, eq_ix3 y⟩
  fin_cases h
  · rw [missH v f _ _ _ _ (show (0 : ℕ) ≠ 3 by decide), missH v f _ _ _ _ (show (0 : ℕ) ≠ 2 by decide), missH v f _ _ _ _ (show (0 : ℕ) ≠ 1 by decide), hitH v f _ _ _ _ (show (0 : ℕ) = 0 from rfl)]; rfl
  · rw [missH v f _ _ _ _ (show (1 : ℕ) ≠ 3 by decide), missH v f _ _ _ _ (show (1 : ℕ) ≠ 2 by decide), hitH v f _ _ _ _ (show (1 : ℕ) = 1 from rfl)]; rfl
  · rw [missH v f _ _ _ _ (show (2 : ℕ) ≠ 3 by decide), hitH v f _ _ _ _ (show (2 : ℕ) = 2 from rfl)]; rfl
  · rw [hitH v f _ _ _ _ (show (3 : ℕ) = 3 from rfl)]; rfl

/-- Where a store to rows `b·640 …` of head `h` misses. -/
theorem missQ {w : ℕ} (v : View sig κ sp (Sh 8320 w) e) (f : v.ty.Contents Val) {b : Fin 13} {k : ℕ} {off : Fin 3 → ℕ}
    (ho : off = ![k, b.val * 640, 0]) (inb) (p : (S1 640 w).Idx → Val e) (L) (y : (Sh 8320 w).Idx)
    (hy : (y 0).val ≠ k ∨ (y 1).val / 640 ≠ b.val) :
    v.read Val (v.writes Val f (⟨Rect.unit (s := Sh 8320 w) off (S1 640 w).size inb, p⟩ :: L)) y = v.read Val (v.writes Val f L) y := by
  subst ho
  rcases hy with hy | hy
  · refine View.read_writes_cons_miss_of_axis v f _ _ _ 0 k 1 rfl rfl rfl (by omega)
  · refine View.read_writes_cons_miss_of_axis v f _ _ _ 1 (b.val * 640) 640 rfl rfl rfl (by omega)

theorem hitQ {w : ℕ} (v : View sig κ sp (Sh 8320 w) e) (f : v.ty.Contents Val) {b : Fin 13} {k : ℕ} {off : Fin 3 → ℕ}
    (ho : off = ![k, b.val * 640, 0]) (inb) (p : (S1 640 w).Idx → Val e) (L) (y : (Sh 8320 w).Idx)
    (h0 : (y 0).val = k) (h1 : (y 1).val / 640 = b.val) :
    v.read Val (v.writes Val f (⟨Rect.unit (s := Sh 8320 w) off (S1 640 w).size inb, p⟩ :: L)) y
      = p (ix3 0 ⟨(y 1).val % 640, Nat.mod_lt _ (by decide)⟩ (y 2)) := by
  subst ho
  refine View.read_writes_cons_hit_of_coords v f (Rect.unit (s := Sh 8320 w) _ (S1 640 w).size inb) p L
    (show (S1 640 w).Idx from ix3 0 ⟨(y 1).val % 640, Nat.mod_lt _ (by decide)⟩ (y 2)) _ fun a => ?_
  match a with
  | ⟨0, _⟩ => simpa [Rect.unit] using h0
  | ⟨1, _⟩ => simp [Rect.unit]; omega
  | ⟨2, _⟩ => simp [Rect.unit]

/-- Four stores, one per head, to block `b`'s rows. -/
theorem read_headsQ {w : ℕ} (v : View sig κ sp (Sh 8320 w) e) (f : v.ty.Contents Val) {X : (Sh 8320 w).Idx → Val e} (hf : v.read Val f = X)
    (b : Fin 13) (p : Fin 4 → (S1 640 w).Idx → Val e)
    (o0 o1 o2 o3 : Fin 3 → ℕ) (h0 : o0 = ![0, b.val * 640, 0]) (h1 : o1 = ![1, b.val * 640, 0]) (h2 : o2 = ![2, b.val * 640, 0])
    (h3 : o3 = ![3, b.val * 640, 0]) (i3 i2 i1 i0) :
    v.read Val (v.writes Val f [⟨Rect.unit (s := Sh 8320 w) o3 (S1 640 w).size i3, p 3⟩,
      ⟨Rect.unit (s := Sh 8320 w) o2 (S1 640 w).size i2, p 2⟩, ⟨Rect.unit (s := Sh 8320 w) o1 (S1 640 w).size i1, p 1⟩,
      ⟨Rect.unit (s := Sh 8320 w) o0 (S1 640 w).size i0, p 0⟩]) = putQ X b p := by
  funext y
  by_cases hy : (y 1).val / 640 = b.val
  · rw [putQ, if_pos hy]
    obtain ⟨h, r, l, rfl⟩ : ∃ h r l, y = ix3 h r l := ⟨y 0, y 1, y 2, eq_ix3 y⟩
    fin_cases h
    · rw [missQ v f h3 _ _ _ _ (Or.inl (show (0 : ℕ) ≠ 3 by decide)), missQ v f h2 _ _ _ _ (Or.inl (show (0 : ℕ) ≠ 2 by decide)), missQ v f h1 _ _ _ _ (Or.inl (show (0 : ℕ) ≠ 1 by decide)), hitQ v f h0 _ _ _ _ (show (0 : ℕ) = 0 from rfl) hy]; rfl
    · rw [missQ v f h3 _ _ _ _ (Or.inl (show (1 : ℕ) ≠ 3 by decide)), missQ v f h2 _ _ _ _ (Or.inl (show (1 : ℕ) ≠ 2 by decide)), hitQ v f h1 _ _ _ _ (show (1 : ℕ) = 1 from rfl) hy]; rfl
    · rw [missQ v f h3 _ _ _ _ (Or.inl (show (2 : ℕ) ≠ 3 by decide)), hitQ v f h2 _ _ _ _ (show (2 : ℕ) = 2 from rfl) hy]; rfl
    · rw [hitQ v f h3 _ _ _ _ (show (3 : ℕ) = 3 from rfl) hy]; rfl
  · rw [putQ, if_neg hy, missQ v f h3 _ _ _ _ (Or.inr hy), missQ v f h2 _ _ _ _ (Or.inr hy), missQ v f h1 _ _ _ _ (Or.inr hy), missQ v f h0 _ _ _ _ (Or.inr hy)]
    exact congrFun hf y

theorem missD (v : View sig κ sp ShD e) (f : v.ty.Contents Val) {b : Fin 13} {k : ℕ} {off : Fin 4 → ℕ}
    (ho : off = ![k, b.val, 0, 0]) (inb) (p : S1D.Idx → Val e) (L) (y : ShD.Idx)
    (hy : (y 0).val ≠ k ∨ (y 1).val ≠ b.val) :
    v.read Val (v.writes Val f (⟨Rect.unit (s := ShD) off S1D.size inb, p⟩ :: L)) y = v.read Val (v.writes Val f L) y := by
  subst ho
  rcases hy with hy | hy
  · refine View.read_writes_cons_miss_of_axis v f _ _ _ 0 k 1 rfl rfl rfl (by omega)
  · refine View.read_writes_cons_miss_of_axis v f _ _ _ 1 b.val 1 rfl rfl rfl (by omega)

theorem hitD (v : View sig κ sp ShD e) (f : v.ty.Contents Val) {b : Fin 13} {k : ℕ} {off : Fin 4 → ℕ}
    (ho : off = ![k, b.val, 0, 0]) (inb) (p : S1D.Idx → Val e) (L) (y : ShD.Idx)
    (h0 : (y 0).val = k) (h1 : (y 1).val = b.val) :
    v.read Val (v.writes Val f (⟨Rect.unit (s := ShD) off S1D.size inb, p⟩ :: L)) y = p (ix4 0 0 (y 2) (y 3)) := by
  subst ho
  refine View.read_writes_cons_hit_of_coords v f (Rect.unit (s := ShD) _ S1D.size inb) p L
    (show S1D.Idx from ix4 0 0 (y 2) (y 3)) _ fun a => ?_
  match a with
  | ⟨0, _⟩ => simpa [Rect.unit] using h0
  | ⟨1, _⟩ => simpa [Rect.unit] using h1
  | ⟨2, _⟩ => simp [Rect.unit]
  | ⟨3, _⟩ => simp [Rect.unit]

/-- Four stores, one per head, to block `b`'s row sums. -/
theorem read_headsD (v : View sig κ sp ShD e) (f : v.ty.Contents Val) {X : ShD.Idx → Val e} (hf : v.read Val f = X)
    (b : Fin 13) (p : Fin 4 → S1D.Idx → Val e)
    (o0 o1 o2 o3 : Fin 4 → ℕ) (h0 : o0 = ![0, b.val, 0, 0]) (h1 : o1 = ![1, b.val, 0, 0]) (h2 : o2 = ![2, b.val, 0, 0])
    (h3 : o3 = ![3, b.val, 0, 0]) (i3 i2 i1 i0) :
    v.read Val (v.writes Val f [⟨Rect.unit (s := ShD) o3 S1D.size i3, p 3⟩,
      ⟨Rect.unit (s := ShD) o2 S1D.size i2, p 2⟩, ⟨Rect.unit (s := ShD) o1 S1D.size i1, p 1⟩,
      ⟨Rect.unit (s := ShD) o0 S1D.size i0, p 0⟩]) = putD X b p := by
  funext y
  by_cases hy : (y 1).val = b.val
  · rw [putD, if_pos hy]
    obtain ⟨h, r, l, k, rfl⟩ : ∃ h r l k, y = ix4 h r l k := ⟨y 0, y 1, y 2, y 3, eq_ix4 y⟩
    fin_cases h
    · rw [missD v f h3 _ _ _ _ (Or.inl (show (0 : ℕ) ≠ 3 by decide)), missD v f h2 _ _ _ _ (Or.inl (show (0 : ℕ) ≠ 2 by decide)), missD v f h1 _ _ _ _ (Or.inl (show (0 : ℕ) ≠ 1 by decide)), hitD v f h0 _ _ _ _ (show (0 : ℕ) = 0 from rfl) hy]; rfl
    · rw [missD v f h3 _ _ _ _ (Or.inl (show (1 : ℕ) ≠ 3 by decide)), missD v f h2 _ _ _ _ (Or.inl (show (1 : ℕ) ≠ 2 by decide)), hitD v f h1 _ _ _ _ (show (1 : ℕ) = 1 from rfl) hy]; rfl
    · rw [missD v f h3 _ _ _ _ (Or.inl (show (2 : ℕ) ≠ 3 by decide)), hitD v f h2 _ _ _ _ (show (2 : ℕ) = 2 from rfl) hy]; rfl
    · rw [hitD v f h3 _ _ _ _ (show (3 : ℕ) = 3 from rfl) hy]; rfl
  · rw [putD, if_neg hy, missD v f h3 _ _ _ _ (Or.inr hy), missD v f h2 _ _ _ _ (Or.inr hy), missD v f h1 _ _ _ _ (Or.inr hy), missD v f h0 _ _ _ _ (Or.inr hy)]
    exact congrFun hf y

/-- One store over the whole of a buffer leaves what it stored. -/
theorem read_whole {S : Shape} (v : View sig κ sp S e) (f : v.ty.Contents Val) (off : Fin S.rank → ℕ) (ho : ∀ a, off a = 0) (inb)
    (p : S.Idx → Val e) : v.read Val (v.writes Val f [⟨Rect.unit (s := S) off S.size inb, p⟩]) = p := by
  funext y
  refine View.read_writes_cons_hit_of_coords v f (Rect.unit (s := S) off S.size inb) p [] (show S.Idx from y) _ fun a => ?_
  simp [Rect.unit, ho]

/-- One load of the whole of a buffer reads it. -/
theorem readAt_whole {S : Shape} {v : View sig κ sp S e} {f : v.ty.Contents Val} {X : S.Idx → Val e} (hf : v.read Val f = X)
    (off : Fin S.rank → ℕ) (ho : ∀ a, off a = 0) (inb) :
    v.readAt Val (Rect.unit (s := S) off S.size inb).toLoadRect f = X := by
  subst hf; funext x
  refine congrArg (v.read Val f) (funext fun a => Fin.ext ?_)
  simp [LoadRect.idx, Rect.unit, ho]

end Read

end Cert.Rows

end
-- ==== Proof.IdealStep.lean ====
/- What one grid point does to the buffers, as functions of their contents. A buffer holds four heads; the step of a pair
   of blocks adds, head by head, the pair's share to the sums of dq, dk and dv. -/
module

public import proofs.«01_k».proof.Proof.Gen.KernelIdeal.Frame
public import proofs.«01_k».proof.Proof.Gen.KernelIdeal.Skeleton
public import proofs.«01_k».proof.Proof.Rows

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

open Cert.Rows

/-- The softmax weights of one head's pair of blocks, keys × queries, where the pair meets the mask's edge. -/
def wEdge (a1 a2 : BitVec 32) (q k : Vec F S4x640x128 .bf16) (lse : Vec F S4x1x640 .f32) (h : Fin 4) : FVec F S640x640 .f32 :=
  k0_pay30 (k0_pay15 (hd k h) (hd q h)) (k0_pay25 a1 a2) (hd lse h)

/-- The softmax weights of one head's pair of blocks wholly below the diagonal. -/
def wFull (q k : Vec F S4x640x128 .bf16) (lse : Vec F S4x1x640 .f32) (h : Fin 4) : FVec F S640x640 .f32 :=
  k0_pay69 (k0_pay15 (hd k h) (hd q h)) (hd lse h)

/-- The gradient of one head's scores, from its weights and the row sums of the query block `b`. -/
def dScore (w : Fin 4 → FVec F S640x640 .f32) (v : Vec F S4x640x128 .bf16) (dO : Vec F S4x640x64 .f32) (del : Vec F S4x13x1x640 .f32)
    (b : Fin 13) (h : Fin 4) : FVec F S640x640 .f32 :=
  k0_pay34 (k0_pay22 (hdV v h) (hd dO h)) (w h) (hdD del h b)

/-- The pair's share added to dv's sums. -/
def addDv (w : Fin 4 → FVec F S640x640 .f32) (dO : Vec F S4x640x64 .f32) (x : Vec F S4x640x64 .f32) : Vec F S4x640x64 .f32 :=
  putHd fun h => k0_pay48 (w h) (hd x h) (hd dO h)

/-- The pair's share added to dk's sums. -/
def addDk (d : Fin 4 → FVec F S640x640 .f32) (q : Vec F S4x640x128 .bf16) (x : Vec F S4x640x128 .f32) : Vec F S4x640x128 .f32 :=
  putHd fun h => k0_pay40 (d h) (hd x h) (hd q h)

/-- The pair's share added to the rows of query block `b` of dq. -/
def addDq (d : Fin 4 → FVec F S640x640 .f32) (k : Vec F S4x640x128 .bf16) (b : Fin 13) (x : Vec F S4x8320x128 .f32) :
    Vec F S4x8320x128 .f32 :=
  putQ x b fun h => k0_pay41 (d h) (hdQ x h b) (hd k h)

/-- The row sums of query block `b` written from the blocks of `do` and of `o`. -/
def setDelta (dO o : Vec F S4x640x64 .f32) (b : Fin 13) (x : Vec F S4x13x1x640 .f32) : Vec F S4x13x1x640 .f32 :=
  putD x b fun h => k0_pay11 (hd dO h) (hd o h)

theorem qOff : ∀ a : Fin 13, (Scalar.indexCast (Scalar.muli (BitVec.ofNat 32 a.val) 640#32) : Index).toNat = a.val * 640 := by decide +kernel
theorem dOff : ∀ a : Fin 13, (Scalar.indexCast (BitVec.ofNat 32 a.val) : Index).toNat = a.val := by decide +kernel

theorem off1 (i : grid0.Coords) : k0_off1 i = ![0, (i 2).val, 0, 0] :=
  congrArg (fun n => ![0, n, 0, 0]) (dOff (i 2))

theorem off2 (i : grid0.Coords) : k0_off2 i = ![1, (i 2).val, 0, 0] :=
  congrArg (fun n => ![1, n, 0, 0]) (dOff (i 2))

theorem off3 (i : grid0.Coords) : k0_off3 i = ![2, (i 2).val, 0, 0] :=
  congrArg (fun n => ![2, n, 0, 0]) (dOff (i 2))

theorem off4 (i : grid0.Coords) : k0_off4 i = ![3, (i 2).val, 0, 0] :=
  congrArg (fun n => ![3, n, 0, 0]) (dOff (i 2))

theorem off5 (i : grid0.Coords) : k0_off5 i = ![0, (i 2).val, 0, 0] :=
  congrArg (fun n => ![0, n, 0, 0]) (dOff (i 2))

theorem off6 (i : grid0.Coords) : k0_off6 i = ![1, (i 2).val, 0, 0] :=
  congrArg (fun n => ![1, n, 0, 0]) (dOff (i 2))

theorem off7 (i : grid0.Coords) : k0_off7 i = ![2, (i 2).val, 0, 0] :=
  congrArg (fun n => ![2, n, 0, 0]) (dOff (i 2))

theorem off8 (i : grid0.Coords) : k0_off8 i = ![3, (i 2).val, 0, 0] :=
  congrArg (fun n => ![3, n, 0, 0]) (dOff (i 2))

theorem off9 (i : grid0.Coords) : k0_off9 i = ![0, (i 2).val * 640, 0] :=
  congrArg (fun n => ![0, n, 0]) (qOff (i 2))

theorem off10 (i : grid0.Coords) : k0_off10 i = ![1, (i 2).val * 640, 0] :=
  congrArg (fun n => ![1, n, 0]) (qOff (i 2))

theorem off11 (i : grid0.Coords) : k0_off11 i = ![2, (i 2).val * 640, 0] :=
  congrArg (fun n => ![2, n, 0]) (qOff (i 2))

theorem off12 (i : grid0.Coords) : k0_off12 i = ![3, (i 2).val * 640, 0] :=
  congrArg (fun n => ![3, n, 0]) (qOff (i 2))

theorem off13 (i : grid0.Coords) : k0_off13 i = ![0, (i 2).val, 0, 0] :=
  congrArg (fun n => ![0, n, 0, 0]) (dOff (i 2))

theorem off14 (i : grid0.Coords) : k0_off14 i = ![1, (i 2).val, 0, 0] :=
  congrArg (fun n => ![1, n, 0, 0]) (dOff (i 2))

theorem off15 (i : grid0.Coords) : k0_off15 i = ![2, (i 2).val, 0, 0] :=
  congrArg (fun n => ![2, n, 0, 0]) (dOff (i 2))

theorem off16 (i : grid0.Coords) : k0_off16 i = ![3, (i 2).val, 0, 0] :=
  congrArg (fun n => ![3, n, 0, 0]) (dOff (i 2))

theorem off17 (i : grid0.Coords) : k0_off17 i = ![0, (i 2).val * 640, 0] :=
  congrArg (fun n => ![0, n, 0]) (qOff (i 2))

theorem off18 (i : grid0.Coords) : k0_off18 i = ![1, (i 2).val * 640, 0] :=
  congrArg (fun n => ![1, n, 0]) (qOff (i 2))

theorem off19 (i : grid0.Coords) : k0_off19 i = ![2, (i 2).val * 640, 0] :=
  congrArg (fun n => ![2, n, 0]) (qOff (i 2))

theorem off20 (i : grid0.Coords) : k0_off20 i = ![3, (i 2).val * 640, 0] :=
  congrArg (fun n => ![3, n, 0]) (qOff (i 2))

end Cert.KernelIdeal.Body

end
-- ==== Proof.IdealRead1.lean ====
/- What region 1 of the body leaves in the buffers it stores into, read back. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Tactic
public import proofs.«01_k».proof.Proof.IdealRun1
public import proofs.«01_k».proof.Proof.IdealStep

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

open Cert.Rows

set_option maxHeartbeats 4000000 in
theorem run1_read9 (c : Dev nD) (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) (x3 : Vec F S4x640x128 .bf16) (x4 : Vec F S4x640x128 .bf16) (x5 : Vec F S4x640x128 .bf16) (x6 : Vec F S4x640x64 .f32) (x7 : Vec F S4x1x640 .f32) (x8 : Vec F S4x640x64 .f32) (x9 : Vec F S4x8320x128 .f32) (x10 : Vec F S4x640x128 .f32) (x11 : Vec F S4x640x64 .f32) (x12 : Vec F S4x640x128 .f32) (x13 : Vec F S4x640x64 .f32) (x14 : Vec F S4x13x1x640 .f32) (h : k0_cond1 i = 1#1) :
    arg9.view.read (Elt F) (arg9.view.writes (Elt F) (harg9.unread x9) (run1 c i arg3 harg3 arg4 harg4 arg5 harg5 arg6 harg6 arg7 harg7 arg8 harg8 arg9 harg9 arg10 harg10 arg11 harg11 arg12 harg12 arg13 harg13 arg14 harg14 x3 x4 x5 x6 x7 x8 x9 x10 x11 x12 x13 x14 h).1) = k0_pay1 := by
  unfold run1; dsimp only []
  exact read_whole arg9.view _ _ (by decide) _ _

end Cert.KernelIdeal.Body

end
-- ==== Proof.IdealRun2.lean ====
/- Region 2 of the body: the rows of `delta` of one query block, at the first key block. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Tactic
public import proofs.«01_k».proof.Proof.IdealRegions

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

set_option maxHeartbeats 4000000 in
/-- Region 2 taken: the pieces its stores leave in each buffer that it stores into, with the proof that it runs to the
    next region with them. -/
def run2 (c : Dev nD) (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) (x3 : Vec F S4x640x128 .bf16) (x4 : Vec F S4x640x128 .bf16) (x5 : Vec F S4x640x128 .bf16) (x6 : Vec F S4x640x64 .f32) (x7 : Vec F S4x1x640 .f32) (x8 : Vec F S4x640x64 .f32) (x9 : Vec F S4x8320x128 .f32) (x10 : Vec F S4x640x128 .f32) (x11 : Vec F S4x640x64 .f32) (x12 : Vec F S4x640x128 .f32) (x13 : Vec F S4x640x64 .f32) (x14 : Vec F S4x13x1x640 .f32) (h : k0_cond2 i = 1#1) :
    { L14 : List (View.Piece (Elt F) S4x13x1x640 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (arg14.view.loc (c : Thread nD τ) ↦[arg14.view.set]{fullShare} arg14.view.writes (Elt F) (harg14.unread x14) L14)) -∗ wp frame (wpE (defs₀ (F := F)) Variants.none c none) E (tail3 (F := F) i arg3 harg3 arg4 harg4 arg5 harg5 arg6 harg6 arg7 harg7 arg8 harg8 arg9 harg9 arg10 harg10 arg11 harg11 arg12 harg12 arg13 harg13 arg14 harg14) K))
          ⊢ wp frame (wpE (defs₀ (F := F)) Variants.none c none) E (tail2 i arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    unfold tail2 owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    simp only [dif_pos h, k0_part1_eq_skeleton]
    unfold k0_part1_skel
    generalize tail3 (F := F) i arg3 harg3 arg4 harg4 arg5 harg5 arg6 harg6 arg7 harg7 arg8 harg8 arg9 harg9 arg10 harg10 arg11 harg11 arg12 harg12 arg13 harg13 arg14 harg14 = next
    sl_exec (disch := first | sl_exact h)
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    iexact H14

end Cert.KernelIdeal.Body

end
-- ==== Proof.IdealRead2.lean ====
/- What region 2 of the body leaves in the buffers it stores into, read back. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Tactic
public import proofs.«01_k».proof.Proof.IdealRun2
public import proofs.«01_k».proof.Proof.IdealStep

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

open Cert.Rows

set_option maxHeartbeats 4000000 in
theorem run2_read14 (c : Dev nD) (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) (x3 : Vec F S4x640x128 .bf16) (x4 : Vec F S4x640x128 .bf16) (x5 : Vec F S4x640x128 .bf16) (x6 : Vec F S4x640x64 .f32) (x7 : Vec F S4x1x640 .f32) (x8 : Vec F S4x640x64 .f32) (x9 : Vec F S4x8320x128 .f32) (x10 : Vec F S4x640x128 .f32) (x11 : Vec F S4x640x64 .f32) (x12 : Vec F S4x640x128 .f32) (x13 : Vec F S4x640x64 .f32) (x14 : Vec F S4x13x1x640 .f32) (h : k0_cond2 i = 1#1) :
    arg14.view.read (Elt F) (arg14.view.writes (Elt F) (harg14.unread x14) (run2 c i arg3 harg3 arg4 harg4 arg5 harg5 arg6 harg6 arg7 harg7 arg8 harg8 arg9 harg9 arg10 harg10 arg11 harg11 arg12 harg12 arg13 harg13 arg14 harg14 x3 x4 x5 x6 x7 x8 x9 x10 x11 x12 x13 x14 h).1) = setDelta x6 x8 (i 2) x14 := by
  unfold run2; dsimp only []
  simp only [readAt_hd (harg3.read_unread x3) 0 ![0, 0, 0] rfl,
    readAt_hd (harg3.read_unread x3) 1 ![1, 0, 0] rfl,
    readAt_hd (harg3.read_unread x3) 2 ![2, 0, 0] rfl,
    readAt_hd (harg3.read_unread x3) 3 ![3, 0, 0] rfl,
    readAt_hd (harg4.read_unread x4) 0 ![0, 0, 0] rfl,
    readAt_hd (harg4.read_unread x4) 1 ![1, 0, 0] rfl,
    readAt_hd (harg4.read_unread x4) 2 ![2, 0, 0] rfl,
    readAt_hd (harg4.read_unread x4) 3 ![3, 0, 0] rfl,
    readAt_hdV (harg5.read_unread x5) 0 ![0, 0, 0] rfl,
    readAt_hdV (harg5.read_unread x5) 1 ![1, 0, 0] rfl,
    readAt_hdV (harg5.read_unread x5) 2 ![2, 0, 0] rfl,
    readAt_hdV (harg5.read_unread x5) 3 ![3, 0, 0] rfl,
    readAt_hd (harg6.read_unread x6) 0 ![0, 0, 0] rfl,
    readAt_hd (harg6.read_unread x6) 1 ![1, 0, 0] rfl,
    readAt_hd (harg6.read_unread x6) 2 ![2, 0, 0] rfl,
    readAt_hd (harg6.read_unread x6) 3 ![3, 0, 0] rfl,
    readAt_hd (harg7.read_unread x7) 0 ![0, 0, 0] rfl,
    readAt_hd (harg7.read_unread x7) 1 ![1, 0, 0] rfl,
    readAt_hd (harg7.read_unread x7) 2 ![2, 0, 0] rfl,
    readAt_hd (harg7.read_unread x7) 3 ![3, 0, 0] rfl,
    readAt_hd (harg8.read_unread x8) 0 ![0, 0, 0] rfl,
    readAt_hd (harg8.read_unread x8) 1 ![1, 0, 0] rfl,
    readAt_hd (harg8.read_unread x8) 2 ![2, 0, 0] rfl,
    readAt_hd (harg8.read_unread x8) 3 ![3, 0, 0] rfl,
    readAt_hd (harg12.read_unread x12) 0 ![0, 0, 0] rfl,
    readAt_hd (harg12.read_unread x12) 1 ![1, 0, 0] rfl,
    readAt_hd (harg12.read_unread x12) 2 ![2, 0, 0] rfl,
    readAt_hd (harg12.read_unread x12) 3 ![3, 0, 0] rfl,
    readAt_hd (harg13.read_unread x13) 0 ![0, 0, 0] rfl,
    readAt_hd (harg13.read_unread x13) 1 ![1, 0, 0] rfl,
    readAt_hd (harg13.read_unread x13) 2 ![2, 0, 0] rfl,
    readAt_hd (harg13.read_unread x13) 3 ![3, 0, 0] rfl]
  exact read_headsD arg14.view _ (harg14.read_unread x14) (i 2) (fun h => k0_pay11 (hd x6 h) (hd x8 h))
    _ _ _ _ (off1 i) (off2 i) (off3 i) (off4 i) _ _ _ _

end Cert.KernelIdeal.Body

end
-- ==== Proof.IdealRun3.lean ====
/- Region 3 of the body: `dk_sc, dv_sc := 0` at a key block's first point. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Tactic
public import proofs.«01_k».proof.Proof.IdealRegions

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

set_option maxHeartbeats 4000000 in
/-- Region 3 taken: the pieces its stores leave in each buffer that it stores into, with the proof that it runs to the
    next region with them. -/
def run3 (c : Dev nD) (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) (x3 : Vec F S4x640x128 .bf16) (x4 : Vec F S4x640x128 .bf16) (x5 : Vec F S4x640x128 .bf16) (x6 : Vec F S4x640x64 .f32) (x7 : Vec F S4x1x640 .f32) (x8 : Vec F S4x640x64 .f32) (x9 : Vec F S4x8320x128 .f32) (x10 : Vec F S4x640x128 .f32) (x11 : Vec F S4x640x64 .f32) (x12 : Vec F S4x640x128 .f32) (x13 : Vec F S4x640x64 .f32) (x14 : Vec F S4x13x1x640 .f32) (h : (Scalar.cmpi .ne (Scalar.extui (Scalar.cmpi .eq (BitVec.ofNat 32 (i 2).val) 0#32)) 0#32 : BitVec 1) = 1#1) :
    Σ' (L12 : List (View.Piece (Elt F) S4x640x128 .f32)), { L13 : List (View.Piece (Elt F) S4x640x64 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (arg12.view.loc (c : Thread nD τ) ↦[arg12.view.set]{fullShare} arg12.view.writes (Elt F) (harg12.unread x12) L12) ∗ (arg13.view.loc (c : Thread nD τ) ↦[arg13.view.set]{fullShare} arg13.view.writes (Elt F) (harg13.unread x13) L13) ∗ owns (c : Thread nD τ) arg14 fullShare x14) -∗ wp frame (wpE (defs₀ (F := F)) Variants.none c none) E (tail4 (F := F) i arg3 harg3 arg4 harg4 arg5 harg5 arg6 harg6 arg7 harg7 arg8 harg8 arg9 harg9 arg10 harg10 arg11 harg11 arg12 harg12 arg13 harg13 arg14 harg14) K))
          ⊢ wp frame (wpE (defs₀ (F := F)) Variants.none c none) E (tail3 i arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    unfold tail3 owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    simp only [dif_pos h]
    generalize tail4 (F := F) i arg3 harg3 arg4 harg4 arg5 harg5 arg6 harg6 arg7 harg7 arg8 harg8 arg9 harg9 arg10 harg10 arg11 harg11 arg12 harg12 arg13 harg13 arg14 harg14 = next
    sl_exec (disch := first | sl_exact h)
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexact H12
    isplitl [H13]
    · iexact H13
    iexists _; isplitr; · ipureintro; exact harg14.read_unread _
    iexact H14

end Cert.KernelIdeal.Body

end
-- ==== Proof.IdealRead3.lean ====
/- What region 3 of the body leaves in the buffers it stores into, read back. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Tactic
public import proofs.«01_k».proof.Proof.IdealRun3
public import proofs.«01_k».proof.Proof.IdealStep

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

open Cert.Rows

set_option maxHeartbeats 4000000 in
theorem run3_read12 (c : Dev nD) (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) (x3 : Vec F S4x640x128 .bf16) (x4 : Vec F S4x640x128 .bf16) (x5 : Vec F S4x640x128 .bf16) (x6 : Vec F S4x640x64 .f32) (x7 : Vec F S4x1x640 .f32) (x8 : Vec F S4x640x64 .f32) (x9 : Vec F S4x8320x128 .f32) (x10 : Vec F S4x640x128 .f32) (x11 : Vec F S4x640x64 .f32) (x12 : Vec F S4x640x128 .f32) (x13 : Vec F S4x640x64 .f32) (x14 : Vec F S4x13x1x640 .f32) (h : (Scalar.cmpi .ne (Scalar.extui (Scalar.cmpi .eq (BitVec.ofNat 32 (i 2).val) 0#32)) 0#32 : BitVec 1) = 1#1) :
    arg12.view.read (Elt F) (arg12.view.writes (Elt F) (harg12.unread x12) (run3 c i arg3 harg3 arg4 harg4 arg5 harg5 arg6 harg6 arg7 harg7 arg8 harg8 arg9 harg9 arg10 harg10 arg11 harg11 arg12 harg12 arg13 harg13 arg14 harg14 x3 x4 x5 x6 x7 x8 x9 x10 x11 x12 x13 x14 h).1) = k0_pay4 := by
  unfold run3; dsimp only []
  exact read_whole arg12.view _ _ (by decide) _ _

set_option maxHeartbeats 4000000 in
theorem run3_read13 (c : Dev nD) (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) (x3 : Vec F S4x640x128 .bf16) (x4 : Vec F S4x640x128 .bf16) (x5 : Vec F S4x640x128 .bf16) (x6 : Vec F S4x640x64 .f32) (x7 : Vec F S4x1x640 .f32) (x8 : Vec F S4x640x64 .f32) (x9 : Vec F S4x8320x128 .f32) (x10 : Vec F S4x640x128 .f32) (x11 : Vec F S4x640x64 .f32) (x12 : Vec F S4x640x128 .f32) (x13 : Vec F S4x640x64 .f32) (x14 : Vec F S4x13x1x640 .f32) (h : (Scalar.cmpi .ne (Scalar.extui (Scalar.cmpi .eq (BitVec.ofNat 32 (i 2).val) 0#32)) 0#32 : BitVec 1) = 1#1) :
    arg13.view.read (Elt F) (arg13.view.writes (Elt F) (harg13.unread x13) (run3 c i arg3 harg3 arg4 harg4 arg5 harg5 arg6 harg6 arg7 harg7 arg8 harg8 arg9 harg9 arg10 harg10 arg11 harg11 arg12 harg12 arg13 harg13 arg14 harg14 x3 x4 x5 x6 x7 x8 x9 x10 x11 x12 x13 x14 h).2.1) = k0_pay5 := by
  unfold run3; dsimp only []
  exact read_whole arg13.view _ _ (by decide) _ _

end Cert.KernelIdeal.Body

end
-- ==== Proof.IdealRun4.lean ====
/- Region 4 of the body: the step of a pair of blocks on the mask's edge. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Tactic
public import proofs.«01_k».proof.Proof.IdealRegions

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

set_option maxHeartbeats 4000000 in
/-- Region 4 taken: the pieces its stores leave in each buffer that it stores into, with the proof that it runs to the
    next region with them. -/
def run4 (c : Dev nD) (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) (x3 : Vec F S4x640x128 .bf16) (x4 : Vec F S4x640x128 .bf16) (x5 : Vec F S4x640x128 .bf16) (x6 : Vec F S4x640x64 .f32) (x7 : Vec F S4x1x640 .f32) (x8 : Vec F S4x640x64 .f32) (x9 : Vec F S4x8320x128 .f32) (x10 : Vec F S4x640x128 .f32) (x11 : Vec F S4x640x64 .f32) (x12 : Vec F S4x640x128 .f32) (x13 : Vec F S4x640x64 .f32) (x14 : Vec F S4x13x1x640 .f32) (h : k0_cond4 i = 1#1) :
    Σ' (L9 : List (View.Piece (Elt F) S4x8320x128 .f32)), Σ' (L12 : List (View.Piece (Elt F) S4x640x128 .f32)), { L13 : List (View.Piece (Elt F) S4x640x64 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (arg9.view.loc (c : Thread nD τ) ↦[arg9.view.set]{fullShare} arg9.view.writes (Elt F) (harg9.unread x9) L9) ∗ owns (c : Thread nD τ) arg10 fullShare x10 ∗ owns (c : Thread nD τ) arg11 fullShare x11 ∗ (arg12.view.loc (c : Thread nD τ) ↦[arg12.view.set]{fullShare} arg12.view.writes (Elt F) (harg12.unread x12) L12) ∗ (arg13.view.loc (c : Thread nD τ) ↦[arg13.view.set]{fullShare} arg13.view.writes (Elt F) (harg13.unread x13) L13) ∗ owns (c : Thread nD τ) arg14 fullShare x14) -∗ wp frame (wpE (defs₀ (F := F)) Variants.none c none) E (tail5 (F := F) i arg3 harg3 arg4 harg4 arg5 harg5 arg6 harg6 arg7 harg7 arg8 harg8 arg9 harg9 arg10 harg10 arg11 harg11 arg12 harg12 arg13 harg13 arg14 harg14) K))
          ⊢ wp frame (wpE (defs₀ (F := F)) Variants.none c none) E (tail4 i arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    unfold tail4 owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    simp only [dif_pos h, k0_part2_eq_skeleton, k0_part3_eq_skeleton, k0_part4_eq_skeleton, k0_part5_eq_skeleton, k0_part6_eq_skeleton, k0_part7_eq_skeleton, k0_part8_eq_skeleton, k0_part9_eq_skeleton]
    unfold k0_part2_skel; unfold k0_part3_skel; unfold k0_part4_skel; unfold k0_part5_skel; unfold k0_part6_skel; unfold k0_part7_skel; unfold k0_part8_skel; unfold k0_part9_skel
    generalize tail5 (F := F) i arg3 harg3 arg4 harg4 arg5 harg5 arg6 harg6 arg7 harg7 arg8 harg8 arg9 harg9 arg10 harg10 arg11 harg11 arg12 harg12 arg13 harg13 arg14 harg14 = next
    sl_exec (disch := first | sl_exact h)
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexact H9
    isplitl [H10]
    · iexists _; isplitr; · ipureintro; exact harg10.read_unread _
      iexact H10
    isplitl [H11]
    · iexists _; isplitr; · ipureintro; exact harg11.read_unread _
      iexact H11
    isplitl [H12]
    · iexact H12
    isplitl [H13]
    · iexact H13
    iexists _; isplitr; · ipureintro; exact harg14.read_unread _
    iexact H14

end Cert.KernelIdeal.Body

end
-- ==== Proof.IdealRead4.lean ====
/- What region 4 of the body leaves in the buffers it stores into, read back. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Tactic
public import proofs.«01_k».proof.Proof.IdealRun4
public import proofs.«01_k».proof.Proof.IdealStep

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

open Cert.Rows

set_option maxHeartbeats 4000000 in
theorem run4_read9 (c : Dev nD) (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) (x3 : Vec F S4x640x128 .bf16) (x4 : Vec F S4x640x128 .bf16) (x5 : Vec F S4x640x128 .bf16) (x6 : Vec F S4x640x64 .f32) (x7 : Vec F S4x1x640 .f32) (x8 : Vec F S4x640x64 .f32) (x9 : Vec F S4x8320x128 .f32) (x10 : Vec F S4x640x128 .f32) (x11 : Vec F S4x640x64 .f32) (x12 : Vec F S4x640x128 .f32) (x13 : Vec F S4x640x64 .f32) (x14 : Vec F S4x13x1x640 .f32) (h : k0_cond4 i = 1#1) :
    arg9.view.read (Elt F) (arg9.view.writes (Elt F) (harg9.unread x9) (run4 c i arg3 harg3 arg4 harg4 arg5 harg5 arg6 harg6 arg7 harg7 arg8 harg8 arg9 harg9 arg10 harg10 arg11 harg11 arg12 harg12 arg13 harg13 arg14 harg14 x3 x4 x5 x6 x7 x8 x9 x10 x11 x12 x13 x14 h).1) = addDq (dScore (wEdge (BitVec.ofNat 32 (i 1).val) (BitVec.ofNat 32 (i 2).val) x3 x4 x7) x5 x6 x14 (i 2)) x4 (i 2) x9 := by
  unfold run4; dsimp only []
  simp only [run4.sl.cst_213,
    run4.sl.cst_40,
    run4.sl.v150,
    run4.sl.v187,
    run4.sl.v198,
    run4.sl.v209,
    run4.sl.v222,
    run4.sl.v233,
    run4.sl.v244,
    run4.sl.v257,
    run4.sl.v268,
    run4.sl.v279,
    readAt_hd (harg3.read_unread x3) 0 ![0, 0, 0] rfl,
    readAt_hd (harg3.read_unread x3) 1 ![1, 0, 0] rfl,
    readAt_hd (harg3.read_unread x3) 2 ![2, 0, 0] rfl,
    readAt_hd (harg3.read_unread x3) 3 ![3, 0, 0] rfl,
    readAt_hd (harg4.read_unread x4) 0 ![0, 0, 0] rfl,
    readAt_hd (harg4.read_unread x4) 1 ![1, 0, 0] rfl,
    readAt_hd (harg4.read_unread x4) 2 ![2, 0, 0] rfl,
    readAt_hd (harg4.read_unread x4) 3 ![3, 0, 0] rfl,
    readAt_hdV (harg5.read_unread x5) 0 ![0, 0, 0] rfl,
    readAt_hdV (harg5.read_unread x5) 1 ![1, 0, 0] rfl,
    readAt_hdV (harg5.read_unread x5) 2 ![2, 0, 0] rfl,
    readAt_hdV (harg5.read_unread x5) 3 ![3, 0, 0] rfl,
    readAt_hd (harg6.read_unread x6) 0 ![0, 0, 0] rfl,
    readAt_hd (harg6.read_unread x6) 1 ![1, 0, 0] rfl,
    readAt_hd (harg6.read_unread x6) 2 ![2, 0, 0] rfl,
    readAt_hd (harg6.read_unread x6) 3 ![3, 0, 0] rfl,
    readAt_hd (harg7.read_unread x7) 0 ![0, 0, 0] rfl,
    readAt_hd (harg7.read_unread x7) 1 ![1, 0, 0] rfl,
    readAt_hd (harg7.read_unread x7) 2 ![2, 0, 0] rfl,
    readAt_hd (harg7.read_unread x7) 3 ![3, 0, 0] rfl,
    readAt_hd (harg8.read_unread x8) 0 ![0, 0, 0] rfl,
    readAt_hd (harg8.read_unread x8) 1 ![1, 0, 0] rfl,
    readAt_hd (harg8.read_unread x8) 2 ![2, 0, 0] rfl,
    readAt_hd (harg8.read_unread x8) 3 ![3, 0, 0] rfl,
    readAt_hd (harg12.read_unread x12) 0 ![0, 0, 0] rfl,
    readAt_hd (harg12.read_unread x12) 1 ![1, 0, 0] rfl,
    readAt_hd (harg12.read_unread x12) 2 ![2, 0, 0] rfl,
    readAt_hd (harg12.read_unread x12) 3 ![3, 0, 0] rfl,
    readAt_hd (harg13.read_unread x13) 0 ![0, 0, 0] rfl,
    readAt_hd (harg13.read_unread x13) 1 ![1, 0, 0] rfl,
    readAt_hd (harg13.read_unread x13) 2 ![2, 0, 0] rfl,
    readAt_hd (harg13.read_unread x13) 3 ![3, 0, 0] rfl,
    readAt_hdD (harg14.read_unread x14) 0 (i 2) _ (off5 i),
    readAt_hdQ (harg9.read_unread x9) 0 (i 2) _ (off9 i),
    readAt_hdD (harg14.read_unread x14) 1 (i 2) _ (off6 i),
    readAt_hdQ (harg9.read_unread x9) 1 (i 2) _ (off10 i),
    readAt_hdD (harg14.read_unread x14) 2 (i 2) _ (off7 i),
    readAt_hdQ (harg9.read_unread x9) 2 (i 2) _ (off11 i),
    readAt_hdD (harg14.read_unread x14) 3 (i 2) _ (off8 i),
    readAt_hdQ (harg9.read_unread x9) 3 (i 2) _ (off12 i)]
  exact read_headsQ arg9.view _ (harg9.read_unread x9) (i 2) (fun h => k0_pay41 ((dScore (wEdge (BitVec.ofNat 32 (i 1).val) (BitVec.ofNat 32 (i 2).val) x3 x4 x7) x5 x6 x14 (i 2)) h) (hdQ x9 h (i 2)) (hd x4 h))
    _ _ _ _ (off9 i) (off10 i) (off11 i) (off12 i) _ _ _ _

set_option maxHeartbeats 4000000 in
theorem run4_read12 (c : Dev nD) (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) (x3 : Vec F S4x640x128 .bf16) (x4 : Vec F S4x640x128 .bf16) (x5 : Vec F S4x640x128 .bf16) (x6 : Vec F S4x640x64 .f32) (x7 : Vec F S4x1x640 .f32) (x8 : Vec F S4x640x64 .f32) (x9 : Vec F S4x8320x128 .f32) (x10 : Vec F S4x640x128 .f32) (x11 : Vec F S4x640x64 .f32) (x12 : Vec F S4x640x128 .f32) (x13 : Vec F S4x640x64 .f32) (x14 : Vec F S4x13x1x640 .f32) (h : k0_cond4 i = 1#1) :
    arg12.view.read (Elt F) (arg12.view.writes (Elt F) (harg12.unread x12) (run4 c i arg3 harg3 arg4 harg4 arg5 harg5 arg6 harg6 arg7 harg7 arg8 harg8 arg9 harg9 arg10 harg10 arg11 harg11 arg12 harg12 arg13 harg13 arg14 harg14 x3 x4 x5 x6 x7 x8 x9 x10 x11 x12 x13 x14 h).2.1) = addDk (dScore (wEdge (BitVec.ofNat 32 (i 1).val) (BitVec.ofNat 32 (i 2).val) x3 x4 x7) x5 x6 x14 (i 2)) x3 x12 := by
  unfold run4; dsimp only []
  simp only [run4.sl.cst_213,
    run4.sl.cst_40,
    run4.sl.v150,
    run4.sl.v187,
    run4.sl.v198,
    run4.sl.v209,
    run4.sl.v222,
    run4.sl.v233,
    run4.sl.v244,
    run4.sl.v257,
    run4.sl.v268,
    run4.sl.v279,
    readAt_hd (harg3.read_unread x3) 0 ![0, 0, 0] rfl,
    readAt_hd (harg3.read_unread x3) 1 ![1, 0, 0] rfl,
    readAt_hd (harg3.read_unread x3) 2 ![2, 0, 0] rfl,
    readAt_hd (harg3.read_unread x3) 3 ![3, 0, 0] rfl,
    readAt_hd (harg4.read_unread x4) 0 ![0, 0, 0] rfl,
    readAt_hd (harg4.read_unread x4) 1 ![1, 0, 0] rfl,
    readAt_hd (harg4.read_unread x4) 2 ![2, 0, 0] rfl,
    readAt_hd (harg4.read_unread x4) 3 ![3, 0, 0] rfl,
    readAt_hdV (harg5.read_unread x5) 0 ![0, 0, 0] rfl,
    readAt_hdV (harg5.read_unread x5) 1 ![1, 0, 0] rfl,
    readAt_hdV (harg5.read_unread x5) 2 ![2, 0, 0] rfl,
    readAt_hdV (harg5.read_unread x5) 3 ![3, 0, 0] rfl,
    readAt_hd (harg6.read_unread x6) 0 ![0, 0, 0] rfl,
    readAt_hd (harg6.read_unread x6) 1 ![1, 0, 0] rfl,
    readAt_hd (harg6.read_unread x6) 2 ![2, 0, 0] rfl,
    readAt_hd (harg6.read_unread x6) 3 ![3, 0, 0] rfl,
    readAt_hd (harg7.read_unread x7) 0 ![0, 0, 0] rfl,
    readAt_hd (harg7.read_unread x7) 1 ![1, 0, 0] rfl,
    readAt_hd (harg7.read_unread x7) 2 ![2, 0, 0] rfl,
    readAt_hd (harg7.read_unread x7) 3 ![3, 0, 0] rfl,
    readAt_hd (harg8.read_unread x8) 0 ![0, 0, 0] rfl,
    readAt_hd (harg8.read_unread x8) 1 ![1, 0, 0] rfl,
    readAt_hd (harg8.read_unread x8) 2 ![2, 0, 0] rfl,
    readAt_hd (harg8.read_unread x8) 3 ![3, 0, 0] rfl,
    readAt_hd (harg12.read_unread x12) 0 ![0, 0, 0] rfl,
    readAt_hd (harg12.read_unread x12) 1 ![1, 0, 0] rfl,
    readAt_hd (harg12.read_unread x12) 2 ![2, 0, 0] rfl,
    readAt_hd (harg12.read_unread x12) 3 ![3, 0, 0] rfl,
    readAt_hd (harg13.read_unread x13) 0 ![0, 0, 0] rfl,
    readAt_hd (harg13.read_unread x13) 1 ![1, 0, 0] rfl,
    readAt_hd (harg13.read_unread x13) 2 ![2, 0, 0] rfl,
    readAt_hd (harg13.read_unread x13) 3 ![3, 0, 0] rfl,
    readAt_hdD (harg14.read_unread x14) 0 (i 2) _ (off5 i),
    readAt_hdQ (harg9.read_unread x9) 0 (i 2) _ (off9 i),
    readAt_hdD (harg14.read_unread x14) 1 (i 2) _ (off6 i),
    readAt_hdQ (harg9.read_unread x9) 1 (i 2) _ (off10 i),
    readAt_hdD (harg14.read_unread x14) 2 (i 2) _ (off7 i),
    readAt_hdQ (harg9.read_unread x9) 2 (i 2) _ (off11 i),
    readAt_hdD (harg14.read_unread x14) 3 (i 2) _ (off8 i),
    readAt_hdQ (harg9.read_unread x9) 3 (i 2) _ (off12 i)]
  have e := read_heads arg12.view (harg12.unread x12) (fun h => k0_pay40 ((dScore (wEdge (BitVec.ofNat 32 (i 1).val) (BitVec.ofNat 32 (i 2).val) x3 x4 x7) x5 x6 x14 (i 2)) h) (hd x12 h) (hd x3 h))
    inb_S4x640x128_S1x640x128_3_0_0 inb_S4x640x128_S1x640x128_2_0_0 inb_S4x640x128_S1x640x128_1_0_0 inb_S4x640x128_S1x640x128_0_0_0
  unfold addDk
  rw [← e]
  dsimp only []
  unfold dScore wEdge
  congr 1

set_option maxHeartbeats 4000000 in
theorem run4_read13 (c : Dev nD) (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) (x3 : Vec F S4x640x128 .bf16) (x4 : Vec F S4x640x128 .bf16) (x5 : Vec F S4x640x128 .bf16) (x6 : Vec F S4x640x64 .f32) (x7 : Vec F S4x1x640 .f32) (x8 : Vec F S4x640x64 .f32) (x9 : Vec F S4x8320x128 .f32) (x10 : Vec F S4x640x128 .f32) (x11 : Vec F S4x640x64 .f32) (x12 : Vec F S4x640x128 .f32) (x13 : Vec F S4x640x64 .f32) (x14 : Vec F S4x13x1x640 .f32) (h : k0_cond4 i = 1#1) :
    arg13.view.read (Elt F) (arg13.view.writes (Elt F) (harg13.unread x13) (run4 c i arg3 harg3 arg4 harg4 arg5 harg5 arg6 harg6 arg7 harg7 arg8 harg8 arg9 harg9 arg10 harg10 arg11 harg11 arg12 harg12 arg13 harg13 arg14 harg14 x3 x4 x5 x6 x7 x8 x9 x10 x11 x12 x13 x14 h).2.2.1) = addDv (wEdge (BitVec.ofNat 32 (i 1).val) (BitVec.ofNat 32 (i 2).val) x3 x4 x7) x6 x13 := by
  unfold run4; dsimp only []
  simp only [run4.sl.cst_213,
    run4.sl.cst_40,
    run4.sl.v150,
    run4.sl.v187,
    run4.sl.v198,
    run4.sl.v209,
    run4.sl.v222,
    run4.sl.v233,
    run4.sl.v244,
    run4.sl.v257,
    run4.sl.v268,
    run4.sl.v279,
    readAt_hd (harg3.read_unread x3) 0 ![0, 0, 0] rfl,
    readAt_hd (harg3.read_unread x3) 1 ![1, 0, 0] rfl,
    readAt_hd (harg3.read_unread x3) 2 ![2, 0, 0] rfl,
    readAt_hd (harg3.read_unread x3) 3 ![3, 0, 0] rfl,
    readAt_hd (harg4.read_unread x4) 0 ![0, 0, 0] rfl,
    readAt_hd (harg4.read_unread x4) 1 ![1, 0, 0] rfl,
    readAt_hd (harg4.read_unread x4) 2 ![2, 0, 0] rfl,
    readAt_hd (harg4.read_unread x4) 3 ![3, 0, 0] rfl,
    readAt_hdV (harg5.read_unread x5) 0 ![0, 0, 0] rfl,
    readAt_hdV (harg5.read_unread x5) 1 ![1, 0, 0] rfl,
    readAt_hdV (harg5.read_unread x5) 2 ![2, 0, 0] rfl,
    readAt_hdV (harg5.read_unread x5) 3 ![3, 0, 0] rfl,
    readAt_hd (harg6.read_unread x6) 0 ![0, 0, 0] rfl,
    readAt_hd (harg6.read_unread x6) 1 ![1, 0, 0] rfl,
    readAt_hd (harg6.read_unread x6) 2 ![2, 0, 0] rfl,
    readAt_hd (harg6.read_unread x6) 3 ![3, 0, 0] rfl,
    readAt_hd (harg7.read_unread x7) 0 ![0, 0, 0] rfl,
    readAt_hd (harg7.read_unread x7) 1 ![1, 0, 0] rfl,
    readAt_hd (harg7.read_unread x7) 2 ![2, 0, 0] rfl,
    readAt_hd (harg7.read_unread x7) 3 ![3, 0, 0] rfl,
    readAt_hd (harg8.read_unread x8) 0 ![0, 0, 0] rfl,
    readAt_hd (harg8.read_unread x8) 1 ![1, 0, 0] rfl,
    readAt_hd (harg8.read_unread x8) 2 ![2, 0, 0] rfl,
    readAt_hd (harg8.read_unread x8) 3 ![3, 0, 0] rfl,
    readAt_hd (harg12.read_unread x12) 0 ![0, 0, 0] rfl,
    readAt_hd (harg12.read_unread x12) 1 ![1, 0, 0] rfl,
    readAt_hd (harg12.read_unread x12) 2 ![2, 0, 0] rfl,
    readAt_hd (harg12.read_unread x12) 3 ![3, 0, 0] rfl,
    readAt_hd (harg13.read_unread x13) 0 ![0, 0, 0] rfl,
    readAt_hd (harg13.read_unread x13) 1 ![1, 0, 0] rfl,
    readAt_hd (harg13.read_unread x13) 2 ![2, 0, 0] rfl,
    readAt_hd (harg13.read_unread x13) 3 ![3, 0, 0] rfl,
    readAt_hdD (harg14.read_unread x14) 0 (i 2) _ (off5 i),
    readAt_hdQ (harg9.read_unread x9) 0 (i 2) _ (off9 i),
    readAt_hdD (harg14.read_unread x14) 1 (i 2) _ (off6 i),
    readAt_hdQ (harg9.read_unread x9) 1 (i 2) _ (off10 i),
    readAt_hdD (harg14.read_unread x14) 2 (i 2) _ (off7 i),
    readAt_hdQ (harg9.read_unread x9) 2 (i 2) _ (off11 i),
    readAt_hdD (harg14.read_unread x14) 3 (i 2) _ (off8 i),
    readAt_hdQ (harg9.read_unread x9) 3 (i 2) _ (off12 i)]
  have e := read_heads arg13.view (harg13.unread x13) (fun h => k0_pay48 ((wEdge (BitVec.ofNat 32 (i 1).val) (BitVec.ofNat 32 (i 2).val) x3 x4 x7) h) (hd x13 h) (hd x6 h))
    inb_S4x640x64_S1x640x64_3_0_0 inb_S4x640x64_S1x640x64_2_0_0 inb_S4x640x64_S1x640x64_1_0_0 inb_S4x640x64_S1x640x64_0_0_0
  unfold addDv
  rw [← e]
  dsimp only []
  unfold wEdge
  congr 1

end Cert.KernelIdeal.Body

end
-- ==== Proof.IdealRun5.lean ====
/- Region 5 of the body: the step of a pair of blocks wholly below the diagonal. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Tactic
public import proofs.«01_k».proof.Proof.IdealRegions

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

set_option maxHeartbeats 4000000 in
/-- Region 5 taken: the pieces its stores leave in each buffer that it stores into, with the proof that it runs to the
    next region with them. -/
def run5 (c : Dev nD) (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) (x3 : Vec F S4x640x128 .bf16) (x4 : Vec F S4x640x128 .bf16) (x5 : Vec F S4x640x128 .bf16) (x6 : Vec F S4x640x64 .f32) (x7 : Vec F S4x1x640 .f32) (x8 : Vec F S4x640x64 .f32) (x9 : Vec F S4x8320x128 .f32) (x10 : Vec F S4x640x128 .f32) (x11 : Vec F S4x640x64 .f32) (x12 : Vec F S4x640x128 .f32) (x13 : Vec F S4x640x64 .f32) (x14 : Vec F S4x13x1x640 .f32) (h : k0_cond5 i = 1#1) :
    Σ' (L9 : List (View.Piece (Elt F) S4x8320x128 .f32)), Σ' (L12 : List (View.Piece (Elt F) S4x640x128 .f32)), { L13 : List (View.Piece (Elt F) S4x640x64 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (arg9.view.loc (c : Thread nD τ) ↦[arg9.view.set]{fullShare} arg9.view.writes (Elt F) (harg9.unread x9) L9) ∗ owns (c : Thread nD τ) arg10 fullShare x10 ∗ owns (c : Thread nD τ) arg11 fullShare x11 ∗ (arg12.view.loc (c : Thread nD τ) ↦[arg12.view.set]{fullShare} arg12.view.writes (Elt F) (harg12.unread x12) L12) ∗ (arg13.view.loc (c : Thread nD τ) ↦[arg13.view.set]{fullShare} arg13.view.writes (Elt F) (harg13.unread x13) L13) ∗ owns (c : Thread nD τ) arg14 fullShare x14) -∗ wp frame (wpE (defs₀ (F := F)) Variants.none c none) E (tail6 (F := F) i arg3 harg3 arg4 harg4 arg5 harg5 arg6 harg6 arg7 harg7 arg8 harg8 arg9 harg9 arg10 harg10 arg11 harg11 arg12 harg12 arg13 harg13 arg14 harg14) K))
          ⊢ wp frame (wpE (defs₀ (F := F)) Variants.none c none) E (tail5 i arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    unfold tail5 owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    simp only [dif_pos h, k0_part10_eq_skeleton, k0_part11_eq_skeleton, k0_part12_eq_skeleton, k0_part13_eq_skeleton, k0_part14_eq_skeleton, k0_part15_eq_skeleton, k0_part16_eq_skeleton]
    unfold k0_part10_skel; unfold k0_part11_skel; unfold k0_part12_skel; unfold k0_part13_skel; unfold k0_part14_skel; unfold k0_part15_skel; unfold k0_part16_skel
    generalize tail6 (F := F) i arg3 harg3 arg4 harg4 arg5 harg5 arg6 harg6 arg7 harg7 arg8 harg8 arg9 harg9 arg10 harg10 arg11 harg11 arg12 harg12 arg13 harg13 arg14 harg14 = next
    sl_exec (disch := first | sl_exact h)
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexact H9
    isplitl [H10]
    · iexists _; isplitr; · ipureintro; exact harg10.read_unread _
      iexact H10
    isplitl [H11]
    · iexists _; isplitr; · ipureintro; exact harg11.read_unread _
      iexact H11
    isplitl [H12]
    · iexact H12
    isplitl [H13]
    · iexact H13
    iexists _; isplitr; · ipureintro; exact harg14.read_unread _
    iexact H14

end Cert.KernelIdeal.Body

end
-- ==== Proof.IdealRead5.lean ====
/- What region 5 of the body leaves in the buffers it stores into, read back. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Tactic
public import proofs.«01_k».proof.Proof.IdealRun5
public import proofs.«01_k».proof.Proof.IdealStep

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

open Cert.Rows

set_option maxHeartbeats 4000000 in
theorem run5_read9 (c : Dev nD) (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) (x3 : Vec F S4x640x128 .bf16) (x4 : Vec F S4x640x128 .bf16) (x5 : Vec F S4x640x128 .bf16) (x6 : Vec F S4x640x64 .f32) (x7 : Vec F S4x1x640 .f32) (x8 : Vec F S4x640x64 .f32) (x9 : Vec F S4x8320x128 .f32) (x10 : Vec F S4x640x128 .f32) (x11 : Vec F S4x640x64 .f32) (x12 : Vec F S4x640x128 .f32) (x13 : Vec F S4x640x64 .f32) (x14 : Vec F S4x13x1x640 .f32) (h : k0_cond5 i = 1#1) :
    arg9.view.read (Elt F) (arg9.view.writes (Elt F) (harg9.unread x9) (run5 c i arg3 harg3 arg4 harg4 arg5 harg5 arg6 harg6 arg7 harg7 arg8 harg8 arg9 harg9 arg10 harg10 arg11 harg11 arg12 harg12 arg13 harg13 arg14 harg14 x3 x4 x5 x6 x7 x8 x9 x10 x11 x12 x13 x14 h).1) = addDq (dScore (wFull x3 x4 x7) x5 x6 x14 (i 2)) x4 (i 2) x9 := by
  unfold run5; dsimp only []
  simp only [run5.sl.cst_40,
    run5.sl.v130,
    run5.sl.v167,
    run5.sl.v178,
    run5.sl.v189,
    run5.sl.v202,
    run5.sl.v213,
    run5.sl.v224,
    run5.sl.v237,
    run5.sl.v248,
    run5.sl.v259,
    readAt_hd (harg3.read_unread x3) 0 ![0, 0, 0] rfl,
    readAt_hd (harg3.read_unread x3) 1 ![1, 0, 0] rfl,
    readAt_hd (harg3.read_unread x3) 2 ![2, 0, 0] rfl,
    readAt_hd (harg3.read_unread x3) 3 ![3, 0, 0] rfl,
    readAt_hd (harg4.read_unread x4) 0 ![0, 0, 0] rfl,
    readAt_hd (harg4.read_unread x4) 1 ![1, 0, 0] rfl,
    readAt_hd (harg4.read_unread x4) 2 ![2, 0, 0] rfl,
    readAt_hd (harg4.read_unread x4) 3 ![3, 0, 0] rfl,
    readAt_hdV (harg5.read_unread x5) 0 ![0, 0, 0] rfl,
    readAt_hdV (harg5.read_unread x5) 1 ![1, 0, 0] rfl,
    readAt_hdV (harg5.read_unread x5) 2 ![2, 0, 0] rfl,
    readAt_hdV (harg5.read_unread x5) 3 ![3, 0, 0] rfl,
    readAt_hd (harg6.read_unread x6) 0 ![0, 0, 0] rfl,
    readAt_hd (harg6.read_unread x6) 1 ![1, 0, 0] rfl,
    readAt_hd (harg6.read_unread x6) 2 ![2, 0, 0] rfl,
    readAt_hd (harg6.read_unread x6) 3 ![3, 0, 0] rfl,
    readAt_hd (harg7.read_unread x7) 0 ![0, 0, 0] rfl,
    readAt_hd (harg7.read_unread x7) 1 ![1, 0, 0] rfl,
    readAt_hd (harg7.read_unread x7) 2 ![2, 0, 0] rfl,
    readAt_hd (harg7.read_unread x7) 3 ![3, 0, 0] rfl,
    readAt_hd (harg8.read_unread x8) 0 ![0, 0, 0] rfl,
    readAt_hd (harg8.read_unread x8) 1 ![1, 0, 0] rfl,
    readAt_hd (harg8.read_unread x8) 2 ![2, 0, 0] rfl,
    readAt_hd (harg8.read_unread x8) 3 ![3, 0, 0] rfl,
    readAt_hd (harg12.read_unread x12) 0 ![0, 0, 0] rfl,
    readAt_hd (harg12.read_unread x12) 1 ![1, 0, 0] rfl,
    readAt_hd (harg12.read_unread x12) 2 ![2, 0, 0] rfl,
    readAt_hd (harg12.read_unread x12) 3 ![3, 0, 0] rfl,
    readAt_hd (harg13.read_unread x13) 0 ![0, 0, 0] rfl,
    readAt_hd (harg13.read_unread x13) 1 ![1, 0, 0] rfl,
    readAt_hd (harg13.read_unread x13) 2 ![2, 0, 0] rfl,
    readAt_hd (harg13.read_unread x13) 3 ![3, 0, 0] rfl,
    readAt_hdD (harg14.read_unread x14) 0 (i 2) _ (off13 i),
    readAt_hdQ (harg9.read_unread x9) 0 (i 2) _ (off17 i),
    readAt_hdD (harg14.read_unread x14) 1 (i 2) _ (off14 i),
    readAt_hdQ (harg9.read_unread x9) 1 (i 2) _ (off18 i),
    readAt_hdD (harg14.read_unread x14) 2 (i 2) _ (off15 i),
    readAt_hdQ (harg9.read_unread x9) 2 (i 2) _ (off19 i),
    readAt_hdD (harg14.read_unread x14) 3 (i 2) _ (off16 i),
    readAt_hdQ (harg9.read_unread x9) 3 (i 2) _ (off20 i)]
  exact read_headsQ arg9.view _ (harg9.read_unread x9) (i 2) (fun h => k0_pay41 ((dScore (wFull x3 x4 x7) x5 x6 x14 (i 2)) h) (hdQ x9 h (i 2)) (hd x4 h))
    _ _ _ _ (off17 i) (off18 i) (off19 i) (off20 i) _ _ _ _

set_option maxHeartbeats 4000000 in
theorem run5_read12 (c : Dev nD) (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) (x3 : Vec F S4x640x128 .bf16) (x4 : Vec F S4x640x128 .bf16) (x5 : Vec F S4x640x128 .bf16) (x6 : Vec F S4x640x64 .f32) (x7 : Vec F S4x1x640 .f32) (x8 : Vec F S4x640x64 .f32) (x9 : Vec F S4x8320x128 .f32) (x10 : Vec F S4x640x128 .f32) (x11 : Vec F S4x640x64 .f32) (x12 : Vec F S4x640x128 .f32) (x13 : Vec F S4x640x64 .f32) (x14 : Vec F S4x13x1x640 .f32) (h : k0_cond5 i = 1#1) :
    arg12.view.read (Elt F) (arg12.view.writes (Elt F) (harg12.unread x12) (run5 c i arg3 harg3 arg4 harg4 arg5 harg5 arg6 harg6 arg7 harg7 arg8 harg8 arg9 harg9 arg10 harg10 arg11 harg11 arg12 harg12 arg13 harg13 arg14 harg14 x3 x4 x5 x6 x7 x8 x9 x10 x11 x12 x13 x14 h).2.1) = addDk (dScore (wFull x3 x4 x7) x5 x6 x14 (i 2)) x3 x12 := by
  unfold run5; dsimp only []
  simp only [run5.sl.cst_40,
    run5.sl.v130,
    run5.sl.v167,
    run5.sl.v178,
    run5.sl.v189,
    run5.sl.v202,
    run5.sl.v213,
    run5.sl.v224,
    run5.sl.v237,
    run5.sl.v248,
    run5.sl.v259,
    readAt_hd (harg3.read_unread x3) 0 ![0, 0, 0] rfl,
    readAt_hd (harg3.read_unread x3) 1 ![1, 0, 0] rfl,
    readAt_hd (harg3.read_unread x3) 2 ![2, 0, 0] rfl,
    readAt_hd (harg3.read_unread x3) 3 ![3, 0, 0] rfl,
    readAt_hd (harg4.read_unread x4) 0 ![0, 0, 0] rfl,
    readAt_hd (harg4.read_unread x4) 1 ![1, 0, 0] rfl,
    readAt_hd (harg4.read_unread x4) 2 ![2, 0, 0] rfl,
    readAt_hd (harg4.read_unread x4) 3 ![3, 0, 0] rfl,
    readAt_hdV (harg5.read_unread x5) 0 ![0, 0, 0] rfl,
    readAt_hdV (harg5.read_unread x5) 1 ![1, 0, 0] rfl,
    readAt_hdV (harg5.read_unread x5) 2 ![2, 0, 0] rfl,
    readAt_hdV (harg5.read_unread x5) 3 ![3, 0, 0] rfl,
    readAt_hd (harg6.read_unread x6) 0 ![0, 0, 0] rfl,
    readAt_hd (harg6.read_unread x6) 1 ![1, 0, 0] rfl,
    readAt_hd (harg6.read_unread x6) 2 ![2, 0, 0] rfl,
    readAt_hd (harg6.read_unread x6) 3 ![3, 0, 0] rfl,
    readAt_hd (harg7.read_unread x7) 0 ![0, 0, 0] rfl,
    readAt_hd (harg7.read_unread x7) 1 ![1, 0, 0] rfl,
    readAt_hd (harg7.read_unread x7) 2 ![2, 0, 0] rfl,
    readAt_hd (harg7.read_unread x7) 3 ![3, 0, 0] rfl,
    readAt_hd (harg8.read_unread x8) 0 ![0, 0, 0] rfl,
    readAt_hd (harg8.read_unread x8) 1 ![1, 0, 0] rfl,
    readAt_hd (harg8.read_unread x8) 2 ![2, 0, 0] rfl,
    readAt_hd (harg8.read_unread x8) 3 ![3, 0, 0] rfl,
    readAt_hd (harg12.read_unread x12) 0 ![0, 0, 0] rfl,
    readAt_hd (harg12.read_unread x12) 1 ![1, 0, 0] rfl,
    readAt_hd (harg12.read_unread x12) 2 ![2, 0, 0] rfl,
    readAt_hd (harg12.read_unread x12) 3 ![3, 0, 0] rfl,
    readAt_hd (harg13.read_unread x13) 0 ![0, 0, 0] rfl,
    readAt_hd (harg13.read_unread x13) 1 ![1, 0, 0] rfl,
    readAt_hd (harg13.read_unread x13) 2 ![2, 0, 0] rfl,
    readAt_hd (harg13.read_unread x13) 3 ![3, 0, 0] rfl,
    readAt_hdD (harg14.read_unread x14) 0 (i 2) _ (off13 i),
    readAt_hdQ (harg9.read_unread x9) 0 (i 2) _ (off17 i),
    readAt_hdD (harg14.read_unread x14) 1 (i 2) _ (off14 i),
    readAt_hdQ (harg9.read_unread x9) 1 (i 2) _ (off18 i),
    readAt_hdD (harg14.read_unread x14) 2 (i 2) _ (off15 i),
    readAt_hdQ (harg9.read_unread x9) 2 (i 2) _ (off19 i),
    readAt_hdD (harg14.read_unread x14) 3 (i 2) _ (off16 i),
    readAt_hdQ (harg9.read_unread x9) 3 (i 2) _ (off20 i)]
  have e := read_heads arg12.view (harg12.unread x12) (fun h => k0_pay40 ((dScore (wFull x3 x4 x7) x5 x6 x14 (i 2)) h) (hd x12 h) (hd x3 h))
    inb_S4x640x128_S1x640x128_3_0_0 inb_S4x640x128_S1x640x128_2_0_0 inb_S4x640x128_S1x640x128_1_0_0 inb_S4x640x128_S1x640x128_0_0_0
  unfold addDk
  rw [← e]
  dsimp only []
  unfold dScore wFull
  congr 1

set_option maxHeartbeats 4000000 in
theorem run5_read13 (c : Dev nD) (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) (x3 : Vec F S4x640x128 .bf16) (x4 : Vec F S4x640x128 .bf16) (x5 : Vec F S4x640x128 .bf16) (x6 : Vec F S4x640x64 .f32) (x7 : Vec F S4x1x640 .f32) (x8 : Vec F S4x640x64 .f32) (x9 : Vec F S4x8320x128 .f32) (x10 : Vec F S4x640x128 .f32) (x11 : Vec F S4x640x64 .f32) (x12 : Vec F S4x640x128 .f32) (x13 : Vec F S4x640x64 .f32) (x14 : Vec F S4x13x1x640 .f32) (h : k0_cond5 i = 1#1) :
    arg13.view.read (Elt F) (arg13.view.writes (Elt F) (harg13.unread x13) (run5 c i arg3 harg3 arg4 harg4 arg5 harg5 arg6 harg6 arg7 harg7 arg8 harg8 arg9 harg9 arg10 harg10 arg11 harg11 arg12 harg12 arg13 harg13 arg14 harg14 x3 x4 x5 x6 x7 x8 x9 x10 x11 x12 x13 x14 h).2.2.1) = addDv (wFull x3 x4 x7) x6 x13 := by
  unfold run5; dsimp only []
  simp only [run5.sl.cst_40,
    run5.sl.v130,
    run5.sl.v167,
    run5.sl.v178,
    run5.sl.v189,
    run5.sl.v202,
    run5.sl.v213,
    run5.sl.v224,
    run5.sl.v237,
    run5.sl.v248,
    run5.sl.v259,
    readAt_hd (harg3.read_unread x3) 0 ![0, 0, 0] rfl,
    readAt_hd (harg3.read_unread x3) 1 ![1, 0, 0] rfl,
    readAt_hd (harg3.read_unread x3) 2 ![2, 0, 0] rfl,
    readAt_hd (harg3.read_unread x3) 3 ![3, 0, 0] rfl,
    readAt_hd (harg4.read_unread x4) 0 ![0, 0, 0] rfl,
    readAt_hd (harg4.read_unread x4) 1 ![1, 0, 0] rfl,
    readAt_hd (harg4.read_unread x4) 2 ![2, 0, 0] rfl,
    readAt_hd (harg4.read_unread x4) 3 ![3, 0, 0] rfl,
    readAt_hdV (harg5.read_unread x5) 0 ![0, 0, 0] rfl,
    readAt_hdV (harg5.read_unread x5) 1 ![1, 0, 0] rfl,
    readAt_hdV (harg5.read_unread x5) 2 ![2, 0, 0] rfl,
    readAt_hdV (harg5.read_unread x5) 3 ![3, 0, 0] rfl,
    readAt_hd (harg6.read_unread x6) 0 ![0, 0, 0] rfl,
    readAt_hd (harg6.read_unread x6) 1 ![1, 0, 0] rfl,
    readAt_hd (harg6.read_unread x6) 2 ![2, 0, 0] rfl,
    readAt_hd (harg6.read_unread x6) 3 ![3, 0, 0] rfl,
    readAt_hd (harg7.read_unread x7) 0 ![0, 0, 0] rfl,
    readAt_hd (harg7.read_unread x7) 1 ![1, 0, 0] rfl,
    readAt_hd (harg7.read_unread x7) 2 ![2, 0, 0] rfl,
    readAt_hd (harg7.read_unread x7) 3 ![3, 0, 0] rfl,
    readAt_hd (harg8.read_unread x8) 0 ![0, 0, 0] rfl,
    readAt_hd (harg8.read_unread x8) 1 ![1, 0, 0] rfl,
    readAt_hd (harg8.read_unread x8) 2 ![2, 0, 0] rfl,
    readAt_hd (harg8.read_unread x8) 3 ![3, 0, 0] rfl,
    readAt_hd (harg12.read_unread x12) 0 ![0, 0, 0] rfl,
    readAt_hd (harg12.read_unread x12) 1 ![1, 0, 0] rfl,
    readAt_hd (harg12.read_unread x12) 2 ![2, 0, 0] rfl,
    readAt_hd (harg12.read_unread x12) 3 ![3, 0, 0] rfl,
    readAt_hd (harg13.read_unread x13) 0 ![0, 0, 0] rfl,
    readAt_hd (harg13.read_unread x13) 1 ![1, 0, 0] rfl,
    readAt_hd (harg13.read_unread x13) 2 ![2, 0, 0] rfl,
    readAt_hd (harg13.read_unread x13) 3 ![3, 0, 0] rfl,
    readAt_hdD (harg14.read_unread x14) 0 (i 2) _ (off13 i),
    readAt_hdQ (harg9.read_unread x9) 0 (i 2) _ (off17 i),
    readAt_hdD (harg14.read_unread x14) 1 (i 2) _ (off14 i),
    readAt_hdQ (harg9.read_unread x9) 1 (i 2) _ (off18 i),
    readAt_hdD (harg14.read_unread x14) 2 (i 2) _ (off15 i),
    readAt_hdQ (harg9.read_unread x9) 2 (i 2) _ (off19 i),
    readAt_hdD (harg14.read_unread x14) 3 (i 2) _ (off16 i),
    readAt_hdQ (harg9.read_unread x9) 3 (i 2) _ (off20 i)]
  have e := read_heads arg13.view (harg13.unread x13) (fun h => k0_pay48 ((wFull x3 x4 x7) h) (hd x13 h) (hd x6 h))
    inb_S4x640x64_S1x640x64_3_0_0 inb_S4x640x64_S1x640x64_2_0_0 inb_S4x640x64_S1x640x64_1_0_0 inb_S4x640x64_S1x640x64_0_0_0
  unfold addDv
  rw [← e]
  dsimp only []
  unfold wFull
  congr 1

end Cert.KernelIdeal.Body

end
-- ==== Proof.IdealRun6.lean ====
/- Region 6 of the body: the key block's results, at its last point. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Tactic
public import proofs.«01_k».proof.Proof.IdealRegions

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

set_option maxHeartbeats 4000000 in
/-- Region 6 taken: the pieces its stores leave in each buffer that it stores into, with the proof that it runs to the
    next region with them. -/
def run6 (c : Dev nD) (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) (x3 : Vec F S4x640x128 .bf16) (x4 : Vec F S4x640x128 .bf16) (x5 : Vec F S4x640x128 .bf16) (x6 : Vec F S4x640x64 .f32) (x7 : Vec F S4x1x640 .f32) (x8 : Vec F S4x640x64 .f32) (x9 : Vec F S4x8320x128 .f32) (x10 : Vec F S4x640x128 .f32) (x11 : Vec F S4x640x64 .f32) (x12 : Vec F S4x640x128 .f32) (x13 : Vec F S4x640x64 .f32) (x14 : Vec F S4x13x1x640 .f32) (h : k0_cond6 i = 1#1) :
    Σ' (L10 : List (View.Piece (Elt F) S4x640x128 .f32)), { L11 : List (View.Piece (Elt F) S4x640x64 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (arg10.view.loc (c : Thread nD τ) ↦[arg10.view.set]{fullShare} arg10.view.writes (Elt F) (harg10.unread x10) L10) ∗ (arg11.view.loc (c : Thread nD τ) ↦[arg11.view.set]{fullShare} arg11.view.writes (Elt F) (harg11.unread x11) L11) ∗ owns (c : Thread nD τ) arg12 fullShare x12 ∗ owns (c : Thread nD τ) arg13 fullShare x13 ∗ owns (c : Thread nD τ) arg14 fullShare x14) -∗ wp frame (wpE (defs₀ (F := F)) Variants.none c none) E (pure ⟨⟩) K))
          ⊢ wp frame (wpE (defs₀ (F := F)) Variants.none c none) E (tail6 i arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    unfold tail6 owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    simp only [dif_pos h]
    sl_exec (disch := first | sl_exact h)
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexact H10
    isplitl [H11]
    · iexact H11
    isplitl [H12]
    · iexists _; isplitr; · ipureintro; exact harg12.read_unread _
      iexact H12
    isplitl [H13]
    · iexists _; isplitr; · ipureintro; exact harg13.read_unread _
      iexact H13
    iexists _; isplitr; · ipureintro; exact harg14.read_unread _
    iexact H14

end Cert.KernelIdeal.Body

end
-- ==== Proof.IdealRead6.lean ====
/- What region 6 of the body leaves in the buffers it stores into, read back. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Tactic
public import proofs.«01_k».proof.Proof.IdealRun6
public import proofs.«01_k».proof.Proof.IdealStep

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

open Cert.Rows

set_option maxHeartbeats 4000000 in
theorem run6_read10 (c : Dev nD) (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) (x3 : Vec F S4x640x128 .bf16) (x4 : Vec F S4x640x128 .bf16) (x5 : Vec F S4x640x128 .bf16) (x6 : Vec F S4x640x64 .f32) (x7 : Vec F S4x1x640 .f32) (x8 : Vec F S4x640x64 .f32) (x9 : Vec F S4x8320x128 .f32) (x10 : Vec F S4x640x128 .f32) (x11 : Vec F S4x640x64 .f32) (x12 : Vec F S4x640x128 .f32) (x13 : Vec F S4x640x64 .f32) (x14 : Vec F S4x13x1x640 .f32) (h : k0_cond6 i = 1#1) :
    arg10.view.read (Elt F) (arg10.view.writes (Elt F) (harg10.unread x10) (run6 c i arg3 harg3 arg4 harg4 arg5 harg5 arg6 harg6 arg7 harg7 arg8 harg8 arg9 harg9 arg10 harg10 arg11 harg11 arg12 harg12 arg13 harg13 arg14 harg14 x3 x4 x5 x6 x7 x8 x9 x10 x11 x12 x13 x14 h).1) = k0_pay9 x12 := by
  unfold run6; dsimp only []
  exact (read_whole arg10.view _ _ (by decide) _ _).trans (congrArg _ (readAt_whole (harg12.read_unread x12) _ (by decide) _))

set_option maxHeartbeats 4000000 in
theorem run6_read11 (c : Dev nD) (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) (x3 : Vec F S4x640x128 .bf16) (x4 : Vec F S4x640x128 .bf16) (x5 : Vec F S4x640x128 .bf16) (x6 : Vec F S4x640x64 .f32) (x7 : Vec F S4x1x640 .f32) (x8 : Vec F S4x640x64 .f32) (x9 : Vec F S4x8320x128 .f32) (x10 : Vec F S4x640x128 .f32) (x11 : Vec F S4x640x64 .f32) (x12 : Vec F S4x640x128 .f32) (x13 : Vec F S4x640x64 .f32) (x14 : Vec F S4x13x1x640 .f32) (h : k0_cond6 i = 1#1) :
    arg11.view.read (Elt F) (arg11.view.writes (Elt F) (harg11.unread x11) (run6 c i arg3 harg3 arg4 harg4 arg5 harg5 arg6 harg6 arg7 harg7 arg8 harg8 arg9 harg9 arg10 harg10 arg11 harg11 arg12 harg12 arg13 harg13 arg14 harg14 x3 x4 x5 x6 x7 x8 x9 x10 x11 x12 x13 x14 h).2.1) = x13 := by
  unfold run6; dsimp only []
  exact (read_whole arg11.view _ _ (by decide) _ _).trans (readAt_whole (harg13.read_unread x13) _ (by decide) _)

end Cert.KernelIdeal.Body

end
-- ==== Proof.IdealBody.lean ====
/- What one run of the body does: it takes the six buffers that it writes from one state to the next, `body`, and leaves
   the six blocks that it reads. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Tactic
public import proofs.«01_k».proof.Proof.IdealRead1
public import proofs.«01_k».proof.Proof.IdealRead2
public import proofs.«01_k».proof.Proof.IdealRead3
public import proofs.«01_k».proof.Proof.IdealRead4
public import proofs.«01_k».proof.Proof.IdealRead5
public import proofs.«01_k».proof.Proof.IdealRead6

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

open Cert.Rows

/-- The contents of the buffers that the body writes: the blocks of dq, dk and dv, the running sums of dk and dv, and the
    row sums of do·o. -/
structure Bufs (F : FTy → Type) where
  dq : Vec F S4x8320x128 .f32
  dk : Vec F S4x640x128 .f32
  dv : Vec F S4x640x64 .f32
  dkSum : Vec F S4x640x128 .f32
  dvSum : Vec F S4x640x64 .f32
  del : Vec F S4x13x1x640 .f32

/-- Region 1: `dq := 0` at a group's first point. -/
def step1 (i : grid0.Coords) (s : Bufs F) : Bufs F :=
  open scoped Classical in if k0_cond1 i = 1#1 then
    { s with dq := k0_pay1 }
  else s

/-- Region 2: the rows of `delta` of one query block, at the first key block. -/
def step2 (i : grid0.Coords) (x6 x8 : Vec F S4x640x64 .f32) (s : Bufs F) : Bufs F :=
  open scoped Classical in if k0_cond2 i = 1#1 then
    { s with del := setDelta x6 x8 (i 2) s.del }
  else s

/-- Region 3: `dk_sc, dv_sc := 0` at a key block's first point. -/
def step3 (i : grid0.Coords) (s : Bufs F) : Bufs F :=
  open scoped Classical in if (Scalar.cmpi .ne (Scalar.extui (Scalar.cmpi .eq (BitVec.ofNat 32 (i 2).val) 0#32)) 0#32 : BitVec 1) = 1#1 then
    { s with dkSum := k0_pay4, dvSum := k0_pay5 }
  else s

/-- Region 4: the step of a pair of blocks on the mask's edge. -/
def step4 (i : grid0.Coords) (x3 x4 x5 : Vec F S4x640x128 .bf16) (x6 : Vec F S4x640x64 .f32) (x7 : Vec F S4x1x640 .f32) (s : Bufs F) : Bufs F :=
  open scoped Classical in if k0_cond4 i = 1#1 then
    { s with
      dq := addDq (dScore (wEdge (BitVec.ofNat 32 (i 1).val) (BitVec.ofNat 32 (i 2).val) x3 x4 x7) x5 x6 s.del (i 2)) x4 (i 2) s.dq
      dkSum := addDk (dScore (wEdge (BitVec.ofNat 32 (i 1).val) (BitVec.ofNat 32 (i 2).val) x3 x4 x7) x5 x6 s.del (i 2)) x3 s.dkSum
      dvSum := addDv (wEdge (BitVec.ofNat 32 (i 1).val) (BitVec.ofNat 32 (i 2).val) x3 x4 x7) x6 s.dvSum }
  else s

/-- Region 5: the step of a pair of blocks wholly below the diagonal. -/
def step5 (i : grid0.Coords) (x3 x4 x5 : Vec F S4x640x128 .bf16) (x6 : Vec F S4x640x64 .f32) (x7 : Vec F S4x1x640 .f32) (s : Bufs F) : Bufs F :=
  open scoped Classical in if k0_cond5 i = 1#1 then
    { s with
      dq := addDq (dScore (wFull x3 x4 x7) x5 x6 s.del (i 2)) x4 (i 2) s.dq
      dkSum := addDk (dScore (wFull x3 x4 x7) x5 x6 s.del (i 2)) x3 s.dkSum
      dvSum := addDv (wFull x3 x4 x7) x6 s.dvSum }
  else s

/-- Region 6: the key block's results, at its last point. -/
def step6 (i : grid0.Coords) (s : Bufs F) : Bufs F :=
  open scoped Classical in if k0_cond6 i = 1#1 then
    { s with dk := k0_pay9 s.dkSum, dv := s.dvSum }
  else s

/-- One run of the body. -/
def body (i : grid0.Coords) (x3 : Vec F S4x640x128 .bf16) (x4 : Vec F S4x640x128 .bf16) (x5 : Vec F S4x640x128 .bf16) (x6 : Vec F S4x640x64 .f32) (x7 : Vec F S4x1x640 .f32) (x8 : Vec F S4x640x64 .f32) (s : Bufs F) : Bufs F :=
  step6 i (step5 i x3 x4 x5 x6 x7 (step4 i x3 x4 x5 x6 x7 (step3 i (step2 i x6 x8 (step1 i s)))))

/-- The ownership of the body's twelve buffers at given contents. -/
def Own (c : Dev nD) (arg3 : Memref sig .tc .vmem S4x640x128 .bf16) (arg4 : Memref sig .tc .vmem S4x640x128 .bf16) (arg5 : Memref sig .tc .vmem S4x640x128 .bf16) (arg6 : Memref sig .tc .vmem S4x640x64 .f32) (arg7 : Memref sig .tc .vmem S4x1x640 .f32) (arg8 : Memref sig .tc .vmem S4x640x64 .f32) (arg9 : Memref sig .tc .vmem S4x8320x128 .f32) (arg10 : Memref sig .tc .vmem S4x640x128 .f32) (arg11 : Memref sig .tc .vmem S4x640x64 .f32) (arg12 : Memref sig .tc .vmem S4x640x128 .f32) (arg13 : Memref sig .tc .vmem S4x640x64 .f32) (arg14 : Memref sig .tc .vmem S4x13x1x640 .f32) (x3 : Vec F S4x640x128 .bf16) (x4 : Vec F S4x640x128 .bf16) (x5 : Vec F S4x640x128 .bf16) (x6 : Vec F S4x640x64 .f32) (x7 : Vec F S4x1x640 .f32) (x8 : Vec F S4x640x64 .f32) (s : Bufs F) : sProp 𝕄 :=
  iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare s.dq ∗ owns (c : Thread nD τ) arg10 fullShare s.dk ∗ owns (c : Thread nD τ) arg11 fullShare s.dv ∗ owns (c : Thread nD τ) arg12 fullShare s.dkSum ∗ owns (c : Thread nD τ) arg13 fullShare s.dvSum ∗ owns (c : Thread nD τ) arg14 fullShare s.del)

theorem tail6_wp (c : Dev nD) (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) (x3 : Vec F S4x640x128 .bf16) (x4 : Vec F S4x640x128 .bf16) (x5 : Vec F S4x640x128 .bf16) (x6 : Vec F S4x640x64 .f32) (x7 : Vec F S4x1x640 .f32) (x8 : Vec F S4x640x64 .f32) (s : Bufs F) (E : Set ℕ) (K : PUnit → sProp 𝕄) :
    iprop(Own c arg3 arg4 arg5 arg6 arg7 arg8 arg9 arg10 arg11 arg12 arg13 arg14 x3 x4 x5 x6 x7 x8 s ∗ (Own c arg3 arg4 arg5 arg6 arg7 arg8 arg9 arg10 arg11 arg12 arg13 arg14 x3 x4 x5 x6 x7 x8 (step6 i s) -∗ K ⟨⟩))
      ⊢ wp frame (wpE (defs₀ (F := F)) Variants.none c none) E (tail6 i arg3 harg3 arg4 harg4 arg5 harg5 arg6 harg6 arg7 harg7 arg8 harg8 arg9 harg9 arg10 harg10 arg11 harg11 arg12 harg12 arg13 harg13 arg14 harg14) K := by
  by_cases h : k0_cond6 i = 1#1
  · refine BIBase.Entails.trans ?_ ((run6 c i arg3 harg3 arg4 harg4 arg5 harg5 arg6 harg6 arg7 harg7 arg8 harg8 arg9 harg9 arg10 harg10 arg11 harg11 arg12 harg12 arg13 harg13 arg14 harg14 x3 x4 x5 x6 x7 x8 s.dq s.dk s.dv s.dkSum s.dvSum s.del h).2.2 E K)
    have e : step6 i s = { s with dk := k0_pay9 s.dkSum, dv := s.dvSum } := if_pos h
    rw [e]
    unfold Own
    iintro ⟨⟨H3, H4, H5, H6, H7, H8, H9, H10, H11, H12, H13, H14⟩, Hk⟩
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨G3, G4, G5, G6, G7, G8, G9, G10, G11, G12, G13, G14⟩
    iapply (le_wp_ret _ _)
    iapply Hk
    isplitl [G3]
    · iexact G3
    isplitl [G4]
    · iexact G4
    isplitl [G5]
    · iexact G5
    isplitl [G6]
    · iexact G6
    isplitl [G7]
    · iexact G7
    isplitl [G8]
    · iexact G8
    isplitl [G9]
    · iexact G9
    isplitl [G10]
    · unfold owns; iexists _; isplitr; · ipureintro; exact run6_read10 c i arg3 harg3 arg4 harg4 arg5 harg5 arg6 harg6 arg7 harg7 arg8 harg8 arg9 harg9 arg10 harg10 arg11 harg11 arg12 harg12 arg13 harg13 arg14 harg14 x3 x4 x5 x6 x7 x8 s.dq s.dk s.dv s.dkSum s.dvSum s.del h
      iexact G10
    isplitl [G11]
    · unfold owns; iexists _; isplitr; · ipureintro; exact run6_read11 c i arg3 harg3 arg4 harg4 arg5 harg5 arg6 harg6 arg7 harg7 arg8 harg8 arg9 harg9 arg10 harg10 arg11 harg11 arg12 harg12 arg13 harg13 arg14 harg14 x3 x4 x5 x6 x7 x8 s.dq s.dk s.dv s.dkSum s.dvSum s.del h
      iexact G11
    isplitl [G12]
    · iexact G12
    isplitl [G13]
    · iexact G13
    iexact G14
  · have e : step6 i s = s := if_neg h
    rw [e]
    unfold tail6
    simp only [dif_neg h]
    iintro ⟨HO, Hk⟩
    iapply (le_wp_ret _ _)
    iapply Hk
    iexact HO

theorem tail5_wp (c : Dev nD) (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) (x3 : Vec F S4x640x128 .bf16) (x4 : Vec F S4x640x128 .bf16) (x5 : Vec F S4x640x128 .bf16) (x6 : Vec F S4x640x64 .f32) (x7 : Vec F S4x1x640 .f32) (x8 : Vec F S4x640x64 .f32) (s : Bufs F) (E : Set ℕ) (K : PUnit → sProp 𝕄) :
    iprop(Own c arg3 arg4 arg5 arg6 arg7 arg8 arg9 arg10 arg11 arg12 arg13 arg14 x3 x4 x5 x6 x7 x8 s ∗ (Own c arg3 arg4 arg5 arg6 arg7 arg8 arg9 arg10 arg11 arg12 arg13 arg14 x3 x4 x5 x6 x7 x8 (step6 i (step5 i x3 x4 x5 x6 x7 s)) -∗ K ⟨⟩))
      ⊢ wp frame (wpE (defs₀ (F := F)) Variants.none c none) E (tail5 i arg3 harg3 arg4 harg4 arg5 harg5 arg6 harg6 arg7 harg7 arg8 harg8 arg9 harg9 arg10 harg10 arg11 harg11 arg12 harg12 arg13 harg13 arg14 harg14) K := by
  by_cases h : k0_cond5 i = 1#1
  · refine BIBase.Entails.trans ?_ ((run5 c i arg3 harg3 arg4 harg4 arg5 harg5 arg6 harg6 arg7 harg7 arg8 harg8 arg9 harg9 arg10 harg10 arg11 harg11 arg12 harg12 arg13 harg13 arg14 harg14 x3 x4 x5 x6 x7 x8 s.dq s.dk s.dv s.dkSum s.dvSum s.del h).2.2.2 E K)
    have e : step5 i x3 x4 x5 x6 x7 s = { s with
      dq := addDq (dScore (wFull x3 x4 x7) x5 x6 s.del (i 2)) x4 (i 2) s.dq
      dkSum := addDk (dScore (wFull x3 x4 x7) x5 x6 s.del (i 2)) x3 s.dkSum
      dvSum := addDv (wFull x3 x4 x7) x6 s.dvSum } := if_pos h
    rw [e]
    have nx := tail6_wp c i arg3 harg3 arg4 harg4 arg5 harg5 arg6 harg6 arg7 harg7 arg8 harg8 arg9 harg9 arg10 harg10 arg11 harg11 arg12 harg12 arg13 harg13 arg14 harg14 x3 x4 x5 x6 x7 x8 ({ s with
      dq := addDq (dScore (wFull x3 x4 x7) x5 x6 s.del (i 2)) x4 (i 2) s.dq
      dkSum := addDk (dScore (wFull x3 x4 x7) x5 x6 s.del (i 2)) x3 s.dkSum
      dvSum := addDv (wFull x3 x4 x7) x6 s.dvSum }) E K
    unfold Own at nx ⊢
    iintro ⟨⟨H3, H4, H5, H6, H7, H8, H9, H10, H11, H12, H13, H14⟩, Hk⟩
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨G3, G4, G5, G6, G7, G8, G9, G10, G11, G12, G13, G14⟩
    iapply nx
    isplitr [Hk]
    · isplitl [G3]
      · iexact G3
      isplitl [G4]
      · iexact G4
      isplitl [G5]
      · iexact G5
      isplitl [G6]
      · iexact G6
      isplitl [G7]
      · iexact G7
      isplitl [G8]
      · iexact G8
      isplitl [G9]
      · unfold owns; iexists _; isplitr; · ipureintro; exact run5_read9 c i arg3 harg3 arg4 harg4 arg5 harg5 arg6 harg6 arg7 harg7 arg8 harg8 arg9 harg9 arg10 harg10 arg11 harg11 arg12 harg12 arg13 harg13 arg14 harg14 x3 x4 x5 x6 x7 x8 s.dq s.dk s.dv s.dkSum s.dvSum s.del h
        iexact G9
      isplitl [G10]
      · iexact G10
      isplitl [G11]
      · iexact G11
      isplitl [G12]
      · unfold owns; iexists _; isplitr; · ipureintro; exact run5_read12 c i arg3 harg3 arg4 harg4 arg5 harg5 arg6 harg6 arg7 harg7 arg8 harg8 arg9 harg9 arg10 harg10 arg11 harg11 arg12 harg12 arg13 harg13 arg14 harg14 x3 x4 x5 x6 x7 x8 s.dq s.dk s.dv s.dkSum s.dvSum s.del h
        iexact G12
      isplitl [G13]
      · unfold owns; iexists _; isplitr; · ipureintro; exact run5_read13 c i arg3 harg3 arg4 harg4 arg5 harg5 arg6 harg6 arg7 harg7 arg8 harg8 arg9 harg9 arg10 harg10 arg11 harg11 arg12 harg12 arg13 harg13 arg14 harg14 x3 x4 x5 x6 x7 x8 s.dq s.dk s.dv s.dkSum s.dvSum s.del h
        iexact G13
      iexact G14
    · iexact Hk
  · have e : step5 i x3 x4 x5 x6 x7 s = s := if_neg h
    rw [e]
    unfold tail5
    simp only [dif_neg h]
    exact tail6_wp c i arg3 harg3 arg4 harg4 arg5 harg5 arg6 harg6 arg7 harg7 arg8 harg8 arg9 harg9 arg10 harg10 arg11 harg11 arg12 harg12 arg13 harg13 arg14 harg14 x3 x4 x5 x6 x7 x8 s E K

theorem tail4_wp (c : Dev nD) (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) (x3 : Vec F S4x640x128 .bf16) (x4 : Vec F S4x640x128 .bf16) (x5 : Vec F S4x640x128 .bf16) (x6 : Vec F S4x640x64 .f32) (x7 : Vec F S4x1x640 .f32) (x8 : Vec F S4x640x64 .f32) (s : Bufs F) (E : Set ℕ) (K : PUnit → sProp 𝕄) :
    iprop(Own c arg3 arg4 arg5 arg6 arg7 arg8 arg9 arg10 arg11 arg12 arg13 arg14 x3 x4 x5 x6 x7 x8 s ∗ (Own c arg3 arg4 arg5 arg6 arg7 arg8 arg9 arg10 arg11 arg12 arg13 arg14 x3 x4 x5 x6 x7 x8 (step6 i (step5 i x3 x4 x5 x6 x7 (step4 i x3 x4 x5 x6 x7 s))) -∗ K ⟨⟩))
      ⊢ wp frame (wpE (defs₀ (F := F)) Variants.none c none) E (tail4 i arg3 harg3 arg4 harg4 arg5 harg5 arg6 harg6 arg7 harg7 arg8 harg8 arg9 harg9 arg10 harg10 arg11 harg11 arg12 harg12 arg13 harg13 arg14 harg14) K := by
  by_cases h : k0_cond4 i = 1#1
  · refine BIBase.Entails.trans ?_ ((run4 c i arg3 harg3 arg4 harg4 arg5 harg5 arg6 harg6 arg7 harg7 arg8 harg8 arg9 harg9 arg10 harg10 arg11 harg11 arg12 harg12 arg13 harg13 arg14 harg14 x3 x4 x5 x6 x7 x8 s.dq s.dk s.dv s.dkSum s.dvSum s.del h).2.2.2 E K)
    have e : step4 i x3 x4 x5 x6 x7 s = { s with
      dq := addDq (dScore (wEdge (BitVec.ofNat 32 (i 1).val) (BitVec.ofNat 32 (i 2).val) x3 x4 x7) x5 x6 s.del (i 2)) x4 (i 2) s.dq
      dkSum := addDk (dScore (wEdge (BitVec.ofNat 32 (i 1).val) (BitVec.ofNat 32 (i 2).val) x3 x4 x7) x5 x6 s.del (i 2)) x3 s.dkSum
      dvSum := addDv (wEdge (BitVec.ofNat 32 (i 1).val) (BitVec.ofNat 32 (i 2).val) x3 x4 x7) x6 s.dvSum } := if_pos h
    rw [e]
    have nx := tail5_wp c i arg3 harg3 arg4 harg4 arg5 harg5 arg6 harg6 arg7 harg7 arg8 harg8 arg9 harg9 arg10 harg10 arg11 harg11 arg12 harg12 arg13 harg13 arg14 harg14 x3 x4 x5 x6 x7 x8 ({ s with
      dq := addDq (dScore (wEdge (BitVec.ofNat 32 (i 1).val) (BitVec.ofNat 32 (i 2).val) x3 x4 x7) x5 x6 s.del (i 2)) x4 (i 2) s.dq
      dkSum := addDk (dScore (wEdge (BitVec.ofNat 32 (i 1).val) (BitVec.ofNat 32 (i 2).val) x3 x4 x7) x5 x6 s.del (i 2)) x3 s.dkSum
      dvSum := addDv (wEdge (BitVec.ofNat 32 (i 1).val) (BitVec.ofNat 32 (i 2).val) x3 x4 x7) x6 s.dvSum }) E K
    unfold Own at nx ⊢
    iintro ⟨⟨H3, H4, H5, H6, H7, H8, H9, H10, H11, H12, H13, H14⟩, Hk⟩
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨G3, G4, G5, G6, G7, G8, G9, G10, G11, G12, G13, G14⟩
    iapply nx
    isplitr [Hk]
    · isplitl [G3]
      · iexact G3
      isplitl [G4]
      · iexact G4
      isplitl [G5]
      · iexact G5
      isplitl [G6]
      · iexact G6
      isplitl [G7]
      · iexact G7
      isplitl [G8]
      · iexact G8
      isplitl [G9]
      · unfold owns; iexists _; isplitr; · ipureintro; exact run4_read9 c i arg3 harg3 arg4 harg4 arg5 harg5 arg6 harg6 arg7 harg7 arg8 harg8 arg9 harg9 arg10 harg10 arg11 harg11 arg12 harg12 arg13 harg13 arg14 harg14 x3 x4 x5 x6 x7 x8 s.dq s.dk s.dv s.dkSum s.dvSum s.del h
        iexact G9
      isplitl [G10]
      · iexact G10
      isplitl [G11]
      · iexact G11
      isplitl [G12]
      · unfold owns; iexists _; isplitr; · ipureintro; exact run4_read12 c i arg3 harg3 arg4 harg4 arg5 harg5 arg6 harg6 arg7 harg7 arg8 harg8 arg9 harg9 arg10 harg10 arg11 harg11 arg12 harg12 arg13 harg13 arg14 harg14 x3 x4 x5 x6 x7 x8 s.dq s.dk s.dv s.dkSum s.dvSum s.del h
        iexact G12
      isplitl [G13]
      · unfold owns; iexists _; isplitr; · ipureintro; exact run4_read13 c i arg3 harg3 arg4 harg4 arg5 harg5 arg6 harg6 arg7 harg7 arg8 harg8 arg9 harg9 arg10 harg10 arg11 harg11 arg12 harg12 arg13 harg13 arg14 harg14 x3 x4 x5 x6 x7 x8 s.dq s.dk s.dv s.dkSum s.dvSum s.del h
        iexact G13
      iexact G14
    · iexact Hk
  · have e : step4 i x3 x4 x5 x6 x7 s = s := if_neg h
    rw [e]
    unfold tail4
    simp only [dif_neg h]
    exact tail5_wp c i arg3 harg3 arg4 harg4 arg5 harg5 arg6 harg6 arg7 harg7 arg8 harg8 arg9 harg9 arg10 harg10 arg11 harg11 arg12 harg12 arg13 harg13 arg14 harg14 x3 x4 x5 x6 x7 x8 s E K

theorem tail3_wp (c : Dev nD) (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) (x3 : Vec F S4x640x128 .bf16) (x4 : Vec F S4x640x128 .bf16) (x5 : Vec F S4x640x128 .bf16) (x6 : Vec F S4x640x64 .f32) (x7 : Vec F S4x1x640 .f32) (x8 : Vec F S4x640x64 .f32) (s : Bufs F) (E : Set ℕ) (K : PUnit → sProp 𝕄) :
    iprop(Own c arg3 arg4 arg5 arg6 arg7 arg8 arg9 arg10 arg11 arg12 arg13 arg14 x3 x4 x5 x6 x7 x8 s ∗ (Own c arg3 arg4 arg5 arg6 arg7 arg8 arg9 arg10 arg11 arg12 arg13 arg14 x3 x4 x5 x6 x7 x8 (step6 i (step5 i x3 x4 x5 x6 x7 (step4 i x3 x4 x5 x6 x7 (step3 i s)))) -∗ K ⟨⟩))
      ⊢ wp frame (wpE (defs₀ (F := F)) Variants.none c none) E (tail3 i arg3 harg3 arg4 harg4 arg5 harg5 arg6 harg6 arg7 harg7 arg8 harg8 arg9 harg9 arg10 harg10 arg11 harg11 arg12 harg12 arg13 harg13 arg14 harg14) K := by
  by_cases h : (Scalar.cmpi .ne (Scalar.extui (Scalar.cmpi .eq (BitVec.ofNat 32 (i 2).val) 0#32)) 0#32 : BitVec 1) = 1#1
  · refine BIBase.Entails.trans ?_ ((run3 c i arg3 harg3 arg4 harg4 arg5 harg5 arg6 harg6 arg7 harg7 arg8 harg8 arg9 harg9 arg10 harg10 arg11 harg11 arg12 harg12 arg13 harg13 arg14 harg14 x3 x4 x5 x6 x7 x8 s.dq s.dk s.dv s.dkSum s.dvSum s.del h).2.2 E K)
    have e : step3 i s = { s with dkSum := k0_pay4, dvSum := k0_pay5 } := if_pos h
    rw [e]
    have nx := tail4_wp c i arg3 harg3 arg4 harg4 arg5 harg5 arg6 harg6 arg7 harg7 arg8 harg8 arg9 harg9 arg10 harg10 arg11 harg11 arg12 harg12 arg13 harg13 arg14 harg14 x3 x4 x5 x6 x7 x8 ({ s with dkSum := k0_pay4, dvSum := k0_pay5 }) E K
    unfold Own at nx ⊢
    iintro ⟨⟨H3, H4, H5, H6, H7, H8, H9, H10, H11, H12, H13, H14⟩, Hk⟩
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨G3, G4, G5, G6, G7, G8, G9, G10, G11, G12, G13, G14⟩
    iapply nx
    isplitr [Hk]
    · isplitl [G3]
      · iexact G3
      isplitl [G4]
      · iexact G4
      isplitl [G5]
      · iexact G5
      isplitl [G6]
      · iexact G6
      isplitl [G7]
      · iexact G7
      isplitl [G8]
      · iexact G8
      isplitl [G9]
      · iexact G9
      isplitl [G10]
      · iexact G10
      isplitl [G11]
      · iexact G11
      isplitl [G12]
      · unfold owns; iexists _; isplitr; · ipureintro; exact run3_read12 c i arg3 harg3 arg4 harg4 arg5 harg5 arg6 harg6 arg7 harg7 arg8 harg8 arg9 harg9 arg10 harg10 arg11 harg11 arg12 harg12 arg13 harg13 arg14 harg14 x3 x4 x5 x6 x7 x8 s.dq s.dk s.dv s.dkSum s.dvSum s.del h
        iexact G12
      isplitl [G13]
      · unfold owns; iexists _; isplitr; · ipureintro; exact run3_read13 c i arg3 harg3 arg4 harg4 arg5 harg5 arg6 harg6 arg7 harg7 arg8 harg8 arg9 harg9 arg10 harg10 arg11 harg11 arg12 harg12 arg13 harg13 arg14 harg14 x3 x4 x5 x6 x7 x8 s.dq s.dk s.dv s.dkSum s.dvSum s.del h
        iexact G13
      iexact G14
    · iexact Hk
  · have e : step3 i s = s := if_neg h
    rw [e]
    unfold tail3
    simp only [dif_neg h]
    exact tail4_wp c i arg3 harg3 arg4 harg4 arg5 harg5 arg6 harg6 arg7 harg7 arg8 harg8 arg9 harg9 arg10 harg10 arg11 harg11 arg12 harg12 arg13 harg13 arg14 harg14 x3 x4 x5 x6 x7 x8 s E K

theorem tail2_wp (c : Dev nD) (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) (x3 : Vec F S4x640x128 .bf16) (x4 : Vec F S4x640x128 .bf16) (x5 : Vec F S4x640x128 .bf16) (x6 : Vec F S4x640x64 .f32) (x7 : Vec F S4x1x640 .f32) (x8 : Vec F S4x640x64 .f32) (s : Bufs F) (E : Set ℕ) (K : PUnit → sProp 𝕄) :
    iprop(Own c arg3 arg4 arg5 arg6 arg7 arg8 arg9 arg10 arg11 arg12 arg13 arg14 x3 x4 x5 x6 x7 x8 s ∗ (Own c arg3 arg4 arg5 arg6 arg7 arg8 arg9 arg10 arg11 arg12 arg13 arg14 x3 x4 x5 x6 x7 x8 (step6 i (step5 i x3 x4 x5 x6 x7 (step4 i x3 x4 x5 x6 x7 (step3 i (step2 i x6 x8 s))))) -∗ K ⟨⟩))
      ⊢ wp frame (wpE (defs₀ (F := F)) Variants.none c none) E (tail2 i arg3 harg3 arg4 harg4 arg5 harg5 arg6 harg6 arg7 harg7 arg8 harg8 arg9 harg9 arg10 harg10 arg11 harg11 arg12 harg12 arg13 harg13 arg14 harg14) K := by
  by_cases h : k0_cond2 i = 1#1
  · refine BIBase.Entails.trans ?_ ((run2 c i arg3 harg3 arg4 harg4 arg5 harg5 arg6 harg6 arg7 harg7 arg8 harg8 arg9 harg9 arg10 harg10 arg11 harg11 arg12 harg12 arg13 harg13 arg14 harg14 x3 x4 x5 x6 x7 x8 s.dq s.dk s.dv s.dkSum s.dvSum s.del h).2 E K)
    have e : step2 i x6 x8 s = { s with del := setDelta x6 x8 (i 2) s.del } := if_pos h
    rw [e]
    have nx := tail3_wp c i arg3 harg3 arg4 harg4 arg5 harg5 arg6 harg6 arg7 harg7 arg8 harg8 arg9 harg9 arg10 harg10 arg11 harg11 arg12 harg12 arg13 harg13 arg14 harg14 x3 x4 x5 x6 x7 x8 ({ s with del := setDelta x6 x8 (i 2) s.del }) E K
    unfold Own at nx ⊢
    iintro ⟨⟨H3, H4, H5, H6, H7, H8, H9, H10, H11, H12, H13, H14⟩, Hk⟩
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨G3, G4, G5, G6, G7, G8, G9, G10, G11, G12, G13, G14⟩
    iapply nx
    isplitr [Hk]
    · isplitl [G3]
      · iexact G3
      isplitl [G4]
      · iexact G4
      isplitl [G5]
      · iexact G5
      isplitl [G6]
      · iexact G6
      isplitl [G7]
      · iexact G7
      isplitl [G8]
      · iexact G8
      isplitl [G9]
      · iexact G9
      isplitl [G10]
      · iexact G10
      isplitl [G11]
      · iexact G11
      isplitl [G12]
      · iexact G12
      isplitl [G13]
      · iexact G13
      unfold owns; iexists _; isplitr; · ipureintro; exact run2_read14 c i arg3 harg3 arg4 harg4 arg5 harg5 arg6 harg6 arg7 harg7 arg8 harg8 arg9 harg9 arg10 harg10 arg11 harg11 arg12 harg12 arg13 harg13 arg14 harg14 x3 x4 x5 x6 x7 x8 s.dq s.dk s.dv s.dkSum s.dvSum s.del h
      iexact G14
    · iexact Hk
  · have e : step2 i x6 x8 s = s := if_neg h
    rw [e]
    unfold tail2
    simp only [dif_neg h]
    exact tail3_wp c i arg3 harg3 arg4 harg4 arg5 harg5 arg6 harg6 arg7 harg7 arg8 harg8 arg9 harg9 arg10 harg10 arg11 harg11 arg12 harg12 arg13 harg13 arg14 harg14 x3 x4 x5 x6 x7 x8 s E K

theorem tail1_wp (c : Dev nD) (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) (x3 : Vec F S4x640x128 .bf16) (x4 : Vec F S4x640x128 .bf16) (x5 : Vec F S4x640x128 .bf16) (x6 : Vec F S4x640x64 .f32) (x7 : Vec F S4x1x640 .f32) (x8 : Vec F S4x640x64 .f32) (s : Bufs F) (E : Set ℕ) (K : PUnit → sProp 𝕄) :
    iprop(Own c arg3 arg4 arg5 arg6 arg7 arg8 arg9 arg10 arg11 arg12 arg13 arg14 x3 x4 x5 x6 x7 x8 s ∗ (Own c arg3 arg4 arg5 arg6 arg7 arg8 arg9 arg10 arg11 arg12 arg13 arg14 x3 x4 x5 x6 x7 x8 (step6 i (step5 i x3 x4 x5 x6 x7 (step4 i x3 x4 x5 x6 x7 (step3 i (step2 i x6 x8 (step1 i s)))))) -∗ K ⟨⟩))
      ⊢ wp frame (wpE (defs₀ (F := F)) Variants.none c none) E (tail1 i arg3 harg3 arg4 harg4 arg5 harg5 arg6 harg6 arg7 harg7 arg8 harg8 arg9 harg9 arg10 harg10 arg11 harg11 arg12 harg12 arg13 harg13 arg14 harg14) K := by
  by_cases h : k0_cond1 i = 1#1
  · refine BIBase.Entails.trans ?_ ((run1 c i arg3 harg3 arg4 harg4 arg5 harg5 arg6 harg6 arg7 harg7 arg8 harg8 arg9 harg9 arg10 harg10 arg11 harg11 arg12 harg12 arg13 harg13 arg14 harg14 x3 x4 x5 x6 x7 x8 s.dq s.dk s.dv s.dkSum s.dvSum s.del h).2 E K)
    have e : step1 i s = { s with dq := k0_pay1 } := if_pos h
    rw [e]
    have nx := tail2_wp c i arg3 harg3 arg4 harg4 arg5 harg5 arg6 harg6 arg7 harg7 arg8 harg8 arg9 harg9 arg10 harg10 arg11 harg11 arg12 harg12 arg13 harg13 arg14 harg14 x3 x4 x5 x6 x7 x8 ({ s with dq := k0_pay1 }) E K
    unfold Own at nx ⊢
    iintro ⟨⟨H3, H4, H5, H6, H7, H8, H9, H10, H11, H12, H13, H14⟩, Hk⟩
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨G3, G4, G5, G6, G7, G8, G9, G10, G11, G12, G13, G14⟩
    iapply nx
    isplitr [Hk]
    · isplitl [G3]
      · iexact G3
      isplitl [G4]
      · iexact G4
      isplitl [G5]
      · iexact G5
      isplitl [G6]
      · iexact G6
      isplitl [G7]
      · iexact G7
      isplitl [G8]
      · iexact G8
      isplitl [G9]
      · unfold owns; iexists _; isplitr; · ipureintro; exact run1_read9 c i arg3 harg3 arg4 harg4 arg5 harg5 arg6 harg6 arg7 harg7 arg8 harg8 arg9 harg9 arg10 harg10 arg11 harg11 arg12 harg12 arg13 harg13 arg14 harg14 x3 x4 x5 x6 x7 x8 s.dq s.dk s.dv s.dkSum s.dvSum s.del h
        iexact G9
      isplitl [G10]
      · iexact G10
      isplitl [G11]
      · iexact G11
      isplitl [G12]
      · iexact G12
      isplitl [G13]
      · iexact G13
      iexact G14
    · iexact Hk
  · have e : step1 i s = s := if_neg h
    rw [e]
    unfold tail1
    simp only [dif_neg h]
    exact tail2_wp c i arg3 harg3 arg4 harg4 arg5 harg5 arg6 harg6 arg7 harg7 arg8 harg8 arg9 harg9 arg10 harg10 arg11 harg11 arg12 harg12 arg13 harg13 arg14 harg14 x3 x4 x5 x6 x7 x8 s E K

/-- One run of the body. -/
theorem body_wp (c : Dev nD) (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) (x3 : Vec F S4x640x128 .bf16) (x4 : Vec F S4x640x128 .bf16) (x5 : Vec F S4x640x128 .bf16) (x6 : Vec F S4x640x64 .f32) (x7 : Vec F S4x1x640 .f32) (x8 : Vec F S4x640x64 .f32) (s : Bufs F) (E : Set ℕ) (K : PUnit → sProp 𝕄) :
    iprop(Own c arg3 arg4 arg5 arg6 arg7 arg8 arg9 arg10 arg11 arg12 arg13 arg14 x3 x4 x5 x6 x7 x8 s ∗ (Own c arg3 arg4 arg5 arg6 arg7 arg8 arg9 arg10 arg11 arg12 arg13 arg14 x3 x4 x5 x6 x7 x8 (body i x3 x4 x5 x6 x7 x8 s) -∗ K ⟨⟩))
      ⊢ wp frame (wpE (defs₀ (F := F)) Variants.none c none) E (cc0_attn_bwd (F := F) i arg3 harg3 arg4 harg4 arg5 harg5 arg6 harg6 arg7 harg7 arg8 harg8 arg9 harg9 arg10 harg10 arg11 harg11 arg12 harg12 arg13 harg13 arg14 harg14) K := by
  rw [body_eq]
  exact tail1_wp c i arg3 harg3 arg4 harg4 arg5 harg5 arg6 harg6 arg7 harg7 arg8 harg8 arg9 harg9 arg10 harg10 arg11 harg11 arg12 harg12 arg13 harg13 arg14 harg14 x3 x4 x5 x6 x7 x8 s E K

end Cert.KernelIdeal.Body

end
-- ==== Proof.IdealState.lean ====
/- The buffers point by point: `S n` is what they hold before point `n`, from a start that does not matter, and the parts
   of the actual buffers that later points read agree with it whatever the buffers held at the start. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Tactic
public import proofs.«01_k».proof.Proof.IdealBody

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

open Cert.Rows
open Idealize.ShloMosaic.Pipeline (Dat Cfg Window BodyObligation cellOf)

/-! ## Which region runs where -/

theorem cond1_iff : ∀ t : Fin cfg0.N, k0_cond1 (grid0.coords t) = 1#1 ↔ t.val % 169 = 0 :=
  (by decide +kernel : ∀ t : Fin grid0.N, _)
theorem cond2_iff : ∀ t : Fin cfg0.N, k0_cond2 (grid0.coords t) = 1#1 ↔ t.val % 169 < 13 :=
  (by decide +kernel : ∀ t : Fin grid0.N, _)
theorem cond3_iff : ∀ t : Fin cfg0.N, ((Scalar.cmpi .ne (Scalar.extui (Scalar.cmpi .eq (BitVec.ofNat 32 (grid0.coords t 2).val) 0#32)) 0#32 : BitVec 1) = 1#1) ↔ t.val % 13 = 0 :=
  (by decide +kernel : ∀ t : Fin grid0.N, _)
theorem cond4_iff : ∀ t : Fin cfg0.N, k0_cond4 (grid0.coords t) = 1#1 ↔ (t.val % 169 < 13 ∨ t.val % 13 = t.val / 13 % 13) :=
  (by decide +kernel : ∀ t : Fin grid0.N, _)
theorem cond5_iff : ∀ t : Fin cfg0.N, k0_cond5 (grid0.coords t) = 1#1 ↔ (¬ t.val % 169 < 13 ∧ t.val / 13 % 13 < t.val % 13) :=
  (by decide +kernel : ∀ t : Fin grid0.N, _)
theorem cond6_iff : ∀ t : Fin cfg0.N, k0_cond6 (grid0.coords t) = 1#1 ↔ t.val % 13 = 12 :=
  (by decide +kernel : ∀ t : Fin grid0.N, _)
theorem coord2 : ∀ t : Fin cfg0.N, (grid0.coords t 2).val = t.val % 13 :=
  (by decide +kernel : ∀ t : Fin grid0.N, _)

/-- Two states that agree on dq, on the sums of dk and dv, and on the row sums of the blocks in `R`. -/
structure Same (R : Fin 13 → Prop) (s s' : Bufs F) : Prop where
  dq : s.dq = s'.dq
  dkSum : s.dkSum = s'.dkSum
  dvSum : s.dvSum = s'.dvSum
  del : ∀ h b, R b → hdD s.del h b = hdD s'.del h b

/-- The query blocks whose row sums are written before point `t`. -/
def written (t : ℕ) (b : Fin 13) : Prop := 13 ≤ t % 169 ∨ b.val < t % 169

/-- Two states that agree on what the points from `t` on read. -/
structure Agree (t : ℕ) (s s' : Bufs F) : Prop where
  dq : t % 169 ≠ 0 → s.dq = s'.dq
  dkSum : t % 13 ≠ 0 → s.dkSum = s'.dkSum
  dvSum : t % 13 ≠ 0 → s.dvSum = s'.dvSum
  del : ∀ h b, written t b → hdD s.del h b = hdD s'.del h b

theorem hdD_setDelta (dO o : Vec F S4x640x64 .f32) (b : Fin 13) (x : Vec F S4x13x1x640 .f32) (h : Fin 4) (b' : Fin 13) :
    hdD (setDelta dO o b x) h b' = if b' = b then k0_pay11 (hd dO h) (hd o h) else hdD x h b' := by
  funext y
  unfold hdD setDelta putD
  by_cases hb : b' = b
  · subst hb
    rw [if_pos rfl, if_pos rfl]
    refine congrArg _ (funext fun a => ?_)
    match a with
    | ⟨0, _⟩ => exact Subsingleton.elim (α := Fin 1) _ _
    | ⟨1, _⟩ => exact Subsingleton.elim (α := Fin 1) _ _
    | ⟨2, _⟩ => rfl
    | ⟨3, _⟩ => rfl
  · rw [if_neg (fun h => hb (Fin.ext h)), if_neg hb]

theorem step4_same (i : grid0.Coords) (x3 x4 x5 : Vec F S4x640x128 .bf16) (x6 : Vec F S4x640x64 .f32) (x7 : Vec F S4x1x640 .f32) {R : Fin 13 → Prop}
    {s s' : Bufs F} (hR : R (i 2)) (h : Same R s s') : Same R (step4 i x3 x4 x5 x6 x7 s) (step4 i x3 x4 x5 x6 x7 s') := by
  unfold step4
  by_cases hc : k0_cond4 i = 1#1
  · rw [if_pos hc, if_pos hc]
    have e : ∀ w : Fin 4 → FVec F S640x640 .f32, dScore w x5 x6 s.del (i 2) = dScore w x5 x6 s'.del (i 2) := fun w => funext fun g => by
      unfold dScore; rw [h.del g _ hR]
    exact ⟨by simp only [e, h.dq], by simp only [e, h.dkSum], by simp only [h.dvSum], h.del⟩
  · rw [if_neg hc, if_neg hc]; exact h

theorem step5_same (i : grid0.Coords) (x3 x4 x5 : Vec F S4x640x128 .bf16) (x6 : Vec F S4x640x64 .f32) (x7 : Vec F S4x1x640 .f32) {R : Fin 13 → Prop}
    {s s' : Bufs F} (hR : R (i 2)) (h : Same R s s') : Same R (step5 i x3 x4 x5 x6 x7 s) (step5 i x3 x4 x5 x6 x7 s') := by
  unfold step5
  by_cases hc : k0_cond5 i = 1#1
  · rw [if_pos hc, if_pos hc]
    have e : ∀ w : Fin 4 → FVec F S640x640 .f32, dScore w x5 x6 s.del (i 2) = dScore w x5 x6 s'.del (i 2) := fun w => funext fun g => by
      unfold dScore; rw [h.del g _ hR]
    exact ⟨by simp only [e, h.dq], by simp only [e, h.dkSum], by simp only [h.dvSum], h.del⟩
  · rw [if_neg hc, if_neg hc]; exact h

/-- After the first three regions the two states agree on all that the fourth and the fifth read. -/
theorem steps123_same (t : Fin cfg0.N) (x6 x8 : Vec F S4x640x64 .f32) {s s' : Bufs F} (h : Agree t.val s s') :
    Same (fun b => written t.val b ∨ (t.val % 169 < 13 ∧ b.val = t.val % 13))
      (step3 (grid0.coords t) (step2 (grid0.coords t) x6 x8 (step1 (grid0.coords t) s)))
      (step3 (grid0.coords t) (step2 (grid0.coords t) x6 x8 (step1 (grid0.coords t) s'))) := by
  refine ⟨?_, ?_, ?_, ?_⟩
  · unfold step3 step2 step1
    simp only [cond1_iff t, cond2_iff t, cond3_iff t]
    have := h.dq
    split_ifs <;> simp_all
  · unfold step3 step2 step1
    simp only [cond1_iff t, cond2_iff t, cond3_iff t]
    have := h.dkSum
    split_ifs <;> simp_all
  · unfold step3 step2 step1
    simp only [cond1_iff t, cond2_iff t, cond3_iff t]
    have := h.dvSum
    split_ifs <;> simp_all
  · intro g b hb
    have e : ∀ s : Bufs F, (step3 (grid0.coords t) (step2 (grid0.coords t) x6 x8 (step1 (grid0.coords t) s))).del
        = if t.val % 169 < 13 then setDelta x6 x8 (grid0.coords t 2) s.del else s.del := fun s => by
      unfold step3 step2 step1
      simp only [cond1_iff t, cond2_iff t, cond3_iff t]
      split_ifs <;> rfl
    rw [e, e]
    by_cases h2 : t.val % 169 < 13
    · rw [if_pos h2, if_pos h2]
      refine (hdD_setDelta x6 x8 (grid0.coords t 2) s.del g b).trans (Eq.trans ?_ (hdD_setDelta x6 x8 (grid0.coords t 2) s'.del g b).symm)
      by_cases hq : b = (show Fin 13 from grid0.coords t 2)
      · exact (if_pos hq).trans (if_pos hq).symm
      · refine (if_neg hq).trans (Eq.trans ?_ (if_neg hq).symm)
        refine h.del g b (hb.resolve_right fun hh => hq (Fin.ext (hh.2.trans (coord2 t).symm)))
    · rw [if_neg h2, if_neg h2]
      exact h.del g b (hb.resolve_right fun hh => h2 hh.1)

/-- The states before the last region. -/
theorem same_body (t : Fin cfg0.N) (x3 : Vec F S4x640x128 .bf16) (x4 : Vec F S4x640x128 .bf16) (x5 : Vec F S4x640x128 .bf16) (x6 : Vec F S4x640x64 .f32) (x7 : Vec F S4x1x640 .f32) (x8 : Vec F S4x640x64 .f32) {s s' : Bufs F} (h : Agree t.val s s') :
    ∃ r r' : Bufs F, Same (fun b => written t.val b ∨ (t.val % 169 < 13 ∧ b.val = t.val % 13)) r r'
      ∧ body (grid0.coords t) x3 x4 x5 x6 x7 x8 s = step6 (grid0.coords t) r ∧ body (grid0.coords t) x3 x4 x5 x6 x7 x8 s' = step6 (grid0.coords t) r' := by
  have hR : written t.val (grid0.coords t 2) ∨ (t.val % 169 < 13 ∧ (grid0.coords t 2).val = t.val % 13) := by
    have := coord2 t
    unfold written; omega
  exact ⟨_, _, step5_same _ _ _ _ _ _ hR (step4_same _ _ _ _ _ _ hR (steps123_same t x6 x8 h)), rfl, rfl⟩

/-- One run of the body keeps the agreement. -/
theorem agree_body (t : Fin cfg0.N) (x3 : Vec F S4x640x128 .bf16) (x4 : Vec F S4x640x128 .bf16) (x5 : Vec F S4x640x128 .bf16) (x6 : Vec F S4x640x64 .f32) (x7 : Vec F S4x1x640 .f32) (x8 : Vec F S4x640x64 .f32) {s s' : Bufs F} (h : Agree t.val s s') :
    Agree (t.val + 1) (body (grid0.coords t) x3 x4 x5 x6 x7 x8 s) (body (grid0.coords t) x3 x4 x5 x6 x7 x8 s') := by
  obtain ⟨r, r', hs, e, e'⟩ := same_body t x3 x4 x5 x6 x7 x8 h
  rw [e, e']
  refine ⟨fun _ => ?_, fun _ => ?_, fun _ => ?_, fun g b hb => ?_⟩ <;> unfold step6
  · split_ifs <;> exact hs.dq
  · split_ifs <;> exact hs.dkSum
  · split_ifs <;> exact hs.dvSum
  · have hb' : written t.val b ∨ (t.val % 169 < 13 ∧ b.val = t.val % 13) := by
      have := b.isLt
      unfold written at hb ⊢; omega
    split_ifs <;> exact hs.del g b hb'

theorem dq_body (t : Fin cfg0.N) (x3 : Vec F S4x640x128 .bf16) (x4 : Vec F S4x640x128 .bf16) (x5 : Vec F S4x640x128 .bf16) (x6 : Vec F S4x640x64 .f32) (x7 : Vec F S4x1x640 .f32) (x8 : Vec F S4x640x64 .f32) {s s' : Bufs F} (h : Agree t.val s s') :
    (body (grid0.coords t) x3 x4 x5 x6 x7 x8 s).dq = (body (grid0.coords t) x3 x4 x5 x6 x7 x8 s').dq := by
  obtain ⟨r, r', hs, e, e'⟩ := same_body t x3 x4 x5 x6 x7 x8 h
  rw [e, e']; unfold step6
  split_ifs <;> exact hs.dq

theorem dk_body (t : Fin cfg0.N) (h6 : k0_cond6 (grid0.coords t) = 1#1) (x3 : Vec F S4x640x128 .bf16) (x4 : Vec F S4x640x128 .bf16) (x5 : Vec F S4x640x128 .bf16) (x6 : Vec F S4x640x64 .f32) (x7 : Vec F S4x1x640 .f32) (x8 : Vec F S4x640x64 .f32) {s s' : Bufs F} (h : Agree t.val s s') :
    (body (grid0.coords t) x3 x4 x5 x6 x7 x8 s).dk = (body (grid0.coords t) x3 x4 x5 x6 x7 x8 s').dk := by
  obtain ⟨r, r', hs, e, e'⟩ := same_body t x3 x4 x5 x6 x7 x8 h
  rw [e, e']; unfold step6
  rw [if_pos h6, if_pos h6]; exact congrArg k0_pay9 hs.dkSum

theorem dv_body (t : Fin cfg0.N) (h6 : k0_cond6 (grid0.coords t) = 1#1) (x3 : Vec F S4x640x128 .bf16) (x4 : Vec F S4x640x128 .bf16) (x5 : Vec F S4x640x128 .bf16) (x6 : Vec F S4x640x64 .f32) (x7 : Vec F S4x1x640 .f32) (x8 : Vec F S4x640x64 .f32) {s s' : Bufs F} (h : Agree t.val s s') :
    (body (grid0.coords t) x3 x4 x5 x6 x7 x8 s).dv = (body (grid0.coords t) x3 x4 x5 x6 x7 x8 s').dv := by
  obtain ⟨r, r', hs, e, e'⟩ := same_body t x3 x4 x5 x6 x7 x8 h
  rw [e, e']; unfold step6
  rw [if_pos h6, if_pos h6]; exact hs.dvSum

/-- Where the last region does not run, the blocks of dk and dv are left as found. -/
theorem dk_body_of_not (i : grid0.Coords) (h6 : ¬ k0_cond6 i = 1#1) (x3 : Vec F S4x640x128 .bf16) (x4 : Vec F S4x640x128 .bf16) (x5 : Vec F S4x640x128 .bf16) (x6 : Vec F S4x640x64 .f32) (x7 : Vec F S4x1x640 .f32) (x8 : Vec F S4x640x64 .f32) (s : Bufs F) : (body i x3 x4 x5 x6 x7 x8 s).dk = s.dk := by
  unfold body step6; rw [if_neg h6]
  unfold step5 step4 step3 step2 step1
  split_ifs <;> rfl
theorem dv_body_of_not (i : grid0.Coords) (h6 : ¬ k0_cond6 i = 1#1) (x3 : Vec F S4x640x128 .bf16) (x4 : Vec F S4x640x128 .bf16) (x5 : Vec F S4x640x128 .bf16) (x6 : Vec F S4x640x64 .f32) (x7 : Vec F S4x1x640 .f32) (x8 : Vec F S4x640x64 .f32) (s : Bufs F) : (body i x3 x4 x5 x6 x7 x8 s).dv = s.dv := by
  unfold body step6; rw [if_neg h6]
  unfold step5 step4 step3 step2 step1
  split_ifs <;> rfl

/-- Where no pair of blocks is computed, dq is left as found. -/
theorem dq_body_of_not (i : grid0.Coords) (h1 : ¬ k0_cond1 i = 1#1) (h4 : ¬ k0_cond4 i = 1#1) (h5 : ¬ k0_cond5 i = 1#1) (x3 : Vec F S4x640x128 .bf16) (x4 : Vec F S4x640x128 .bf16) (x5 : Vec F S4x640x128 .bf16) (x6 : Vec F S4x640x64 .f32) (x7 : Vec F S4x1x640 .f32) (x8 : Vec F S4x640x64 .f32) (s : Bufs F) :
    (body i x3 x4 x5 x6 x7 x8 s).dq = s.dq := by
  unfold body step5 step4; rw [if_neg h5, if_neg h4]
  unfold step6 step3 step2 step1; rw [if_neg h1]
  split_ifs <;> rfl

end Cert.KernelIdeal.Body

end
-- ==== Proof.IdealFrame.lean ====
/- The region's run: the proof data of the pipeline, the body obligation at every point, the launch, and the frame. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Tactic
public import Idealize.ShloMosaic.Lib.Claim
public import proofs.«01_k».proof.Proof.IdealState

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

open Cert.Rows
open Idealize.ShloMosaic.Pipeline (Dat Cfg Window BodyObligation cellOf)

variable (m : (ℓ : Loc nD τ sig) → Buf (Elt F) ℓ) (ρ : Dev nD → PrngReg)

abbrev ms0 (t : Fin cfg0.N) : Memref sig .tc .vmem S4x640x128 .bf16 := win0_0.stage (cfg0.slots t 0)
abbrev ms1 (t : Fin cfg0.N) : Memref sig .tc .vmem S4x640x128 .bf16 := win0_1.stage (cfg0.slots t 1)
abbrev ms2 (t : Fin cfg0.N) : Memref sig .tc .vmem S4x640x128 .bf16 := win0_2.stage (cfg0.slots t 2)
abbrev ms3 (t : Fin cfg0.N) : Memref sig .tc .vmem S4x640x64 .f32 := win0_3.stage (cfg0.slots t 3)
abbrev ms4 (t : Fin cfg0.N) : Memref sig .tc .vmem S4x1x640 .f32 := win0_4.stage (cfg0.slots t 4)
abbrev ms5 (t : Fin cfg0.N) : Memref sig .tc .vmem S4x640x64 .f32 := win0_5.stage (cfg0.slots t 5)
abbrev ms6 (t : Fin cfg0.N) : Memref sig .tc .vmem S4x8320x128 .f32 := win0_6.stage (cfg0.slots t 6)
abbrev ms7 (t : Fin cfg0.N) : Memref sig .tc .vmem S4x640x128 .f32 := win0_7.stage (cfg0.slots t 7)
abbrev ms8 (t : Fin cfg0.N) : Memref sig .tc .vmem S4x640x64 .f32 := win0_8.stage (cfg0.slots t 8)
abbrev sc0 : Memref sig .tc .vmem S4x640x128 .f32 := Memref.whole cc0_scratch0
abbrev sc1 : Memref sig .tc .vmem S4x640x64 .f32 := Memref.whole cc0_scratch1
abbrev sc2 : Memref sig .tc .vmem S4x13x1x640 .f32 := Memref.whole cc0_scratch2

/-- What the buffers hold before point `n`, from a start of zeros. -/
def S (c : Dev nD) : ℕ → Bufs F
  | 0 => ⟨k0_pay1, k0_pay4, k0_pay5, k0_pay4, k0_pay5, fun _ => Scalar.ofBits .f32 0x00000000#32⟩
  | n + 1 => if h : n < cfg0.N then (fun t : Fin cfg0.N => body (grid0.coords t) (iblk m c 0 t) (iblk m c 1 t) (iblk m c 2 t) (iblk m c 3 t) (iblk m c 4 t) (iblk m c 5 t) (S c n)) ⟨n, h⟩ else S c n

theorem S_succ (c : Dev nD) (t : Fin cfg0.N) : S m c (t.val + 1) = body (grid0.coords t) (iblk m c 0 t) (iblk m c 1 t) (iblk m c 2 t) (iblk m c 3 t) (iblk m c 4 t) (iblk m c 5 t) (S m c t.val) := by
  rw [S, dif_pos t.isLt]

/-- Between the points: the scratch buffers at contents that agree with `S` on what later points read. -/
def Inv (c : Dev nD) (n : ℕ) : sProp 𝕄 :=
  iprop(∃ (d0 : Vec F S4x640x128 .f32) (d1 : Vec F S4x640x64 .f32) (d2 : Vec F S4x13x1x640 .f32),
    ⌜(n % 13 ≠ 0 → d0 = (S m c n).dkSum) ∧ (n % 13 ≠ 0 → d1 = (S m c n).dvSum) ∧ ∀ h b, written n b → hdD d2 h b = hdD (S m c n).del h b⌝
    ∗ owns (c : Thread nD τ) sc0 fullShare d0 ∗ owns (c : Thread nD τ) sc1 fullShare d1 ∗ owns (c : Thread nD τ) sc2 fullShare d2
    ∗ (∃ r, prngReg c r))

/-- The proof data: an input's buffer stays at its block, an output's holds its component of `S` after the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (S m c (t.val + 1)).dq
    | ⟨7, _⟩ => (S m c (t.val + 1)).dk
    | ⟨8, _⟩ => (S m c (t.val + 1)).dv
  Φ t := Inv m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (S m c (t.val + 1)).dq := by dsimp only [dats]
theorem after7 (c : Dev nD) (t : Fin cfg0.N) : (dats m 0 c).after 7 t = (S m c (t.val + 1)).dk := by dsimp only [dats]
theorem after8 (c : Dev nD) (t : Fin cfg0.N) : (dats m 0 c).after 8 t = (S m c (t.val + 1)).dv := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- Where a point stores nothing to dq's buffer. -/
theorem idle6 : ∀ t : Fin cfg0.N, cfg0.idle 6 (grid0.coords t) = true ↔
    (¬ k0_cond1 (grid0.coords t) = 1#1 ∧ ¬ k0_cond4 (grid0.coords t) = 1#1 ∧ ¬ k0_cond5 (grid0.coords t) = 1#1) := fun t => by
  show (!(k0_cond1 (grid0.coords t) == 1#1) && !(k0_cond4 (grid0.coords t) == 1#1) && !(k0_cond5 (grid0.coords t) == 1#1)) = true ↔ _
  simp [and_assoc]
theorem idle7 : ∀ t : Fin cfg0.N, cfg0.idle 7 (grid0.coords t) = true ↔ ¬ k0_cond6 (grid0.coords t) = 1#1 := fun t => by
  show (!(k0_cond6 (grid0.coords t) == 1#1)) = true ↔ _
  simp
theorem idle8 : ∀ t : Fin cfg0.N, cfg0.idle 8 (grid0.coords t) = true ↔ ¬ k0_cond6 (grid0.coords t) = 1#1 := fun t => by
  show (!(k0_cond6 (grid0.coords t) == 1#1)) = true ↔ _
  simp

theorem flush6_false (t : Fin cfg0.N) (h : t.val % 169 ≠ 168) : (cfg0.win 6).flush t = false :=
  Bool.eq_false_iff.mpr fun hf => h ((flush0_6 t).mp hf)

/-- dq's buffer keeps what the point before left, through the points that store nothing to it. -/
theorem before6 (c : Dev nD) : ∀ (n : ℕ) (hn : n < cfg0.N) (d), n % 169 ≠ 0 → (dats m 0 c).before 6 ⟨n, hn⟩ d = (S m c n).dq := by
  intro n
  induction n with
  | zero => intro _ _ h; exact absurd rfl h
  | succ n ih =>
    intro hn d h
    have hn' : n < cfg0.N := by omega
    have hfl : (cfg0.win 6).flush ⟨n, hn'⟩ = false := flush6_false ⟨n, hn'⟩ (by show n % 169 ≠ 168; omega)
    have hfe : (cfg0.win 6).fetch ⟨n + 1, hn⟩ = false := Pipeline.Window.fetch_out (cfg0.win 6) rfl _
    have e : (dats m 0 c).before 6 ⟨n + 1, hn⟩ d = (dats m 0 c).left 6 ⟨n, hn'⟩ d := by
      have hn'' : (⟨(n + 1) - 1, by omega⟩ : Fin cfg0.N) = ⟨n, hn'⟩ := Fin.ext (by simp)
      unfold Dat.before Dat.left
      simp only [hfe, Nat.add_sub_cancel, hfl, Dat.found_eq_before]
      rfl
    rw [e]
    unfold Dat.left
    cases hi : cfg0.idle 6 (cfg0.grid.coords ⟨n, hn'⟩)
    · show (cfg0.win 6).fill _ _ _ = _
      exact after6 m c ⟨n, hn'⟩
    · obtain ⟨h1, h4, h5⟩ := (idle6 ⟨n, hn'⟩).mp hi
      have h1' : n % 169 ≠ 0 := fun hz => h1 ((cond1_iff ⟨n, hn'⟩).mpr hz)
      refine (ih hn' d h1').trans ?_
      exact ((congrArg Bufs.dq (S_succ m c ⟨n, hn'⟩)).trans (dq_body_of_not _ h1 h4 h5 _ _ _ _ _ _ _)).symm

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves0 (c : Dev nD) (t : Fin cfg0.N) : (dats m 0 c).leavesExact 0 t = owns (c : Thread nD τ) (ms0 t) fullShare (iblk m c 0 t) :=
  congrArg (fun X => owns (c : Thread nD τ) (ms0 t) fullShare X) (after0 m c t)
theorem leaves1 (c : Dev nD) (t : Fin cfg0.N) : (dats m 0 c).leavesExact 1 t = owns (c : Thread nD τ) (ms1 t) fullShare (iblk m c 1 t) :=
  congrArg (fun X => owns (c : Thread nD τ) (ms1 t) fullShare X) (after1 m c t)
theorem leaves2 (c : Dev nD) (t : Fin cfg0.N) : (dats m 0 c).leavesExact 2 t = owns (c : Thread nD τ) (ms2 t) fullShare (iblk m c 2 t) :=
  congrArg (fun X => owns (c : Thread nD τ) (ms2 t) fullShare X) (after2 m c t)
theorem leaves3 (c : Dev nD) (t : Fin cfg0.N) : (dats m 0 c).leavesExact 3 t = owns (c : Thread nD τ) (ms3 t) fullShare (iblk m c 3 t) :=
  congrArg (fun X => owns (c : Thread nD τ) (ms3 t) fullShare X) (after3 m c t)
theorem leaves4 (c : Dev nD) (t : Fin cfg0.N) : (dats m 0 c).leavesExact 4 t = owns (c : Thread nD τ) (ms4 t) fullShare (iblk m c 4 t) :=
  congrArg (fun X => owns (c : Thread nD τ) (ms4 t) fullShare X) (after4 m c t)
theorem leaves5 (c : Dev nD) (t : Fin cfg0.N) : (dats m 0 c).leavesExact 5 t = owns (c : Thread nD τ) (ms5 t) fullShare (iblk m c 5 t) :=
  congrArg (fun X => owns (c : Thread nD τ) (ms5 t) fullShare X) (after5 m c t)

/-- The real contents before point `t` agree with `S`. -/
theorem agree_at (c : Dev nD) (t : Fin cfg0.N) (d6 d7 d8 d0 d1 d2)
    (h : (t.val % 13 ≠ 0 → d0 = (S m c t.val).dkSum) ∧ (t.val % 13 ≠ 0 → d1 = (S m c t.val).dvSum) ∧ ∀ h b, written t.val b → hdD d2 h b = hdD (S m c t.val).del h b) :
    Agree t.val (⟨(dats m 0 c).before 6 t d6, d7, d8, d0, d1, d2⟩ : Bufs F) (S m c t.val) :=
  ⟨fun hz => before6 m c t.val t.isLt d6 hz, h.1, h.2.1, h.2.2⟩

/-- What the body leaves in dq's buffer is what the pipeline's data says. -/
theorem leave6 (c : Dev nD) (t : Fin cfg0.N) (d6 : Vec F S4x8320x128 .f32) {s : Bufs F} (hs : s.dq = (dats m 0 c).before 6 t d6) (h : Agree t.val s (S m c t.val)) :
    owns (c : Thread nD τ) (ms6 t) fullShare (body (grid0.coords t) (iblk m c 0 t) (iblk m c 1 t) (iblk m c 2 t) (iblk m c 3 t) (iblk m c 4 t) (iblk m c 5 t) s).dq ⊢ (dats m 0 c).leavesExact 6 t := by
  have e := (dq_body t (iblk m c 0 t) (iblk m c 1 t) (iblk m c 2 t) (iblk m c 3 t) (iblk m c 4 t) (iblk m c 5 t) h).trans (congrArg Bufs.dq (S_succ m c t)).symm
  have ha := after6 m c t
  cases hi : cfg0.idle 6 (cfg0.grid.coords t)
  · rw [e, ← ha]
    unfold Dat.leavesExact; rw [hi]
  · obtain ⟨h1, h4, h5⟩ := (idle6 t).mp hi
    have hf : (cfg0.win 6).flush t = false := flush6_false t fun hh => h4 ((cond4_iff t).mpr (by omega))
    rw [Dat.leavesExact_idle (dats m 0 c) 6 t hi hf, dq_body_of_not _ h1 h4 h5, hs]
    iintro H; iexists d6; iexact H

theorem leave7 (c : Dev nD) (t : Fin cfg0.N) (d7 : Vec F S4x640x128 .f32) {s : Bufs F} (hs : s.dk = (dats m 0 c).before 7 t d7) (h : Agree t.val s (S m c t.val)) :
    owns (c : Thread nD τ) (ms7 t) fullShare (body (grid0.coords t) (iblk m c 0 t) (iblk m c 1 t) (iblk m c 2 t) (iblk m c 3 t) (iblk m c 4 t) (iblk m c 5 t) s).dk ⊢ (dats m 0 c).leavesExact 7 t := by
  have ha := after7 m c t
  cases hi : cfg0.idle 7 (cfg0.grid.coords t)
  · have h6 : k0_cond6 (grid0.coords t) = 1#1 := by
      by_contra hh; rw [(idle7 t).mpr hh] at hi; cases hi
    rw [(dk_body t h6 (iblk m c 0 t) (iblk m c 1 t) (iblk m c 2 t) (iblk m c 3 t) (iblk m c 4 t) (iblk m c 5 t) h).trans (congrArg Bufs.dk (S_succ m c t)).symm, ← ha]
    unfold Dat.leavesExact; rw [hi]
  · have h6 := (idle7 t).mp hi
    have hf : (cfg0.win 7).flush t = false := Bool.eq_false_iff.mpr fun hf => h6 ((cond6_iff t).mpr ((flush0_7 t).mp hf))
    rw [Dat.leavesExact_idle (dats m 0 c) 7 t hi hf, dk_body_of_not _ h6, hs]
    iintro H; iexists d7; iexact H

theorem leave8 (c : Dev nD) (t : Fin cfg0.N) (d8 : Vec F S4x640x64 .f32) {s : Bufs F} (hs : s.dv = (dats m 0 c).before 8 t d8) (h : Agree t.val s (S m c t.val)) :
    owns (c : Thread nD τ) (ms8 t) fullShare (body (grid0.coords t) (iblk m c 0 t) (iblk m c 1 t) (iblk m c 2 t) (iblk m c 3 t) (iblk m c 4 t) (iblk m c 5 t) s).dv ⊢ (dats m 0 c).leavesExact 8 t := by
  have ha := after8 m c t
  cases hi : cfg0.idle 8 (cfg0.grid.coords t)
  · have h6 : k0_cond6 (grid0.coords t) = 1#1 := by
      by_contra hh; rw [(idle8 t).mpr hh] at hi; cases hi
    rw [(dv_body t h6 (iblk m c 0 t) (iblk m c 1 t) (iblk m c 2 t) (iblk m c 3 t) (iblk m c 4 t) (iblk m c 5 t) h).trans (congrArg Bufs.dv (S_succ m c t)).symm, ← ha]
    unfold Dat.leavesExact; rw [hi]
  · have h6 := (idle8 t).mp hi
    have hf : (cfg0.win 8).flush t = false := Bool.eq_false_iff.mpr fun hf => h6 ((cond6_iff t).mpr ((flush0_8 t).mp hf))
    rw [Dat.leavesExact_idle (dats m 0 c) 8 t hi hf, dv_body_of_not _ h6, hs]
    iintro H; iexists d8; iexact H

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4, before5, leaves0, leaves1, leaves2, leaves3, leaves4, leaves5]
  rw [show (dats m 0 c).owesAt () t.succ = (dats m 0 c).owesAt () t.castSucc from rfl]
  rw [show (dats m 0 c).Φ t.succ = Inv m c (t.val + 1) from rfl, show (dats m 0 c).Φ t.castSucc = Inv m c t.val from rfl]
  unfold Inv
  iintro ⟨⟨%d0, %d1, %d2, %hd, HS0, HS1, HS2, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
  have ha := agree_at m c t e6 ((dats m 0 c).before 7 t e7) ((dats m 0 c).before 8 t e8) d0 d1 d2 hd
  have hb := agree_body t (iblk m c 0 t) (iblk m c 1 t) (iblk m c 2 t) (iblk m c 3 t) (iblk m c 4 t) (iblk m c 5 t) ha
  have bw := body_wp (F := F) c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) sc0 (Memref.isWhole_whole cc0_scratch0) sc1 (Memref.isWhole_whole cc0_scratch1) sc2 (Memref.isWhole_whole cc0_scratch2) (iblk m c 0 t) (iblk m c 1 t) (iblk m c 2 t) (iblk m c 3 t) (iblk m c 4 t) (iblk m c 5 t)
    (⟨(dats m 0 c).before 6 t e6, (dats m 0 c).before 7 t e7, (dats m 0 c).before 8 t e8, d0, d1, d2⟩ : Bufs F) Set.univ (fun _ => bodyPost m c t)
  have l6 := leave6 m c t e6 rfl ha
  have l7 := leave7 m c t e7 rfl ha
  have l8 := leave8 m c t e8 rfl ha
  rw [← S_succ m c t] at hb
  unfold bodyPost at bw
  simp only [leaves0, leaves1, leaves2, leaves3, leaves4, leaves5] at bw
  rw [show (dats m 0 c).owesAt () t.succ = (dats m 0 c).owesAt () t.castSucc from rfl, show (dats m 0 c).Φ t.succ = Inv m c (t.val + 1) from rfl] at bw
  unfold Own Inv at bw
  iapply bw
  isplitl [H0 H1 H2 H3 H4 H5 H6 H7 H8 HS0 HS1 HS2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iexact HS2
  iintro ⟨G0, G1, G2, G3, G4, G5, G6, G7, G8, GS0, GS1, GS2⟩
  isplitl [GS0 GS1 GS2 Hg]
  · iexists _, _, _
    isplitr [GS0 GS1 GS2 Hg]
    · ipureintro; exact ⟨hb.dkSum, hb.dvSum, hb.del⟩
    isplitl [GS0]; · iexact GS0
    isplitl [GS1]; · iexact GS1
    isplitl [GS2]; · iexact GS2
    iexact Hg
  isplitl [Ho]; · iexact Ho
  isplitl [G0]; · iexact G0
  isplitl [G1]; · iexact G1
  isplitl [G2]; · iexact G2
  isplitl [G3]; · iexact G3
  isplitl [G4]; · iexact G4
  isplitl [G5]; · iexact G5
  isplitl [G6]; · iapply l6; iexact G6
  isplitl [G7]; · iapply l7; iexact G7
  iapply l8; iexact G8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

theorem hin (c : Dev nD) : Pipeline.ΦA spec0 c ⊢ (dats m 0 c).Φ 0 := by
  rw [show (dats m 0 c).Φ 0 = Inv m c 0 from rfl, PhiA_eq]
  unfold Inv
  iintro ⟨⟨⟨%d0, H0⟩, ⟨%d1, H1⟩, ⟨%d2, H2⟩⟩, Hg⟩
  iexists d0, d1, d2
  isplitr [H0 H1 H2 Hg]
  · ipureintro
    exact ⟨fun h => absurd rfl h, fun h => absurd rfl h, fun _ b hb => absurd hb (by unfold written; omega)⟩
  isplitl [H0]; · iexact H0
  isplitl [H1]; · iexact H1
  isplitl [H2]; · iexact H2
  iexact Hg

theorem hout (c : Dev nD) : (dats m 0 c).Φ (Fin.last cfg0.N) ⊢ Pipeline.ΦA spec0 c := by
  rw [show (dats m 0 c).Φ (Fin.last cfg0.N) = Inv m c (Fin.last cfg0.N).val from rfl, PhiA_eq]
  unfold Inv
  iintro ⟨%d0, %d1, %d2, %hd, H0, H1, H2, Hg⟩
  isplitl [H0 H1 H2]
  · isplitl [H0]; · iexists d0; iexact H0
    isplitl [H1]; · iexists d1; iexact H1
    iexists d2; iexact H2
  iexact Hg

set_option backward.isDefEq.respectTransparency.types false in
/-- The run: every execution ends, with every array of the pipeline at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.BitsRead1.lean ====
/- What region 1 of the body leaves in the buffers it stores into, read back. -/
module

public import proofs.«01_k».proof.Proof.Gen.Kernel.Frame
public import proofs.«01_k».proof.Proof.Gen.Kernel.Skeleton
public import Idealize.ShloMosaic.Lib.Pipeline.FrameBody
public import Idealize.ShloMosaic.Lib.Tactic
public import proofs.«01_k».proof.Proof.BitsRun1
public import proofs.«01_k».proof.Proof.BitsStep

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

open Cert.Rows

set_option maxHeartbeats 4000000 in
theorem run1_read9 (c : Dev nD) (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) (x3 : Vec F S4x640x128 .bf16) (x4 : Vec F S4x640x128 .bf16) (x5 : Vec F S4x640x128 .bf16) (x6 : Vec F S4x640x64 .f32) (x7 : Vec F S4x1x640 .f32) (x8 : Vec F S4x640x64 .f32) (x9 : Vec F S4x8320x128 .f32) (x10 : Vec F S4x640x128 .f32) (x11 : Vec F S4x640x64 .f32) (x12 : Vec F S4x640x128 .f32) (x13 : Vec F S4x640x64 .f32) (x14 : Vec F S4x13x1x640 .f32) (h : k0_cond1 i = 1#1) :
    arg9.view.read (Elt F) (arg9.view.writes (Elt F) (harg9.unread x9) (run1 c i arg3 harg3 arg4 harg4 arg5 harg5 arg6 harg6 arg7 harg7 arg8 harg8 arg9 harg9 arg10 harg10 arg11 harg11 arg12 harg12 arg13 harg13 arg14 harg14 x3 x4 x5 x6 x7 x8 x9 x10 x11 x12 x13 x14 h).1) = k0_pay1 := by
  unfold run1; dsimp only []
  exact read_whole arg9.view _ _ (by decide) _ _

end Cert.Kernel.Body

end
-- ==== Proof.BitsRead3.lean ====
/- What region 3 of the body leaves in the buffers it stores into, read back. -/
module

public import proofs.«01_k».proof.Proof.Gen.Kernel.Frame
public import proofs.«01_k».proof.Proof.Gen.Kernel.Skeleton
public import Idealize.ShloMosaic.Lib.Pipeline.FrameBody
public import Idealize.ShloMosaic.Lib.Tactic
public import proofs.«01_k».proof.Proof.BitsRun3
public import proofs.«01_k».proof.Proof.BitsStep

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

open Cert.Rows

set_option maxHeartbeats 4000000 in
theorem run3_read12 (c : Dev nD) (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) (x3 : Vec F S4x640x128 .bf16) (x4 : Vec F S4x640x128 .bf16) (x5 : Vec F S4x640x128 .bf16) (x6 : Vec F S4x640x64 .f32) (x7 : Vec F S4x1x640 .f32) (x8 : Vec F S4x640x64 .f32) (x9 : Vec F S4x8320x128 .f32) (x10 : Vec F S4x640x128 .f32) (x11 : Vec F S4x640x64 .f32) (x12 : Vec F S4x640x128 .f32) (x13 : Vec F S4x640x64 .f32) (x14 : Vec F S4x13x1x640 .f32) (h : (Scalar.cmpi .ne (Scalar.extui (Scalar.cmpi .eq (BitVec.ofNat 32 (i 2).val) 0#32)) 0#32 : BitVec 1) = 1#1) :
    arg12.view.read (Elt F) (arg12.view.writes (Elt F) (harg12.unread x12) (run3 c i arg3 harg3 arg4 harg4 arg5 harg5 arg6 harg6 arg7 harg7 arg8 harg8 arg9 harg9 arg10 harg10 arg11 harg11 arg12 harg12 arg13 harg13 arg14 harg14 x3 x4 x5 x6 x7 x8 x9 x10 x11 x12 x13 x14 h).1) = k0_pay4 := by
  unfold run3; dsimp only []
  exact read_whole arg12.view _ _ (by decide) _ _

set_option maxHeartbeats 4000000 in
theorem run3_read13 (c : Dev nD) (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) (x3 : Vec F S4x640x128 .bf16) (x4 : Vec F S4x640x128 .bf16) (x5 : Vec F S4x640x128 .bf16) (x6 : Vec F S4x640x64 .f32) (x7 : Vec F S4x1x640 .f32) (x8 : Vec F S4x640x64 .f32) (x9 : Vec F S4x8320x128 .f32) (x10 : Vec F S4x640x128 .f32) (x11 : Vec F S4x640x64 .f32) (x12 : Vec F S4x640x128 .f32) (x13 : Vec F S4x640x64 .f32) (x14 : Vec F S4x13x1x640 .f32) (h : (Scalar.cmpi .ne (Scalar.extui (Scalar.cmpi .eq (BitVec.ofNat 32 (i 2).val) 0#32)) 0#32 : BitVec 1) = 1#1) :
    arg13.view.read (Elt F) (arg13.view.writes (Elt F) (harg13.unread x13) (run3 c i arg3 harg3 arg4 harg4 arg5 harg5 arg6 harg6 arg7 harg7 arg8 harg8 arg9 harg9 arg10 harg10 arg11 harg11 arg12 harg12 arg13 harg13 arg14 harg14 x3 x4 x5 x6 x7 x8 x9 x10 x11 x12 x13 x14 h).2.1) = k0_pay5 := by
  unfold run3; dsimp only []
  exact read_whole arg13.view _ _ (by decide) _ _

end Cert.Kernel.Body

end
-- ==== Proof.BitsRead6.lean ====
/- What region 6 of the body leaves in the buffers it stores into, read back. -/
module

public import proofs.«01_k».proof.Proof.Gen.Kernel.Frame
public import proofs.«01_k».proof.Proof.Gen.Kernel.Skeleton
public import Idealize.ShloMosaic.Lib.Pipeline.FrameBody
public import Idealize.ShloMosaic.Lib.Tactic
public import proofs.«01_k».proof.Proof.BitsRun6
public import proofs.«01_k».proof.Proof.BitsStep

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

open Cert.Rows

set_option maxHeartbeats 4000000 in
theorem run6_read10 (c : Dev nD) (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) (x3 : Vec F S4x640x128 .bf16) (x4 : Vec F S4x640x128 .bf16) (x5 : Vec F S4x640x128 .bf16) (x6 : Vec F S4x640x64 .f32) (x7 : Vec F S4x1x640 .f32) (x8 : Vec F S4x640x64 .f32) (x9 : Vec F S4x8320x128 .f32) (x10 : Vec F S4x640x128 .f32) (x11 : Vec F S4x640x64 .f32) (x12 : Vec F S4x640x128 .f32) (x13 : Vec F S4x640x64 .f32) (x14 : Vec F S4x13x1x640 .f32) (h : k0_cond6 i = 1#1) :
    arg10.view.read (Elt F) (arg10.view.writes (Elt F) (harg10.unread x10) (run6 c i arg3 harg3 arg4 harg4 arg5 harg5 arg6 harg6 arg7 harg7 arg8 harg8 arg9 harg9 arg10 harg10 arg11 harg11 arg12 harg12 arg13 harg13 arg14 harg14 x3 x4 x5 x6 x7 x8 x9 x10 x11 x12 x13 x14 h).1) = k0_pay9 x12 := by
  unfold run6; dsimp only []
  exact (read_whole arg10.view _ _ (by decide) _ _).trans (congrArg _ (readAt_whole (harg12.read_unread x12) _ (by decide) _))

set_option maxHeartbeats 4000000 in
theorem run6_read11 (c : Dev nD) (i : grid0.Coords) (arg3 : Memref sig .tc .vmem S4x640x128 .bf16) (harg3 : arg3.IsWhole) (arg4 : Memref sig .tc .vmem S4x640x128 .bf16) (harg4 : arg4.IsWhole) (arg5 : Memref sig .tc .vmem S4x640x128 .bf16) (harg5 : arg5.IsWhole) (arg6 : Memref sig .tc .vmem S4x640x64 .f32) (harg6 : arg6.IsWhole) (arg7 : Memref sig .tc .vmem S4x1x640 .f32) (harg7 : arg7.IsWhole) (arg8 : Memref sig .tc .vmem S4x640x64 .f32) (harg8 : arg8.IsWhole) (arg9 : Memref sig .tc .vmem S4x8320x128 .f32) (harg9 : arg9.IsWhole) (arg10 : Memref sig .tc .vmem S4x640x128 .f32) (harg10 : arg10.IsWhole) (arg11 : Memref sig .tc .vmem S4x640x64 .f32) (harg11 : arg11.IsWhole) (arg12 : Memref sig .tc .vmem S4x640x128 .f32) (harg12 : arg12.IsWhole) (arg13 : Memref sig .tc .vmem S4x640x64 .f32) (harg13 : arg13.IsWhole) (arg14 : Memref sig .tc .vmem S4x13x1x640 .f32) (harg14 : arg14.IsWhole) (x3 : Vec F S4x640x128 .bf16) (x4 : Vec F S4x640x128 .bf16) (x5 : Vec F S4x640x128 .bf16) (x6 : Vec F S4x640x64 .f32) (x7 : Vec F S4x1x640 .f32) (x8 : Vec F S4x640x64 .f32) (x9 : Vec F S4x8320x128 .f32) (x10 : Vec F S4x640x128 .f32) (x11 : Vec F S4x640x64 .f32) (x12 : Vec F S4x640x128 .f32) (x13 : Vec F S4x640x64 .f32) (x14 : Vec F S4x13x1x640 .f32) (h : k0_cond6 i = 1#1) :
    arg11.view.read (Elt F) (arg11.view.writes (Elt F) (harg11.unread x11) (run6 c i arg3 harg3 arg4 harg4 arg5 harg5 arg6 harg6 arg7 harg7 arg8 harg8 arg9 harg9 arg10 harg10 arg11 harg11 arg12 harg12 arg13 harg13 arg14 harg14 x3 x4 x5 x6 x7 x8 x9 x10 x11 x12 x13 x14 h).2.1) = x13 := by
  unfold run6; dsimp only []
  exact (read_whole arg11.view _ _ (by decide) _ _).trans (readAt_whole (harg13.read_unread x13) _ (by decide) _)

end Cert.Kernel.Body

end
-- ==== Proof.Host.lean ====
/- The arrays that the call is given, as functions of the four arguments: the host's lines composed, operation for operation. -/
module

public import proofs.«01_k».proof.Proof.IdealFrame
public import Idealize.ShloMosaic.Lib.Pipeline.ValueKit

@[expose] public section

set_option maxRecDepth 16384

noncomputable section

namespace Cert.KernelIdeal.Host0

open Idealize.ShloMosaic Idealize.ShloMosaic.TcCoe Idealize.SL.Sem
open Cert.KernelIdeal Cert.KernelIdeal.Gen

section
variable (q k : FVec Ideal S8x8208x96 .f32) (v dO : FVec Ideal S8x8208x64 .f32)

/-- The masked, scaled scores. -/
def scores : FVec Ideal S8x8208x8208 .f32 :=
  select (cmpi .sle (iotaInDim S8x8208x8208 32 2) (iotaInDim S8x8208x8208 32 1))
    (mulf (Host.dotGeneral dot_S8x8208x96_S8x8208x96_S8x8208x8208_2_2_1_1_0_0 none q k)
      (broadcastInDim S8x8208x8208 ![] bcast_S_S8x8208x8208 (constant S_ .f32 0x3DD105EC#32)))
    (broadcastInDim S8x8208x8208 ![] bcast_S_S8x8208x8208 (id (constant S_ .f32 0xFF800000#32)))

/-- The largest score of a row. -/
def rowMax : FVec Ideal S8x8208 .f32 :=
  Host.reduce FloatOps.maximumf (scores q k) (constant S_ .f32 0xFF800000#32) reducesTo_S8x8208x8208_S8x8208_d2 h_S_

/-- The same as a column. -/
def rowMax1 : FVec Ideal S8x8208x1 .f32 := broadcastInDim S8x8208x1 ![0, 1] bcast_S8x8208_S8x8208x1_0_1 (rowMax q k)

/-- The exponentials of the scores less their row's largest. -/
def expo : FVec Ideal S8x8208x8208 .f32 :=
  Host.exp (subf (scores q k) (broadcastInDim S8x8208x8208 ![0, 1, 2] bcast_S8x8208x1_S8x8208x8208_0_1_2 (rowMax1 q k)))

/-- Their sums along a row, as a column. -/
def rowSum1 : FVec Ideal S8x8208x1 .f32 :=
  broadcastInDim S8x8208x1 ![0, 1] bcast_S8x8208_S8x8208x1_0_1
    (Host.reduceAdd (expo q k) (constant S_ .f32 0x00000000#32) reducesTo_S8x8208x8208_S8x8208_d2 h_S_)

/-- The attention's output. -/
def out : FVec Ideal S8x8208x64 .f32 :=
  Host.dotGeneral dot_S8x8208x8208_S8x8208x64_S8x8208x64_2_1_1_2_0_0 none
    (Host.divf (expo q k) (broadcastInDim S8x8208x8208 ![0, 1, 2] bcast_S8x8208x1_S8x8208x8208_0_1_2 (rowSum1 q k))) v

/-- The rows' log-sums. -/
def logSum : FVec Ideal S8x1x8208 .f32 :=
  shapeCast S8x1x8208 (addf (rowMax1 q k) (Host.log (rowSum1 q k))) shapeCasts_S8x8208x1_S8x1x8208

/-- 112 rows of zeros in front, 32 lanes of zeros behind. -/
def padQ : FVec Ideal S8x8320x128 .f32 :=
  pad S8x8320x128 ![0, 112, 0] ![0, 0, 32] ![0, 0, 0] q (constant S_ .f32 0x00000000#32) pads_S8x8208x96_S8x8320x128_000_11200_0320 h_S_

/-- 112 rows of zeros in front, 64 lanes of zeros behind. -/
def padV : FVec Ideal S8x8320x128 .f32 :=
  pad S8x8320x128 ![0, 112, 0] ![0, 0, 64] ![0, 0, 0] v (constant S_ .f32 0x00000000#32) pads_S8x8208x64_S8x8320x128_000_11200_0640 h_S_

/-- 112 rows of zeros in front. -/
def padO : FVec Ideal S8x8320x64 .f32 :=
  pad S8x8320x64 ![0, 112, 0] ![0, 0, 0] ![0, 0, 0] v (constant S_ .f32 0x00000000#32) pads_S8x8208x64_S8x8320x64_000_11200_000 h_S_

/-- 112 lanes of zeros in front. -/
def padL (l : FVec Ideal S8x1x8208 .f32) : FVec Ideal S8x1x8320 .f32 :=
  pad S8x1x8320 ![0, 0, 112] ![0, 0, 0] ![0, 0, 0] l (constant S_ .f32 0x00000000#32) pads_S8x1x8208_S8x1x8320_000_000_11200 h_S_

end

section
variable (q k : FVec Ideal S8x8208x96 .f32) (v : FVec Ideal S8x8208x64 .f32) (h : Fin 8) (i j : Fin 8208)

theorem scores_at : scores q k (ix3 h i j)
    = Scalar.select (IntOp.cmpi CmpIPredicate.sle (BitVec.ofNat 32 j) (BitVec.ofNat 32 i))
        ((∑ x : Fin 96, q (ix3 h i x) * k (ix3 h j x)) * Ideal.ofBits .f32 0x3DD105EC#32) (Ideal.ofBits .f32 0xFF800000#32) := by
  pointwise [scores]
  rfl

theorem rowMax_at : rowMax q k (ix2 h i)
    = Finset.univ.fold max (Ideal.ofBits .f32 0xFF800000#32) fun x : Fin 8208 => scores q k (ix3 h i x) := by
  pointwise [rowMax]

theorem rowMax1_at : rowMax1 q k (ix3 h i 0) = rowMax q k (ix2 h i) := by
  pointwise [rowMax1]

theorem expo_at : expo q k (ix3 h i j) = Ideal.exp (scores q k (ix3 h i j) - rowMax1 q k (ix3 h i 0)) := by
  pointwise [expo]

theorem rowSum1_at : rowSum1 q k (ix3 h i 0) = ∑ x : Fin 8208, expo q k (ix3 h i x) := by
  pointwise [rowSum1]

theorem out_at (d : Fin 64) : out q k v (ix3 h i d)
    = ∑ x : Fin 8208, Ideal.div (expo q k (ix3 h i x)) (rowSum1 q k (ix3 h i 0)) * v (ix3 h x d) := by
  pointwise [out]

/-- A column read as a row. -/
theorem turn (x : FVec Ideal S8x8208x1 .f32) : shapeCast S8x1x8208 x shapeCasts_S8x8208x1_S8x1x8208 (ix3 h 0 i) = x (ix3 h i 0) := by
  unfold shapeCast
  refine congrArg x (Shape.reshapeEquiv_eq_of_rowMajor _ ?_)
  rw [Shape.rowMajor_val_three, Shape.rowMajor_val_three]
  show (h.val * 8208 + i.val) * 1 + 0 = (h.val * 1 + 0) * 8208 + i.val
  omega

/-- A column plus another's logarithm, as a row. -/
theorem col (A B : FVec Ideal S8x8208x1 .f32) :
    shapeCast S8x1x8208 (addf A (Host.log B)) shapeCasts_S8x8208x1_S8x1x8208 (ix3 h 0 i) = A (ix3 h i 0) + Ideal.log (B (ix3 h i 0)) :=
  turn h i (addf A (Host.log B))

theorem logSum_at : logSum q k (ix3 h 0 i) = rowMax1 q k (ix3 h i 0) + Ideal.log (rowSum1 q k (ix3 h i 0)) := by
  unfold logSum
  exact col h i _ _

theorem padQ_at (r : Fin 8320) (d : Fin 128) : padQ q (ix3 h r d)
    = if e : (112 ≤ r.val ∧ r.val - 112 < 8208) ∧ d.val < 96 then q (ix3 h ⟨r.val - 112, e.1.2⟩ ⟨d.val, e.2⟩) else 0 := by
  pointwise [padQ]

theorem padV_at (r : Fin 8320) (d : Fin 128) : padV v (ix3 h r d)
    = if e : (112 ≤ r.val ∧ r.val - 112 < 8208) ∧ d.val < 64 then v (ix3 h ⟨r.val - 112, e.1.2⟩ ⟨d.val, e.2⟩) else 0 := by
  pointwise [padV]

theorem padO_at (r : Fin 8320) (d : Fin 64) : padO v (ix3 h r d)
    = if e : 112 ≤ r.val ∧ r.val - 112 < 8208 then v (ix3 h ⟨r.val - 112, e.2⟩ d) else 0 := by
  pointwise [padO]

theorem padL_at (l : FVec Ideal S8x1x8208 .f32) (r : Fin 8320) : padL l (ix3 h 0 r)
    = if e : 112 ≤ r.val ∧ r.val - 112 < 8208 then l (ix3 h 0 ⟨r.val - 112, e.2⟩) else 0 := by
  pointwise [padL]
end

variable (m : (ℓ : Loc nD τ sig) → Buf (Elt Ideal) ℓ) (c : Dev nD)

theorem q_entry : V m c main_v21 = truncf .bf16 (padQ (m ((c : Thread nD τ).loc main_arg0))) bitsLt_bf16_f32 := by entry_read; rfl
theorem k_entry : V m c main_v23 = truncf .bf16 (padQ (m ((c : Thread nD τ).loc main_arg1))) bitsLt_bf16_f32 := by entry_read; rfl
theorem v_entry : V m c main_v25 = truncf .bf16 (padV (m ((c : Thread nD τ).loc main_arg2))) bitsLt_bf16_f32 := by entry_read; rfl
theorem dO_entry : V m c main_v26 = padO (m ((c : Thread nD τ).loc main_arg3)) := by entry_read; rfl
set_option maxHeartbeats 4000000 in
theorem lse_entry : V m c main_v27 = padL (logSum (m ((c : Thread nD τ).loc main_arg0)) (m ((c : Thread nD τ).loc main_arg1))) := by
  show StableHlo.after _ _ _ = _
  simp only [hostOps0, hostOps0_1, hostOps0_2, List.flatten_cons, List.flatten_nil, List.append_nil, List.cons_append, List.nil_append,
    StableHlo.TRef.ternary, StableHlo.TRef.unary, StableHlo.TRef.toBuf, StableHlo.TRef.ofBuf, cast_eq]
  after_results_simp
  rfl

set_option maxHeartbeats 4000000 in
theorem o_entry : V m c main_v28
    = padO (out (m ((c : Thread nD τ).loc main_arg0)) (m ((c : Thread nD τ).loc main_arg1)) (m ((c : Thread nD τ).loc main_arg2))) := by
  show StableHlo.after _ _ _ = _
  simp only [hostOps0, hostOps0_1, hostOps0_2, List.flatten_cons, List.flatten_nil, List.append_nil, List.cons_append, List.nil_append,
    StableHlo.TRef.ternary, StableHlo.TRef.unary, StableHlo.TRef.toBuf, StableHlo.TRef.ofBuf, cast_eq]
  after_results_simp
  rfl

end Cert.KernelIdeal.Host0

end
-- ==== Proof.Attn.lean ====
/- The gradient of causal attention in real numbers: the arrays of the call as functions of head, row and lane, the weights,
   the gradient of the scores, and the sums that make up dq, dk and dv. -/
module

public import Mathlib.Analysis.SpecialFunctions.Pow.Real
public import Mathlib.Data.EReal.Inv

@[expose] public section

noncomputable section

namespace Cert.Attn

open Finset

/-- A sum of real numbers is the same sum in the extended reals. -/
theorem coe_sum {n : ℕ} (f : Fin n → ℝ) : ∑ i, ((f i : ℝ) : EReal) = ((∑ i, f i : ℝ) : EReal) := by
  induction n with
  | zero => simp
  | succ n ih => rw [Fin.sum_univ_castSucc, Fin.sum_univ_castSucc, ih, ← EReal.coe_add]

/-- The arrays that the call is given, by head, row and lane: q, k, v, the output's gradient, the output, the row log-sums.
    Each has 112 rows of padding in front. -/
structure Data where
  Q : ℕ → ℕ → ℕ → ℝ
  K : ℕ → ℕ → ℕ → ℝ
  V : ℕ → ℕ → ℕ → ℝ
  G : ℕ → ℕ → ℕ → ℝ
  O : ℕ → ℕ → ℕ → ℝ
  L : ℕ → ℕ → ℝ

/-- The scale of the scores: the single-precision number nearest 1 / √96. -/
def scale : ℝ := 3424635 / 33554432

namespace Data

variable (D : Data)

/-- The product of key row `k` and query row `q`. -/
def dot (h k q : ℕ) : ℝ := ∑ d ∈ range 128, D.K h k d * D.Q h q d

/-- The softmax weight that query row `q` gives key row `k`; none where the key comes later or is padding. -/
def W (h k q : ℕ) : ℝ := if k ≤ q ∧ 112 ≤ k then Real.exp (D.dot h k q * scale - D.L h q) else 0

/-- The gradient of a weight. -/
def P (h k q : ℕ) : ℝ := ∑ d ∈ range 64, D.V h k d * D.G h q d

/-- The sum along a row of each weight times its gradient, in the form in which the call computes it. -/
def Dl (h q : ℕ) : ℝ := ∑ d ∈ range 64, D.G h q d * D.O h q d

/-- The gradient of a score. -/
def S (h k q : ℕ) : ℝ := D.W h k q * (D.P h k q - D.Dl h q)

/-- dv's sum over the first `n` query rows. -/
def dv (h k d n : ℕ) : ℝ := ∑ q ∈ range n, D.W h k q * D.G h q d

/-- dk's sum over the first `n` query rows, not yet scaled. -/
def dk (h k d n : ℕ) : ℝ := ∑ q ∈ range n, D.S h k q * D.Q h q d

/-- dq's sum over the first `n` key rows, scaled. -/
def dq (h q d n : ℕ) : ℝ := (∑ k ∈ range n, D.S h k q * D.K h k d) * scale

theorem W_later {h k q : ℕ} (hk : q < k) : D.W h k q = 0 := if_neg fun c => by omega
theorem S_later {h k q : ℕ} (hk : q < k) : D.S h k q = 0 := by rw [S, W_later D hk, zero_mul]

theorem dv_add (h k d n m : ℕ) : D.dv h k d (n + m) = D.dv h k d n + ∑ y : Fin m, D.W h k (n + y) * D.G h (n + y) d := by
  unfold dv; rw [sum_range_add, sum_range fun i => D.W h k (n + i) * D.G h (n + i) d]
theorem dk_add (h k d n m : ℕ) : D.dk h k d (n + m) = D.dk h k d n + ∑ y : Fin m, D.S h k (n + y) * D.Q h (n + y) d := by
  unfold dk; rw [sum_range_add, sum_range fun i => D.S h k (n + i) * D.Q h (n + i) d]
theorem dq_add (h q d n m : ℕ) : D.dq h q d (n + m) = D.dq h q d n + (∑ y : Fin m, D.S h (n + y) q * D.K h (n + y) d) * scale := by
  unfold dq; rw [sum_range_add, sum_range fun i => D.S h (n + i) q * D.K h (n + i) d, add_mul]

/-- Query rows before the key add nothing. -/
theorem dv_skip (h k d n m : ℕ) (hk : n + m ≤ k) : D.dv h k d (n + m) = D.dv h k d n := by
  rw [dv_add, sum_eq_zero, add_zero]
  intro y _; rw [D.W_later (by have := y.isLt; omega), zero_mul]
theorem dk_skip (h k d n m : ℕ) (hk : n + m ≤ k) : D.dk h k d (n + m) = D.dk h k d n := by
  rw [dk_add, sum_eq_zero, add_zero]
  intro y _; rw [D.S_later (by have := y.isLt; omega), zero_mul]
/-- Key rows after the query add nothing. -/
theorem dq_skip (h q d n m : ℕ) (hk : q < n) : D.dq h q d (n + m) = D.dq h q d n := by
  rw [dq_add, sum_eq_zero, zero_mul, add_zero]
  intro y _; rw [D.S_later (by omega), zero_mul]

end Data

end Cert.Attn

end
-- ==== Proof.Tiles.lean ====
/- One pair of blocks at the exact instance: where the blocks hold real numbers, the weights, the scores' gradients and the
   additions to the sums of dq, dk and dv are the real numbers they stand for. -/
module

public import proofs.«01_k».proof.Proof.IdealStep
public import proofs.«01_k».proof.Proof.Attn
public import Idealize.ShloMosaic.Lib.Pointwise

@[expose] public section

set_option maxRecDepth 16384

noncomputable section

namespace Cert.KernelIdeal.Body

open Idealize.ShloMosaic Idealize.ShloMosaic.TcCoe
open Cert.KernelIdeal Cert.KernelIdeal.Gen Cert.Rows Cert.Attn

/-- A block of 640 rows holds block `b` of heads `4g … 4g+3` of an array. -/
def Blk {w : ℕ} (X : (Sh 640 w).Idx → EReal) (f : ℕ → ℕ → ℕ → ℝ) (g b : ℕ) : Prop :=
  ∀ (h : Fin 4) (x : Fin 640) (d : Fin w), X (ix3 h x d) = ((f (g * 4 + h) (b * 640 + x) d : ℝ) : EReal)

/-- A block of 640 lanes holds block `b` of heads `4g … 4g+3` of the row log-sums. -/
def BlkL (X : Vec Ideal S4x1x640 .f32) (f : ℕ → ℕ → ℝ) (g b : ℕ) : Prop :=
  ∀ (h : Fin 4) (x : Fin 640), (X (ix3 h 0 x) : EReal) = ((f (g * 4 + h) (b * 640 + x) : ℝ) : EReal)

/-- Four heads' tiles, keys × queries, hold the values of `f` at key block `a` and query block `b`. -/
def Tile (w : Fin 4 → FVec Ideal S640x640 .f32) (f : ℕ → ℕ → ℕ → ℝ) (g a b : ℕ) : Prop :=
  ∀ (h : Fin 4) (x y : Fin 640), (w h (ix2 x y) : EReal) = ((f (g * 4 + h) (a * 640 + x) (b * 640 + y) : ℝ) : EReal)

theorem mask_val : (Named.named κ "mask" 0xF149F2CA#32 : Ideal .f32) = (⊥ : EReal) :=
  IdealRules.named_const.ideal_named_scalar _ _ _ _ rfl
theorem exp2_scale_val : (Named.named κ "exp2_scale" 0x3E16C740#32 : Ideal .f32) = ((scale * (Real.log 2)⁻¹ : ℝ) : EReal) :=
  IdealRules.named_const.ideal_named_scalar _ _ _ _ rfl
theorem log2_e_val : (Named.named κ "log2_e" 0x3FB8AA3B#32 : Ideal .f32) = (((Real.log 2)⁻¹ : ℝ) : EReal) :=
  IdealRules.named_const.ideal_named_scalar _ _ _ _ rfl
theorem scale_val : Ideal.ofBits .f32 0x3DD105EC#32 = ((scale : ℝ) : EReal) := by
  unfold scale
  simp [Ideal.ofBits, Ideal.ieee, -EReal.coe_mul]; norm_num

/-- A power of two of a multiple of 1 / log 2 is the exponential. -/
theorem exp2_log2 (s l : ℝ) :
    Ideal.exp2 ((s : EReal) * ((scale * (Real.log 2)⁻¹ : ℝ) : EReal) - (l : EReal) * (((Real.log 2)⁻¹ : ℝ) : EReal))
      = ((Real.exp (s * scale - l) : ℝ) : EReal) := by
  have h2 : Real.log 2 ≠ 0 := (Real.log_pos (by norm_num)).ne'
  rw [← EReal.coe_mul, ← EReal.coe_mul, ← EReal.coe_sub, Ideal.exp2_coe]
  have : Real.rpow 2 (s * (scale * (Real.log 2)⁻¹) - l * (Real.log 2)⁻¹) = Real.exp (s * scale - l) := by
    refine (Real.rpow_def_of_pos (by norm_num : (0 : ℝ) < 2) _).trans ?_
    congr 1; field_simp
  rw [this]

/-- A masked score has no weight. -/
theorem exp2_mask (l : ℝ) :
    Ideal.exp2 ((⊥ : EReal) * ((scale * (Real.log 2)⁻¹ : ℝ) : EReal) - (l : EReal) * (((Real.log 2)⁻¹ : ℝ) : EReal)) = 0 := by
  have h2 : 0 < scale * (Real.log 2)⁻¹ := mul_pos (by unfold scale; norm_num) (inv_pos.2 (Real.log_pos (by norm_num)))
  rw [EReal.bot_mul_coe_of_pos h2, ← EReal.coe_mul, EReal.bot_sub, Ideal.exp2_bot]

section
variable {g a b : ℕ} (D : Data) {q k : Vec Ideal S4x640x128 .bf16} {lse : Vec Ideal S4x1x640 .f32}

theorem dot_tile (hq : Blk q D.Q g b) (hk : Blk k D.K g a) : Tile (fun h => k0_pay15 (hd k h) (hd q h)) D.dot g a b := by
  intro h x y
  pointwise [k0_pay15]
  unfold Data.dot
  rw [Finset.sum_range, ← coe_sum]
  refine Finset.sum_congr rfl fun d _ => ?_
  rw [EReal.coe_mul, ← hk h x d, ← hq h y d]
  rfl

theorem wFull_tile (ha : 0 < a) (hab : a < b) (hq : Blk q D.Q g b) (hk : Blk k D.K g a) (hl : BlkL lse D.L g b) :
    Tile (wFull q k lse) D.W g a b := by
  intro h x y
  have e : (k0_pay15 (hd k h) (hd q h) (ix2 x y) : EReal) = _ := dot_tile D hq hk h x y
  have el : hd lse h (ix3 0 0 y) = ((D.L (g * 4 + h) (b * 640 + y) : ℝ) : EReal) := hl h y
  unfold wFull
  pointwise [k0_pay69]
  rw [e, el, exp2_scale_val, log2_e_val, Data.W, if_pos (by omega)]
  exact exp2_log2 _ _

theorem toInt_nat (n : ℕ) (h : n < 2 ^ 31) : (BitVec.ofNat 32 n).toInt = n := by
  rw [BitVec.toInt_eq_toNat_of_lt (by rw [BitVec.toNat_ofNat]; omega), BitVec.toNat_ofNat, Nat.mod_eq_of_lt (by omega)]
theorem cmpi_sle_nat (u v : ℕ) (hu : u < 2 ^ 31) (hv : v < 2 ^ 31) :
    IntOp.cmpi .sle (BitVec.ofNat 32 u) (BitVec.ofNat 32 v) = BitVec.ofBool (decide (u ≤ v)) := by
  show BitVec.ofBool (BitVec.sle _ _) = _
  rw [BitVec.sle, toInt_nat u hu, toInt_nat v hv]; simp only [Int.ofNat_le]
theorem cmpi_sge_nat (u v : ℕ) (hu : u < 2 ^ 31) (hv : v < 2 ^ 31) :
    IntOp.cmpi .sge (BitVec.ofNat 32 u) (BitVec.ofNat 32 v) = BitVec.ofBool (decide (v ≤ u)) := by
  show BitVec.ofBool (BitVec.sle _ _) = _
  rw [BitVec.sle, toInt_nat u hu, toInt_nat v hv]; simp only [Int.ofNat_le]

/-- The mask of a pair of blocks: the key not after the query, and not padding. -/
theorem mask_tile (ha : a < 13) (hb : b < 13) (x y : Fin 640) :
    k0_pay25 (BitVec.ofNat 32 a) (BitVec.ofNat 32 b) (ix2 x y) = if a * 640 + x.val ≤ b * 640 + y.val ∧ 112 ≤ a * 640 + x.val then 1#1 else 0#1 := by
  pointwise [k0_pay25]
  have ea : ∀ u v : ℕ, IntOp.addi (Scalar.muli (BitVec.ofNat 32 u) 640#32) (BitVec.ofNat 32 v) = BitVec.ofNat 32 (u * 640 + v) := fun u v => by
    show BitVec.ofNat 32 u * 640#32 + BitVec.ofNat 32 v = _
    rw [BitVec.ofNat_add, BitVec.ofNat_mul]
  have hx := x.isLt; have hy := y.isLt
  rw [ea, ea, cmpi_sle_nat _ _ (by omega) (by omega), cmpi_sge_nat _ 112 (by omega) (by omega)]
  by_cases h1 : a * 640 + x.val ≤ b * 640 + y.val <;> by_cases h2 : 112 ≤ a * 640 + x.val <;> simp [h1, h2, IntOp.andi]

theorem wEdge_tile (ha : a < 13) (hb : b < 13) (hq : Blk q D.Q g b) (hk : Blk k D.K g a) (hl : BlkL lse D.L g b) :
    Tile (wEdge (BitVec.ofNat 32 a) (BitVec.ofNat 32 b) q k lse) D.W g a b := by
  intro h x y
  have e : (k0_pay15 (hd k h) (hd q h) (ix2 x y) : EReal) = _ := dot_tile D hq hk h x y
  have el : hd lse h (ix3 0 0 y) = ((D.L (g * 4 + h) (b * 640 + y) : ℝ) : EReal) := hl h y
  unfold wEdge
  have hm := mask_tile ha hb x y
  generalize k0_pay25 (BitVec.ofNat 32 a) (BitVec.ofNat 32 b) = msk at hm
  pointwise [k0_pay30]
  rw [e, el, exp2_scale_val, log2_e_val, mask_val, Data.W, hm]
  by_cases hc : a * 640 + x.val ≤ b * 640 + y.val ∧ 112 ≤ a * 640 + x.val
  · rw [if_pos hc, if_pos hc]; exact exp2_log2 _ _
  · rw [if_neg hc, if_neg hc]; exact exp2_mask _

end

section
variable {g a b : ℕ} (D : Data) {w : Fin 4 → FVec Ideal S640x640 .f32}

theorem dScore_tile (hw : Tile w D.W g a b) {v : Vec Ideal S4x640x128 .bf16} {dO : Vec Ideal S4x640x64 .f32} {del : Vec Ideal S4x13x1x640 .f32}
    (hv : Blk v D.V g a) (hg : Blk dO D.G g b) (B : Fin 13)
    (hdel : ∀ (h : Fin 4) (y : Fin 640), (del (ix4 h B 0 y) : EReal) = ((D.Dl (g * 4 + h) (b * 640 + y) : ℝ) : EReal)) :
    Tile (dScore w v dO del B) D.S g a b := by
  intro h x y
  have e : k0_pay22 (hdV v h) (hd dO h) (ix2 x y) = ((D.P (g * 4 + h) (a * 640 + x) (b * 640 + y) : ℝ) : EReal) := by
    pointwise [k0_pay22]
    unfold Data.P
    rw [Finset.sum_range, ← coe_sum]
    refine Finset.sum_congr rfl fun d _ => ?_
    rw [EReal.coe_mul, ← hg h y d]
    have := hv h x ⟨d.val, lt_of_lt_of_le d.isLt (by decide)⟩
    simp only [] at this
    rw [← this]
    rfl
  have ed : hdD del h B (ix4 0 0 0 y) = ((D.Dl (g * 4 + h) (b * 640 + y) : ℝ) : EReal) := hdel h y
  unfold dScore
  pointwise [k0_pay34]
  rw [e, ed, hw h x y, ← EReal.coe_sub, ← EReal.coe_mul]
  rfl

theorem addDv_at (hw : Tile w D.W g a b) {dO : Vec Ideal S4x640x64 .f32} (hg : Blk dO D.G g b) {s : Vec Ideal S4x640x64 .f32} {n : ℕ}
    (hn : n = b * 640) (hs : Blk s (fun h k d => D.dv h k d n) g a) :
    Blk (addDv w dO s) (fun h k d => D.dv h k d (n + 640)) g a := by
  intro h x d
  show k0_pay48 (w h) (hd s h) (hd dO h) (ix3 0 x d) = _
  have es : hd s h (ix3 0 x d) = ((D.dv (g * 4 + h) (a * 640 + x) d n : ℝ) : EReal) := hs h x d
  pointwise [k0_pay48]
  rw [es, D.dv_add, EReal.coe_add, ← coe_sum]
  refine congrArg (_ + ·) (Finset.sum_congr rfl fun y _ => ?_)
  rw [EReal.coe_mul, hn, ← hw h x y, ← hg h y d]
  rfl

theorem addDk_at (hw : Tile w D.S g a b) {q : Vec Ideal S4x640x128 .bf16} (hq : Blk q D.Q g b) {s : Vec Ideal S4x640x128 .f32} {n : ℕ}
    (hn : n = b * 640) (hs : Blk s (fun h k d => D.dk h k d n) g a) :
    Blk (addDk w q s) (fun h k d => D.dk h k d (n + 640)) g a := by
  intro h x d
  show k0_pay40 (w h) (hd s h) (hd q h) (ix3 0 x d) = _
  have es : hd s h (ix3 0 x d) = ((D.dk (g * 4 + h) (a * 640 + x) d n : ℝ) : EReal) := hs h x d
  pointwise [k0_pay40]
  rw [es, D.dk_add, EReal.coe_add, ← coe_sum]
  refine congrArg (_ + ·) (Finset.sum_congr rfl fun y _ => ?_)
  rw [EReal.coe_mul, hn, ← hw h x y, ← hq h y d]
  rfl

/-- The rows of query block `B` gain the pair's share of dq; the others are left. -/
theorem addDq_at (hw : Tile w D.S g a b) {k : Vec Ideal S4x640x128 .bf16} (hk : Blk k D.K g a) {s : Vec Ideal S4x8320x128 .f32} (B : Fin 13) (hB : B.val = b)
    (h : Fin 4) (r : Fin 8320) (d : Fin 128) {n : ℕ} (hn : n = a * 640) (hs : (s (ix3 h r d) : EReal) = ((D.dq (g * 4 + h) r d n : ℝ) : EReal)) :
    (addDq w k B s (ix3 h r d) : EReal) = if r.val / 640 = b then ((D.dq (g * 4 + h) r d (n + 640) : ℝ) : EReal) else ((D.dq (g * 4 + h) r d n : ℝ) : EReal) := by
  show (if r.val / 640 = B.val then k0_pay41 (w h) (hdQ s h B) (hd k h) (ix3 0 ⟨r.val % 640, Nat.mod_lt _ (by decide)⟩ d) else s (ix3 h r d)) = _
  rw [hB]
  by_cases hc : r.val / 640 = b
  · rw [if_pos hc, if_pos hc]
    have hr : B.val * 640 + r.val % 640 = r.val := by omega
    have es : hdQ s h B (ix3 0 ⟨r.val % 640, Nat.mod_lt _ (by decide)⟩ d) = ((D.dq (g * 4 + h) r d n : ℝ) : EReal) := by
      rw [← hs]
      refine congrArg s (funext fun i => ?_)
      match i with
      | ⟨0, _⟩ => rfl
      | ⟨1, _⟩ => exact Fin.ext hr
      | ⟨2, _⟩ => rfl
    generalize hz : (⟨r.val % 640, Nat.mod_lt _ (by decide)⟩ : Fin 640) = z at es
    have hz' : b * 640 + z.val = r.val := by rw [← hz, ← hc]; show r.val / 640 * 640 + r.val % 640 = r.val; omega
    pointwise [k0_pay41]
    rw [es, D.dq_add, EReal.coe_add, EReal.coe_mul, ← coe_sum, scale_val]
    refine congrArg (_ + ·) (congrArg (· * _) (Finset.sum_congr rfl fun y _ => ?_))
    rw [EReal.coe_mul, hn, ← hk h y d, ← hz', ← hw h y z]
    rfl
  · rw [if_neg hc, if_neg hc, hs]

/-- The row sums of the query block whose rows are written, and those of the others. -/
theorem setDelta_at {dO o : Vec Ideal S4x640x64 .f32} (hg : Blk dO D.G g b) (ho : Blk o D.O g b) (B B' : Fin 13) (del : Vec Ideal S4x13x1x640 .f32)
    (h : Fin 4) (y : Fin 640) :
    (setDelta dO o B del (ix4 h B' 0 y) : EReal) = if B' = B then ((D.Dl (g * 4 + h) (b * 640 + y) : ℝ) : EReal) else del (ix4 h B' 0 y) := by
  show (if B'.val = B.val then k0_pay11 (hd dO h) (hd o h) (ix4 0 0 0 y) else del (ix4 h B' 0 y)) = _
  by_cases hc : B' = B
  · rw [if_pos hc, if_pos (congrArg Fin.val hc)]
    pointwise [k0_pay11, k0_pay10]
    unfold Data.Dl
    rw [Finset.sum_const_zero, add_zero, Finset.sum_range, ← coe_sum]
    refine Finset.sum_congr rfl fun d _ => ?_
    rw [EReal.coe_mul, ← hg h y d, ← ho h y d]
    rfl
  · rw [if_neg hc, if_neg fun e => hc (Fin.ext e)]

end

end Cert.KernelIdeal.Body

end
-- ==== Proof.Sums.lean ====
/- What the buffers hold before each grid point, in real numbers: by induction over the points, each buffer holds the sum of
   the pairs of blocks done so far. -/
module

public import proofs.«01_k».proof.Proof.Tiles
public import proofs.«01_k».proof.Proof.IdealFrame

@[expose] public section

set_option maxRecDepth 16384

noncomputable section

namespace Cert.KernelIdeal.Body

open Idealize.ShloMosaic Idealize.ShloMosaic.TcCoe
open Cert.KernelIdeal Cert.KernelIdeal.Gen Cert.Rows Cert.Attn

/-- What the point `t` is given: the blocks of its head group, key block and query block (where it computes a pair at all),
    and the block of the output where it takes the row sums. -/
structure Given (D : Data) (t : ℕ) (q k v : Vec Ideal S4x640x128 .bf16) (dO : Vec Ideal S4x640x64 .f32) (lse : Vec Ideal S4x1x640 .f32)
    (o : Vec Ideal S4x640x64 .f32) : Prop where
  q : t / 13 % 13 ≤ t % 13 → Blk q D.Q (t / 169) (t % 13)
  k : Blk k D.K (t / 169) (t / 13 % 13)
  v : Blk v D.V (t / 169) (t / 13 % 13)
  dO : t / 13 % 13 ≤ t % 13 → Blk dO D.G (t / 169) (t % 13)
  lse : t / 13 % 13 ≤ t % 13 → BlkL lse D.L (t / 169) (t % 13)
  o : t % 169 < 13 → Blk o D.O (t / 169) (t % 13)

/-- The rows of dq before point `t`: those of query block `b` hold the sum over the key blocks before the point's own, and
    over that one too where the block came earlier in its round. -/
def keys (t b : ℕ) : ℕ := t / 13 % 13 + if b < t % 13 then 1 else 0

/-- What the buffers hold before point `t`. -/
structure Holds (D : Data) (t : ℕ) (s : Bufs Ideal) : Prop where
  dq : t % 169 ≠ 0 → ∀ (h : Fin 4) (r : Fin 8320) (d : Fin 128),
    (s.dq (ix3 h r d) : EReal) = ((D.dq (t / 169 * 4 + h) r d (keys t (r.val / 640) * 640) : ℝ) : EReal)
  dkSum : t % 13 ≠ 0 → Blk s.dkSum (fun h k d => D.dk h k d (t % 13 * 640)) (t / 169) (t / 13 % 13)
  dvSum : t % 13 ≠ 0 → Blk s.dvSum (fun h k d => D.dv h k d (t % 13 * 640)) (t / 169) (t / 13 % 13)
  del : t % 169 ≠ 0 → ∀ B : Fin 13, written t B → ∀ (h : Fin 4) (y : Fin 640),
    (s.del (ix4 h B 0 y) : EReal) = ((D.Dl (t / 169 * 4 + h) (B.val * 640 + y) : ℝ) : EReal)

/-- What the buffers hold once the point has cleared what it starts and taken its row sums. -/
structure Mid (D : Data) (t : ℕ) (s : Bufs Ideal) : Prop where
  dq : ∀ (h : Fin 4) (r : Fin 8320) (d : Fin 128),
    (s.dq (ix3 h r d) : EReal) = ((D.dq (t / 169 * 4 + h) r d (keys t (r.val / 640) * 640) : ℝ) : EReal)
  dkSum : Blk s.dkSum (fun h k d => D.dk h k d (t % 13 * 640)) (t / 169) (t / 13 % 13)
  dvSum : Blk s.dvSum (fun h k d => D.dv h k d (t % 13 * 640)) (t / 169) (t / 13 % 13)
  del : ∀ B : Fin 13, written t B ∨ B.val = t % 13 → ∀ (h : Fin 4) (y : Fin 640),
    (s.del (ix4 h B 0 y) : EReal) = ((D.Dl (t / 169 * 4 + h) (B.val * 640 + y) : ℝ) : EReal)

/-- What the buffers hold once the point has added its pair's share. -/
structure Post (D : Data) (t : ℕ) (s : Bufs Ideal) : Prop where
  dq : ∀ (h : Fin 4) (r : Fin 8320) (d : Fin 128),
    (s.dq (ix3 h r d) : EReal) = ((D.dq (t / 169 * 4 + h) r d ((t / 13 % 13 + if r.val / 640 ≤ t % 13 then 1 else 0) * 640) : ℝ) : EReal)
  dkSum : Blk s.dkSum (fun h k d => D.dk h k d ((t % 13 + 1) * 640)) (t / 169) (t / 13 % 13)
  dvSum : Blk s.dvSum (fun h k d => D.dv h k d ((t % 13 + 1) * 640)) (t / 169) (t / 13 % 13)
  del : ∀ B : Fin 13, written t B ∨ B.val = t % 13 → ∀ (h : Fin 4) (y : Fin 640),
    (s.del (ix4 h B 0 y) : EReal) = ((D.Dl (t / 169 * 4 + h) (B.val * 640 + y) : ℝ) : EReal)

variable {D : Data} {q k v : Vec Ideal S4x640x128 .bf16} {dO : Vec Ideal S4x640x64 .f32} {lse : Vec Ideal S4x1x640 .f32}
  {o : Vec Ideal S4x640x64 .f32} {s : Bufs Ideal}

theorem pay1_at (h : Fin 4) (r : Fin 8320) (d : Fin 128) : (k0_pay1 (F := Ideal) (ix3 h r d) : EReal) = 0 := by
  pointwise [k0_pay1]
theorem pay4_at (h : Fin 4) (x : Fin 640) (d : Fin 128) : (k0_pay4 (F := Ideal) (ix3 h x d) : EReal) = 0 := by
  pointwise [k0_pay4]
theorem pay5_at (h : Fin 4) (x : Fin 640) (d : Fin 64) : (k0_pay5 (F := Ideal) (ix3 h x d) : EReal) = 0 := by
  pointwise [k0_pay5]

theorem coord1 : ∀ t : Fin cfg0.N, (grid0.coords t 1).val = t.val / 13 % 13 :=
  (by decide +kernel : ∀ t : Fin grid0.N, _)

theorem step1_dq (i : grid0.Coords) (s : Bufs Ideal) : (step1 i s).dkSum = s.dkSum ∧ (step1 i s).dvSum = s.dvSum ∧ (step1 i s).del = s.del := by
  unfold step1; split_ifs <;> exact ⟨rfl, rfl, rfl⟩

/-- The point's first three regions. -/
theorem mid (t : Fin cfg0.N) (hg : Given D t q k v dO lse o) (hi : Holds D t s) :
    Mid D t (step3 (grid0.coords t) (step2 (grid0.coords t) dO o (step1 (grid0.coords t) s))) := by
  have c2 : ((grid0.coords t 2 : Fin 13)).val = t.val % 13 := coord2 t
  refine ⟨fun h r d => ?_, ?_, ?_, fun B hB h y => ?_⟩
  · unfold step3 step2 step1
    simp only [cond1_iff t, cond2_iff t, cond3_iff t]
    by_cases h1 : t.val % 169 = 0
    · have hk : keys t (r.val / 640) = 0 := by unfold keys; rw [if_neg (by omega)]; omega
      have e : (k0_pay1 (F := Ideal) (ix3 h r d) : EReal) = ((D.dq (t.val / 169 * 4 + h) r d (keys t (r.val / 640) * 640) : ℝ) : EReal) := by
        rw [pay1_at, hk]; unfold Data.dq; simp
      split_ifs <;> exact e
    · have e := hi.dq h1 h r d
      split_ifs <;> exact e
  · unfold step3 step2 step1
    simp only [cond1_iff t, cond2_iff t, cond3_iff t]
    by_cases h1 : t.val % 13 = 0
    · rw [if_pos h1]
      intro h x d
      rw [h1]
      refine (pay4_at h x d).trans ?_
      unfold Data.dk; simp
    · rw [if_neg h1]
      have e := hi.dkSum h1
      split_ifs <;> exact e
  · unfold step3 step2 step1
    simp only [cond1_iff t, cond2_iff t, cond3_iff t]
    by_cases h1 : t.val % 13 = 0
    · rw [if_pos h1]
      intro h x d
      rw [h1]
      refine (pay5_at h x d).trans ?_
      unfold Data.dv; simp
    · rw [if_neg h1]
      have e := hi.dvSum h1
      split_ifs <;> exact e
  · have e3 : ∀ s' : Bufs Ideal, (step3 (grid0.coords t) s').del = s'.del := fun s' => by unfold step3; split_ifs <;> rfl
    have e1 : (step1 (grid0.coords t) s).del = s.del := (step1_dq _ _).2.2
    rw [e3]
    unfold step2
    simp only [cond2_iff t]
    by_cases h2 : t.val % 169 < 13
    · rw [if_pos h2]
      refine (setDelta_at D (hg.dO (by omega)) (hg.o h2) (grid0.coords t 2) B _ h y).trans ?_
      by_cases hc : B = (grid0.coords t 2 : Fin 13)
      · rw [if_pos hc]
        have : B.val = t.val % 13 := by rw [hc]; exact c2
        rw [this]
      · rw [if_neg hc, e1]
        have hne : B.val ≠ t.val % 13 := fun e => hc (Fin.ext (e.trans c2.symm))
        have hw : written t B := hB.resolve_right hne
        refine hi.del ?_ B hw h y
        intro h0; unfold written at hw; omega
    · rw [if_neg h2, e1]
      have := B.isLt
      exact hi.del (by omega) B (by unfold written; omega) h y

/-- The share of the pair, added by either region that computes one. -/
theorem pair (t : Fin cfg0.N) (hg : Given D t q k v dO lse o) (hm : Mid D t s) (hp : t.val / 13 % 13 ≤ t.val % 13)
    {w : Fin 4 → FVec Ideal S640x640 .f32} (hw : Tile w D.W (t.val / 169) (t.val / 13 % 13) (t.val % 13)) (B : Fin 13) (hB : B.val = t.val % 13) :
    Post D t { s with
      dq := addDq (dScore w v dO s.del B) k B s.dq
      dkSum := addDk (dScore w v dO s.del B) q s.dkSum
      dvSum := addDv w dO s.dvSum } := by
  have hd : Tile (dScore w v dO s.del B) D.S (t.val / 169) (t.val / 13 % 13) (t.val % 13) :=
    dScore_tile D hw hg.v (hg.dO hp) B fun h y => by rw [hm.del B (.inr hB) h y, hB]
  refine ⟨fun h r d => ?_, fun h x d => ?_, fun h x d => ?_, hm.del⟩
  · by_cases hc : r.val / 640 = t.val % 13
    · have e := hm.dq h r d
      have hk : keys t (r.val / 640) = t.val / 13 % 13 := by unfold keys; rw [if_neg (by omega)]; rfl
      rw [hk] at e
      refine (addDq_at D hd hg.k B hB h r d rfl e).trans ?_
      rw [if_pos hc, if_pos (by omega), Nat.add_mul, one_mul]
    · show (if r.val / 640 = B.val then _ else s.dq (ix3 h r d)) = _
      rw [if_neg (by omega), hm.dq h r d]
      unfold keys
      simp only [show (r.val / 640 < t.val % 13) ↔ (r.val / 640 ≤ t.val % 13) by omega]
  · rw [Nat.add_mul, one_mul]; exact addDk_at D hd (hg.q hp) rfl hm.dkSum h x d
  · rw [Nat.add_mul, one_mul]; exact addDv_at D hw (hg.dO hp) rfl hm.dvSum h x d

/-- The point's fourth and fifth regions. -/
theorem post (t : Fin cfg0.N) (hg : Given D t q k v dO lse o) (hm : Mid D t s) :
    Post D t (step5 (grid0.coords t) q k v dO lse (step4 (grid0.coords t) q k v dO lse s)) := by
  have c2 : ((grid0.coords t 2 : Fin 13)).val = t.val % 13 := coord2 t
  have c1 : ((grid0.coords t 1 : Fin 13)).val = t.val / 13 % 13 := coord1 t
  unfold step5
  by_cases h5 : k0_cond5 (grid0.coords t) = 1#1
  · rw [if_pos h5]
    have h5' := (cond5_iff t).1 h5
    have h4 : ¬ k0_cond4 (grid0.coords t) = 1#1 := fun e => by have := (cond4_iff t).1 e; omega
    unfold step4; rw [if_neg h4]
    exact pair t hg hm (by omega) (wFull_tile D (by omega) h5'.2 (hg.q (by omega)) hg.k (hg.lse (by omega))) _ c2
  · rw [if_neg h5]
    unfold step4
    by_cases h4 : k0_cond4 (grid0.coords t) = 1#1
    · rw [if_pos h4]
      have h4' := (cond4_iff t).1 h4
      have hp : t.val / 13 % 13 ≤ t.val % 13 := by omega
      refine pair t hg hm hp (w := wEdge (BitVec.ofNat 32 (grid0.coords t 1).val) (BitVec.ofNat 32 (grid0.coords t 2).val) q k lse) ?_ _ c2
      rw [c1, c2]
      exact wEdge_tile D (by omega) (by omega) (hg.q hp) hg.k (hg.lse hp)
    · rw [if_neg h4]
      have h4' := mt (cond4_iff t).2 h4
      have h5' := mt (cond5_iff t).2 h5
      have hlt : t.val % 13 < t.val / 13 % 13 := by omega
      refine ⟨fun h r d => ?_, fun h x d => ?_, fun h x d => ?_, hm.del⟩
      · rw [hm.dq h r d]; unfold keys
        by_cases hc : r.val / 640 = t.val % 13
        · rw [if_neg (by omega), if_pos (by omega), Nat.add_zero, Nat.add_mul, one_mul, D.dq_skip _ _ _ _ _ (by omega)]
        · simp only [show (r.val / 640 < t.val % 13) ↔ (r.val / 640 ≤ t.val % 13) by omega]
      · have hx := x.isLt
        rw [hm.dkSum h x d, Nat.add_mul, one_mul]
        exact congrArg _ (D.dk_skip _ _ _ _ _ (by omega)).symm
      · have hx := x.isLt
        rw [hm.dvSum h x d, Nat.add_mul, one_mul]
        exact congrArg _ (D.dv_skip _ _ _ _ _ (by omega)).symm

/-- The last region changes the results only. -/
theorem post6 (i : grid0.Coords) (t : ℕ) (h : Post D t s) : Post D t (step6 i s) := by
  unfold step6; split_ifs
  · exact ⟨h.dq, h.dkSum, h.dvSum, h.del⟩
  · exact h

theorem post_body (t : Fin cfg0.N) (hg : Given D t q k v dO lse o) (hi : Holds D t s) :
    Post D t (body (grid0.coords t) q k v dO lse o s) := post6 _ _ (post t hg (mid t hg hi))

/-- What a point leaves is what the next finds. -/
theorem inv_succ (t : ℕ) (h : Post D t s) : Holds D (t + 1) s := by
  refine ⟨fun h1 hh r d => ?_, fun h1 => ?_, fun h1 => ?_, fun h1 B hB hh y => ?_⟩
  · rw [h.dq hh r d]
    have hg : (t + 1) / 169 = t / 169 := by omega
    have hr := r.isLt
    have hk : keys (t + 1) (r.val / 640) = t / 13 % 13 + if r.val / 640 ≤ t % 13 then 1 else 0 := by
      unfold keys; split_ifs <;> omega
    rw [hg, hk]
  · have hg : (t + 1) / 169 = t / 169 := by omega
    have h2 : (t + 1) % 13 = t % 13 + 1 := by omega
    have h3 : (t + 1) / 13 % 13 = t / 13 % 13 := by omega
    rw [hg, h2, h3]; exact h.dkSum
  · have hg : (t + 1) / 169 = t / 169 := by omega
    have h2 : (t + 1) % 13 = t % 13 + 1 := by omega
    have h3 : (t + 1) / 13 % 13 = t / 13 % 13 := by omega
    rw [hg, h2, h3]; exact h.dvSum
  · have hg : (t + 1) / 169 = t / 169 := by omega
    have hb := B.isLt
    rw [hg]; exact h.del B (by unfold written at hB ⊢; omega) hh y

/-- dq at the end of a head group: the sum over all keys. -/
theorem post_dq (t : ℕ) (h : Post D t s) (ht : t % 169 = 168) (hh : Fin 4) (r : Fin 8320) (d : Fin 128) :
    (s.dq (ix3 hh r d) : EReal) = ((D.dq (t / 169 * 4 + hh) r d 8320 : ℝ) : EReal) := by
  have hr := r.isLt
  rw [h.dq hh r d, if_pos (by omega), show (t / 13 % 13 + 1) * 640 = 8320 by omega]

/-- dk and dv at the end of a key block: the sums over all queries. -/
theorem body_dk (t : Fin cfg0.N) (hg : Given D t q k v dO lse o) (hi : Holds D t s) (ht : t.val % 13 = 12) :
    Blk (body (grid0.coords t) q k v dO lse o s).dk (fun h k d => D.dk h k d 8320 * scale) (t.val / 169) (t.val / 13 % 13) := by
  intro h x d
  have hp := post t hg (mid t hg hi)
  unfold body step6; rw [if_pos ((cond6_iff t).2 ht)]
  have e := hp.dkSum h x d
  simp only [ht] at e
  show k0_pay9 _ (ix3 h x d) = _
  generalize step5 (grid0.coords t) q k v dO lse _ = s' at e ⊢
  pointwise [k0_pay9]
  rw [e, scale_val, ← EReal.coe_mul]

theorem body_dv (t : Fin cfg0.N) (hg : Given D t q k v dO lse o) (hi : Holds D t s) (ht : t.val % 13 = 12) :
    Blk (body (grid0.coords t) q k v dO lse o s).dv (fun h k d => D.dv h k d 8320) (t.val / 169) (t.val / 13 % 13) := by
  intro h x d
  have hp := post t hg (mid t hg hi)
  unfold body step6; rw [if_pos ((cond6_iff t).2 ht)]
  have e := hp.dvSum h x d
  simp only [ht] at e
  exact e

end Cert.KernelIdeal.Body

end
-- ==== Proof.Arrays.lean ====
/- From blocks to arrays: where the call's arrays hold real numbers, so does every block of every point, hence every buffer,
   and the three results hold the sums over all the keys and over all the queries. -/
module

public import proofs.«01_k».proof.Proof.Sums
public import Idealize.ShloMosaic.Lib.Pipeline.ValueKit

@[expose] public section

set_option maxRecDepth 16384

noncomputable section

namespace Cert.KernelIdeal.Body

open Idealize.ShloMosaic Idealize.ShloMosaic.TcCoe Idealize.SL.Sem
open Idealize.ShloMosaic.Pipeline (Dat)
open Cert.KernelIdeal Cert.KernelIdeal.Gen Cert.Rows Cert.Attn

/-- An array of 8 heads of 8320 rows holds the values of `f`. -/
def Arr {w : ℕ} (X : (⟨3, ![8, 8320, w]⟩ : Shape).Idx → EReal) (f : ℕ → ℕ → ℕ → ℝ) : Prop :=
  ∀ (h : Fin 8) (r : Fin 8320) (d : Fin w), X (ix3 h r d) = ((f h r d : ℝ) : EReal)

variable (m : (ℓ : Loc nD τ sig) → Buf (Elt Ideal) ℓ) (c : Dev nD)

/-- What the call's six arrays hold as it starts. -/
structure Entry (D : Data) : Prop where
  q : Arr (V m c main_v21) D.Q
  k : Arr (V m c main_v23) D.K
  v : Arr (V m c main_v25) D.V
  dO : Arr (V m c main_v26) D.G
  lse : ∀ (h : Fin 8) (r : Fin 8320), (V m c main_v27 (ix3 h 0 r) : EReal) = ((D.L h r : ℝ) : EReal)
  o : Arr (V m c main_v28) D.O

theorem idx0 : ∀ t : Fin cfg0.N, t.val / 13 % 13 ≤ t.val % 13 → win0_0.index t = ![t.val / 169, t.val % 13, 0] :=
  (by decide +kernel : ∀ t : Fin grid0.N, _)
theorem idx1 : ∀ t : Fin cfg0.N, win0_1.index t = ![t.val / 169, t.val / 13 % 13, 0] :=
  (by decide +kernel : ∀ t : Fin grid0.N, _)
theorem idx2 : ∀ t : Fin cfg0.N, win0_2.index t = ![t.val / 169, t.val / 13 % 13, 0] :=
  (by decide +kernel : ∀ t : Fin grid0.N, _)
theorem idx3 : ∀ t : Fin cfg0.N, t.val / 13 % 13 ≤ t.val % 13 → win0_3.index t = ![t.val / 169, t.val % 13, 0] :=
  (by decide +kernel : ∀ t : Fin grid0.N, _)
theorem idx4 : ∀ t : Fin cfg0.N, t.val / 13 % 13 ≤ t.val % 13 → win0_4.index t = ![t.val / 169, 0, t.val % 13] :=
  (by decide +kernel : ∀ t : Fin grid0.N, _)
theorem idx5 : ∀ t : Fin cfg0.N, t.val % 169 < 13 → win0_5.index t = ![t.val / 169, t.val % 13, 0] :=
  (by decide +kernel : ∀ t : Fin grid0.N, _)
theorem idx6 : ∀ t : Fin cfg0.N, win0_6.index t = ![t.val / 169, 0, 0] :=
  (by decide +kernel : ∀ t : Fin grid0.N, _)
theorem idx7 : ∀ t : Fin cfg0.N, win0_7.index t = ![t.val / 169, t.val / 13 % 13, 0] :=
  (by decide +kernel : ∀ t : Fin grid0.N, _)
theorem idx8 : ∀ t : Fin cfg0.N, win0_8.index t = ![t.val / 169, t.val / 13 % 13, 0] :=
  (by decide +kernel : ∀ t : Fin grid0.N, _)
theorem group : ∀ t : Fin cfg0.N, t.val / 169 < 2 := (by decide +kernel : ∀ t : Fin grid0.N, _)

/-- Each window's block read at an index is its array read at the block's place. -/
theorem read0 (X : FVec Ideal S8x8320x128 .bf16) (t : Fin cfg0.N) (hp : t.val / 13 % 13 ≤ t.val % 13) (h : Fin 4) (x : Fin 640) (d : Fin 128) (h' : Fin 8) (r : Fin 8320)
    (eh : h'.val = t.val / 169 * 4 + h) (er : r.val = t.val % 13 * 640 + x) :
    ((cfg0.win 0).blk t).view.read (Elt Ideal) X (ix3 h x d) = X (ix3 h' r d) := by
  have e := idx0 t hp
  blk_ext [e]
theorem read1 (X : FVec Ideal S8x8320x128 .bf16) (t : Fin cfg0.N) (h : Fin 4) (x : Fin 640) (d : Fin 128) (h' : Fin 8) (r : Fin 8320)
    (eh : h'.val = t.val / 169 * 4 + h) (er : r.val = t.val / 13 % 13 * 640 + x) :
    ((cfg0.win 1).blk t).view.read (Elt Ideal) X (ix3 h x d) = X (ix3 h' r d) := by
  have e := idx1 t
  blk_ext [e]
theorem read2 (X : FVec Ideal S8x8320x128 .bf16) (t : Fin cfg0.N) (h : Fin 4) (x : Fin 640) (d : Fin 128) (h' : Fin 8) (r : Fin 8320)
    (eh : h'.val = t.val / 169 * 4 + h) (er : r.val = t.val / 13 % 13 * 640 + x) :
    ((cfg0.win 2).blk t).view.read (Elt Ideal) X (ix3 h x d) = X (ix3 h' r d) := by
  have e := idx2 t
  blk_ext [e]
theorem read3 (X : FVec Ideal S8x8320x64 .f32) (t : Fin cfg0.N) (hp : t.val / 13 % 13 ≤ t.val % 13) (h : Fin 4) (x : Fin 640) (d : Fin 64) (h' : Fin 8) (r : Fin 8320)
    (eh : h'.val = t.val / 169 * 4 + h) (er : r.val = t.val % 13 * 640 + x) :
    ((cfg0.win 3).blk t).view.read (Elt Ideal) X (ix3 h x d) = X (ix3 h' r d) := by
  have e := idx3 t hp
  blk_ext [e]
theorem read5 (X : FVec Ideal S8x8320x64 .f32) (t : Fin cfg0.N) (hp : t.val % 169 < 13) (h : Fin 4) (x : Fin 640) (d : Fin 64) (h' : Fin 8) (r : Fin 8320)
    (eh : h'.val = t.val / 169 * 4 + h) (er : r.val = t.val % 13 * 640 + x) :
    ((cfg0.win 5).blk t).view.read (Elt Ideal) X (ix3 h x d) = X (ix3 h' r d) := by
  have e := idx5 t hp
  blk_ext [e]
theorem read4 (X : FVec Ideal S8x1x8320 .f32) (t : Fin cfg0.N) (hp : t.val / 13 % 13 ≤ t.val % 13) (h : Fin 4) (x : Fin 640) (h' : Fin 8) (r : Fin 8320)
    (eh : h'.val = t.val / 169 * 4 + h) (er : r.val = t.val % 13 * 640 + x) :
    ((cfg0.win 4).blk t).view.read (Elt Ideal) X (ix3 h 0 x) = X (ix3 h' 0 r) := by
  have e := idx4 t hp
  blk_ext [e]

variable {m c} {D : Data} (E : Entry m c D)
include E

theorem given (t : Fin cfg0.N) : Given D t (iblk m c 0 t) (iblk m c 1 t) (iblk m c 2 t) (iblk m c 3 t) (iblk m c 4 t) (iblk m c 5 t) := by
  have hg := group t
  refine ⟨fun hp h x d => ?_, fun h x d => ?_, fun h x d => ?_, fun hp h x d => ?_, fun hp h x => ?_, fun hp h x d => ?_⟩
  · exact (read0 _ t hp h x d ⟨t.val / 169 * 4 + h, by omega⟩ ⟨t.val % 13 * 640 + x, by omega⟩ rfl rfl).trans (E.q _ _ d)
  · exact (read1 _ t h x d ⟨t.val / 169 * 4 + h, by omega⟩ ⟨t.val / 13 % 13 * 640 + x, by omega⟩ rfl rfl).trans (E.k _ _ d)
  · exact (read2 _ t h x d ⟨t.val / 169 * 4 + h, by omega⟩ ⟨t.val / 13 % 13 * 640 + x, by omega⟩ rfl rfl).trans (E.v _ _ d)
  · exact (read3 _ t hp h x d ⟨t.val / 169 * 4 + h, by omega⟩ ⟨t.val % 13 * 640 + x, by omega⟩ rfl rfl).trans (E.dO _ _ d)
  · exact (read4 _ t hp h x ⟨t.val / 169 * 4 + h, by omega⟩ ⟨t.val % 13 * 640 + x, by omega⟩ rfl rfl).trans (E.lse _ _)
  · exact (read5 _ t hp h x d ⟨t.val / 169 * 4 + h, by omega⟩ ⟨t.val % 13 * 640 + x, by omega⟩ rfl rfl).trans (E.o _ _ d)

/-- What the buffers hold before each point. -/
theorem holds (t : ℕ) (ht : t ≤ cfg0.N) : Holds D t (S m c t) := by
  induction t with
  | zero => exact ⟨fun h => absurd rfl h, fun h => absurd rfl h, fun h => absurd rfl h, fun h => absurd rfl h⟩
  | succ t ih =>
    have := S_succ m c ⟨t, ht⟩
    rw [this]
    exact inv_succ t (post_body ⟨t, ht⟩ (given E ⟨t, ht⟩) (ih (Nat.le_of_succ_le ht)))

/-- dq's array after the call. -/
theorem final6 : (dats m 0 c).arrAt 6 (cfgs 0).N
    = (fun i => ((D.dq (i 0).val (i 1).val (i 2).val 8320 : ℝ) : EReal) : S8x8320x128.Idx → EReal) := by
  refine (dats m 0 c).arrAt_eq_of_covers 6 _ (by decide +kernel) fun t hf y => ?_
  have hp : Post D t.val (S m c (t.val + 1)) := by
    rw [S_succ]; exact post_body t (given E t) (holds E t.val t.isLt.le)
  have ht := (flush0_6 t).mp hf
  have e := idx6 t
  blk_simp
  rw [after6]
  generalize S m c (t.val + 1) = s at hp ⊢
  idx_vars y
  blk_simp [e]
  exact post_dq t.val hp ht y0 y1 y2

/-- dk's array after the call. -/
theorem final7 : (dats m 0 c).arrAt 7 (cfgs 0).N
    = (fun i => ((D.dk (i 0).val (i 1).val (i 2).val 8320 * scale : ℝ) : EReal) : S8x8320x128.Idx → EReal) := by
  refine (dats m 0 c).arrAt_eq_of_covers 7 _ (by decide +kernel) fun t hf y => ?_
  have hp : Blk (S m c (t.val + 1)).dk (fun h k d => D.dk h k d 8320 * scale) (t.val / 169) (t.val / 13 % 13) := by
    rw [S_succ]; exact body_dk t (given E t) (holds E t.val t.isLt.le) ((flush0_7 t).mp hf)
  have e := idx7 t
  blk_simp
  rw [after7]
  generalize S m c (t.val + 1) = s at hp ⊢
  idx_vars y
  blk_simp [e]
  exact hp y0 y1 y2

/-- dv's array after the call. -/
theorem final8 : (dats m 0 c).arrAt 8 (cfgs 0).N
    = (fun i => ((D.dv (i 0).val (i 1).val (i 2).val 8320 : ℝ) : EReal) : S8x8320x64.Idx → EReal) := by
  refine (dats m 0 c).arrAt_eq_of_covers 8 _ (by decide +kernel) fun t hf y => ?_
  have hp : Blk (S m c (t.val + 1)).dv (fun h k d => D.dv h k d 8320) (t.val / 169) (t.val / 13 % 13) := by
    rw [S_succ]; exact body_dv t (given E t) (holds E t.val t.isLt.le) ((flush0_8 t).mp hf)
  have e := idx8 t
  blk_simp
  rw [after8]
  generalize S m c (t.val + 1) = s at hp ⊢
  idx_vars y
  blk_simp [e]
  exact hp y0 y1 y2

end Cert.KernelIdeal.Body

end
-- ==== Proof.Softmax.lean ====
/- Causal attention and its gradient in real numbers, as the plain definition gives them, and that the padded sums of
   `Cert.Attn.Data` are these: the weights recomputed from the row log-sums are the softmax, and the gradient of the scores
   that the plain derivative yields is the weights times (their gradient minus its mean). -/
module

public import proofs.«01_k».proof.Proof.Attn
public import Mathlib.Analysis.SpecialFunctions.Log.Basic
public import Mathlib.Data.Finset.Fold

@[expose] public section

noncomputable section

namespace Cert.Attn

open Finset

/-- The four arguments as real numbers: q, k, v and the gradient of the output, by head, row and lane. -/
structure Args where
  q : Fin 8 → Fin 8208 → Fin 96 → ℝ
  k : Fin 8 → Fin 8208 → Fin 96 → ℝ
  v : Fin 8 → Fin 8208 → Fin 64 → ℝ
  g : Fin 8 → Fin 8208 → Fin 64 → ℝ

namespace Args

variable (A : Args) (h : Fin 8) (i j : Fin 8208)

/-- The scaled score of query row `i` and key row `j`. -/
def score : ℝ := (∑ d : Fin 96, A.q h i d * A.k h j d) * scale

/-- The same behind the causal mask. -/
def masked : EReal := if j ≤ i then ((A.score h i j : ℝ) : EReal) else ⊥

/-- The largest score of a row. -/
def top : ℝ := (univ.fold max ⊥ fun j => A.masked h i j).toReal

/-- It is a real number: no score is infinite, and the row's own key is not masked. -/
theorem fold_top : univ.fold max ⊥ (fun j => A.masked h i j) = ((A.top h i : ℝ) : EReal) := by
  refine (EReal.coe_toReal ?_ ?_).symm
  · refine ((Finset.fold_max_lt (s := univ) (f := fun j => A.masked h i j) (b := ⊥) (⊤ : EReal)).mpr ⟨bot_lt_top, fun j _ => ?_⟩).ne
    unfold masked
    split
    · exact EReal.coe_lt_top _
    · exact bot_lt_top
  · have : ((A.score h i i : ℝ) : EReal) ≤ univ.fold max ⊥ fun j => A.masked h i j :=
      (Finset.le_fold_max _).mpr (.inr ⟨i, mem_univ _, by rw [masked, if_pos le_rfl]⟩)
    exact ((EReal.bot_lt_coe _).trans_le this).ne'

/-- The exponential of a score less the row's largest; none where masked. -/
def e : ℝ := if j ≤ i then Real.exp (A.score h i j - A.top h i) else 0
/-- Their sum along a row. -/
def l : ℝ := ∑ j, A.e h i j
/-- The softmax. -/
def w : ℝ := A.e h i j * (1 / A.l h i)
/-- The attention's output. -/
def o (d : Fin 64) : ℝ := ∑ j, A.w h i j * A.v h j d
/-- The row's log-sum. -/
def lse : ℝ := A.top h i + Real.log (A.l h i)
/-- The gradient of a softmax weight. -/
def p : ℝ := ∑ d : Fin 64, A.g h i d * A.v h j d
/-- The gradient of a score, as the derivative of exponential, sum and quotient gives it. -/
def s : ℝ := (A.p h i j * (1 / A.l h i) + -(∑ x, A.p h i x * (1 / (A.l h i * A.l h i)) * A.e h i x)) * A.e h i j
/-- The gradient of q. -/
def dq (d : Fin 96) : ℝ := ∑ j, A.s h i j * scale * A.k h j d
/-- The gradient of k. -/
def dk (d : Fin 96) : ℝ := ∑ i, A.s h i j * scale * A.q h i d
/-- The gradient of v. -/
def dv (d : Fin 64) : ℝ := ∑ i, A.g h i d * A.w h i j

theorem e_nonneg : 0 ≤ A.e h i j := by
  unfold e; split
  · exact (Real.exp_pos _).le
  · exact le_rfl

theorem l_pos : 0 < A.l h i :=
  sum_pos' (fun j _ => A.e_nonneg h i j) ⟨i, mem_univ _, by rw [e, if_pos le_rfl]; exact Real.exp_pos _⟩

theorem l_ne : A.l h i ≠ 0 := (A.l_pos h i).ne'

/-- The weight recomputed from the row's log-sum. -/
theorem w_eq (hji : j ≤ i) : Real.exp (A.score h i j - A.lse h i) = A.w h i j := by
  rw [w, e, if_pos hji, lse, ← sub_sub, Real.exp_sub, Real.exp_log (A.l_pos h i), one_div, div_eq_mul_inv]

/-- The mean of the weights' gradients along a row is the product of the output with its gradient. -/
theorem mean : ∑ d, A.g h i d * A.o h i d = ∑ x, A.w h i x * A.p h i x := by
  simp only [o, p, mul_sum]
  rw [sum_comm]
  exact sum_congr rfl fun x _ => sum_congr rfl fun d _ => by ring

/-- The gradient of a score is the weight times (its gradient minus the mean). -/
theorem s_eq : A.s h i j = A.w h i j * (A.p h i j - ∑ d, A.g h i d * A.o h i d) := by
  have hl := A.l_ne h i
  have e1 : ∑ x, A.p h i x * (1 / (A.l h i * A.l h i)) * A.e h i x = (1 / A.l h i) * ∑ x, A.w h i x * A.p h i x := by
    rw [mul_sum]
    refine sum_congr rfl fun x _ => ?_
    rw [w]; field_simp
  rw [mean, s, e1, w]
  ring

/-- A real array with 112 rows of zeros in front, and zero outside. -/
def pad {n : ℕ} (f : Fin 8 → Fin 8208 → Fin n → ℝ) (h r d : ℕ) : ℝ :=
  if c : (h < 8 ∧ 112 ≤ r ∧ r - 112 < 8208) ∧ d < n then f ⟨h, c.1.1⟩ ⟨r - 112, c.1.2.2⟩ ⟨d, c.2⟩ else 0

theorem pad_at {n : ℕ} (f : Fin 8 → Fin 8208 → Fin n → ℝ) (d : Fin n) : pad f h (112 + i) d = f h i d := by
  have hi := i.isLt
  rw [pad, dif_pos ⟨⟨h.isLt, by omega, by omega⟩, d.isLt⟩]
  congr 1
  exact Fin.ext (by show 112 + i.val - 112 = i.val; omega)
theorem pad_lane {n : ℕ} (f : Fin 8 → Fin 8208 → Fin n → ℝ) (h r d : ℕ) (hd : n ≤ d) : pad f h r d = 0 :=
  dif_neg fun c => by omega
theorem pad_row {n : ℕ} (f : Fin 8 → Fin 8208 → Fin n → ℝ) (h r d : ℕ) (hr : r < 112) : pad f h r d = 0 :=
  dif_neg fun c => by omega

/-- The arrays that the call is given. -/
def data : Data where
  Q := pad A.q
  K := pad A.k
  V := pad A.v
  G := pad A.g
  O := pad A.o
  L h r := if c : h < 8 ∧ 112 ≤ r ∧ r - 112 < 8208 then A.lse ⟨h, c.1⟩ ⟨r - 112, c.2.2⟩ else 0

theorem data_L : A.data.L h (112 + i) = A.lse h i := by
  have hi := i.isLt
  show dite _ _ _ = _
  rw [dif_pos ⟨h.isLt, by omega, by omega⟩]
  congr 1
  exact Fin.ext (by show 112 + i.val - 112 = i.val; omega)

theorem data_dot : A.data.dot h (112 + j) (112 + i) = ∑ d : Fin 96, A.q h i d * A.k h j d := by
  rw [Data.dot, show 128 = 96 + 32 from rfl, sum_range_add, sum_eq_zero (s := range 32), add_zero, sum_range]
  · refine sum_congr rfl fun d _ => ?_
    show pad A.k h (112 + j) d * pad A.q h (112 + i) d = _
    rw [pad_at, pad_at, mul_comm]
  · intro d _
    show pad A.k _ _ _ * _ = _
    rw [pad_lane _ _ _ _ (by omega), zero_mul]

theorem data_P : A.data.P h (112 + j) (112 + i) = A.p h i j := by
  rw [Data.P, sum_range, p]
  refine sum_congr rfl fun d _ => ?_
  show pad A.v h (112 + j) d * pad A.g h (112 + i) d = _
  rw [pad_at, pad_at, mul_comm]

theorem data_Dl : A.data.Dl h (112 + i) = ∑ d, A.g h i d * A.o h i d := by
  rw [Data.Dl, sum_range]
  refine sum_congr rfl fun d _ => ?_
  show pad A.g h (112 + i) d * pad A.o h (112 + i) d = _
  rw [pad_at, pad_at]

theorem data_W : A.data.W h (112 + j) (112 + i) = A.w h i j := by
  rw [Data.W]
  by_cases hji : j ≤ i
  · rw [if_pos ⟨by have : j.val ≤ i.val := hji; omega, by omega⟩, data_dot, data_L, ← w_eq A h i j hji, score]
  · rw [if_neg (fun c => hji (by have := c.1; exact Fin.le_def.mpr (by omega))), w, e, if_neg hji, zero_mul]

theorem data_S : A.data.S h (112 + j) (112 + i) = A.s h i j := by
  rw [Data.S, data_W, data_P, data_Dl, s_eq]

/-- Padding rows have no weights, neither as keys nor as queries. -/
theorem W_key (D : Data) (h k q : ℕ) (hk : k < 112) : D.W h k q = 0 := if_neg fun c => by omega
theorem W_query (D : Data) (h k q : ℕ) (hq : q < 112) : D.W h k q = 0 := if_neg fun c => by omega
theorem S_key (D : Data) (h k q : ℕ) (hk : k < 112) : D.S h k q = 0 := by rw [Data.S, W_key D h k q hk, zero_mul]
theorem S_query (D : Data) (h k q : ℕ) (hq : q < 112) : D.S h k q = 0 := by rw [Data.S, W_query D h k q hq, zero_mul]

/-- A sum over all rows whose padding terms vanish. -/
theorem sum_rows (f : ℕ → ℝ) (hf : ∀ r < 112, f r = 0) : ∑ r ∈ range 8320, f r = ∑ i : Fin 8208, f (112 + i) := by
  rw [show 8320 = 112 + 8208 from rfl, sum_range_add, sum_eq_zero (s := range 112) (fun r hr => hf r (mem_range.mp hr)), zero_add, sum_range fun r => f (112 + r)]

theorem data_dv (r : ℕ) (d : Fin 64) : A.data.dv h r d 8320 = pad A.dv h r d := by
  rw [Data.dv, sum_rows _ (fun q hq => by rw [W_query _ _ _ _ hq, zero_mul])]
  by_cases hr : 112 ≤ r ∧ r - 112 < 8208
  · obtain ⟨j, rfl⟩ : ∃ j : Fin 8208, r = 112 + j := ⟨⟨r - 112, hr.2⟩, by show r = 112 + (r - 112); omega⟩
    rw [pad_at, dv]
    refine sum_congr rfl fun i _ => ?_
    rw [data_W]
    show _ * pad A.g h (112 + i) d = _
    rw [pad_at, mul_comm]
  · rw [pad, dif_neg (fun c => hr c.1.2)]
    refine sum_eq_zero fun i _ => ?_
    rw [Data.W, if_neg (by have := i.isLt; omega), zero_mul]

theorem data_dk (r : ℕ) (d : ℕ) : A.data.dk h r d 8320 * scale = pad A.dk h r d := by
  rw [Data.dk, sum_rows _ (fun q hq => by rw [S_query _ _ _ _ hq, zero_mul])]
  by_cases hd : d < 96
  · by_cases hr : 112 ≤ r ∧ r - 112 < 8208
    · obtain ⟨j, rfl⟩ : ∃ j : Fin 8208, r = 112 + j := ⟨⟨r - 112, hr.2⟩, by show r = 112 + (r - 112); omega⟩
      rw [show d = (⟨d, hd⟩ : Fin 96).val from rfl, pad_at, dk, sum_mul]
      refine sum_congr rfl fun i _ => ?_
      rw [data_S]
      show _ * pad A.q h (112 + i) (⟨d, hd⟩ : Fin 96) * _ = _
      rw [pad_at]; ring
    · rw [pad, dif_neg (fun c => hr c.1.2), sum_eq_zero, zero_mul]
      intro i _
      rw [Data.S, Data.W, if_neg (by have := i.isLt; omega), zero_mul, zero_mul]
  · rw [pad_lane _ _ _ _ (by omega), sum_eq_zero, zero_mul]
    intro i _
    show _ * pad A.q _ _ _ = _
    rw [pad_lane _ _ _ _ (by omega), mul_zero]

theorem data_dq (r : ℕ) (hr : r < 8320) (d : ℕ) : A.data.dq h r d 8320 = pad A.dq h r d := by
  rw [Data.dq, sum_rows _ (fun k hk => by rw [S_key _ _ _ _ hk, zero_mul])]
  by_cases hd : d < 96
  · by_cases hr' : 112 ≤ r
    · obtain ⟨i, rfl⟩ : ∃ i : Fin 8208, r = 112 + i := ⟨⟨r - 112, by omega⟩, by show r = 112 + (r - 112); omega⟩
      rw [show d = (⟨d, hd⟩ : Fin 96).val from rfl, pad_at, dq, sum_mul]
      refine sum_congr rfl fun j _ => ?_
      rw [data_S]
      show _ * pad A.k h (112 + j) (⟨d, hd⟩ : Fin 96) * _ = _
      rw [pad_at]; ring
    · rw [pad_row _ _ _ _ (by omega), sum_eq_zero, zero_mul]
      intro j _
      rw [S_query _ _ _ _ (by omega), zero_mul]
  · rw [pad_lane _ _ _ _ (by omega), sum_eq_zero, zero_mul]
    intro j _
    show _ * pad A.k _ _ _ = _
    rw [pad_lane _ _ _ _ (by omega), mul_zero]

end Args

end Cert.Attn

end
-- ==== Proof.Masked.lean ====
/- The operations of masked softmax on real numbers in the extended reals: the score behind the mask, the row's largest, the
   exponential, the quotient. -/
module

public import proofs.«01_k».proof.Proof.Tiles
public import proofs.«01_k».proof.Proof.Softmax

@[expose] public section

noncomputable section

namespace Cert.Attn.Args

open Idealize.ShloMosaic Cert.Attn

variable (A : Args) (h : Fin 8) (i j : Fin 8208)

theorem ninf_val : Ideal.ofBits .f32 0xFF800000#32 = ⊥ := by simp [Ideal.ofBits, Ideal.ieee]
theorem one_val : Ideal.ofBits .f32 0x3F800000#32 = ((1 : ℝ) : EReal) := by
  simp [Ideal.ofBits, Ideal.ieee, -EReal.coe_mul]; norm_num

/-- The causal mask as the two row numbers compared. -/
theorem select_causal {α : Type} (x y : α) :
    Scalar.select (IntOp.cmpi CmpIPredicate.sle (BitVec.ofNat 32 j) (BitVec.ofNat 32 i)) x y = if j ≤ i then x else y := by
  have hi := i.isLt; have hj := j.isLt
  rw [Cert.KernelIdeal.Body.cmpi_sle_nat j i (by omega) (by omega)]
  by_cases c : j ≤ i
  · rw [if_pos c, decide_eq_true (Fin.le_def.mp c)]; rfl
  · rw [if_neg c, decide_eq_false (fun c' => c (Fin.le_def.mpr c'))]; rfl

theorem score_val {q k : Fin 96 → EReal} (hq : ∀ d, q d = ((A.q h i d : ℝ) : EReal)) (hk : ∀ d, k d = ((A.k h j d : ℝ) : EReal)) :
    (∑ d, q d * k d) * Ideal.ofBits .f32 0x3DD105EC#32 = ((A.score h i j : ℝ) : EReal) := by
  rw [Cert.KernelIdeal.Body.scale_val, score, EReal.coe_mul, ← coe_sum]
  simp only [EReal.coe_mul, hq, hk]

theorem masked_val {x : EReal} (hx : x = ((A.score h i j : ℝ) : EReal)) :
    Scalar.select (IntOp.cmpi CmpIPredicate.sle (BitVec.ofNat 32 j) (BitVec.ofNat 32 i)) x (Ideal.ofBits .f32 0xFF800000#32) = A.masked h i j := by
  rw [select_causal, ninf_val, hx]; rfl

theorem exp_val : Ideal.exp (A.masked h i j - ((A.top h i : ℝ) : EReal)) = ((A.e h i j : ℝ) : EReal) := by
  unfold masked e
  split
  · rw [← EReal.coe_sub, Ideal.exp_coe]
  · rw [EReal.bot_sub, Ideal.exp_bot, EReal.coe_zero]

theorem div_val (x : ℝ) : Ideal.div (x : EReal) ((A.l h i : ℝ) : EReal) = ((x * (1 / A.l h i) : ℝ) : EReal) := by
  rw [Ideal.div_coe (A.l_ne h i), EReal.coe_mul]

theorem log_val : Ideal.log ((A.l h i : ℝ) : EReal) = ((Real.log (A.l h i) : ℝ) : EReal) := by
  rw [Ideal.log_coe, if_neg (not_le.mpr (A.l_pos h i))]

end Cert.Attn.Args

end
-- ==== Proof.Finite.lean ====
/- The precondition read: where it holds, every element of the four arguments is a real number. -/
module

public import proofs.«01_k».proof.Pre_finite
public import proofs.«01_k».proof.Proof.Softmax
public import Idealize.ShloMosaic.Lib.Pointwise
public import Idealize.ShloMosaic.Lib.ReduceAll

@[expose] public section

noncomputable section

namespace Cert.Pre_finite

open Idealize.ShloMosaic Cert.Attn

/-- The shape relations of the precondition's operations. -/
theorem facts : Facts where
  bcast_S_S8x8208x96 := by decide
  reducesTo_S8x8208x96_S_d0_1_2 := by decide
  h_S_ := by decide
  bcast_S_S8x8208x64 := by decide
  reducesTo_S8x8208x64_S_d0_1_2 := by decide

/-- The arguments are real numbers. -/
structure Real4 (q k : FVec Ideal S8x8208x96 .f32) (v g : FVec Ideal S8x8208x64 .f32) (A : Args) : Prop where
  q : ∀ h r d, (q (ix3 h r d) : EReal) = ((A.q h r d : ℝ) : EReal)
  k : ∀ h r d, (k (ix3 h r d) : EReal) = ((A.k h r d : ℝ) : EReal)
  v : ∀ h r d, (v (ix3 h r d) : EReal) = ((A.v h r d : ℝ) : EReal)
  g : ∀ h r d, (g (ix3 h r d) : EReal) = ((A.g h r d : ℝ) : EReal)

/-- A number whose magnitude is below infinity is real. -/
theorem real_of_lt (x : Ideal .f32)
    (e : FloatOps.cmpf .olt (FloatOps.hostAbsf x) (FloatOps.ofBits (F := Ideal) .f32 0x7F800000#32) = 1#1) :
    (x : EReal) = ((EReal.toReal x : ℝ) : EReal) := by
  have htop : Ideal.ofBits .f32 0x7F800000#32 = ⊤ := by simp [Ideal.ofBits, Ideal.ieee]
  replace e : Ideal.cmp .olt (max (x : EReal) (-(x : EReal))) (Ideal.ofBits .f32 0x7F800000#32) = 1#1 := e
  rw [htop] at e
  have hlt : max (x : EReal) (-(x : EReal)) < ⊤ := by
    by_contra hn
    simp [Ideal.cmp, hn] at e
  rw [max_lt_iff] at hlt
  refine (EReal.coe_toReal hlt.1.ne ?_).symm
  intro hb
  have := hlt.2
  rw [hb] at this
  simp at this

theorem andi_one (a b : BitVec 1) (e : IntOp.andi a b = 1#1) : a = 1#1 ∧ b = 1#1 := by
  revert a b; decide

variable [Facts]
open Facts

theorem all96 (x : FVec Ideal S8x8208x96 .f32) (j : S_.Idx)
    (e : Host.reduce IntOp.andi (cmpf .olt (Host.absf x) (broadcastInDim S8x8208x96 ![] bcast_S_S8x8208x96 (constant S_ .f32 0x7F800000#32)))
      (constantI S_ 1 1#1) reducesTo_S8x8208x96_S_d0_1_2 h_S_ j = 1#1) (i : S8x8208x96.Idx) : (x i : EReal) = ((EReal.toReal (x i) : ℝ) : EReal) :=
  haveI : Subsingleton S_.Idx := ⟨fun a b => funext fun k => k.elim0⟩
  real_of_lt _ (Host.reduce_andi_all _ _ _ _ j e i)

theorem all64 (x : FVec Ideal S8x8208x64 .f32) (j : S_.Idx)
    (e : Host.reduce IntOp.andi (cmpf .olt (Host.absf x) (broadcastInDim S8x8208x64 ![] bcast_S_S8x8208x64 (constant S_ .f32 0x7F800000#32)))
      (constantI S_ 1 1#1) reducesTo_S8x8208x64_S_d0_1_2 h_S_ j = 1#1) (i : S8x8208x64.Idx) : (x i : EReal) = ((EReal.toReal (x i) : ℝ) : EReal) :=
  haveI : Subsingleton S_.Idx := ⟨fun a b => funext fun k => k.elim0⟩
  real_of_lt _ (Host.reduce_andi_all _ _ _ _ j e i)

/-- Where the precondition holds the arguments are real numbers. -/
theorem real (q k : FVec Ideal S8x8208x96 .f32) (v g : FVec Ideal S8x8208x64 .f32) (e : fn (F := Ideal) q k v g = fun _ => 1#1) :
    ∃ A : Args, Real4 q k v g A := by
  have e0 := congrFun e (fun a => a.elim0)
  obtain ⟨e123, e4⟩ := andi_one _ _ e0
  obtain ⟨e12, e3⟩ := andi_one _ _ e123
  obtain ⟨e1, e2⟩ := andi_one _ _ e12
  exact ⟨⟨fun h r d => EReal.toReal (q (ix3 h r d)), fun h r d => EReal.toReal (k (ix3 h r d)), fun h r d => EReal.toReal (v (ix3 h r d)),
    fun h r d => EReal.toReal (g (ix3 h r d))⟩, fun h r d => all96 q _ e1 _, fun h r d => all96 k _ e2 _, fun h r d => all64 v _ e3 _, fun h r d => all64 g _ e4 _⟩

end Cert.Pre_finite

end
-- ==== Proof.Inputs.lean ====
/- The arrays that the call is given hold real numbers where the arguments do: the padded arguments, the attention's output and
   the row log-sums. -/
module

public import proofs.«01_k».proof.Proof.Host
public import proofs.«01_k».proof.Proof.Arrays
public import proofs.«01_k».proof.Proof.Masked
public import proofs.«01_k».proof.Proof.Finite

@[expose] public section

noncomputable section

namespace Cert.KernelIdeal.Host0

open Idealize.ShloMosaic Idealize.ShloMosaic.TcCoe Idealize.SL.Sem
open Cert.KernelIdeal Cert.KernelIdeal.Gen Cert.Attn

section
variable {q k : FVec Ideal S8x8208x96 .f32} {v g : FVec Ideal S8x8208x64 .f32} {A : Args} (R : Cert.Pre_finite.Real4 q k v g A)
  (h : Fin 8) (i j : Fin 8208)
include R

theorem scores_val : (scores q k (ix3 h i j) : EReal) = A.masked h i j :=
  (scores_at q k h i j).trans (A.masked_val h i j (A.score_val h i j (R.q h i) (R.k h j)))

theorem rowMax_val : (rowMax q k (ix2 h i) : EReal) = ((A.top h i : ℝ) : EReal) := by
  refine (rowMax_at q k h i).trans (Eq.trans ?_ (A.fold_top h i))
  rw [Args.ninf_val]
  exact Finset.fold_congr fun x _ => scores_val R h i x

theorem rowMax1_val : (rowMax1 q k (ix3 h i 0) : EReal) = ((A.top h i : ℝ) : EReal) := (rowMax1_at q k h i).trans (rowMax_val R h i)

theorem expo_val : (expo q k (ix3 h i j) : EReal) = ((A.e h i j : ℝ) : EReal) := by
  refine (expo_at q k h i j).trans (Eq.trans ?_ (A.exp_val h i j))
  exact congrArg Ideal.exp (congrArg₂ (fun x y : EReal => x - y) (scores_val R h i j) (rowMax1_val R h i))

theorem rowSum1_val : (rowSum1 q k (ix3 h i 0) : EReal) = ((A.l h i : ℝ) : EReal) := by
  refine (rowSum1_at q k h i).trans ?_
  rw [Args.l, ← coe_sum]
  exact Finset.sum_congr rfl fun x _ => expo_val R h i x

theorem out_val (d : Fin 64) : (out q k v (ix3 h i d) : EReal) = ((A.o h i d : ℝ) : EReal) := by
  refine (out_at q k v h i d).trans ?_
  rw [Args.o, ← coe_sum]
  refine Finset.sum_congr rfl fun x _ => ?_
  rw [EReal.coe_mul]
  refine congrArg₂ (fun x y : EReal => x * y) ?_ (R.v h x d)
  refine Eq.trans ?_ (A.div_val h i _)
  exact congrArg₂ (fun x y : EReal => Ideal.div x y) (expo_val R h i x) (rowSum1_val R h i)

theorem logSum_val : (logSum q k (ix3 h 0 i) : EReal) = ((A.lse h i : ℝ) : EReal) := by
  refine (logSum_at q k h i).trans ?_
  rw [Args.lse, EReal.coe_add, ← A.log_val]
  exact congrArg₂ (fun x y : EReal => x + y) (rowMax1_val R h i) (congrArg Ideal.log (rowSum1_val R h i))

end

variable (m : (ℓ : Loc nD τ sig) → Buf (Elt Ideal) ℓ) (c : Dev nD)

theorem padQ_arr {q : FVec Ideal S8x8208x96 .f32} {f : Fin 8 → Fin 8208 → Fin 96 → ℝ} (hq : ∀ h r d, (q (ix3 h r d) : EReal) = ((f h r d : ℝ) : EReal)) :
    Body.Arr (padQ q) (Args.pad f) := by
  intro h r d
  refine (padQ_at q h r d).trans ?_
  unfold Args.pad
  by_cases e : (112 ≤ r.val ∧ r.val - 112 < 8208) ∧ d.val < 96
  · rw [dif_pos e, dif_pos ⟨⟨h.isLt, e.1⟩, e.2⟩]; exact hq _ _ _
  · rw [dif_neg e, dif_neg fun c => e ⟨c.1.2, c.2⟩]; rfl

theorem padV_arr {q : FVec Ideal S8x8208x64 .f32} {f : Fin 8 → Fin 8208 → Fin 64 → ℝ} (hq : ∀ h r d, (q (ix3 h r d) : EReal) = ((f h r d : ℝ) : EReal)) :
    Body.Arr (padV q) (Args.pad f) := by
  intro h r d
  refine (padV_at q h r d).trans ?_
  unfold Args.pad
  by_cases e : (112 ≤ r.val ∧ r.val - 112 < 8208) ∧ d.val < 64
  · rw [dif_pos e, dif_pos ⟨⟨h.isLt, e.1⟩, e.2⟩]; exact hq _ _ _
  · rw [dif_neg e, dif_neg fun c => e ⟨c.1.2, c.2⟩]; rfl

theorem padO_arr {q : FVec Ideal S8x8208x64 .f32} {f : Fin 8 → Fin 8208 → Fin 64 → ℝ} (hq : ∀ h r d, (q (ix3 h r d) : EReal) = ((f h r d : ℝ) : EReal)) :
    Body.Arr (padO q) (Args.pad f) := by
  intro h r d
  refine (padO_at q h r d).trans ?_
  unfold Args.pad
  by_cases e : 112 ≤ r.val ∧ r.val - 112 < 8208
  · rw [dif_pos e, dif_pos ⟨⟨h.isLt, e⟩, d.isLt⟩]; exact hq _ _ _
  · rw [dif_neg e, dif_neg fun c => e c.1.2]; rfl

/-- What the call starts from. -/
theorem entry {A : Args} (R : Cert.Pre_finite.Real4 (m ((c : Thread nD τ).loc main_arg0)) (m ((c : Thread nD τ).loc main_arg1))
    (m ((c : Thread nD τ).loc main_arg2)) (m ((c : Thread nD τ).loc main_arg3)) A) : Body.Entry m c A.data where
  q := by rw [q_entry]; exact padQ_arr R.q
  k := by rw [k_entry]; exact padQ_arr R.k
  v := by rw [v_entry]; exact padV_arr R.v
  dO := by rw [dO_entry]; exact padO_arr R.g
  lse h r := by
    rw [lse_entry]
    refine (padL_at h _ r).trans ?_
    show _ = ((dite _ _ _ : ℝ) : EReal)
    by_cases e : 112 ≤ r.val ∧ r.val - 112 < 8208
    · rw [dif_pos e, dif_pos ⟨h.isLt, e⟩]; exact logSum_val R _ _
    · rw [dif_neg e, dif_neg fun c => e c.2]; rfl
  o := by rw [o_entry]; exact padO_arr (out_val R)

end Cert.KernelIdeal.Host0

end
-- ==== Proof.RefRead.lean ====
/- The reference on real numbers: each stage of its computation at an index, down to the three gradients. -/
module

public import proofs.«01_k».proof.Proof.Gen.ReferenceIdeal.Read
public import proofs.«01_k».proof.Proof.Masked
public import proofs.«01_k».proof.Proof.Finite

@[expose] public section

set_option maxRecDepth 8192

noncomputable section

namespace Cert.ReferenceIdeal.Real

open Idealize.ShloMosaic Idealize.ShloMosaic.TcCoe Idealize.SL.Sem
open Cert.ReferenceIdeal Cert.ReferenceIdeal.Gen Cert.ReferenceIdeal.Read Cert.Attn

variable {q k : FVec Ideal S8x8208x96 .f32} {v g : FVec Ideal S8x8208x64 .f32} {A : Args} (R : Cert.Pre_finite.Real4 q k v g A)
  (h : Fin 8) (i j : Fin 8208)

theorem max_val (x y : Ideal .f32) : (FloatOps.maximumf x y : EReal) = max (x : EReal) (y : EReal) := rfl

theorem v0 : (val_main_v0 (F := Ideal) q k (ix3 h i j) : EReal) = ∑ d : Fin 96, (q (ix3 h i d) : EReal) * k (ix3 h j d) := by
  pointwise [val_main_v0]

include R

theorem v2 : (val_main_v2 (F := Ideal) q k (ix3 h i j) : EReal) = ((A.score h i j : ℝ) : EReal) := by
  have e : (val_main_v2 (F := Ideal) q k (ix3 h i j) : EReal)
      = (val_main_v0 (F := Ideal) q k (ix3 h i j) : EReal) * Ideal.ofBits .f32 0x3DD105EC#32 := by
    pointwise [val_main_v2, val_main_v1, val_main_cst]
  rw [e, v0 h i j]
  exact A.score_val h i j (R.q h i) (R.k h j)

theorem v6 : (val_main_v6_0 (F := Ideal) q k (ix3 h i j) : EReal) = A.masked h i j := by
  have e : (val_main_v6_0 (F := Ideal) q k (ix3 h i j) : EReal)
      = Scalar.select (IntOp.cmpi CmpIPredicate.sle (BitVec.ofNat 32 j) (BitVec.ofNat 32 i)) (val_main_v2 (F := Ideal) q k (ix3 h i j) : EReal)
          (Ideal.ofBits .f32 0xFF800000#32) := by
    pointwise [val_main_v6_0, val_main_v5, val_main_v4, val_main_v3, val_main_call0_v1, val_main_call0_v0, val_main_cst_0]
    rfl
  exact e.trans (A.masked_val h i j (v2 R h i j))

theorem v7 : (val_main_v7 (F := Ideal) q k (ix2 h i) : EReal) = ((A.top h i : ℝ) : EReal) := by
  have e : (val_main_v7 (F := Ideal) q k (ix2 h i) : EReal)
      = Finset.univ.fold max (Ideal.ofBits .f32 0xFF800000#32) fun x : Fin 8208 => val_main_v6_0 (F := Ideal) q k (ix3 h i x) := by
    pointwise [val_main_v7, val_main_cst_1]
  refine e.trans (Eq.trans ?_ (A.fold_top h i))
  rw [Args.ninf_val]
  exact Finset.fold_congr fun x _ => v6 R h i x

theorem v14 : (val_main_v14 (F := Ideal) q k (ix2 h i) : EReal) = ((A.top h i : ℝ) : EReal) := by
  rw [val_main_v14_apply, val_main_v13_apply, val_main_cst_3_apply]
  exact (max_val _ _).trans ((congrArg₂ (fun x y : EReal => max x y) Args.ninf_val (v7 R h i)).trans (max_eq_right bot_le))

theorem v27 : (val_main_v27 (F := Ideal) q k (ix3 h i j) : EReal) = ((A.e h i j : ℝ) : EReal) := by
  have e : (val_main_v27 (F := Ideal) q k (ix3 h i j) : EReal)
      = Ideal.exp (val_main_v6_0 (F := Ideal) q k (ix3 h i j) - val_main_v14 (F := Ideal) q k (ix2 h i)) := by
    pointwise [val_main_v27, val_main_v26, val_main_v25, val_main_v24]
  rw [e, ← A.exp_val h i j]
  exact congrArg Ideal.exp (congrArg₂ (fun x y : EReal => x - y) (v6 R h i j) (v14 R h i))

theorem v29 : (val_main_v29 (F := Ideal) q k (ix3 h i 0) : EReal) = ((A.l h i : ℝ) : EReal) := by
  have e : (val_main_v29 (F := Ideal) q k (ix3 h i 0) : EReal) = ∑ x : Fin 8208, (val_main_v27 (F := Ideal) q k (ix3 h i x) : EReal) := by
    pointwise [val_main_v29, val_main_v28, val_main_cst_9]
  rw [e, Args.l, ← coe_sum]
  exact Finset.sum_congr rfl fun x _ => v27 R h i x

theorem v31 : (val_main_v31 (F := Ideal) q k (ix3 h i j) : EReal) = ((A.w h i j : ℝ) : EReal) := by
  have e : (val_main_v31 (F := Ideal) q k (ix3 h i j) : EReal)
      = Ideal.div (val_main_v27 (F := Ideal) q k (ix3 h i j)) (val_main_v29 (F := Ideal) q k (ix3 h i 0)) := by
    pointwise [val_main_v31, val_main_v30]
  rw [e]
  refine Eq.trans ?_ (A.div_val h i _)
  exact congrArg₂ (fun x y : EReal => Ideal.div x y) (v27 R h i j) (v29 R h i)

theorem v34 : (val_main_v34 (F := Ideal) q k (ix3 h i 0) : EReal) = ((1 / (A.l h i * A.l h i) : ℝ) : EReal) := by
  have e : (val_main_v34 (F := Ideal) q k (ix3 h i 0) : EReal)
      = Ideal.div (Ideal.ofBits .f32 0x3F800000#32) (val_main_v29 (F := Ideal) q k (ix3 h i 0) * val_main_v29 (F := Ideal) q k (ix3 h i 0)) := by
    pointwise [val_main_v34, val_main_v33, val_main_v32, val_main_cst_10]
  rw [e, Args.one_val, v29 R h i, ← EReal.coe_mul, Ideal.div_coe (mul_ne_zero (A.l_ne h i) (A.l_ne h i)), ← EReal.coe_mul, one_mul]

theorem v37 (d : Fin 64) : (val_main_v37 (F := Ideal) q k g (ix3 h j d) : EReal) = ((A.dv h j d : ℝ) : EReal) := by
  have e : (val_main_v37 (F := Ideal) q k g (ix3 h j d) : EReal) = ∑ x : Fin 8208, (g (ix3 h x d) : EReal) * val_main_v31 (F := Ideal) q k (ix3 h x j) := by
    pointwise [val_main_v37, val_main_v36]
  rw [e, Args.dv, ← coe_sum]
  refine Finset.sum_congr rfl fun x _ => ?_
  rw [EReal.coe_mul]
  exact congrArg₂ (fun x y : EReal => x * y) (R.g h x d) (v31 R h x j)

theorem v38 : (val_main_v38 (F := Ideal) v g (ix3 h i j) : EReal) = ((A.p h i j : ℝ) : EReal) := by
  have e : (val_main_v38 (F := Ideal) v g (ix3 h i j) : EReal) = ∑ d : Fin 64, (g (ix3 h i d) : EReal) * v (ix3 h j d) := by
    pointwise [val_main_v38]
  rw [e, Args.p, ← coe_sum]
  refine Finset.sum_congr rfl fun x _ => ?_
  rw [EReal.coe_mul]
  exact congrArg₂ (fun x y : EReal => x * y) (R.g h i x) (R.v h j x)

theorem v41 : (val_main_v41 (F := Ideal) q k v g (ix3 h i j) : EReal) = ((A.p h i j * (1 / (A.l h i * A.l h i)) * A.e h i j : ℝ) : EReal) := by
  have e : (val_main_v41 (F := Ideal) q k v g (ix3 h i j) : EReal)
      = (val_main_v38 (F := Ideal) v g (ix3 h i j) : EReal) * val_main_v34 (F := Ideal) q k (ix3 h i 0) * val_main_v27 (F := Ideal) q k (ix3 h i j) := by
    pointwise [val_main_v41, val_main_v40, val_main_v39]
  rw [e, v38 R h i j, v34 R h i, v27 R h i j, ← EReal.coe_mul, ← EReal.coe_mul]

theorem v42 : (val_main_v42 (F := Ideal) q k v g (ix2 h i) : EReal)
    = ((∑ x, A.p h i x * (1 / (A.l h i * A.l h i)) * A.e h i x : ℝ) : EReal) := by
  have e : (val_main_v42 (F := Ideal) q k v g (ix2 h i) : EReal) = ∑ x : Fin 8208, (val_main_v41 (F := Ideal) q k v g (ix3 h i x) : EReal) := by
    pointwise [val_main_v42, val_main_cst_11]
  rw [e, ← coe_sum]
  exact Finset.sum_congr rfl fun x _ => v41 R h i x

theorem v47 : (val_main_v47 (F := Ideal) q k v g (ix2 h i) : EReal)
    = ((-(∑ x, A.p h i x * (1 / (A.l h i * A.l h i)) * A.e h i x) : ℝ) : EReal) := by
  have e : (val_main_v47 (F := Ideal) q k v g (ix2 h i) : EReal) = ∑ x : Fin 1, -(val_main_v43 (F := Ideal) q k v g (ix3 h i x) : EReal) := by
    pointwise [val_main_v47, val_main_v44, val_main_cst_12]
  have ei : idx_main_v43 (ix3 h i 0) = ix2 h i := by
    have hh := h.isLt; have hi := i.isLt
    refine funext fun a => match a with
      | ⟨0, _⟩ => Fin.ext ?_
      | ⟨1, _⟩ => Fin.ext ?_
    · show ((h.val * 8208 + i.val) * 1 + 0) / 8208 = h.val
      omega
    · show ((h.val * 8208 + i.val) * 1 + 0) % 8208 = i.val
      omega
  rw [e, Fin.sum_univ_one, val_main_v43_apply, ei, v42 R h i, EReal.coe_neg]

theorem v51 : (val_main_v51 (F := Ideal) q k v g (ix3 h i j) : EReal) = ((A.s h i j : ℝ) : EReal) := by
  have e : (val_main_v51 (F := Ideal) q k v g (ix3 h i j) : EReal)
      = Scalar.select (IntOp.cmpi CmpIPredicate.sle (BitVec.ofNat 32 j) (BitVec.ofNat 32 i))
          ((Ideal.div (val_main_v38 (F := Ideal) v g (ix3 h i j)) (val_main_v29 (F := Ideal) q k (ix3 h i 0))
            + val_main_v47 (F := Ideal) q k v g (ix2 h i)) * val_main_v27 (F := Ideal) q k (ix3 h i j)) 0 := by
    pointwise [val_main_v51, val_main_v5, val_main_v4, val_main_v3, val_main_v50, val_main_v49, val_main_v48, val_main_v46, val_main_v45, val_main_call1_v0, val_main_call1_cst]
  rw [e, Args.select_causal, v38 R h i j, v29 R h i, v47 R h i, v27 R h i j, A.div_val, ← EReal.coe_add, ← EReal.coe_mul]
  by_cases c : j ≤ i
  · rw [if_pos c]; rfl
  · rw [if_neg c, Args.s, Args.e, if_neg c, mul_zero, EReal.coe_zero]

theorem v53 : (val_main_v53 (F := Ideal) q k v g (ix3 h i j) : EReal) = ((A.s h i j * scale : ℝ) : EReal) := by
  have e : (val_main_v53 (F := Ideal) q k v g (ix3 h i j) : EReal)
      = (val_main_v51 (F := Ideal) q k v g (ix3 h i j) : EReal) * Ideal.ofBits .f32 0x3DD105EC#32 := by
    pointwise [val_main_v53, val_main_v52, val_main_cst_13]
  rw [e, v51 R h i j, Cert.KernelIdeal.Body.scale_val, EReal.coe_mul]

theorem v54 (d : Fin 96) : (val_main_v54 (F := Ideal) q k v g (ix3 h j d) : EReal) = ((A.dk h j d : ℝ) : EReal) := by
  have e : (val_main_v54 (F := Ideal) q k v g (ix3 h j d) : EReal)
      = ∑ x : Fin 8208, (val_main_v53 (F := Ideal) q k v g (ix3 h x j) : EReal) * q (ix3 h x d) := by
    pointwise [val_main_v54]
  rw [e, Args.dk, ← coe_sum]
  refine Finset.sum_congr rfl fun x _ => ?_
  rw [EReal.coe_mul]
  exact congrArg₂ (fun x y : EReal => x * y) (v53 R h x j) (R.q h x d)

theorem v55 (d : Fin 96) : (val_main_v55 (F := Ideal) q k v g (ix3 h i d) : EReal) = ((A.dq h i d : ℝ) : EReal) := by
  have e : (val_main_v55 (F := Ideal) q k v g (ix3 h i d) : EReal)
      = ∑ x : Fin 8208, (val_main_v53 (F := Ideal) q k v g (ix3 h i x) : EReal) * k (ix3 h x d) := by
    pointwise [val_main_v55]
  rw [e, Args.dq, ← coe_sum]
  refine Finset.sum_congr rfl fun x _ => ?_
  rw [EReal.coe_mul]
  exact congrArg₂ (fun x y : EReal => x * y) (v53 R h i x) (R.k h x d)

/-- The gradient of q as the reference returns it. -/
theorem v56 (r : Fin 8320) (d : Fin 128) : (val_main_v56 (F := Ideal) q k v g (ix3 h r d) : EReal) = ((Args.pad A.dq h r d : ℝ) : EReal) := by
  have e : (val_main_v56 (F := Ideal) q k v g (ix3 h r d) : EReal)
      = if e : (112 ≤ r.val ∧ r.val - 112 < 8208) ∧ d.val < 96 then val_main_v55 (F := Ideal) q k v g (ix3 h ⟨r.val - 112, e.1.2⟩ ⟨d.val, e.2⟩) else (0 : EReal) := by
    pointwise [val_main_v56, val_main_cst_14]
  rw [e, Args.pad]
  by_cases c : (112 ≤ r.val ∧ r.val - 112 < 8208) ∧ d.val < 96
  · rw [dif_pos c, dif_pos ⟨⟨h.isLt, c.1⟩, c.2⟩]; exact v55 R h _ _
  · rw [dif_neg c, dif_neg fun c' => c ⟨c'.1.2, c'.2⟩]; rfl

/-- The gradient of k. -/
theorem v57 (r : Fin 8320) (d : Fin 128) : (val_main_v57 (F := Ideal) q k v g (ix3 h r d) : EReal) = ((Args.pad A.dk h r d : ℝ) : EReal) := by
  have e : (val_main_v57 (F := Ideal) q k v g (ix3 h r d) : EReal)
      = if e : (112 ≤ r.val ∧ r.val - 112 < 8208) ∧ d.val < 96 then val_main_v54 (F := Ideal) q k v g (ix3 h ⟨r.val - 112, e.1.2⟩ ⟨d.val, e.2⟩) else (0 : EReal) := by
    pointwise [val_main_v57, val_main_cst_15]
  rw [e, Args.pad]
  by_cases c : (112 ≤ r.val ∧ r.val - 112 < 8208) ∧ d.val < 96
  · rw [dif_pos c, dif_pos ⟨⟨h.isLt, c.1⟩, c.2⟩]; exact v54 R h _ _
  · rw [dif_neg c, dif_neg fun c' => c ⟨c'.1.2, c'.2⟩]; rfl

/-- The gradient of v. -/
theorem v58 (r : Fin 8320) (d : Fin 64) : (val_main_v58 (F := Ideal) q k g (ix3 h r d) : EReal) = ((Args.pad A.dv h r d : ℝ) : EReal) := by
  have e : (val_main_v58 (F := Ideal) q k g (ix3 h r d) : EReal)
      = if e : 112 ≤ r.val ∧ r.val - 112 < 8208 then val_main_v37 (F := Ideal) q k g (ix3 h ⟨r.val - 112, e.2⟩ d) else (0 : EReal) := by
    pointwise [val_main_v58, val_main_cst_16]
  rw [e, Args.pad]
  by_cases c : 112 ≤ r.val ∧ r.val - 112 < 8208
  · rw [dif_pos c, dif_pos ⟨⟨h.isLt, c⟩, d.isLt⟩]; exact v37 R h _ _
  · rw [dif_neg c, dif_neg fun c' => c c'.1.2]; rfl

end Cert.ReferenceIdeal.Real

end
-- ==== Proof.Value.lean ====
/- The value claim: where the arguments are real numbers the call's three results are the gradients the reference returns. -/
module

public import proofs.«01_k».proof.Defs
public import proofs.«01_k».proof.Proof.IdealFrame
public import proofs.«01_k».proof.Proof.Inputs
public import proofs.«01_k».proof.Proof.RefRead
public import proofs.«01_k».proof.Proof.Gen.ReferenceIdeal.Run

@[expose] public section

noncomputable section

namespace Cert.Proof

open Idealize.ShloMosaic Idealize.ShloMosaic.TcCoe Idealize.SL.Sem
open Cert.Attn

section
open Cert.KernelIdeal Cert.KernelIdeal.Gen Cert.KernelIdeal.Body
variable {m : (ℓ : Loc nD τ sig) → Buf (Elt Ideal) ℓ} {c : Dev nD} {A : Args}

/-- The arguments of a device. -/
abbrev argQ (m : (ℓ : Loc nD τ sig) → Buf (Elt Ideal) ℓ) (c : Dev nD) : FVec Ideal S8x8208x96 .f32 := m ((c.tc : Thread nD τ).loc main_arg0)
abbrev argK (m : (ℓ : Loc nD τ sig) → Buf (Elt Ideal) ℓ) (c : Dev nD) : FVec Ideal S8x8208x96 .f32 := m ((c.tc : Thread nD τ).loc main_arg1)
abbrev argV (m : (ℓ : Loc nD τ sig) → Buf (Elt Ideal) ℓ) (c : Dev nD) : FVec Ideal S8x8208x64 .f32 := m ((c.tc : Thread nD τ).loc main_arg2)
abbrev argG (m : (ℓ : Loc nD τ sig) → Buf (Elt Ideal) ℓ) (c : Dev nD) : FVec Ideal S8x8208x64 .f32 := m ((c.tc : Thread nD τ).loc main_arg3)

/-- The three gradients as the reference computes them of the arguments. -/
def gradQ (m : (ℓ : Loc nD τ sig) → Buf (Elt Ideal) ℓ) (c : Dev nD) : FVec Ideal S8x8320x128 .f32 :=
  Cert.ReferenceIdeal.Read.val_main_v56 (F := Ideal) (argQ m c) (argK m c) (argV m c) (argG m c)
def gradK (m : (ℓ : Loc nD τ sig) → Buf (Elt Ideal) ℓ) (c : Dev nD) : FVec Ideal S8x8320x128 .f32 :=
  Cert.ReferenceIdeal.Read.val_main_v57 (F := Ideal) (argQ m c) (argK m c) (argV m c) (argG m c)
def gradV (m : (ℓ : Loc nD τ sig) → Buf (Elt Ideal) ℓ) (c : Dev nD) : FVec Ideal S8x8320x64 .f32 :=
  Cert.ReferenceIdeal.Read.val_main_v58 (F := Ideal) (argQ m c) (argK m c) (argG m c)

variable (R : Cert.Pre_finite.Real4 (argQ m c) (argK m c) (argV m c) (argG m c) A)
include R

/-- The gradient of q that the call leaves is the reference's. -/
theorem leaves_q : (dats m 0 c).arrAt 6 (cfgs 0).N = gradQ m c := by
  refine (final6 (Cert.KernelIdeal.Host0.entry m c R)).trans (funext fun i => ?_)
  idx_vars i
  refine Eq.trans ?_ (Cert.ReferenceIdeal.Real.v56 R _ _ _).symm
  exact congrArg (fun x : ℝ => (x : EReal)) (A.data_dq _ _ (Fin.isLt _) _)

/-- So is the gradient of k. -/
theorem leaves_k : (dats m 0 c).arrAt 7 (cfgs 0).N = gradK m c := by
  refine (final7 (Cert.KernelIdeal.Host0.entry m c R)).trans (funext fun i => ?_)
  idx_vars i
  refine Eq.trans ?_ (Cert.ReferenceIdeal.Real.v57 R _ _ _).symm
  exact congrArg (fun x : ℝ => (x : EReal)) (A.data_dk _ _ _)

/-- So is the gradient of v. -/
theorem leaves_v : (dats m 0 c).arrAt 8 (cfgs 0).N = gradV m c := by
  refine (final8 (Cert.KernelIdeal.Host0.entry m c R)).trans (funext fun i => ?_)
  idx_vars i
  refine Eq.trans ?_ (Cert.ReferenceIdeal.Real.v58 R _ _ _).symm
  exact congrArg (fun x : ℝ => (x : EReal)) (A.data_dv _ _ _)

end

/-- The gradients of q, k and v that the kernel leaves are the reference's, at the ideal instance. -/
theorem algebraic : algebraic_KernelIdeal_ReferenceIdeal_pre_finite (hPre_finite := Cert.Pre_finite.facts) := by
  intro m g m' g' pre same
  have real := fun c => haveI := Cert.Pre_finite.facts; Cert.Pre_finite.real _ _ _ _ (pre c)
  refine ⟨gradQ m, gradK m, gradV m, ?_, ?_⟩
  · refine (θ_run Cert.KernelIdeal.defs _ _).mono (fun r h c => ?_)
      (θ_run_and (Cert.KernelIdeal.Body.run_main m g) (Cert.KernelIdeal.Body.frame m g))
    obtain ⟨A, R⟩ := real c
    exact ⟨((h.1 c).1 6).trans (leaves_q R), ((h.1 c).1 7).trans (leaves_k R), ((h.1 c).1 8).trans (leaves_v R), h.2.1 c⟩
  · refine (θ_run Cert.ReferenceIdeal.defs _ _).mono (fun r h c => ?_) (Cert.ReferenceIdeal.Value.run m' g')
    obtain ⟨h0, h1, h2, rest⟩ := h c
    obtain ⟨s0, s1, s2, s3⟩ := same c
    refine ⟨h0.trans ?_, h1.trans ?_, h2.trans ?_, rest⟩
    · refine (Cert.ReferenceIdeal.Read.val_main_v56_eq m' c).trans ?_
      rw [s0, s1, s2, s3]; rfl
    · refine (Cert.ReferenceIdeal.Read.val_main_v57_eq m' c).trans ?_
      rw [s0, s1, s2, s3]; rfl
    · refine (Cert.ReferenceIdeal.Read.val_main_v58_eq _ _ _).trans ?_
      rw [s0, s1, s3]; rfl

end Cert.Proof

end
-- ==== Proof.PadSum.lean ====
/- Sums over 8320 rows of which the first 112 are zeros. -/
module

public import Mathlib.Data.EReal.Operations
public import Mathlib.Algebra.BigOperators.Fin

@[expose] public section

noncomputable section

namespace Cert.Proj

/-- A row of an array that has 112 rows of zeros in front of `a`. -/
def front (a : Fin 8208 → EReal) (r : Fin 8320) : EReal :=
  if e : 112 ≤ r.val ∧ r.val - 112 < 8208 then a ⟨r.val - 112, e.2⟩ else 0

theorem front_low (a : Fin 8208 → EReal) (r : Fin 8320) (h : r.val < 112) : front a r = 0 := dif_neg fun e => by omega

theorem front_high (a : Fin 8208 → EReal) (r : Fin 8320) (h : 112 ≤ r.val) : front a r = a ⟨r.val - 112, by omega⟩ :=
  dif_pos ⟨h, by omega⟩

/-- A sum over all rows whose terms at the first 112 are zero is the sum over the others. -/
theorem sum_front (f : Fin 8320 → EReal) (g : Fin 8208 → EReal) (low : ∀ r : Fin 8320, r.val < 112 → f r = 0)
    (high : ∀ r : Fin 8208, f ⟨112 + r.val, by omega⟩ = g r) : ∑ r, f r = ∑ r, g r := by
  refine (Fin.sum_univ_add (a := 112) (b := 8208) f).trans ?_
  rw [Finset.sum_eq_zero fun r _ => low _ r.isLt, zero_add]
  exact Finset.sum_congr rfl fun r _ => high r

/-- The product of two such arrays' columns: the rows of zeros add nothing. -/
theorem sum_front_mul (a b : Fin 8208 → EReal) : ∑ r, front a r * front b r = ∑ r, a r * b r := by
  refine sum_front _ _ (fun r h => by rw [front_low a r h, zero_mul]) fun r => ?_
  have e : (⟨112 + r.val - 112, by omega⟩ : Fin 8208) = r := Fin.ext (by show 112 + r.val - 112 = r.val; omega)
  rw [front_high a _ (show 112 ≤ 112 + r.val by omega), front_high b _ (show 112 ≤ 112 + r.val by omega)]
  exact congrArg₂ (· * ·) (congrArg a e) (congrArg b e)

end Cert.Proj

end
-- ==== Proof.Weight2.lean ====
/- The gradient of the 2560 columns of the projection's weights: the call's result is the reference's. -/
module

public import proofs.«01_k».proof.Defs
public import proofs.«01_k».proof.Proof.PadSum
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit

@[expose] public section

set_option maxRecDepth 16384

noncomputable section

namespace Cert.Kernel2Ideal.Weight

open Idealize.ShloMosaic Idealize.ShloMosaic.TcCoe Idealize.SL.Sem
open Cert.Kernel2Ideal Cert.Kernel2Ideal.Gen Cert.Proj

/-- 112 rows of zeros in front of the hidden rows. -/
def padH (h : FVec Ideal S8208x1024 .f32) : FVec Ideal S8320x1024 .f32 :=
  pad S8320x1024 ![112, 0] ![0, 0] ![0, 0] h (constant S_ .f32 0x00000000#32) pads_S8208x1024_S8320x1024_11200_000 h_S_

/-- 112 rows of zeros in front of the cotangent's rows. -/
def padD (d : FVec Ideal S8208x2560 .f32) : FVec Ideal S8320x2560 .f32 :=
  pad S8320x2560 ![112, 0] ![0, 0] ![0, 0] d (constant S_ .f32 0x00000000#32) pads_S8208x2560_S8320x2560_11200_000 h_S_

theorem padH_at (h : FVec Ideal S8208x1024 .f32) (r : Fin 8320) (i : Fin 1024) : padH h (ix2 r i) = front (fun r => h (ix2 r i)) r := by
  unfold front
  pointwise [padH]

theorem padD_at (d : FVec Ideal S8208x2560 .f32) (r : Fin 8320) (j : Fin 2560) : padD d (ix2 r j) = front (fun r => d (ix2 r j)) r := by
  unfold front
  pointwise [padD]

variable (m : (ℓ : Loc nD τ sig) → Buf (Elt Ideal) ℓ) (c : Dev nD)

theorem h_entry : V m c main_v1 = truncf .bf16 (padH (m ((c : Thread nD τ).loc main_arg0))) bitsLt_bf16_f32 := by entry_read; rfl
theorem d_entry : V m c main_v3 = truncf .bf16 (padD (m ((c : Thread nD τ).loc main_arg1))) bitsLt_bf16_f32 := by entry_read; rfl

/-- The product of a tile's rows: zeros in the accumulator. -/
theorem tile_at (x : FVec Ideal S1664x1024 .bf16) (y : FVec Ideal S1664x1280 .bf16) (j : S1024x1280.Idx) :
    (k0_pay1 (F := Ideal) x y j : EReal) = ∑ k : Fin 1664, x (ix2 k (j 0)) * y (ix2 k (j 1)) := by
  pointwise [k0_pay1]

/-- A later tile is added. -/
theorem more_at (x : FVec Ideal S1664x1024 .bf16) (y : FVec Ideal S1664x1280 .bf16) (z : FVec Ideal S1024x1280 .f32) (j : S1024x1280.Idx) :
    (k0_pay2 (F := Ideal) x y z j : EReal) = z j + ∑ k : Fin 1664, x (ix2 k (j 0)) * y (ix2 k (j 1)) := by
  pointwise [k0_pay2, k0_pay1]

/-- The tiles' places: column block `t / 5`, row block `t % 5`. -/
theorem idx : ∀ t : Fin cfg0.N, win0_0.index t = ![t.val % 5, 0] ∧ win0_1.index t = ![t.val % 5, t.val / 5] ∧ win0_2.index t = ![0, t.val / 5] :=
  (by decide +kernel : ∀ t : Fin grid0.N, _)

/-- The product of the two arrays as the call is given them. -/
def full (H : FVec Ideal S8320x1024 .bf16) (D : FVec Ideal S8320x2560 .bf16) : FVec Ideal S1024x2560 .f32 :=
  fun j => ∑ r : Fin 8320, H (ix2 r (j 0)) * D (ix2 r (j 1))

theorem final : (dats m 0 c).arrAt 2 cfg0.N = full (V m c main_v1) (V m c main_v3) := by
  refine (dats m 0 c).arrAt_eq_of_covers 2 _ (by decide +kernel) fun t hf y => ?_
  blk_simp
  rw [after0_2, Pipeline.eq_sum_fin_of_reset_step_apply_of_flush (fun n h => outsAt0 m c n h) 5 (fun _ => 0) _
    (fun t h j => by
      rw [outsAt0_A m c t h (by omega)]; frame_out; rw [tile_at]; exact (zero_add _).symm)
    (fun t h j => by rw [outsAt0_B m c t h (by omega)]; frame_out; rw [more_at])
    t ((flush0_2 t).mp hf) _, zero_add]
  unfold full
  refine Fin.sum_mul_add_congr fun s k hl => ?_
  have i := idx ⟨_, Pipeline.run_point_lt_of_flush t ((flush0_2 t).mp hf) s⟩
  congr 1 <;> blk_ext [iblk, idx t, i]

/-- At an index: the sum over the 8208 rows. -/
theorem full_at (j : S1024x2560.Idx) : full (V m c main_v1) (V m c main_v3) j
    = ∑ r : Fin 8208, (show FVec Ideal S8208x1024 .f32 from m ((c : Thread nD τ).loc main_arg0)) (ix2 r (j 0))
        * (show FVec Ideal S8208x2560 .f32 from m ((c : Thread nD τ).loc main_arg1)) (ix2 r (j 1)) := by
  unfold full
  rw [h_entry, d_entry]
  refine Eq.trans (Finset.sum_congr rfl fun r _ => ?_) (sum_front_mul (fun r => _) (fun r => _))
  exact congrArg₂ (· * ·) (padH_at _ r (j 0)) (padD_at _ r (j 1))

/-- The reference's result. -/
def grad : FVec Ideal S1024x2560 .f32 :=
  Cert.Reference2Ideal.Read.val_main_v3 (F := Ideal) (m ((c : Thread nD τ).loc main_arg0)) (m ((c : Thread nD τ).loc main_arg1))

theorem leaves : (dats m 0 c).arrAt 2 cfg0.N = grad m c := by
  refine (final m c).trans (funext fun j => (full_at m c j).trans ?_)
  unfold grad
  rw [Cert.Reference2Ideal.Read.val_main_v3_apply, Cert.Reference2Ideal.Read.val_main_v2_apply]
  refine Finset.sum_congr rfl fun r _ => ?_
  refine (mul_comm _ _).trans (congrArg₂ (· * ·) (congrArg _ ?_) (congrArg _ ?_)) <;> blk_ext []

/-- The value claim. -/
theorem algebraic : algebraic_Kernel2Ideal_Reference2Ideal (hKernel2Ideal := Cert.Kernel2Ideal.Gen.facts) (hReference2Ideal := Cert.Reference2Ideal.Gen.facts) := by
  intro m g m' g' _ same
  refine ⟨grad m, ?_, ?_⟩
  · refine (θ_run Cert.Kernel2Ideal.defs _ _).mono (fun r h c => ?_) (Cert.Kernel2Ideal.Value.run_blocks m g)
    exact ⟨(h c).1.trans (leaves m c), (h c).2⟩
  · refine (θ_run Cert.Reference2Ideal.defs _ _).mono (fun r h c => ?_) (Cert.Reference2Ideal.Value.run m' g')
    obtain ⟨h0, rest⟩ := h c
    obtain ⟨s0, s1⟩ := same c
    refine ⟨h0.trans ?_, rest⟩
    rw [s0, s1]
    rfl

end Cert.Kernel2Ideal.Weight

end
-- ==== Proof.NormMath.lean ====
/- The gradient of a row's norm: the row as the call computes it is the row as the reference does, for all extended reals. -/
module

public import Idealize.ShloMosaic.PureOps.Ideal
public import proofs.«01_k».proof.Proof.Attn
public import Mathlib.Data.EReal.Inv
public import Mathlib.Algebra.BigOperators.Fin

@[expose] public section

noncomputable section

namespace Cert.Proj

open Idealize.ShloMosaic

/-- The number of lanes and the norm's small addend, as f32 numbers. -/
def lanes : EReal := Ideal.ofBits .f32 0x44800000#32
def small : EReal := Ideal.ofBits .f32 0x358637BD#32
def smallR : ℝ := 8796093 / 8796093022208

theorem lanes_val : lanes = ((1024 : ℝ) : EReal) := by
  unfold lanes
  simp [Ideal.ofBits, Ideal.ieee, -EReal.coe_mul]
  norm_num
theorem small_val : small = ((smallR : ℝ) : EReal) := by
  unfold small smallR
  simp [Ideal.ofBits, Ideal.ieee, -EReal.coe_mul]
  try norm_num
theorem half_val : Ideal.ofBits .f32 0xBF000000#32 = ((-(1/2) : ℝ) : EReal) := by
  simp [Ideal.ofBits, Ideal.ieee, -EReal.coe_mul]
  norm_num
theorem smallR_pos : 0 < smallR := by unfold smallR; norm_num

/-- A real number that is not negative multiplies a sum of extended reals term by term. -/
theorem mul_sum {n : ℕ} (f : Fin n → EReal) (r : ℝ) (h : 0 ≤ r) : (∑ k, f k) * (r : EReal) = ∑ k, f k * (r : EReal) := by
  classical
  induction (Finset.univ : Finset (Fin n)) using Finset.induction_on with
  | empty => simp
  | insert a s ha ih =>
    rw [Finset.sum_insert ha, Finset.sum_insert ha, mul_comm, EReal.left_distrib_of_nonneg_of_ne_top (by exact_mod_cast h) (EReal.coe_ne_top r),
      mul_comm, mul_comm (r : EReal), ih]

/-- Twice an extended real, with the factor of two in its real coefficient. -/
theorem twice (T : EReal) (q : ℝ) : T * (q : EReal) + T * (q : EReal) = T * ((2 * q : ℝ) : EReal) := by
  rw [EReal.coe_mul, mul_left_comm]
  have : ((2 : ℝ) : EReal) = 1 + 1 := by rw [← EReal.coe_one, ← EReal.coe_add]; norm_num
  rw [this, EReal.right_distrib_of_nonneg zero_le_one zero_le_one, one_mul]

/-- The product of a row and a column of 4736, in the four blocks the row is given in. -/
def cols (a b : Fin 1024 → EReal) (g : Fin 2560 → EReal) (k : Fin 128 → EReal) (w : Fin 4736 → EReal) : EReal :=
  ∑ n : Fin 1024, a n * w ⟨n.val, by omega⟩ + ∑ n : Fin 1024, b n * w ⟨1024 + n.val, by omega⟩
    + ∑ n : Fin 2560, g n * w ⟨2048 + n.val, by omega⟩ + ∑ n : Fin 128, k n * w ⟨4608 + n.val, by omega⟩

theorem cols_zero {a b : Fin 1024 → EReal} {g : Fin 2560 → EReal} {k : Fin 128 → EReal} (w : Fin 4736 → EReal) (ha : ∀ n, a n = 0) (hb : ∀ n, b n = 0)
    (hg : ∀ n, g n = 0) (hk : ∀ n, k n = 0) : cols a b g k w = 0 := by
  simp [cols, ha, hb, hg, hk]

/-- A row of a tile of 320 is kept where it is past the 112 rows of padding. -/
theorem select_past {α : Type} (t r : ℕ) (ht : t < 26) (hr : r < 320) (x y : α) :
    Scalar.select (IntOp.cmpi .sge (IntOp.addi (Scalar.muli (BitVec.ofNat 32 t) 320#32) (BitVec.ofNat 32 r)) 112#32) x y
      = if 112 ≤ t * 320 + r then x else y := by
  have ea : IntOp.addi (Scalar.muli (BitVec.ofNat 32 t) 320#32) (BitVec.ofNat 32 r) = BitVec.ofNat 32 (t * 320 + r) := by
    show BitVec.ofNat 32 t * 320#32 + BitVec.ofNat 32 r = _
    rw [BitVec.ofNat_add, BitVec.ofNat_mul]
  have ei : (BitVec.ofNat 32 (t * 320 + r)).toInt = ((t * 320 + r : ℕ) : ℤ) := by
    have lt : t * 320 + r < 2 ^ 31 := by omega
    generalize t * 320 + r = u at lt
    rw [BitVec.toInt_eq_toNat_of_lt (by rw [BitVec.toNat_ofNat]; omega), BitVec.toNat_ofNat, Nat.mod_eq_of_lt (by omega)]
  rw [ea]
  have e : IntOp.cmpi .sge (BitVec.ofNat 32 (t * 320 + r)) 112#32 = BitVec.ofBool (decide (112 ≤ t * 320 + r)) := by
    show BitVec.ofBool (BitVec.sle _ _) = _
    rw [BitVec.sle, ei, show (112#32).toInt = ((112 : ℕ) : ℤ) from rfl]
    simp only [Int.ofNat_le]
  rw [e]
  by_cases c : 112 ≤ t * 320 + r
  · rw [if_pos c, decide_eq_true c]; rfl
  · rw [if_neg c, decide_eq_false c]; rfl

variable (x y : Fin 1024 → EReal) (h : EReal) (j : Fin 1024)

/-- The mean of the squares, with the small addend; and the factor that scales the row. -/
def meanSq : EReal := Ideal.div (∑ k, x k * x k) lanes + small
def factor : EReal := Ideal.rsqrt (meanSq x)

/-- The row's gradient as the call computes it: `y` is the gradient of the row after its norm, gain included. -/
def callRow : EReal :=
  h + factor x * (y j - x j * factor x * Ideal.div (∑ k, y k * (x k * factor x)) lanes)

/-- The common factor of the reference's two equal terms. -/
def slope : EReal :=
  Ideal.div ((∑ k, x k * y k) * (Ideal.ofBits .f32 0xBF000000#32 * Ideal.div (factor x) (meanSq x))) lanes

/-- The row's gradient as the reference computes it. -/
def refRow : EReal := h + y j * factor x + x j * slope x y + slope x y * x j

theorem sum_top {n : ℕ} (f : Fin n → EReal) (pos : ∀ k, 0 ≤ f k) (k : Fin n) (hk : f k = ⊤) : ∑ i, f i = ⊤ :=
  top_le_iff.mp (hk ▸ Finset.single_le_sum (fun i _ => pos i) (Finset.mem_univ k))

/-- A row with an infinite number is scaled by zero. -/
theorem meanSq_top (k : Fin 1024) (hk : x k = ⊤ ∨ x k = ⊥) : meanSq x = ⊤ := by
  have sq : ∀ k, 0 ≤ x k * x k := fun k => by
    rcases le_total 0 (x k) with p | p
    · exact mul_nonneg p p
    · have := EReal.neg_le_neg_iff.mpr p
      rw [neg_zero] at this
      rw [← neg_mul_neg]
      exact mul_nonneg this this
  have s : ∑ k, x k * x k = ⊤ := sum_top _ sq k (by rcases hk with e | e <;> rw [e] <;> simp)
  unfold meanSq
  rw [s, lanes_val, small_val, Ideal.div_coe (by norm_num), EReal.top_mul_coe_of_pos (by norm_num)]
  exact EReal.top_add_coe _

theorem rows_top (k : Fin 1024) (hk : x k = ⊤ ∨ x k = ⊥) : callRow x y h j = refRow x y h j := by
  have t := meanSq_top x k hk
  have f : factor x = 0 := by unfold factor; rw [t]; exact Ideal.rsqrt_top
  have d : Ideal.div (0 : EReal) ⊤ = 0 := by simp [Ideal.div]
  have s : slope x y = 0 := by
    unfold slope
    rw [f, t, d, mul_zero, mul_zero, lanes_val, Ideal.div_coe (by norm_num), zero_mul]
  unfold callRow refRow
  rw [s, f, zero_mul, mul_zero, mul_zero, zero_mul, add_zero, add_zero, add_zero]

theorem rows_real (X : Fin 1024 → ℝ) (hX : ∀ k, x k = ((X k : ℝ) : EReal)) : callRow x y h j = refRow x y h j := by
  obtain ⟨v, hv, ev⟩ : ∃ v : ℝ, 0 < v ∧ meanSq x = ((v : ℝ) : EReal) := by
    refine ⟨(∑ k, X k * X k) * (1 / 1024) + smallR, ?_, ?_⟩
    · have : 0 ≤ ∑ k, X k * X k := Finset.sum_nonneg fun k _ => mul_self_nonneg _
      have := smallR_pos
      positivity
    · unfold meanSq
      rw [lanes_val, small_val, Ideal.div_coe (by norm_num), EReal.coe_add, EReal.coe_mul, ← Cert.Attn.coe_sum]
      simp only [hX, EReal.coe_mul]
  have ef : factor x = (((Real.sqrt v)⁻¹ : ℝ) : EReal) := by
    unfold factor
    rw [ev, Ideal.rsqrt_coe, if_neg hv.not_gt, if_neg hv.ne']
  set ι : ℝ := (Real.sqrt v)⁻¹ with hι
  have pos : 0 < ι := inv_pos.mpr (Real.sqrt_pos.mpr hv)
  have sq : ι * ι = 1 / v := by
    rw [hι, ← mul_inv, Real.mul_self_sqrt hv.le, one_div]
  have sum : ∑ k, y k * (x k * (ι : EReal)) = (∑ k, x k * y k) * (ι : EReal) := by
    rw [mul_sum _ _ pos.le]
    exact Finset.sum_congr rfl fun k _ => by rw [← mul_assoc, mul_comm (y k)]
  unfold callRow refRow slope
  rw [ef, ev, half_val, sum, lanes_val, Ideal.div_coe (by norm_num), Ideal.div_coe (by norm_num), Ideal.div_coe hv.ne', hX j]
  generalize ∑ k, x k * y k = T
  have q1 : ((X j : ℝ) : EReal) * (T * (((-(1/2) : ℝ) : EReal) * ((ι : EReal) * ((1 / v : ℝ) : EReal))) * ((1 / 1024 : ℝ) : EReal))
      = T * ((-(1/2) * (ι * (1 / v)) * (1 / 1024) * X j : ℝ) : EReal) := by
    simp only [EReal.coe_mul]; ac_rfl
  have q2 : (T * (((-(1/2) : ℝ) : EReal) * ((ι : EReal) * ((1 / v : ℝ) : EReal))) * ((1 / 1024 : ℝ) : EReal)) * ((X j : ℝ) : EReal)
      = T * ((-(1/2) * (ι * (1 / v)) * (1 / 1024) * X j : ℝ) : EReal) := by
    simp only [EReal.coe_mul]; ac_rfl
  have q3 : (ι : EReal) * -(((X j : ℝ) : EReal) * (ι : EReal) * (T * (ι : EReal) * ((1 / 1024 : ℝ) : EReal)))
      = T * ((-(ι * (X j * ι * ι * (1 / 1024))) : ℝ) : EReal) := by
    rw [EReal.coe_neg, mul_neg, mul_neg]
    congr 1
    simp only [EReal.coe_mul]; ac_rfl
  rw [q1, q2, sub_eq_add_neg, EReal.left_distrib_of_nonneg_of_ne_top (by exact_mod_cast pos.le) (EReal.coe_ne_top ι), q3,
    add_assoc, add_assoc, twice, mul_comm (ι : EReal) (y j)]
  congr 4
  have : ι * ι * ι = ι * (1 / v) := by rw [sq]; ring
  linear_combination (-(X j) / 1024) * this

/-- The two are equal whatever the row holds. -/
theorem rows_eq : callRow x y h j = refRow x y h j := by
  by_cases e : ∃ k, x k = ⊤ ∨ x k = ⊥
  · obtain ⟨k, hk⟩ := e
    exact rows_top x y h j k hk
  · push Not at e
    exact rows_real x y h j (fun k => (x k).toReal) fun k => (EReal.coe_toReal (e k).1 (e k).2).symm

end Cert.Proj

end
-- ==== Proof.Norm3Ref.lean ====
/- The gradient of the norm and the projection, as the reference computes it: its two results read at an index. -/
module

public import proofs.«01_k».proof.Defs
public import proofs.«01_k».proof.Proof.NormMath
public import proofs.«01_k».proof.Proof.PadSum
public import proofs.«01_k».proof.Proof.Gen.Reference3Ideal.Run
public import proofs.«01_k».proof.Proof.Gen.Reference3Ideal.Read
public import Idealize.ShloMosaic.Lib.Pipeline.ValueKit

@[expose] public section

set_option maxRecDepth 16384

noncomputable section

namespace Cert.Reference3Ideal.Norm

open Idealize.ShloMosaic Idealize.ShloMosaic.TcCoe Idealize.SL.Sem
open Cert.Reference3Ideal Cert.Reference3Ideal.Gen Cert.Reference3Ideal.Read Cert.Proj

variable (a b : FVec Ideal S8208x1024 .f32) (g : FVec Ideal S8208x2560 .f32) (k : FVec Ideal S8208x128 .f32)
  (w : FVec Ideal S1024x4736 .f32) (x : FVec Ideal S8208x1024 .f32) (s : FVec Ideal S1x1024 .f32) (h : FVec Ideal S8208x1024 .f32)

/-- The gradient of the normed row: the cotangent's four column blocks through the weights. -/
def back (r : Fin 8208) (j : Fin 1024) : EReal :=
  cols (fun n => a (ix2 r n)) (fun n => b (ix2 r n)) (fun n => g (ix2 r n)) (fun n => k (ix2 r n)) fun n => w (ix2 j n)

theorem joined (r : Fin 8208) (n : Fin 4736) : (val_main_v16 (F := Ideal) a b g k (ix2 r n) : EReal)
    = if h : n.val < 1024 then a (ix2 r ⟨n.val, h⟩) else if h : n.val - 1024 < 1024 then b (ix2 r ⟨n.val - 1024, h⟩)
      else if h : n.val - 1024 - 1024 < 2560 then g (ix2 r ⟨n.val - 1024 - 1024, h⟩) else k (ix2 r ⟨n.val - 1024 - 1024 - 2560, by omega⟩) := by
  pointwise [val_main_v16]

theorem joined_a (r : Fin 8208) (q : Fin 4736) (n : Fin 1024) (e : q.val = n.val) : (val_main_v16 (F := Ideal) a b g k (ix2 r q) : EReal) = a (ix2 r n) := by
  rw [joined, dif_pos (show q.val < 1024 by omega)]
  exact congrArg (fun n => a (ix2 r n)) (Fin.ext e)
theorem joined_b (r : Fin 8208) (q : Fin 4736) (n : Fin 1024) (e : q.val = 1024 + n.val) : (val_main_v16 (F := Ideal) a b g k (ix2 r q) : EReal) = b (ix2 r n) := by
  rw [joined, dif_neg (show ¬q.val < 1024 by omega), dif_pos (show q.val - 1024 < 1024 by omega)]
  exact congrArg (fun n => b (ix2 r n)) (Fin.ext (show q.val - 1024 = n.val by omega))
theorem joined_g (r : Fin 8208) (q : Fin 4736) (n : Fin 2560) (e : q.val = 2048 + n.val) : (val_main_v16 (F := Ideal) a b g k (ix2 r q) : EReal) = g (ix2 r n) := by
  rw [joined, dif_neg (show ¬q.val < 1024 by omega), dif_neg (show ¬q.val - 1024 < 1024 by omega), dif_pos (show q.val - 1024 - 1024 < 2560 by omega)]
  exact congrArg (fun n => g (ix2 r n)) (Fin.ext (show q.val - 1024 - 1024 = n.val by omega))
theorem joined_k (r : Fin 8208) (q : Fin 4736) (n : Fin 128) (e : q.val = 4608 + n.val) : (val_main_v16 (F := Ideal) a b g k (ix2 r q) : EReal) = k (ix2 r n) := by
  rw [joined, dif_neg (show ¬q.val < 1024 by omega), dif_neg (show ¬q.val - 1024 < 1024 by omega), dif_neg (show ¬q.val - 1024 - 1024 < 2560 by omega)]
  exact congrArg (fun n => k (ix2 r n)) (Fin.ext (show q.val - 1024 - 1024 - 2560 = n.val by omega))

theorem back_at (r : Fin 8208) (j : Fin 1024) : (val_main_v17 (F := Ideal) a b g k w (ix2 r j) : EReal) = back a b g k w r j := by
  have e : (val_main_v17 (F := Ideal) a b g k w (ix2 r j) : EReal) = ∑ n : Fin (1024 + 1024 + 2560 + 128), (val_main_v16 (F := Ideal) a b g k (ix2 r n) : EReal) * w (ix2 j n) := by
    pointwise [val_main_v17]
  rw [e, Fin.sum_univ_add, Fin.sum_univ_add, Fin.sum_univ_add]
  have col : ∀ q n : Fin 4736, q.val = n.val → w (ix2 j q) = w (ix2 j n) := fun q n e => congrArg (fun n => w (ix2 j n)) (Fin.ext e)
  unfold back cols
  refine congrArg₂ (· + ·) (congrArg₂ (· + ·) (congrArg₂ (· + ·) ?_ ?_) ?_) ?_ <;> refine Finset.sum_congr rfl fun n _ => ?_
  · exact congrArg₂ (· * ·) (joined_a a b g k r _ n rfl) (col _ _ rfl)
  · exact congrArg₂ (· * ·) (joined_b a b g k r _ n rfl) (col _ _ rfl)
  · exact congrArg₂ (· * ·) (joined_g a b g k r _ n (show 1024 + 1024 + n.val = 2048 + n.val by omega)) (col _ _ (show 1024 + 1024 + n.val = 2048 + n.val by omega))
  · exact congrArg₂ (· * ·) (joined_k a b g k r _ n (show 1024 + 1024 + 2560 + n.val = 4608 + n.val by omega))
      (col _ _ (show 1024 + 1024 + 2560 + n.val = 4608 + n.val by omega))

theorem factor_at (r : Fin 8208) : (val_main_v7 (F := Ideal) x (ix2 r 0) : EReal) = factor fun j => x (ix2 r j) := by
  unfold factor meanSq lanes small
  pointwise [val_main_v7, val_main_v6, val_main_v5, val_main_cst_1, val_main_v4, val_main_v3, val_main_cst_0, val_main_v2, val_main_v1, val_main_cst, val_main_v0]

theorem meanSq_at (r : Fin 8208) : (val_main_v6 (F := Ideal) x (ix2 r 0) : EReal) = meanSq fun j => x (ix2 r j) := by
  unfold meanSq lanes small
  pointwise [val_main_v6, val_main_v5, val_main_cst_1, val_main_v4, val_main_v3, val_main_cst_0, val_main_v2, val_main_v1, val_main_cst, val_main_v0]

/-- The gradient of the gain. -/
theorem gain_at (j : Fin 1024) : (val_main_v20 (F := Ideal) a b g k w x (ix2 0 j) : EReal)
    = ∑ r : Fin 8208, x (ix2 r j) * factor (fun n => x (ix2 r n)) * back a b g k w r j := by
  have e : (val_main_v20 (F := Ideal) a b g k w x (ix2 0 j) : EReal)
      = ∑ r : Fin 8208, x (ix2 r j) * val_main_v7 (F := Ideal) x (ix2 r 0) * val_main_v17 (F := Ideal) a b g k w (ix2 r j) := by
    pointwise [val_main_v20, val_main_v19, val_main_v18, val_main_v12, val_main_v11, val_main_cst_3]
  rw [e]
  exact Finset.sum_congr rfl fun r _ => by rw [factor_at, back_at]

/-- The gradient of the residual stream, a row before the padding. -/
theorem row_at (r : Fin 8208) (j : Fin 1024) : (val_main_v37 (F := Ideal) a b g k w x s h (ix2 r j) : EReal)
    = refRow (fun n => x (ix2 r n)) (fun n => back a b g k w r n * s (ix2 0 n)) (h (ix2 r j)) j := by
  have z : ∀ u : Fin 1, u = 0 := fun u => Subsingleton.elim _ _
  unfold refRow Proj.slope lanes
  simp only [← factor_at, ← meanSq_at, ← back_at]
  pointwise [val_main_v37, val_main_v36, val_main_v35, val_main_v34, val_main_v33, val_main_v32, val_main_v31, val_main_v30, val_main_v29,
    val_main_v28, val_main_v27, val_main_v26, val_main_v25, val_main_v24, val_main_v23, val_main_v22, val_main_v21, val_main_v10, val_main_v9,
    val_main_v8, val_main_cst_2, val_main_cst_4, val_main_cst_5, val_main_cst_6, Fin.sum_univ_one]

end Cert.Reference3Ideal.Norm

end
-- ==== Proof.Norm3.lean ====
/- The gradient of the norm and the projection: the call's two results are the reference's. -/
module

public import proofs.«01_k».proof.Defs
public import proofs.«01_k».proof.Proof.NormMath
public import proofs.«01_k».proof.Proof.PadSum
public import proofs.«01_k».proof.Proof.Norm3Ref
public import proofs.«01_k».proof.Proof.Gen.Kernel3Ideal.Value
public import Idealize.ShloMosaic.Lib.Pipeline.ValueKit

@[expose] public section

set_option maxRecDepth 16384

noncomputable section

namespace Cert.Kernel3Ideal.Norm

open Idealize.ShloMosaic Idealize.ShloMosaic.TcCoe Idealize.SL.Sem
open Cert.Kernel3Ideal Cert.Kernel3Ideal.Gen Cert.Proj

section
variable (u x h : FVec Ideal S320x1024 .f32) (s : FVec Ideal S1x1024 .f32)

/-- A row of a tile: the gradient of the residual stream, zero in the padding. -/
theorem row_at (t : Fin 26) (r : Fin 320) (j : Fin 1024) :
    (k0_pay5 (F := Ideal) (BitVec.ofNat 32 t.val) u s (k0_pay7 x) (k0_pay8 x) k0_pay9 h (ix2 r j) : EReal)
      = if 112 ≤ t.val * 320 + r.val then callRow (fun n => x (ix2 r n)) (fun n => u (ix2 r n) * s (ix2 0 n)) (h (ix2 r j)) j else 0 := by
  rw [← select_past t.val r.val t.isLt r.isLt]
  unfold callRow factor meanSq lanes small
  pointwise [k0_pay5, k0_pay2, k0_pay1, k0_pay7, k0_pay8, k0_pay9]

/-- A tile's rows added up: the gain's gradient. -/
theorem gain_at (j : S1x1024.Idx) : (k0_pay3 (F := Ideal) u (k0_pay7 x) (k0_pay8 x) k0_pay9 j : EReal)
    = ∑ r : Fin 320, u (ix2 r (j 1)) * (x (ix2 r (j 1)) * factor fun n => x (ix2 r n)) := by
  unfold factor meanSq lanes small
  idx_vars j
  pointwise [k0_pay3, k0_pay2, k0_pay1, k0_pay7, k0_pay8, k0_pay9]

theorem more_at (z : FVec Ideal S1x1024 .f32) (j : S1x1024.Idx) : (k0_pay4 (F := Ideal) u (k0_pay7 x) (k0_pay8 x) k0_pay9 z j : EReal)
    = z j + ∑ r : Fin 320, u (ix2 r (j 1)) * (x (ix2 r (j 1)) * factor fun n => x (ix2 r n)) := by
  rw [← gain_at]
  idx_vars j
  pointwise [k0_pay4]
end

/-- The four products of a row, whatever the pieces of the weights. -/
theorem products_at (a b : FVec Ideal S320x1024 .bf16) (g : FVec Ideal S320x2560 .bf16) (k : FVec Ideal S320x128 .bf16)
    (wa wb : FVec Ideal S1024x1024 .bf16) (wg : FVec Ideal S1024x2560 .bf16) (wk : FVec Ideal S1024x128 .bf16) (r : Fin 320) (j : Fin 1024) :
    (k0_pay6 (F := Ideal) a wa b wb g wg k wk (ix2 r j) : EReal)
      = ∑ n, a (ix2 r n) * wa (ix2 j n) + ∑ n, b (ix2 r n) * wb (ix2 j n) + ∑ n, g (ix2 r n) * wg (ix2 j n) + ∑ n, k (ix2 r n) * wk (ix2 j n) := by
  pointwise [k0_pay6]

variable (m : (ℓ : Loc nD τ sig) → Buf (Elt Ideal) ℓ) (c : Dev nD)

/-- The arrays as the call is given them. -/
def eA : FVec Ideal S8320x1024 .bf16 := V m c main_v1
def eB : FVec Ideal S8320x1024 .bf16 := V m c main_v3
def eG : FVec Ideal S8320x2560 .bf16 := V m c main_v5
def eK : FVec Ideal S8320x128 .bf16 := V m c main_v7
def eW : FVec Ideal S1024x4736 .bf16 := V m c main_v8
def eX : FVec Ideal S8320x1024 .f32 := V m c main_v9
def eS : FVec Ideal S1x1024 .f32 := V m c main_arg6
def eH : FVec Ideal S8320x1024 .f32 := V m c main_v10

/-- The gradient of the normed row, of the arrays given. -/
def whole (r : Fin 8320) (j : Fin 1024) : EReal :=
  cols (fun n => eA m c (ix2 r n)) (fun n => eB m c (ix2 r n)) (fun n => eG m c (ix2 r n)) (fun n => eK m c (ix2 r n)) fun n => eW m c (ix2 j n)

/-- The tiles' places. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![t.val, 0] ∧ win0_6.index t = ![0, 0] ∧ win0_7.index t = ![t.val, 0] ∧ win0_8.index t = ![t.val, 0]
    ∧ win0_9.index t = ![0, 0] :=
  (by decide +kernel : ∀ t : Fin grid0.N, _)

theorem lt (t : Fin cfg0.N) : t.val < 26 := Nat.lt_of_lt_of_eq t.isLt N_0
/-- Row `r` of tile `t`. -/
def at_ (t : Fin cfg0.N) (r : Fin 320) : Fin 8320 := ⟨t.val * 320 + r.val, by have := lt t; omega⟩

/-- The tile's gradient of the normed rows. -/
abbrev uTile (t : Fin cfg0.N) : FVec Ideal S320x1024 .f32 :=
  k0_pay6 (iblk m c 0 t) (View.ld (iblk m c 4 t) (Rect.unit ![0, 0] ![1024, 1024] inb_S1024x4736_S1024x1024_0_0))
    (iblk m c 1 t) (View.ld (iblk m c 4 t) (Rect.unit ![0, 1024] ![1024, 1024] inb_S1024x4736_S1024x1024_0_1024))
    (iblk m c 2 t) (View.ld (iblk m c 4 t) (Rect.unit ![0, 2048] ![1024, 2560] inb_S1024x4736_S1024x2560_0_2048))
    (iblk m c 3 t) (View.ld (iblk m c 4 t) (Rect.unit ![0, 4608] ![1024, 128] inb_S1024x4736_S1024x128_0_4608))

/-- The tile's rows of the residual stream. -/
abbrev xTile (t : Fin cfg0.N) : FVec Ideal S320x1024 .f32 := iblk m c 5 t

/-- The weights' columns that a piece of them holds. -/
theorem w_a (t : Fin cfg0.N) (j : Fin 1024) (n : Fin 1024) :
    View.ld (iblk m c 4 t) (Rect.unit ![0, 0] ![1024, 1024] inb_S1024x4736_S1024x1024_0_0) (ix2 j n) = eW m c (ix2 j ⟨n.val, by omega⟩) := by
  rw [View.ld_unit_apply_of _ _ _ _ _ (ix2 j (⟨n.val, by omega⟩ : Fin 4736)) (fun a => by fin_cases a <;> simp [ix2])]
  unfold eW
  blk_ext [iblk, idx t]
theorem w_b (t : Fin cfg0.N) (j : Fin 1024) (n : Fin 1024) :
    View.ld (iblk m c 4 t) (Rect.unit ![0, 1024] ![1024, 1024] inb_S1024x4736_S1024x1024_0_1024) (ix2 j n) = eW m c (ix2 j ⟨1024 + n.val, by omega⟩) := by
  rw [View.ld_unit_apply_of _ _ _ _ _ (ix2 j (⟨1024 + n.val, by omega⟩ : Fin 4736)) (fun a => by fin_cases a <;> simp [ix2])]
  unfold eW
  blk_ext [iblk, idx t]
theorem w_g (t : Fin cfg0.N) (j : Fin 1024) (n : Fin 2560) :
    View.ld (iblk m c 4 t) (Rect.unit ![0, 2048] ![1024, 2560] inb_S1024x4736_S1024x2560_0_2048) (ix2 j n) = eW m c (ix2 j ⟨2048 + n.val, by omega⟩) := by
  rw [View.ld_unit_apply_of _ _ _ _ _ (ix2 j (⟨2048 + n.val, by omega⟩ : Fin 4736)) (fun a => by fin_cases a <;> simp [ix2])]
  unfold eW
  blk_ext [iblk, idx t]
theorem w_k (t : Fin cfg0.N) (j : Fin 1024) (n : Fin 128) :
    View.ld (iblk m c 4 t) (Rect.unit ![0, 4608] ![1024, 128] inb_S1024x4736_S1024x128_0_4608) (ix2 j n) = eW m c (ix2 j ⟨4608 + n.val, by omega⟩) := by
  rw [View.ld_unit_apply_of _ _ _ _ _ (ix2 j (⟨4608 + n.val, by omega⟩ : Fin 4736)) (fun a => by fin_cases a <;> simp [ix2])]
  unfold eW
  blk_ext [iblk, idx t]

theorem x_tile (t : Fin cfg0.N) (r : Fin 320) (n : Fin 1024) : xTile m c t (ix2 r n) = eX m c (ix2 (at_ t r) n) := by
  unfold at_ eX
  blk_ext [iblk, idx t]
theorem h_tile (t : Fin cfg0.N) (r : Fin 320) (n : Fin 1024) : (iblk m c 7 t : FVec Ideal S320x1024 .f32) (ix2 r n) = eH m c (ix2 (at_ t r) n) := by
  unfold at_ eH
  blk_ext [iblk, idx t]
theorem s_tile (t : Fin cfg0.N) (n : Fin 1024) : (iblk m c 6 t : FVec Ideal S1x1024 .f32) (ix2 0 n) = eS m c (ix2 0 n) := by
  unfold eS
  blk_ext [iblk, idx t]

theorem u_tile (t : Fin cfg0.N) (r : Fin 320) (j : Fin 1024) : (uTile m c t (ix2 r j) : EReal) = whole m c (at_ t r) j := by
  unfold uTile
  rw [products_at]
  unfold whole cols at_ eA eB eG eK
  refine congrArg₂ (· + ·) (congrArg₂ (· + ·) (congrArg₂ (· + ·) ?_ ?_) ?_) ?_ <;> refine Finset.sum_congr rfl fun n _ => ?_ <;>
    refine congrArg₂ (· * ·) (by blk_ext [iblk, idx t]) ?_
  · exact w_a m c t j n
  · exact w_b m c t j n
  · exact w_g m c t j n
  · exact w_k m c t j n

/-- The residual stream's gradient, of the arrays given. -/
def dx : FVec Ideal S8320x1024 .f32 := fun i =>
  if 112 ≤ (i 0).val then callRow (fun n => eX m c (ix2 (i 0) n)) (fun n => whole m c (i 0) n * eS m c (ix2 0 n)) (eH m c (ix2 (i 0) (i 1))) (i 1) else 0
/-- The gain's gradient, of the arrays given. -/
def dg : FVec Ideal S1x1024 .f32 := fun i => ∑ r : Fin 8320, whole m c r (i 1) * (eX m c (ix2 r (i 1)) * factor fun n => eX m c (ix2 r n))

theorem final8 : (dats m 0 c).arrAt 8 cfg0.N = dx m c := by
  refine (dats m 0 c).arrAt_eq_of_covers 8 _ (by decide +kernel) fun t hf y => ?_
  blk_simp
  rw [after0_8]
  have out : ∀ (r : Fin 320) (j : Fin 1024), (outsAt0 m c t.val t.isLt).1 (ix2 r j)
      = (k0_pay5 (F := Ideal) (BitVec.ofNat 32 t.val) (uTile m c t) (iblk m c 6 t) (k0_pay7 (iblk m c 5 t)) (k0_pay8 (iblk m c 5 t)) k0_pay9 (iblk m c 7 t) (ix2 r j) : EReal) := by
    intro r j
    have b := lt t
    have e : (grid0.coords t 0).val = t.val := (by decide +kernel : ∀ t : Fin grid0.N, (grid0.coords t 0).val = t.val) t
    by_cases h : t.val % 26 = 0
    · rw [outsAt0_A m c t h (by omega)]; frame_out; rw [e]; rfl
    · rw [outsAt0_B m c t h (by omega)]; frame_out; rw [e]; rfl
  idx_vars y
  refine (out y0 y1).trans ((row_at _ _ _ _ ⟨t.val, lt t⟩ y0 y1).trans ?_)
  simp only [u_tile, x_tile, h_tile, s_tile]
  have q : ((View.whole main_v11_0).slice (win0_8.rect t)).emb (ix2 y0 y1) = ix2 (at_ t y0) y1 := by
    unfold at_
    blk_ext [idx t]
  rw [q]
  rfl

theorem final9 : (dats m 0 c).arrAt 9 cfg0.N = dg m c := by
  refine (dats m 0 c).arrAt_eq_of_covers 9 _ (by decide +kernel) fun t hf y => ?_
  blk_simp
  rw [after0_9, Pipeline.eq_sum_fin_of_reset_step_apply_of_flush (fun n h => (outsAt0 m c n h).2) 26 (fun _ => 0)
    (fun t j => ∑ r : Fin 320, uTile m c t (ix2 r (j 1)) * (xTile m c t (ix2 r (j 1)) * factor fun n => xTile m c t (ix2 r n)))
    (fun t h j => by
      have b := lt t
      rw [outsAt0_A m c t h (by omega)]; frame_out; rw [gain_at]; exact (zero_add _).symm)
    (fun t h j => by rw [outsAt0_B m c t h (by omega)]; frame_out; rw [more_at]; rfl)
    t ((flush0_9 t).mp hf) _, zero_add]
  idx_vars y
  have q : ((View.whole main_v11_1).slice (win0_9.rect t)).emb (ix2 y0 y1) = ix2 0 y1 := by blk_ext [idx t]
  rw [q]
  unfold dg
  refine Fin.sum_mul_add_congr fun s k hl => ?_
  have b : t.val / 26 = 0 := Nat.div_eq_of_lt (lt t)
  have e : at_ ⟨26 * (t.val / 26) + s.val, Pipeline.run_point_lt_of_flush t ((flush0_9 t).mp hf) s⟩ k = ⟨s.val * 320 + k.val, hl⟩ :=
    Fin.ext (by show (26 * (t.val / 26) + s.val) * 320 + k.val = s.val * 320 + k.val; rw [b, mul_zero, zero_add])
  rw [← e]
  exact congrArg₂ (· * ·) (u_tile m c _ k y1) (congrArg₂ (· * ·) (x_tile m c _ k y1) (congrArg factor (funext fun n => x_tile m c _ k n)))

/-- 112 rows of zeros in front. -/
def padA (d : FVec Ideal S8208x1024 .f32) : FVec Ideal S8320x1024 .f32 :=
  pad S8320x1024 ![112, 0] ![0, 0] ![0, 0] d (constant S_ .f32 0x00000000#32) pads_S8208x1024_S8320x1024_11200_000 h_S_
def padG (d : FVec Ideal S8208x2560 .f32) : FVec Ideal S8320x2560 .f32 :=
  pad S8320x2560 ![112, 0] ![0, 0] ![0, 0] d (constant S_ .f32 0x00000000#32) pads_S8208x2560_S8320x2560_11200_000 h_S_
def padK (d : FVec Ideal S8208x128 .f32) : FVec Ideal S8320x128 .f32 :=
  pad S8320x128 ![112, 0] ![0, 0] ![0, 0] d (constant S_ .f32 0x00000000#32) pads_S8208x128_S8320x128_11200_000 h_S_

theorem padA_at (d : FVec Ideal S8208x1024 .f32) (r : Fin 8320) (n : Fin 1024) : padA d (ix2 r n) = front (fun r => d (ix2 r n)) r := by
  unfold front
  pointwise [padA]
theorem padG_at (d : FVec Ideal S8208x2560 .f32) (r : Fin 8320) (n : Fin 2560) : padG d (ix2 r n) = front (fun r => d (ix2 r n)) r := by
  unfold front
  pointwise [padG]
theorem padK_at (d : FVec Ideal S8208x128 .f32) (r : Fin 8320) (n : Fin 128) : padK d (ix2 r n) = front (fun r => d (ix2 r n)) r := by
  unfold front
  pointwise [padK]

/-- The arguments. -/
abbrev aA : FVec Ideal S8208x1024 .f32 := m ((c : Thread nD τ).loc main_arg0)
abbrev aB : FVec Ideal S8208x1024 .f32 := m ((c : Thread nD τ).loc main_arg1)
abbrev aG : FVec Ideal S8208x2560 .f32 := m ((c : Thread nD τ).loc main_arg2)
abbrev aK : FVec Ideal S8208x128 .f32 := m ((c : Thread nD τ).loc main_arg3)
abbrev aW : FVec Ideal S1024x4736 .f32 := m ((c : Thread nD τ).loc main_arg4)
abbrev aX : FVec Ideal S8208x1024 .f32 := m ((c : Thread nD τ).loc main_arg5)
abbrev aS : FVec Ideal S1x1024 .f32 := m ((c : Thread nD τ).loc main_arg6)
abbrev aH : FVec Ideal S8208x1024 .f32 := m ((c : Thread nD τ).loc main_arg7)

theorem eA_eq : eA m c = truncf .bf16 (padA (aA m c)) bitsLt_bf16_f32 := by unfold eA; entry_read; rfl
theorem eB_eq : eB m c = truncf .bf16 (padA (aB m c)) bitsLt_bf16_f32 := by unfold eB; entry_read; rfl
theorem eG_eq : eG m c = truncf .bf16 (padG (aG m c)) bitsLt_bf16_f32 := by unfold eG; entry_read; rfl
theorem eK_eq : eK m c = truncf .bf16 (padK (aK m c)) bitsLt_bf16_f32 := by unfold eK; entry_read; rfl
theorem eW_eq : eW m c = truncf .bf16 (aW m c) bitsLt_bf16_f32 := by unfold eW; entry_read; rfl
theorem eX_eq : eX m c = padA (aX m c) := by unfold eX; entry_read; rfl
theorem eS_eq : eS m c = aS m c := V_main_arg6 m c
theorem eH_eq : eH m c = padA (aH m c) := by unfold eH; entry_read; rfl

theorem eA_at (r : Fin 8320) (n : Fin 1024) : eA m c (ix2 r n) = front (fun r => aA m c (ix2 r n)) r := by rw [eA_eq]; exact padA_at _ r n
theorem eB_at (r : Fin 8320) (n : Fin 1024) : eB m c (ix2 r n) = front (fun r => aB m c (ix2 r n)) r := by rw [eB_eq]; exact padA_at _ r n
theorem eG_at (r : Fin 8320) (n : Fin 2560) : eG m c (ix2 r n) = front (fun r => aG m c (ix2 r n)) r := by rw [eG_eq]; exact padG_at _ r n
theorem eK_at (r : Fin 8320) (n : Fin 128) : eK m c (ix2 r n) = front (fun r => aK m c (ix2 r n)) r := by rw [eK_eq]; exact padK_at _ r n
theorem eW_at (j : Fin 1024) (n : Fin 4736) : eW m c (ix2 j n) = aW m c (ix2 j n) := by rw [eW_eq]; rfl
theorem eX_at (r : Fin 8320) (n : Fin 1024) : eX m c (ix2 r n) = front (fun r => aX m c (ix2 r n)) r := by rw [eX_eq]; exact padA_at _ r n
theorem eH_at (r : Fin 8320) (n : Fin 1024) : eH m c (ix2 r n) = front (fun r => aH m c (ix2 r n)) r := by rw [eH_eq]; exact padA_at _ r n

/-- Rows of padding have no gradient. -/
theorem whole_low (r : Fin 8320) (h : r.val < 112) (j : Fin 1024) : whole m c r j = 0 :=
  cols_zero _ (fun n => (eA_at m c r n).trans (front_low _ r h)) (fun n => (eB_at m c r n).trans (front_low _ r h))
    (fun n => (eG_at m c r n).trans (front_low _ r h)) (fun n => (eK_at m c r n).trans (front_low _ r h))

theorem whole_high (r : Fin 8320) (h : 112 ≤ r.val) (j : Fin 1024) :
    whole m c r j = Cert.Reference3Ideal.Norm.back (aA m c) (aB m c) (aG m c) (aK m c) (aW m c) ⟨r.val - 112, by omega⟩ j := by
  unfold whole Cert.Reference3Ideal.Norm.back
  simp only [eA_at, eB_at, eG_at, eK_at, eW_at, front_high _ r h]

/-- The reference's results. -/
def refX : FVec Ideal S8320x1024 .f32 :=
  Cert.Reference3Ideal.Read.val_main_v38 (F := Ideal) (aA m c) (aB m c) (aG m c) (aK m c) (aW m c) (aX m c) (aS m c) (aH m c)
def refG : FVec Ideal S1x1024 .f32 :=
  Cert.Reference3Ideal.Read.val_main_v20 (F := Ideal) (aA m c) (aB m c) (aG m c) (aK m c) (aW m c) (aX m c)

theorem leaves8 : (dats m 0 c).arrAt 8 cfg0.N = refX m c := by
  refine (final8 m c).trans (funext fun i => ?_)
  idx_vars i
  have e : refX m c (ix2 i0 i1) = front (fun r => Cert.Reference3Ideal.Read.val_main_v37 (F := Ideal) (aA m c) (aB m c) (aG m c) (aK m c) (aW m c) (aX m c) (aS m c) (aH m c) (ix2 r i1)) i0 := padA_at _ i0 i1
  rw [e]
  show (if 112 ≤ i0.val then callRow (fun n => eX m c (ix2 i0 n)) (fun n => whole m c i0 n * eS m c (ix2 0 n)) (eH m c (ix2 i0 i1)) i1 else 0) = _
  by_cases h : 112 ≤ i0.val
  · rw [if_pos h, rows_eq, front_high _ i0 h, Cert.Reference3Ideal.Norm.row_at]
    simp only [eX_at, eH_at, eS_eq, whole_high m c i0 h, front_high _ i0 h]
  · rw [if_neg h, front_low _ i0 (by omega)]

theorem leaves9 : (dats m 0 c).arrAt 9 cfg0.N = refG m c := by
  refine (final9 m c).trans (funext fun i => ?_)
  idx_vars i
  have z : i0 = 0 := Subsingleton.elim _ _
  subst z
  refine Eq.trans ?_ (Cert.Reference3Ideal.Norm.gain_at _ _ _ _ _ _ i1).symm
  refine sum_front _ _ (fun r h => by show whole m c r i1 * _ = 0; rw [whole_low m c r h, zero_mul]) fun r => ?_
  have h : 112 ≤ (⟨112 + r.val, by omega⟩ : Fin 8320).val := Nat.le_add_right _ _
  have e : (⟨112 + r.val - 112, by omega⟩ : Fin 8208) = r := Fin.ext (by show 112 + r.val - 112 = r.val; omega)
  show whole m c ⟨112 + r.val, _⟩ i1 * (eX m c (ix2 ⟨112 + r.val, _⟩ i1) * factor fun n => eX m c (ix2 ⟨112 + r.val, _⟩ n)) = _
  rw [mul_comm, whole_high m c _ h]
  simp only [eX_at, front_high _ _ h, e]

/-- The value claim. -/
theorem algebraic : algebraic_Kernel3Ideal_Reference3Ideal (hKernel3Ideal := Cert.Kernel3Ideal.Gen.facts) (hReference3Ideal := Cert.Reference3Ideal.Gen.facts) := by
  intro m g m' g' _ same
  refine ⟨refX m, refG m, ?_, ?_⟩
  · refine (θ_run Cert.Kernel3Ideal.defs _ _).mono (fun r h c => ?_) (Cert.Kernel3Ideal.Value.run_blocks m g)
    exact ⟨(h c).1.trans (leaves8 m c), (h c).2.1.trans (leaves9 m c), (h c).2.2⟩
  · refine (θ_run Cert.Reference3Ideal.defs _ _).mono (fun r h c => ?_) (Cert.Reference3Ideal.Value.run m' g')
    obtain ⟨h0, h1, rest⟩ := h c
    obtain ⟨s0, s1, s2, s3, s4, s5, s6, s7⟩ := same c
    refine ⟨h0.trans ?_, h1.trans ?_, rest⟩
    · refine (Cert.Reference3Ideal.Read.val_main_v38_eq m' c).trans ?_
      rw [s0, s1, s2, s3, s4, s5, s6, s7]; rfl
    · refine Eq.trans (Cert.Reference3Ideal.Read.val_main_v20_eq _ _ _ _ _ _) ?_
      rw [s0, s1, s2, s3, s4, s5]; rfl

end Cert.Kernel3Ideal.Norm

end
-- ==== Proof.Weight4.lean ====
/- The gradient of 1024 of the columns of the projection's weights: the call's result is the reference's. -/
module

public import proofs.«01_k».proof.Defs
public import proofs.«01_k».proof.Proof.PadSum
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit

@[expose] public section

set_option maxRecDepth 16384

noncomputable section

namespace Cert.Kernel4Ideal.Weight

open Idealize.ShloMosaic Idealize.ShloMosaic.TcCoe Idealize.SL.Sem
open Cert.Kernel4Ideal Cert.Kernel4Ideal.Gen Cert.Proj

/-- 112 rows of zeros in front of the hidden rows. -/
def padH (h : FVec Ideal S8208x1024 .f32) : FVec Ideal S8320x1024 .f32 :=
  pad S8320x1024 ![112, 0] ![0, 0] ![0, 0] h (constant S_ .f32 0x00000000#32) pads_S8208x1024_S8320x1024_11200_000 h_S_

/-- 112 rows of zeros in front of the cotangent's rows. -/
def padD (d : FVec Ideal S8208x1024 .f32) : FVec Ideal S8320x1024 .f32 :=
  pad S8320x1024 ![112, 0] ![0, 0] ![0, 0] d (constant S_ .f32 0x00000000#32) pads_S8208x1024_S8320x1024_11200_000 h_S_

theorem padH_at (h : FVec Ideal S8208x1024 .f32) (r : Fin 8320) (i : Fin 1024) : padH h (ix2 r i) = front (fun r => h (ix2 r i)) r := by
  unfold front
  pointwise [padH]

theorem padD_at (d : FVec Ideal S8208x1024 .f32) (r : Fin 8320) (j : Fin 1024) : padD d (ix2 r j) = front (fun r => d (ix2 r j)) r := by
  unfold front
  pointwise [padD]

variable (m : (ℓ : Loc nD τ sig) → Buf (Elt Ideal) ℓ) (c : Dev nD)

theorem h_entry : V m c main_v1 = truncf .bf16 (padH (m ((c : Thread nD τ).loc main_arg0))) bitsLt_bf16_f32 := by entry_read; rfl
theorem d_entry : V m c main_v3 = truncf .bf16 (padD (m ((c : Thread nD τ).loc main_arg1))) bitsLt_bf16_f32 := by entry_read; rfl

/-- The product of a tile's rows: zeros in the accumulator. -/
theorem tile_at (x : FVec Ideal S1664x1024 .bf16) (y : FVec Ideal S1664x1024 .bf16) (j : S1024x1024.Idx) :
    (k0_pay1 (F := Ideal) x y j : EReal) = ∑ k : Fin 1664, x (ix2 k (j 0)) * y (ix2 k (j 1)) := by
  pointwise [k0_pay1]

/-- A later tile is added. -/
theorem more_at (x : FVec Ideal S1664x1024 .bf16) (y : FVec Ideal S1664x1024 .bf16) (z : FVec Ideal S1024x1024 .f32) (j : S1024x1024.Idx) :
    (k0_pay2 (F := Ideal) x y z j : EReal) = z j + ∑ k : Fin 1664, x (ix2 k (j 0)) * y (ix2 k (j 1)) := by
  pointwise [k0_pay2, k0_pay1]

/-- The tiles' places: column block `t / 5`, row block `t % 5`. -/
theorem idx : ∀ t : Fin cfg0.N, win0_0.index t = ![t.val % 5, 0] ∧ win0_1.index t = ![t.val % 5, t.val / 5] ∧ win0_2.index t = ![0, t.val / 5] :=
  (by decide +kernel : ∀ t : Fin grid0.N, _)

/-- The product of the two arrays as the call is given them. -/
def full (H : FVec Ideal S8320x1024 .bf16) (D : FVec Ideal S8320x1024 .bf16) : FVec Ideal S1024x1024 .f32 :=
  fun j => ∑ r : Fin 8320, H (ix2 r (j 0)) * D (ix2 r (j 1))

theorem final : (dats m 0 c).arrAt 2 cfg0.N = full (V m c main_v1) (V m c main_v3) := by
  refine (dats m 0 c).arrAt_eq_of_covers 2 _ (by decide +kernel) fun t hf y => ?_
  blk_simp
  rw [after0_2, Pipeline.eq_sum_fin_of_reset_step_apply_of_flush (fun n h => outsAt0 m c n h) 5 (fun _ => 0) _
    (fun t h j => by
      have b : t.val < 5 := N_0 ▸ t.isLt
      rw [outsAt0_A m c t h (by omega)]; frame_out; rw [tile_at]; exact (zero_add _).symm)
    (fun t h j => by rw [outsAt0_B m c t h (by omega)]; frame_out; rw [more_at])
    t ((flush0_2 t).mp hf) _, zero_add]
  unfold full
  refine Fin.sum_mul_add_congr fun s k hl => ?_
  have i := idx ⟨_, Pipeline.run_point_lt_of_flush t ((flush0_2 t).mp hf) s⟩
  congr 1 <;> blk_ext [iblk, idx t, i]

/-- At an index: the sum over the 8208 rows. -/
theorem full_at (j : S1024x1024.Idx) : full (V m c main_v1) (V m c main_v3) j
    = ∑ r : Fin 8208, (show FVec Ideal S8208x1024 .f32 from m ((c : Thread nD τ).loc main_arg0)) (ix2 r (j 0))
        * (show FVec Ideal S8208x1024 .f32 from m ((c : Thread nD τ).loc main_arg1)) (ix2 r (j 1)) := by
  unfold full
  rw [h_entry, d_entry]
  refine Eq.trans (Finset.sum_congr rfl fun r _ => ?_) (sum_front_mul (fun r => _) (fun r => _))
  exact congrArg₂ (· * ·) (padH_at _ r (j 0)) (padD_at _ r (j 1))

/-- The reference's result. -/
def grad : FVec Ideal S1024x1024 .f32 :=
  Cert.Reference4Ideal.Read.val_main_v3 (F := Ideal) (m ((c : Thread nD τ).loc main_arg0)) (m ((c : Thread nD τ).loc main_arg1))

theorem leaves : (dats m 0 c).arrAt 2 cfg0.N = grad m c := by
  refine (final m c).trans (funext fun j => (full_at m c j).trans ?_)
  unfold grad
  rw [Cert.Reference4Ideal.Read.val_main_v3_apply, Cert.Reference4Ideal.Read.val_main_v2_apply]
  refine Finset.sum_congr rfl fun r _ => ?_
  refine (mul_comm _ _).trans (congrArg₂ (· * ·) (congrArg _ ?_) (congrArg _ ?_)) <;> blk_ext []

/-- The value claim. -/
theorem algebraic : algebraic_Kernel4Ideal_Reference4Ideal (hKernel4Ideal := Cert.Kernel4Ideal.Gen.facts) (hReference4Ideal := Cert.Reference4Ideal.Gen.facts) := by
  intro m g m' g' _ same
  refine ⟨grad m, ?_, ?_⟩
  · refine (θ_run Cert.Kernel4Ideal.defs _ _).mono (fun r h c => ?_) (Cert.Kernel4Ideal.Value.run_blocks m g)
    exact ⟨(h c).1.trans (leaves m c), (h c).2⟩
  · refine (θ_run Cert.Reference4Ideal.defs _ _).mono (fun r h c => ?_) (Cert.Reference4Ideal.Value.run m' g')
    obtain ⟨h0, rest⟩ := h c
    obtain ⟨s0, s1⟩ := same c
    refine ⟨h0.trans ?_, rest⟩
    rw [s0, s1]
    rfl

end Cert.Kernel4Ideal.Weight

end
-- ==== Proof.Weight5.lean ====
/- The gradient of 128 of the columns of the projection's weights: the call's result is the reference's. -/
module

public import proofs.«01_k».proof.Defs
public import proofs.«01_k».proof.Proof.PadSum
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit

@[expose] public section

set_option maxRecDepth 16384

noncomputable section

namespace Cert.Kernel5Ideal.Weight

open Idealize.ShloMosaic Idealize.ShloMosaic.TcCoe Idealize.SL.Sem
open Cert.Kernel5Ideal Cert.Kernel5Ideal.Gen Cert.Proj

/-- 112 rows of zeros in front of the hidden rows. -/
def padH (h : FVec Ideal S8208x1024 .f32) : FVec Ideal S8320x1024 .f32 :=
  pad S8320x1024 ![112, 0] ![0, 0] ![0, 0] h (constant S_ .f32 0x00000000#32) pads_S8208x1024_S8320x1024_11200_000 h_S_

/-- 112 rows of zeros in front of the cotangent's rows. -/
def padD (d : FVec Ideal S8208x128 .f32) : FVec Ideal S8320x128 .f32 :=
  pad S8320x128 ![112, 0] ![0, 0] ![0, 0] d (constant S_ .f32 0x00000000#32) pads_S8208x128_S8320x128_11200_000 h_S_

theorem padH_at (h : FVec Ideal S8208x1024 .f32) (r : Fin 8320) (i : Fin 1024) : padH h (ix2 r i) = front (fun r => h (ix2 r i)) r := by
  unfold front
  pointwise [padH]

theorem padD_at (d : FVec Ideal S8208x128 .f32) (r : Fin 8320) (j : Fin 128) : padD d (ix2 r j) = front (fun r => d (ix2 r j)) r := by
  unfold front
  pointwise [padD]

variable (m : (ℓ : Loc nD τ sig) → Buf (Elt Ideal) ℓ) (c : Dev nD)

theorem h_entry : V m c main_v1 = truncf .bf16 (padH (m ((c : Thread nD τ).loc main_arg0))) bitsLt_bf16_f32 := by entry_read; rfl
theorem d_entry : V m c main_v3 = truncf .bf16 (padD (m ((c : Thread nD τ).loc main_arg1))) bitsLt_bf16_f32 := by entry_read; rfl

/-- The product of a tile's rows: zeros in the accumulator. -/
theorem tile_at (x : FVec Ideal S1664x1024 .bf16) (y : FVec Ideal S1664x128 .bf16) (j : S1024x128.Idx) :
    (k0_pay1 (F := Ideal) x y j : EReal) = ∑ k : Fin 1664, x (ix2 k (j 0)) * y (ix2 k (j 1)) := by
  pointwise [k0_pay1]

/-- A later tile is added. -/
theorem more_at (x : FVec Ideal S1664x1024 .bf16) (y : FVec Ideal S1664x128 .bf16) (z : FVec Ideal S1024x128 .f32) (j : S1024x128.Idx) :
    (k0_pay2 (F := Ideal) x y z j : EReal) = z j + ∑ k : Fin 1664, x (ix2 k (j 0)) * y (ix2 k (j 1)) := by
  pointwise [k0_pay2, k0_pay1]

/-- The tiles' places: column block `t / 5`, row block `t % 5`. -/
theorem idx : ∀ t : Fin cfg0.N, win0_0.index t = ![t.val % 5, 0] ∧ win0_1.index t = ![t.val % 5, t.val / 5] ∧ win0_2.index t = ![0, t.val / 5] :=
  (by decide +kernel : ∀ t : Fin grid0.N, _)

/-- The product of the two arrays as the call is given them. -/
def full (H : FVec Ideal S8320x1024 .bf16) (D : FVec Ideal S8320x128 .bf16) : FVec Ideal S1024x128 .f32 :=
  fun j => ∑ r : Fin 8320, H (ix2 r (j 0)) * D (ix2 r (j 1))

theorem final : (dats m 0 c).arrAt 2 cfg0.N = full (V m c main_v1) (V m c main_v3) := by
  refine (dats m 0 c).arrAt_eq_of_covers 2 _ (by decide +kernel) fun t hf y => ?_
  blk_simp
  rw [after0_2, Pipeline.eq_sum_fin_of_reset_step_apply_of_flush (fun n h => outsAt0 m c n h) 5 (fun _ => 0) _
    (fun t h j => by
      have b : t.val < 5 := N_0 ▸ t.isLt
      rw [outsAt0_A m c t h (by omega)]; frame_out; rw [tile_at]; exact (zero_add _).symm)
    (fun t h j => by rw [outsAt0_B m c t h (by omega)]; frame_out; rw [more_at])
    t ((flush0_2 t).mp hf) _, zero_add]
  unfold full
  refine Fin.sum_mul_add_congr fun s k hl => ?_
  have i := idx ⟨_, Pipeline.run_point_lt_of_flush t ((flush0_2 t).mp hf) s⟩
  congr 1 <;> blk_ext [iblk, idx t, i]

/-- At an index: the sum over the 8208 rows. -/
theorem full_at (j : S1024x128.Idx) : full (V m c main_v1) (V m c main_v3) j
    = ∑ r : Fin 8208, (show FVec Ideal S8208x1024 .f32 from m ((c : Thread nD τ).loc main_arg0)) (ix2 r (j 0))
        * (show FVec Ideal S8208x128 .f32 from m ((c : Thread nD τ).loc main_arg1)) (ix2 r (j 1)) := by
  unfold full
  rw [h_entry, d_entry]
  refine Eq.trans (Finset.sum_congr rfl fun r _ => ?_) (sum_front_mul (fun r => _) (fun r => _))
  exact congrArg₂ (· * ·) (padH_at _ r (j 0)) (padD_at _ r (j 1))

/-- The reference's result. -/
def grad : FVec Ideal S1024x128 .f32 :=
  Cert.Reference5Ideal.Read.val_main_v3 (F := Ideal) (m ((c : Thread nD τ).loc main_arg0)) (m ((c : Thread nD τ).loc main_arg1))

theorem leaves : (dats m 0 c).arrAt 2 cfg0.N = grad m c := by
  refine (final m c).trans (funext fun j => (full_at m c j).trans ?_)
  unfold grad
  rw [Cert.Reference5Ideal.Read.val_main_v3_apply, Cert.Reference5Ideal.Read.val_main_v2_apply]
  refine Finset.sum_congr rfl fun r _ => ?_
  refine (mul_comm _ _).trans (congrArg₂ (· * ·) (congrArg _ ?_) (congrArg _ ?_)) <;> blk_ext []

/-- The value claim. -/
theorem algebraic : algebraic_Kernel5Ideal_Reference5Ideal (hKernel5Ideal := Cert.Kernel5Ideal.Gen.facts) (hReference5Ideal := Cert.Reference5Ideal.Gen.facts) := by
  intro m g m' g' _ same
  refine ⟨grad m, ?_, ?_⟩
  · refine (θ_run Cert.Kernel5Ideal.defs _ _).mono (fun r h c => ?_) (Cert.Kernel5Ideal.Value.run_blocks m g)
    exact ⟨(h c).1.trans (leaves m c), (h c).2⟩
  · refine (θ_run Cert.Reference5Ideal.defs _ _).mono (fun r h c => ?_) (Cert.Reference5Ideal.Value.run m' g')
    obtain ⟨h0, rest⟩ := h c
    obtain ⟨s0, s1⟩ := same c
    refine ⟨h0.trans ?_, rest⟩
    rw [s0, s1]
    rfl

end Cert.Kernel5Ideal.Weight

end
-- ==== Proof.Norm6.lean ====
/- The norm and the projection, forward: the call's two results are the reference's. -/
module

public import proofs.«01_k».proof.Defs
public import proofs.«01_k».proof.Proof.NormMath
public import proofs.«01_k».proof.Proof.PadSum
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit

@[expose] public section

set_option maxRecDepth 16384

noncomputable section

namespace Cert.Kernel6Ideal.Norm

open Idealize.ShloMosaic Idealize.ShloMosaic.TcCoe Idealize.SL.Sem
open Cert.Kernel6Ideal Cert.Kernel6Ideal.Gen Cert.Proj

/-- Lane `j` of the norm of a row `x`, with gain `s`. -/
def normed (x s : Fin 1024 → EReal) (j : Fin 1024) : EReal := x j * factor x * s j

/-- The product of the normed row and a column of the weights. -/
def projected (x s w : Fin 1024 → EReal) : EReal := ∑ n, normed x s n * w n

theorem normed_zero {x : Fin 1024 → EReal} (s : Fin 1024 → EReal) (h : ∀ n, x n = 0) (j : Fin 1024) : normed x s j = 0 := by
  unfold normed
  rw [h, zero_mul, zero_mul]

theorem projected_zero {x : Fin 1024 → EReal} (s w : Fin 1024 → EReal) (h : ∀ n, x n = 0) : projected x s w = 0 := by
  unfold projected
  exact Finset.sum_eq_zero fun n _ => by rw [normed_zero s h, zero_mul]

section
variable (x : FVec Ideal S320x1024 .f32) (s : FVec Ideal S1x1024 .f32)

/-- A tile's normed rows. -/
theorem norm_at (r : Fin 320) (j : Fin 1024) :
    (k0_pay3 (F := Ideal) x s (ix2 r j) : EReal) = normed (fun n => x (ix2 r n)) (fun n => s (ix2 0 n)) j := by
  unfold normed factor meanSq lanes small
  pointwise [k0_pay3]

/-- Their products with a block of columns: four blocks of 1024 columns, and one of 640. -/
theorem wide_at (w : FVec Ideal S1024x1024 .bf16) (r : Fin 320) (j : Fin 1024) :
    (k0_pay1 (F := Ideal) (k0_pay3 x s) w (ix2 r j) : EReal)
      = projected (fun n => x (ix2 r n)) (fun n => s (ix2 0 n)) fun n => w (ix2 n j) := by
  unfold projected
  simp only [← norm_at]
  pointwise [k0_pay1]

theorem rest_at (w : FVec Ideal S1024x640 .bf16) (r : Fin 320) (j : Fin 640) :
    (k0_pay2 (F := Ideal) (k0_pay3 x s) w (ix2 r j) : EReal)
      = projected (fun n => x (ix2 r n)) (fun n => s (ix2 0 n)) fun n => w (ix2 n j) := by
  unfold projected
  simp only [← norm_at]
  pointwise [k0_pay2]
end

variable (m : (ℓ : Loc nD τ sig) → Buf (Elt Ideal) ℓ) (c : Dev nD)

/-- The arrays as the call is given them. -/
def eX : FVec Ideal S8320x1024 .f32 := V m c main_v0
def eS : FVec Ideal S1x1024 .f32 := V m c main_arg1
def eW : FVec Ideal S1024x4736 .bf16 := V m c main_v1

/-- The tiles' places. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

theorem lt (t : Fin cfg0.N) : t.val < 26 := Nat.lt_of_lt_of_eq t.isLt N_0
/-- Row `r` of tile `t`. -/
def at_ (t : Fin cfg0.N) (r : Fin 320) : Fin 8320 := ⟨t.val * 320 + r.val, by have := lt t; omega⟩

theorem x_tile (t : Fin cfg0.N) (r : Fin 320) (n : Fin 1024) : (iblk m c 0 t : FVec Ideal S320x1024 .f32) (ix2 r n) = eX m c (ix2 (at_ t r) n) := by
  unfold at_ eX
  blk_ext [iblk, idx t]
theorem s_tile (t : Fin cfg0.N) (n : Fin 1024) : (iblk m c 1 t : FVec Ideal S1x1024 .f32) (ix2 0 n) = eS m c (ix2 0 n) := by
  unfold eS
  blk_ext [iblk, idx t]
theorem w_tile (t : Fin cfg0.N) (n : Fin 1024) (j : Fin 4736) : (iblk m c 2 t : FVec Ideal S1024x4736 .bf16) (ix2 n j) = eW m c (ix2 n j) := by
  unfold eW
  blk_ext [iblk, idx t]

/-- The two results, of the arrays given. -/
def outH : FVec Ideal S8320x1024 .bf16 := fun i => normed (fun n => eX m c (ix2 (i 0) n)) (fun n => eS m c (ix2 0 n)) (i 1)
def outP : FVec Ideal S8320x4736 .f32 := fun i =>
  projected (fun n => eX m c (ix2 (i 0) n)) (fun n => eS m c (ix2 0 n)) fun n => eW m c (ix2 n (i 1))

/-- A stored block of columns is that block of the result. -/
theorem wide_tile (t : Fin cfg0.N) (r : Fin 320) (q : Fin 4736) (o : ℕ) (inb) (z : S320x1024.Idx) (h0 : r.val = (z 0).val) (h1 : q.val = o + (z 1).val) :
    (k0_pay1 (F := Ideal) (k0_pay3 (iblk m c 0 t) (iblk m c 1 t)) (View.ld (iblk m c 2 t) (Rect.unit ![0, o] ![1024, 1024] inb)) z : EReal)
      = outP m c (ix2 (at_ t r) q) := by
  idx_vars z
  have e : r = z0 := Fin.ext h0
  subst e
  have w : ∀ k : Fin 1024, View.ld (iblk m c 2 t) (Rect.unit ![0, o] ![1024, 1024] inb) (ix2 k z1) = eW m c (ix2 k q) := fun k => by
    rw [View.ld_unit_apply_of _ _ _ _ _ (ix2 k q) (fun a => by fin_cases a <;> simp [ix2, h1])]
    exact w_tile m c t k q
  refine (wide_at _ _ _ r z1).trans ?_
  simp only [x_tile, s_tile, w]
  rfl

theorem rest_tile (t : Fin cfg0.N) (r : Fin 320) (q : Fin 4736) (o : ℕ) (inb) (z : S320x640.Idx) (h0 : r.val = (z 0).val) (h1 : q.val = o + (z 1).val) :
    (k0_pay2 (F := Ideal) (k0_pay3 (iblk m c 0 t) (iblk m c 1 t)) (View.ld (iblk m c 2 t) (Rect.unit ![0, o] ![1024, 640] inb)) z : EReal)
      = outP m c (ix2 (at_ t r) q) := by
  idx_vars z
  have e : r = z0 := Fin.ext h0
  subst e
  have w : ∀ k : Fin 1024, View.ld (iblk m c 2 t) (Rect.unit ![0, o] ![1024, 640] inb) (ix2 k z1) = eW m c (ix2 k q) := fun k => by
    rw [View.ld_unit_apply_of _ _ _ _ _ (ix2 k q) (fun a => by fin_cases a <;> simp [ix2, h1])]
    exact w_tile m c t k q
  refine (rest_at _ _ _ r z1).trans ?_
  simp only [x_tile, s_tile, w]
  rfl

theorem final3 : (dats m 0 c).arrAt 3 cfg0.N = outH m c := by
  refine (dats m 0 c).arrAt_eq_of_covers 3 _ (by decide +kernel) fun t hf y => ?_
  blk_simp
  rw [after0_3]
  idx_vars y
  have q : ((View.whole main_v2_0).slice (win0_3.rect t)).emb (ix2 y0 y1) = ix2 (at_ t y0) y1 := by
    unfold at_
    blk_ext [idx t]
  rw [q]
  have out : (outsAt0 m c t).1 (ix2 y0 y1) = (k0_pay3 (F := Ideal) (iblk m c 0 t) (iblk m c 1 t) (ix2 y0 y1) : EReal) := by
    unfold outsAt0; frame_out
  refine out.trans ((norm_at _ _ y0 y1).trans ?_)
  simp only [x_tile, s_tile]
  rfl

theorem final4 : (dats m 0 c).arrAt 4 cfg0.N = outP m c := by
  refine (dats m 0 c).arrAt_eq_of_covers 4 _ (by decide +kernel) fun t hf y => ?_
  blk_simp
  rw [after0_4]
  idx_vars y
  have q : ((View.whole main_v2_1).slice (win0_4.rect t)).emb (ix2 y0 y1) = ix2 (at_ t y0) y1 := by
    unfold at_
    blk_ext [idx t]
  rw [q]
  unfold outsAt0; frame_out
  canon_tiles x h using View.cover_of_tiledBy _ ![320, 128] (by sl_kernel_rfl) _
  · exact rest_tile m c t y0 y1 4096 _ x h0 h1
  · exact wide_tile m c t y0 y1 3072 _ x h0 h1
  · exact wide_tile m c t y0 y1 2048 _ x h0 h1
  · exact wide_tile m c t y0 y1 1024 _ x h0 h1
  · exact wide_tile m c t y0 y1 0 _ x h0 (h1.trans (zero_add _).symm)

/-- 112 rows of zeros in front. -/
def padX (d : FVec Ideal S8208x1024 .f32) : FVec Ideal S8320x1024 .f32 :=
  pad S8320x1024 ![112, 0] ![0, 0] ![0, 0] d (constant S_ .f32 0x00000000#32) pads_S8208x1024_S8320x1024_11200_000 h_S_

theorem padX_at (d : FVec Ideal S8208x1024 .f32) (r : Fin 8320) (n : Fin 1024) : padX d (ix2 r n) = front (fun r => d (ix2 r n)) r := by
  unfold front
  pointwise [padX]

/-- The arguments. -/
abbrev aX : FVec Ideal S8208x1024 .f32 := m ((c : Thread nD τ).loc main_arg0)
abbrev aS : FVec Ideal S1x1024 .f32 := m ((c : Thread nD τ).loc main_arg1)
abbrev aW : FVec Ideal S1024x4736 .f32 := m ((c : Thread nD τ).loc main_arg2)

theorem eX_eq : eX m c = padX (aX m c) := by unfold eX; entry_read; rfl
theorem eS_eq : eS m c = aS m c := V_main_arg1 m c
theorem eW_eq : eW m c = truncf .bf16 (aW m c) bitsLt_bf16_f32 := by unfold eW; entry_read; rfl

theorem eX_at (r : Fin 8320) (n : Fin 1024) : eX m c (ix2 r n) = front (fun r => aX m c (ix2 r n)) r := by rw [eX_eq]; exact padX_at _ r n
theorem eW_at (n : Fin 1024) (j : Fin 4736) : eW m c (ix2 n j) = aW m c (ix2 n j) := by rw [eW_eq]; rfl

/-- The reference's results, and the stages before their padding, at an index. -/
def refH : FVec Ideal S8320x1024 .bf16 := Cert.Reference6Ideal.Read.val_main_v13 (F := Ideal) (aX m c) (aS m c)
def refP : FVec Ideal S8320x4736 .f32 := Cert.Reference6Ideal.Read.val_main_v15 (F := Ideal) (aX m c) (aS m c) (aW m c)

section
open Cert.Reference6Ideal Cert.Reference6Ideal.Gen Cert.Reference6Ideal.Read
variable (x : FVec Ideal S8208x1024 .f32) (s : FVec Ideal S1x1024 .f32) (w : FVec Ideal S1024x4736 .f32)

theorem ref_norm (r : Fin 8208) (j : Fin 1024) :
    (val_main_v11 (F := Ideal) x s (ix2 r j) : EReal) = normed (fun n => x (ix2 r n)) (fun n => s (ix2 0 n)) j := by
  unfold normed factor meanSq lanes small
  pointwise [val_main_v11, val_main_v10, val_main_v9, val_main_v8, val_main_v7, val_main_v6, val_main_v5, val_main_cst_1, val_main_v4, val_main_v3,
    val_main_cst_0, val_main_v2, val_main_v1, val_main_cst, val_main_v0]

theorem ref_product (r : Fin 8208) (j : Fin 4736) :
    (val_main_v14 (F := Ideal) x s w (ix2 r j) : EReal) = projected (fun n => x (ix2 r n)) (fun n => s (ix2 0 n)) fun n => w (ix2 n j) := by
  unfold projected
  simp only [← ref_norm]
  pointwise [val_main_v14]

theorem ref_h (r : Fin 8320) (j : Fin 1024) : (val_main_v13 (F := Ideal) x s (ix2 r j) : EReal)
    = front (fun r => val_main_v11 (F := Ideal) x s (ix2 r j)) r := by
  unfold front
  pointwise [val_main_v13, val_main_v12, val_main_cst_2]

theorem ref_p (r : Fin 8320) (j : Fin 4736) : (val_main_v15 (F := Ideal) x s w (ix2 r j) : EReal)
    = front (fun r => val_main_v14 (F := Ideal) x s w (ix2 r j)) r := by
  unfold front
  pointwise [val_main_v15, val_main_cst_3]
end

theorem leaves3 : (dats m 0 c).arrAt 3 cfg0.N = refH m c := by
  refine (final3 m c).trans (funext fun i => ?_)
  idx_vars i
  refine Eq.trans ?_ (ref_h (aX m c) (aS m c) i0 i1).symm
  show normed (fun n => eX m c (ix2 i0 n)) (fun n => eS m c (ix2 0 n)) i1 = _
  by_cases h : 112 ≤ i0.val
  · rw [front_high _ i0 h, ref_norm]
    simp only [eX_at, eS_eq, front_high _ i0 h]
  · rw [front_low _ i0 (by omega)]
    exact normed_zero _ (fun n => (eX_at m c i0 n).trans (front_low _ i0 (by omega))) i1

theorem leaves4 : (dats m 0 c).arrAt 4 cfg0.N = refP m c := by
  refine (final4 m c).trans (funext fun i => ?_)
  idx_vars i
  refine Eq.trans ?_ (ref_p (aX m c) (aS m c) (aW m c) i0 i1).symm
  show projected (fun n => eX m c (ix2 i0 n)) (fun n => eS m c (ix2 0 n)) (fun n => eW m c (ix2 n i1)) = _
  by_cases h : 112 ≤ i0.val
  · rw [front_high _ i0 h, ref_product]
    simp only [eX_at, eS_eq, eW_at, front_high _ i0 h]
  · rw [front_low _ i0 (by omega)]
    exact projected_zero _ _ fun n => (eX_at m c i0 n).trans (front_low _ i0 (by omega))

/-- The value claim. -/
theorem algebraic : algebraic_Kernel6Ideal_Reference6Ideal (hKernel6Ideal := Cert.Kernel6Ideal.Gen.facts) (hReference6Ideal := Cert.Reference6Ideal.Gen.facts) := by
  intro m g m' g' _ same
  refine ⟨refH m, refP m, ?_, ?_⟩
  · refine (θ_run Cert.Kernel6Ideal.defs _ _).mono (fun r h c => ?_) (Cert.Kernel6Ideal.Value.run_blocks m g)
    exact ⟨(h c).1.trans (leaves3 m c), (h c).2.1.trans (leaves4 m c), (h c).2.2⟩
  · refine (θ_run Cert.Reference6Ideal.defs _ _).mono (fun r h c => ?_) (Cert.Reference6Ideal.Value.run m' g')
    obtain ⟨h0, h1, rest⟩ := h c
    obtain ⟨s0, s1, s2⟩ := same c
    refine ⟨h0.trans ?_, h1.trans ?_, rest⟩
    · refine (Cert.Reference6Ideal.Read.val_main_v13_eq _ _).trans ?_
      rw [s0, s1]; rfl
    · refine (Cert.Reference6Ideal.Read.val_main_v15_eq _ _ _).trans ?_
      rw [s0, s1, s2]; rfl

end Cert.Kernel6Ideal.Norm

end
-- ==== Proof.Gate.lean ====
/- The logistic gate and the row of eight heads. -/
module

public import proofs.«01_k».proof.Defs
public import Idealize.ShloMosaic.PureOps.Ideal

@[expose] public section

noncomputable section

namespace Cert.Gate

open Idealize.ShloMosaic

/-- The gate, `1 / (1 + e^(-z))`. -/
def gate (z : EReal) : EReal := Ideal.logistic z

theorem gate_zero_sub (z : EReal) : Ideal.div 1 (1 + Ideal.exp (0 - z)) = gate z := by
  rw [zero_sub]; rfl

theorem one_val : Ideal.ofBits .f32 0x3F800000#32 = 1 := by
  have e : Ideal.ofBits .f32 0x3F800000#32 = ((1 : ℝ) : EReal) := by
    simp [Ideal.ofBits, Ideal.ieee, -EReal.coe_mul]
    try norm_num
    try rfl
  exact e

theorem zero_val : Ideal.ofBits .f32 0x00000000#32 = 0 := by simp [Ideal.ofBits, Ideal.ieee, -EReal.coe_mul]

/-- The head, and the lane in it, of lane `n` of a row of eight heads of 64. -/
def head (n : Fin 512) : Fin 8 := ⟨n.val / 64, by omega⟩
def lane (n : Fin 512) : Fin 64 := ⟨n.val % 64, by omega⟩

end Cert.Gate

end
-- ==== Proof.Post7.lean ====
/- The merge of the two branches and the output projection, forward: the call's two results are the reference's. -/
module

public import proofs.«01_k».proof.Defs
public import proofs.«01_k».proof.Proof.Gate
public import proofs.«01_k».proof.Proof.PadSum
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit

@[expose] public section

set_option maxRecDepth 16384

noncomputable section

namespace Cert.Kernel7Ideal.Post

open Idealize.ShloMosaic Idealize.ShloMosaic.TcCoe Idealize.SL.Sem
open Cert.Kernel7Ideal Cert.Kernel7Ideal.Gen Cert.Proj Cert.Gate

/-- The latent attention's branch at one column `u` of its weights: the heads' row `o`, gated by `z`, projected. -/
def branch (o z u : Fin 512 → EReal) : EReal := ∑ n, o n * (z n * gate (z n)) * u n

/-- The two branches under their gates. -/
def merged (gp gm p y : EReal) : EReal := gate gp * p + gate gm * y

theorem branch_zero {o : Fin 512 → EReal} (z u : Fin 512 → EReal) (h : ∀ n, o n = 0) : branch o z u = 0 := by
  unfold branch
  exact Finset.sum_eq_zero fun n _ => by rw [h, zero_mul, zero_mul]

theorem merged_zero (gp gm : EReal) {p y : EReal} (hp : p = 0) (hy : y = 0) : merged gp gm p y = 0 := by
  unfold merged
  rw [hp, hy, mul_zero, mul_zero, add_zero]

section
variable (z : FVec Ideal S320x512 .f32) (g : FVec Ideal S320x2048 .f32) (p : FVec Ideal S320x1024 .f32) (o : FVec Ideal S320x512 .f32)
variable (u : FVec Ideal S512x1024 .bf16) (h : FVec Ideal S320x1024 .f32) (w : FVec Ideal S1024x1024 .bf16)

/-- A tile's first result. -/
theorem branch_at (r : Fin 320) (j : Fin 1024) :
    (k0_pay1 (F := Ideal) (k0_pay3 z) o (k0_pay7 z) k0_pay8 u (ix2 r j) : EReal)
      = branch (fun n => o (ix2 r n)) (fun n => z (ix2 r n)) fun n => u (ix2 n j) := by
  unfold branch
  simp only [← gate_zero_sub]
  pointwise [k0_pay1, k0_pay3, k0_pay7, k0_pay8]

/-- A tile's second result. -/
theorem next_at (r : Fin 320) (j : Fin 1024) :
    (k0_pay2 (F := Ideal) (k0_pay3 z) (k0_pay4 g) (k0_pay5 p) o (k0_pay7 z) k0_pay8 u h w (ix2 r j) : EReal)
      = h (ix2 r j) + ∑ k : Fin 1024, merged (g (ix2 r ⟨k.val, by omega⟩)) (g (ix2 r ⟨1024 + k.val, by omega⟩)) (p (ix2 r k))
          (branch (fun n => o (ix2 r n)) (fun n => z (ix2 r n)) fun n => u (ix2 n k)) * w (ix2 k j) := by
  simp only [← branch_at]
  unfold merged
  simp only [← gate_zero_sub]
  pointwise [k0_pay2, k0_pay4, k0_pay5]
end

/-- The eight heads side by side. -/
theorem row_at (a0 a1 a2 a3 a4 a5 a6 a7 : FVec Ideal S1x320x64 .f32) (r : Fin 320) (q : Fin 8 → Fin 64 → EReal)
    (h0 : ∀ l, a0 (ix3 0 r l) = q 0 l) (h1 : ∀ l, a1 (ix3 0 r l) = q 1 l) (h2 : ∀ l, a2 (ix3 0 r l) = q 2 l) (h3 : ∀ l, a3 (ix3 0 r l) = q 3 l)
    (h4 : ∀ l, a4 (ix3 0 r l) = q 4 l) (h5 : ∀ l, a5 (ix3 0 r l) = q 5 l) (h6 : ∀ l, a6 (ix3 0 r l) = q 6 l) (h7 : ∀ l, a7 (ix3 0 r l) = q 7 l)
    (n : Fin 512) : (k0_pay6 (F := Ideal) a0 a1 a2 a3 a4 a5 a6 a7 (ix2 r n) : EReal) = q (head n) (lane n) := by
  unfold head lane
  pointwise [k0_pay6]
  simp only [h0, h1, h2, h3, h4, h5, h6, h7]
  have := n.isLt
  split_ifs <;> refine congrArg₂ q (Fin.ext ?_) (Fin.ext ?_) <;> simp only [Fin.val_zero, Fin.val_one, Fin.val_two, Fin.reduceFinMk, Fin.isValue] <;> first | omega | (show _ = _ / 64; rw [eq_comm, Nat.div_eq_iff (by omega)]; constructor <;> simp <;> omega)

variable (m : (ℓ : Loc nD τ sig) → Buf (Elt Ideal) ℓ) (c : Dev nD)

/-- The arrays as the call is given them. -/
def eH : FVec Ideal S8320x1024 .f32 := V m c main_v0
def eG : FVec Ideal S8320x4736 .f32 := V m c main_v1
def eO : FVec Ideal S8x8320x64 .f32 := V m c main_v2
def eP : FVec Ideal S8320x1024 .f32 := V m c main_v3
def eU : FVec Ideal S512x1024 .bf16 := V m c main_v4
def eW : FVec Ideal S1024x1024 .bf16 := V m c main_v5

/-- The tiles' places. -/
theorem idx : ∀ t : Fin cfg0.N, win0_0.index t = ![t.val, 0] ∧ win0_1.index t = ![t.val, 1] ∧ win0_2.index t = ![t.val, 8]
    ∧ win0_3.index t = ![0, t.val, 0] ∧ win0_4.index t = ![t.val, 0] ∧ win0_5.index t = ![0, 0] ∧ win0_6.index t = ![0, 0]
    ∧ win0_7.index t = ![t.val, 0] ∧ win0_8.index t = ![t.val, 0] :=
  (by decide +kernel : ∀ t : Fin grid0.N, _)

theorem lt (t : Fin cfg0.N) : t.val < 26 := Nat.lt_of_lt_of_eq t.isLt N_0
/-- Row `r` of tile `t`. -/
def at_ (t : Fin cfg0.N) (r : Fin 320) : Fin 8320 := ⟨t.val * 320 + r.val, by have := lt t; omega⟩

theorem h_tile (t : Fin cfg0.N) (r : Fin 320) (n : Fin 1024) : (iblk m c 0 t : FVec Ideal S320x1024 .f32) (ix2 r n) = eH m c (ix2 (at_ t r) n) := by
  unfold at_ eH
  blk_ext [iblk, idx t]
/-- The gates are columns 2048 to 4095 of the projection, and `z` the 512 after them. -/
theorem g_tile (t : Fin cfg0.N) (r : Fin 320) (n : Fin 2048) :
    (X0_1 m c t : FVec Ideal S320x2048 .f32) (ix2 r n) = eG m c (ix2 (at_ t r) ⟨2048 + n.val, by omega⟩) := by
  unfold X0_1 Pipeline.Window.fill
  rw [dif_pos (moved0_1 t (ix2 r n))]
  unfold at_ eG
  blk_ext [iblk, idx t]
theorem z_tile (t : Fin cfg0.N) (r : Fin 320) (n : Fin 512) :
    (X0_2 m c t : FVec Ideal S320x512 .f32) (ix2 r n) = eG m c (ix2 (at_ t r) ⟨4096 + n.val, by omega⟩) := by
  unfold X0_2 Pipeline.Window.fill
  rw [dif_pos (moved0_2 t (ix2 r n))]
  unfold at_ eG
  blk_ext [iblk, idx t]
theorem o_tile (t : Fin cfg0.N) (k : Fin 8) (r : Fin 320) (l : Fin 64) :
    (iblk m c 3 t : FVec Ideal S8x320x64 .f32) (ix3 k r l) = eO m c (ix3 k (at_ t r) l) := by
  unfold at_ eO
  blk_ext [iblk, idx t]
theorem p_tile (t : Fin cfg0.N) (r : Fin 320) (n : Fin 1024) : (iblk m c 4 t : FVec Ideal S320x1024 .f32) (ix2 r n) = eP m c (ix2 (at_ t r) n) := by
  unfold at_ eP
  blk_ext [iblk, idx t]
theorem u_tile (t : Fin cfg0.N) (n : Fin 512) (j : Fin 1024) : (iblk m c 5 t : FVec Ideal S512x1024 .bf16) (ix2 n j) = eU m c (ix2 n j) := by
  unfold eU
  blk_ext [iblk, idx t]
theorem w_tile (t : Fin cfg0.N) (n : Fin 1024) (j : Fin 1024) : (iblk m c 6 t : FVec Ideal S1024x1024 .bf16) (ix2 n j) = eW m c (ix2 n j) := by
  unfold eW
  blk_ext [iblk, idx t]

/-- Head `k` of a tile's block of heads. -/
theorem head_tile (t : Fin cfg0.N) (k : ℕ) (hk : k < 8) (inb) (r : Fin 320) (l : Fin 64) :
    View.ld (iblk m c 3 t : FVec Ideal S8x320x64 .f32) (Rect.unit ![k, 0, 0] ![1, 320, 64] inb) (ix3 0 r l) = eO m c (ix3 ⟨k, hk⟩ (at_ t r) l) := by
  rw [View.ld_unit_apply_of _ _ _ _ _ (ix3 ⟨k, hk⟩ r l) (fun a => by fin_cases a <;> simp [ix3])]
  exact o_tile m c t _ r l

theorem o_row (t : Fin cfg0.N) (r : Fin 320) (i0 i1 i2 i3 i4 i5 i6 i7) (n : Fin 512) :
    (k0_pay6 (F := Ideal) (View.ld (iblk m c 3 t : FVec Ideal S8x320x64 .f32) (Rect.unit ![0, 0, 0] ![1, 320, 64] i0))
      (View.ld (iblk m c 3 t : FVec Ideal S8x320x64 .f32) (Rect.unit ![1, 0, 0] ![1, 320, 64] i1))
      (View.ld (iblk m c 3 t : FVec Ideal S8x320x64 .f32) (Rect.unit ![2, 0, 0] ![1, 320, 64] i2))
      (View.ld (iblk m c 3 t : FVec Ideal S8x320x64 .f32) (Rect.unit ![3, 0, 0] ![1, 320, 64] i3))
      (View.ld (iblk m c 3 t : FVec Ideal S8x320x64 .f32) (Rect.unit ![4, 0, 0] ![1, 320, 64] i4))
      (View.ld (iblk m c 3 t : FVec Ideal S8x320x64 .f32) (Rect.unit ![5, 0, 0] ![1, 320, 64] i5))
      (View.ld (iblk m c 3 t : FVec Ideal S8x320x64 .f32) (Rect.unit ![6, 0, 0] ![1, 320, 64] i6))
      (View.ld (iblk m c 3 t : FVec Ideal S8x320x64 .f32) (Rect.unit ![7, 0, 0] ![1, 320, 64] i7)) (ix2 r n) : EReal)
      = eO m c (ix3 (head n) (at_ t r) (lane n)) :=
  row_at _ _ _ _ _ _ _ _ r (fun k l => eO m c (ix3 k (at_ t r) l)) (head_tile m c t 0 (by omega) _ r) (head_tile m c t 1 (by omega) _ r)
    (head_tile m c t 2 (by omega) _ r) (head_tile m c t 3 (by omega) _ r) (head_tile m c t 4 (by omega) _ r) (head_tile m c t 5 (by omega) _ r)
    (head_tile m c t 6 (by omega) _ r) (head_tile m c t 7 (by omega) _ r) n

/-- The two results, of the arrays given. -/
def outY : FVec Ideal S8320x1024 .f32 := fun i =>
  branch (fun n => eO m c (ix3 (head n) (i 0) (lane n))) (fun n => eG m c (ix2 (i 0) ⟨4096 + n.val, by omega⟩)) fun n => eU m c (ix2 n (i 1))
def outH : FVec Ideal S8320x1024 .f32 := fun i =>
  eH m c i + ∑ k : Fin 1024, merged (eG m c (ix2 (i 0) ⟨2048 + k.val, by omega⟩)) (eG m c (ix2 (i 0) ⟨2048 + (1024 + k.val), by omega⟩))
    (eP m c (ix2 (i 0) k)) (outY m c (ix2 (i 0) k)) * eW m c (ix2 k (i 1))

theorem final7 : (dats m 0 c).arrAt 7 cfg0.N = outY m c := by
  refine (dats m 0 c).arrAt_eq_of_covers 7 _ (by decide +kernel) fun t hf y => ?_
  blk_simp
  rw [after0_7]
  idx_vars y
  have q : ((View.whole main_v6_0).slice (win0_7.rect t)).emb (ix2 y0 y1) = ix2 (at_ t y0) y1 := by
    unfold at_
    blk_ext [idx t]
  rw [q]
  unfold outsAt0; frame_out
  refine (branch_at _ _ _ y0 y1).trans ?_
  simp only [o_row, z_tile, u_tile]
  rfl

theorem final8 : (dats m 0 c).arrAt 8 cfg0.N = outH m c := by
  refine (dats m 0 c).arrAt_eq_of_covers 8 _ (by decide +kernel) fun t hf y => ?_
  blk_simp
  rw [after0_8]
  idx_vars y
  have q : ((View.whole main_v6_1).slice (win0_8.rect t)).emb (ix2 y0 y1) = ix2 (at_ t y0) y1 := by
    unfold at_
    blk_ext [idx t]
  rw [q]
  unfold outsAt0; frame_out
  refine (next_at _ _ _ _ _ _ _ y0 y1).trans ?_
  simp only [o_row, z_tile, u_tile, h_tile, g_tile, p_tile, w_tile]
  rfl

/-- 112 rows of zeros in front: of a matrix's rows, and of each head's. -/
theorem padX_at (d : FVec Ideal S8208x1024 .f32) (r : Fin 8320) (n : Fin 1024) :
    (pad S8320x1024 ![112, 0] ![0, 0] ![0, 0] d (constant (F := Ideal) S_ .f32 0x00000000#32) pads_S8208x1024_S8320x1024_11200_000 h_S_ (ix2 r n) : EReal)
      = front (fun r => d (ix2 r n)) r := by
  unfold front
  pointwise []
theorem padG_at (d : FVec Ideal S8208x4736 .f32) (r : Fin 8320) (n : Fin 4736) :
    (pad S8320x4736 ![112, 0] ![0, 0] ![0, 0] d (constant (F := Ideal) S_ .f32 0x00000000#32) pads_S8208x4736_S8320x4736_11200_000 h_S_ (ix2 r n) : EReal)
      = front (fun r => d (ix2 r n)) r := by
  unfold front
  pointwise []
theorem padO_at (d : FVec Ideal S8x8208x64 .f32) (k : Fin 8) (r : Fin 8320) (n : Fin 64) :
    (pad S8x8320x64 ![0, 112, 0] ![0, 0, 0] ![0, 0, 0] d (constant (F := Ideal) S_ .f32 0x00000000#32) pads_S8x8208x64_S8x8320x64_000_11200_000 h_S_ (ix3 k r n) : EReal)
      = front (fun r => d (ix3 k r n)) r := by
  unfold front
  pointwise []

/-- The arguments. -/
abbrev aH : FVec Ideal S8208x1024 .f32 := m ((c : Thread nD τ).loc main_arg0)
abbrev aG : FVec Ideal S8208x4736 .f32 := m ((c : Thread nD τ).loc main_arg1)
abbrev aO : FVec Ideal S8x8208x64 .f32 := m ((c : Thread nD τ).loc main_arg2)
abbrev aP : FVec Ideal S8208x1024 .f32 := m ((c : Thread nD τ).loc main_arg3)
abbrev aU : FVec Ideal S512x1024 .f32 := m ((c : Thread nD τ).loc main_arg4)
abbrev aW : FVec Ideal S1024x1024 .f32 := m ((c : Thread nD τ).loc main_arg5)

theorem eH_eq : eH m c = pad S8320x1024 ![112, 0] ![0, 0] ![0, 0] (aH m c) (constant (F := Ideal) S_ .f32 0x00000000#32) pads_S8208x1024_S8320x1024_11200_000 h_S_ := by
  unfold eH; entry_read; rfl
theorem eG_eq : eG m c = pad S8320x4736 ![112, 0] ![0, 0] ![0, 0] (aG m c) (constant (F := Ideal) S_ .f32 0x00000000#32) pads_S8208x4736_S8320x4736_11200_000 h_S_ := by
  unfold eG; entry_read; rfl
theorem eO_eq : eO m c = pad S8x8320x64 ![0, 112, 0] ![0, 0, 0] ![0, 0, 0] (aO m c) (constant (F := Ideal) S_ .f32 0x00000000#32) pads_S8x8208x64_S8x8320x64_000_11200_000 h_S_ := by
  unfold eO; entry_read; rfl
theorem eP_eq : eP m c = pad S8320x1024 ![112, 0] ![0, 0] ![0, 0] (aP m c) (constant (F := Ideal) S_ .f32 0x00000000#32) pads_S8208x1024_S8320x1024_11200_000 h_S_ := by
  unfold eP; entry_read; rfl
theorem eU_eq : eU m c = truncf .bf16 (aU m c) bitsLt_bf16_f32 := by unfold eU; entry_read; rfl
theorem eW_eq : eW m c = truncf .bf16 (aW m c) bitsLt_bf16_f32 := by unfold eW; entry_read; rfl

theorem eH_at (r : Fin 8320) (n : Fin 1024) : eH m c (ix2 r n) = front (fun r => aH m c (ix2 r n)) r := by rw [eH_eq]; exact padX_at _ r n
theorem eG_at (r : Fin 8320) (n : Fin 4736) : eG m c (ix2 r n) = front (fun r => aG m c (ix2 r n)) r := by rw [eG_eq]; exact padG_at _ r n
theorem eO_at (k : Fin 8) (r : Fin 8320) (n : Fin 64) : eO m c (ix3 k r n) = front (fun r => aO m c (ix3 k r n)) r := by rw [eO_eq]; exact padO_at _ k r n
theorem eP_at (r : Fin 8320) (n : Fin 1024) : eP m c (ix2 r n) = front (fun r => aP m c (ix2 r n)) r := by rw [eP_eq]; exact padX_at _ r n
theorem eU_at (n : Fin 512) (j : Fin 1024) : eU m c (ix2 n j) = aU m c (ix2 n j) := by rw [eU_eq]; rfl
theorem eW_at (n : Fin 1024) (j : Fin 1024) : eW m c (ix2 n j) = aW m c (ix2 n j) := by rw [eW_eq]; rfl

/-- The reference's results. -/
def refY : FVec Ideal S8320x1024 .f32 := Cert.Reference7Ideal.Read.val_main_v25 (F := Ideal) (aG m c) (aO m c) (aU m c)
def refH : FVec Ideal S8320x1024 .f32 := Cert.Reference7Ideal.Read.val_main_v27 (F := Ideal) (aH m c) (aG m c) (aO m c) (aP m c) (aU m c) (aW m c)

section
open Cert.Reference7Ideal Cert.Reference7Ideal.Gen Cert.Reference7Ideal.Read
variable (h : FVec Ideal S8208x1024 .f32) (g : FVec Ideal S8208x4736 .f32) (o : FVec Ideal S8x8208x64 .f32) (p : FVec Ideal S8208x1024 .f32)
variable (u : FVec Ideal S512x1024 .f32) (w : FVec Ideal S1024x1024 .f32)

/-- A row of the heads, rows before heads. -/
theorem ref_row (r : Fin 8208) (n : Fin 512) : (val_main_v3 (F := Ideal) o (ix2 r n) : EReal) = o (ix3 (head n) r (lane n)) := by
  have e : idx_main_v2 (idx_main_v3 (ix2 r n)) = ix3 (head n) r (lane n) := by
    have := n.isLt
    funext a
    fin_cases a
    · exact Fin.ext (show (r.val * 512 + n.val) / 64 % 8 = n.val / 64 by omega)
    · exact Fin.ext (show (r.val * 512 + n.val) / 512 = r.val by omega)
    · exact Fin.ext (show (r.val * 512 + n.val) % 64 = n.val % 64 by omega)
  rw [val_main_v3_apply, val_main_v2_apply, e]

theorem ref_silu (r : Fin 8208) (n : Fin 512) : (val_main_v4 (F := Ideal) g (ix2 r n) : EReal)
    = g (ix2 r ⟨4096 + n.val, by omega⟩) * gate (g (ix2 r ⟨4096 + n.val, by omega⟩)) := by
  unfold gate Ideal.logistic
  pointwise [val_main_v4, val_main_call0_v5, val_main_call0_v4, val_main_call0_cst_0, val_main_call0_v3, val_main_call0_v2, val_main_call0_cst,
    val_main_call0_v1, val_main_call0_v0, val_main_v1]

theorem ref_branch (r : Fin 8208) (j : Fin 1024) : (val_main_v6 (F := Ideal) g o u (ix2 r j) : EReal)
    = branch (fun n => o (ix3 (head n) r (lane n))) (fun n => g (ix2 r ⟨4096 + n.val, by omega⟩)) fun n => u (ix2 n j) := by
  unfold branch
  simp only [← ref_row, ← ref_silu]
  pointwise [val_main_v6, val_main_v5]

theorem ref_merged (r : Fin 8208) (k : Fin 1024) : (val_main_v23 (F := Ideal) g o p u (ix2 r k) : EReal)
    = merged (g (ix2 r ⟨2048 + k.val, by omega⟩)) (g (ix2 r ⟨2048 + (1024 + k.val), by omega⟩)) (p (ix2 r k)) (val_main_v6 (F := Ideal) g o u (ix2 r k)) := by
  unfold merged gate Ideal.logistic
  pointwise [val_main_v23, val_main_v22, val_main_v21, val_main_v20, val_main_cst_2, val_main_v19, val_main_v18, val_main_cst_1, val_main_v17, val_main_v16,
    val_main_v15, val_main_v14, val_main_v13, val_main_v12, val_main_cst_0, val_main_v11, val_main_v10, val_main_cst, val_main_v9, val_main_v8, val_main_v7,
    val_main_v0]

theorem ref_next (r : Fin 8208) (j : Fin 1024) : (val_main_v26 (F := Ideal) h g o p u w (ix2 r j) : EReal)
    = h (ix2 r j) + ∑ k : Fin 1024, val_main_v23 (F := Ideal) g o p u (ix2 r k) * w (ix2 k j) := by
  pointwise [val_main_v26, val_main_v24]

theorem ref_y (r : Fin 8320) (j : Fin 1024) : (val_main_v25 (F := Ideal) g o u (ix2 r j) : EReal)
    = front (fun r => val_main_v6 (F := Ideal) g o u (ix2 r j)) r := by
  unfold front
  pointwise [val_main_v25, val_main_cst_3]

theorem ref_h (r : Fin 8320) (j : Fin 1024) : (val_main_v27 (F := Ideal) h g o p u w (ix2 r j) : EReal)
    = front (fun r => val_main_v26 (F := Ideal) h g o p u w (ix2 r j)) r := by
  unfold front
  pointwise [val_main_v27, val_main_cst_4]
end

theorem same_y (r : Fin 8320) (j : Fin 1024) : outY m c (ix2 r j) = front (fun r => Cert.Reference7Ideal.Read.val_main_v6 (F := Ideal) (aG m c) (aO m c) (aU m c) (ix2 r j)) r := by
  show branch (fun n => eO m c (ix3 (head n) r (lane n))) (fun n => eG m c (ix2 r ⟨4096 + n.val, by omega⟩)) (fun n => eU m c (ix2 n j)) = _
  by_cases h : 112 ≤ r.val
  · rw [front_high _ r h, ref_branch]
    simp only [eG_at, eO_at, eU_at, front_high _ r h]
  · rw [front_low _ r (by omega)]
    exact branch_zero _ _ fun n => (eO_at m c _ r _).trans (front_low _ r (by omega))

theorem leaves7 : (dats m 0 c).arrAt 7 cfg0.N = refY m c := by
  refine (final7 m c).trans (funext fun i => ?_)
  idx_vars i
  exact (same_y m c i0 i1).trans (ref_y (aG m c) (aO m c) (aU m c) i0 i1).symm

theorem leaves8 : (dats m 0 c).arrAt 8 cfg0.N = refH m c := by
  refine (final8 m c).trans (funext fun i => ?_)
  idx_vars i
  refine Eq.trans ?_ (ref_h (aH m c) (aG m c) (aO m c) (aP m c) (aU m c) (aW m c) i0 i1).symm
  show eH m c (ix2 i0 i1) + ∑ k : Fin 1024, merged (eG m c (ix2 i0 ⟨2048 + k.val, by omega⟩)) (eG m c (ix2 i0 ⟨2048 + (1024 + k.val), by omega⟩))
    (eP m c (ix2 i0 k)) (outY m c (ix2 i0 k)) * eW m c (ix2 k i1) = _
  simp only [same_y]
  by_cases h : 112 ≤ i0.val
  · rw [front_high _ i0 h, ref_next]
    simp only [ref_merged, eH_at, eG_at, eP_at, eW_at, front_high _ i0 h]
  · have low : i0.val < 112 := by omega
    rw [front_low _ i0 low, eH_at, front_low _ i0 low, zero_add]
    exact Finset.sum_eq_zero fun k _ => by
      rw [merged_zero _ _ ((eP_at m c i0 k).trans (front_low _ i0 low)) (front_low _ i0 low), zero_mul]

/-- The value claim. -/
theorem algebraic : algebraic_Kernel7Ideal_Reference7Ideal (hKernel7Ideal := Cert.Kernel7Ideal.Gen.facts) (hReference7Ideal := Cert.Reference7Ideal.Gen.facts) := by
  intro m g m' g' _ same
  refine ⟨refY m, refH m, ?_, ?_⟩
  · refine (θ_run Cert.Kernel7Ideal.defs _ _).mono (fun r h c => ?_) (Cert.Kernel7Ideal.Value.run_blocks m g)
    exact ⟨(h c).1.trans (leaves7 m c), (h c).2.1.trans (leaves8 m c), (h c).2.2⟩
  · refine (θ_run Cert.Reference7Ideal.defs _ _).mono (fun r h c => ?_) (Cert.Reference7Ideal.Value.run m' g')
    obtain ⟨h0, h1, rest⟩ := h c
    obtain ⟨s0, s1, s2, s3, s4, s5⟩ := same c
    refine ⟨h0.trans ?_, h1.trans ?_, rest⟩
    · refine (Cert.Reference7Ideal.Read.val_main_v25_eq _ _ _).trans ?_
      rw [s1, s2, s4]; rfl
    · refine (Cert.Reference7Ideal.Read.val_main_v27_eq _ _ _ _ _ _).trans ?_
      rw [s0, s1, s2, s3, s4, s5]; rfl

end Cert.Kernel7Ideal.Post

end
-- ==== Proof.PostMath.lean ====
/- One row of the merge's backward pass, in extended real numbers. -/
module

public import proofs.«01_k».proof.Proof.Gate
public import proofs.«01_k».proof.Proof.PadSum

@[expose] public section

noncomputable section

namespace Cert.Post

open Idealize.ShloMosaic Cert.Gate

/-- A row's inputs: the incoming gradient, the two gates before their logistic, the two branches, and the heads with their own gate. -/
structure Row where
  dh : Fin 1024 → EReal
  gp : Fin 1024 → EReal
  gm : Fin 1024 → EReal
  p : Fin 1024 → EReal
  y : Fin 1024 → EReal
  z : Fin 512 → EReal
  o : Fin 512 → EReal

section
variable (R : Row) (W : Fin 1024 → Fin 1024 → EReal) (U : Fin 512 → Fin 1024 → EReal)

/-- The gradient of the merged row. -/
def dm (k : Fin 1024) : EReal := ∑ j, R.dh j * W k j
/-- The gradient of the second branch, and of its row before the product with its weights. -/
def dy (k : Fin 1024) : EReal := dm R W k * gate (R.gm k)
def da (n : Fin 512) : EReal := ∑ k, dy R W k * U n k
/-- The gradients of the first branch, of the two gates, of the heads' gate, and of the heads. -/
def gradP (k : Fin 1024) : EReal := dm R W k * gate (R.gp k)
def gradGp (k : Fin 1024) : EReal := dm R W k * R.p k * (gate (R.gp k) * (1 - gate (R.gp k)))
def gradGm (k : Fin 1024) : EReal := dm R W k * R.y k * (gate (R.gm k) * (1 - gate (R.gm k)))
def gradZ (n : Fin 512) : EReal := da R W U n * R.o n * (gate (R.z n) * (1 + R.z n * (1 - gate (R.z n))))
def gradO (n : Fin 512) : EReal := da R W U n * (R.z n * gate (R.z n))
/-- The merged row, and the heads under their gate. -/
def merged (k : Fin 1024) : EReal := gate (R.gp k) * R.p k + gate (R.gm k) * R.y k
def act (n : Fin 512) : EReal := R.o n * (R.z n * gate (R.z n))

/-- No gradient comes in: none goes out. -/
theorem dm_zero (h : ∀ j, R.dh j = 0) (k : Fin 1024) : dm R W k = 0 := by
  unfold dm
  exact Finset.sum_eq_zero fun j _ => by rw [h, zero_mul]
theorem dy_zero (h : ∀ j, R.dh j = 0) (k : Fin 1024) : dy R W k = 0 := by
  unfold dy
  rw [dm_zero R W h, zero_mul]
theorem da_zero (h : ∀ j, R.dh j = 0) (n : Fin 512) : da R W U n = 0 := by
  unfold da
  exact Finset.sum_eq_zero fun k _ => by rw [dy_zero R W h, zero_mul]
theorem gradP_zero (h : ∀ j, R.dh j = 0) (k : Fin 1024) : gradP R W k = 0 := by
  unfold gradP
  rw [dm_zero R W h, zero_mul]
theorem gradGp_zero (h : ∀ j, R.dh j = 0) (k : Fin 1024) : gradGp R W k = 0 := by
  unfold gradGp
  rw [dm_zero R W h, zero_mul, zero_mul]
theorem gradGm_zero (h : ∀ j, R.dh j = 0) (k : Fin 1024) : gradGm R W k = 0 := by
  unfold gradGm
  rw [dm_zero R W h, zero_mul, zero_mul]
theorem gradZ_zero (h : ∀ j, R.dh j = 0) (n : Fin 512) : gradZ R W U n = 0 := by
  unfold gradZ
  rw [da_zero R W U h, zero_mul, zero_mul]
theorem gradO_zero (h : ∀ j, R.dh j = 0) (n : Fin 512) : gradO R W U n = 0 := by
  unfold gradO
  rw [da_zero R W U h, zero_mul]
end

/-- The gate is 0 at `-∞`, 1 at `∞`, and a real number between. -/
theorem gate_bot : gate ⊥ = 0 := by
  unfold gate Ideal.logistic Ideal.div
  rw [EReal.neg_bot, Ideal.exp_top, EReal.add_top_of_ne_bot (by decide), if_neg (by decide), EReal.inv_top, mul_zero]
theorem gate_top : gate ⊤ = 1 := by
  unfold gate Ideal.logistic
  rw [EReal.neg_top, Ideal.exp_bot, add_zero]
  have := Ideal.div_coe (y := 1) one_ne_zero 1
  simpa using this
theorem gate_coe (x : ℝ) : gate (x : EReal) = ((1 / (1 + Real.exp (-x)) : ℝ) : EReal) := by
  unfold gate Ideal.logistic
  have h : (1 : ℝ) + Real.exp (-x) ≠ 0 := by positivity
  rw [← EReal.coe_neg, Ideal.exp_coe, ← EReal.coe_one, ← EReal.coe_add, Ideal.div_coe h, ← EReal.coe_mul, one_mul]

/-- Real numbers among the extended ones. -/
def IsReal (x : EReal) : Prop := ∃ a : ℝ, x = (a : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.sum {n : ℕ} (f : Fin n → EReal) (h : ∀ k, IsReal (f k)) : IsReal (∑ k, f k) := by
  refine Finset.sum_induction f IsReal ?_ ⟨0, EReal.coe_zero.symm⟩ fun k _ => h k
  rintro _ _ ⟨a, rfl⟩ ⟨b, rfl⟩
  exact ⟨a + b, (EReal.coe_add a b).symm⟩
theorem gate_real (z : EReal) : IsReal (gate z) := by
  induction z with
  | bot => exact ⟨0, gate_bot⟩
  | top => exact ⟨1, gate_top⟩
  | coe x => exact ⟨_, gate_coe x⟩

/-- Of finite inputs the gradient before the second branch's weights is finite. -/
theorem da_real (R : Row) (W : Fin 1024 → Fin 1024 → EReal) (U : Fin 512 → Fin 1024 → EReal) (hd : ∀ j, IsReal (R.dh j))
    (hW : ∀ k j, IsReal (W k j)) (hU : ∀ n k, IsReal (U n k)) (n : Fin 512) : IsReal (da R W U n) :=
  IsReal.sum _ fun k => ((IsReal.sum _ fun j => (hd j).mul (hW k j)).mul (gate_real _)).mul (hU n k)

/-- The derivative of `z · gate z` in its factored form and by the product rule: the same for a finite gradient. -/
theorem silu_grad (d o z : EReal) (h : IsReal (d * o)) :
    d * o * (gate z * (1 + z * (1 - gate z))) = o * d * gate z + z * (o * d) * (gate z * (1 - gate z)) := by
  obtain ⟨a, e⟩ := h
  rw [mul_comm o d, e]
  induction z with
  | bot => rw [gate_bot, zero_mul, mul_zero, zero_mul, mul_zero, add_zero]
  | top =>
    have s : (1 : EReal) - 1 = 0 := by rw [← EReal.coe_one, ← EReal.coe_sub, sub_self, EReal.coe_zero]
    rw [gate_top, s, mul_zero, mul_zero, add_zero, mul_zero, add_zero, mul_one]
  | coe x =>
    rw [gate_coe, ← EReal.coe_one, ← EReal.coe_sub, ← EReal.coe_mul, ← EReal.coe_add, ← EReal.coe_mul, ← EReal.coe_mul, ← EReal.coe_mul, ← EReal.coe_mul,
      ← EReal.coe_mul, ← EReal.coe_mul, ← EReal.coe_add]
    congr 1
    ring

end Cert.Post

end
-- ==== Proof.Post8Tile.lean ====
/- A tile of the merge's backward pass, at an index: the row functions of the tile's rows. -/
module

public import proofs.«01_k».proof.Defs
public import proofs.«01_k».proof.Proof.PostMath
public import proofs.«01_k».proof.Proof.Gen.Kernel8Ideal.Value
public import Idealize.ShloMosaic.Lib.Pipeline.ValueKit

@[expose] public section

set_option maxRecDepth 16384

noncomputable section

namespace Cert.Kernel8Ideal.Post

open Idealize.ShloMosaic Idealize.ShloMosaic.TcCoe Idealize.SL.Sem
open Cert.Kernel8Ideal Cert.Kernel8Ideal.Gen Cert.Gate Cert.Post

variable (d : FVec Ideal S320x1024 .f32) (g : FVec Ideal S320x2048 .f32) (p y : FVec Ideal S320x1024 .f32) (z o : FVec Ideal S320x512 .f32)
variable (u : FVec Ideal S512x1024 .bf16) (w : FVec Ideal S1024x1024 .bf16)

/-- Row `r` of a tile. -/
def rowOf (r : Fin 320) : Row where
  dh := fun j => d (ix2 r j)
  gp := fun k => g (ix2 r ⟨k.val, by omega⟩)
  gm := fun k => g (ix2 r ⟨1024 + k.val, by omega⟩)
  p := fun k => p (ix2 r k)
  y := fun k => y (ix2 r k)
  z := fun n => z (ix2 r n)
  o := fun n => o (ix2 r n)

/-- The weights as the row functions take them. -/
abbrev mat : Fin 1024 → Fin 1024 → EReal := fun k j => w (ix2 k j)
abbrev up : Fin 512 → Fin 1024 → EReal := fun n k => u (ix2 n k)

theorem dm_at (r : Fin 320) (k : Fin 1024) : (k0_pay7 (F := Ideal) d w (ix2 r k) : EReal) = dm (rowOf d g p y z o r) (mat w) k := by
  unfold dm rowOf
  pointwise [k0_pay7, k0_pay6]

theorem gp_at (r : Fin 320) (k : Fin 1024) : (k0_pay18 (F := Ideal) (k0_pay8 g) (ix2 r k) : EReal) = gate ((rowOf d g p y z o r).gp k) := by
  rw [← gate_zero_sub]
  unfold rowOf
  pointwise [k0_pay18, k0_pay8]

theorem gm_at (r : Fin 320) (k : Fin 1024) : (k0_pay19 (F := Ideal) (k0_pay8 g) (ix2 r k) : EReal) = gate ((rowOf d g p y z o r).gm k) := by
  rw [← gate_zero_sub]
  unfold rowOf
  pointwise [k0_pay19, k0_pay8]

theorem gz_at (r : Fin 320) (n : Fin 512) : (k0_pay16 (F := Ideal) (k0_pay3 z) (ix2 r n) : EReal) = gate ((rowOf d g p y z o r).z n) := by
  rw [← gate_zero_sub]
  unfold rowOf
  pointwise [k0_pay16, k0_pay3]

theorem dy_at (r : Fin 320) (k : Fin 1024) : (k0_pay21 (F := Ideal) (k0_pay7 d w) (k0_pay8 g) (ix2 r k) : EReal) = dy (rowOf d g p y z o r) (mat w) k := by
  unfold dy
  rw [← dm_at, ← gm_at d g p y z o]
  pointwise [k0_pay21]

theorem da_at (r : Fin 320) (n : Fin 512) :
    (k0_pay22 (F := Ideal) (k0_pay7 d w) (k0_pay8 g) u (ix2 r n) : EReal) = da (rowOf d g p y z o r) (mat w) (up u) n := by
  unfold da
  simp only [← dy_at]
  pointwise [k0_pay22]

theorem gradP_at (r : Fin 320) (k : Fin 1024) :
    (k0_pay23 (F := Ideal) (k0_pay7 d w) (k0_pay8 g) (ix2 r k) : EReal) = gradP (rowOf d g p y z o r) (mat w) k := by
  unfold gradP
  rw [← dm_at, ← gp_at d g p y z o]
  pointwise [k0_pay23]

theorem gradGp_at (r : Fin 320) (k : Fin 1024) :
    (k0_pay24 (F := Ideal) (k0_pay4 p) (k0_pay7 d w) (k0_pay18 (k0_pay8 g)) (ix2 r k) : EReal) = gradGp (rowOf d g p y z o r) (mat w) k := by
  unfold gradGp
  rw [← dm_at, ← gp_at d g p y z o]
  pointwise [k0_pay24, k0_pay4]
  rfl

theorem gradGm_at (r : Fin 320) (k : Fin 1024) :
    (k0_pay25 (F := Ideal) (k0_pay5 y) (k0_pay7 d w) (k0_pay19 (k0_pay8 g)) (ix2 r k) : EReal) = gradGm (rowOf d g p y z o r) (mat w) k := by
  unfold gradGm
  rw [← dm_at, ← gm_at d g p y z o]
  pointwise [k0_pay25, k0_pay5]
  rfl

theorem gradO_at (r : Fin 320) (n : Fin 512) :
    (k0_pay28 (F := Ideal) (k0_pay3 z) (k0_pay16 (k0_pay3 z)) (k0_pay22 (k0_pay7 d w) (k0_pay8 g) u) (ix2 r n) : EReal)
      = gradO (rowOf d g p y z o r) (mat w) (up u) n := by
  unfold gradO
  rw [← da_at, ← gz_at d g p y z o]
  pointwise [k0_pay28, k0_pay3]
  rfl

theorem gradZ_at (r : Fin 320) (n : Fin 512) :
    (k0_pay29 (F := Ideal) (k0_pay3 z) o (k0_pay16 (k0_pay3 z)) (k0_pay22 (k0_pay7 d w) (k0_pay8 g) u) (ix2 r n) : EReal)
      = gradZ (rowOf d g p y z o r) (mat w) (up u) n := by
  unfold gradZ
  rw [← da_at, ← gz_at d g p y z o]
  pointwise [k0_pay29, k0_pay3]
  rfl

theorem merged_at (r : Fin 320) (k : Fin 1024) :
    (k0_pay20 (F := Ideal) (k0_pay4 p) (k0_pay5 y) (k0_pay8 g) (ix2 r k) : EReal) = merged (rowOf d g p y z o r) k := by
  unfold merged
  rw [← gp_at, ← gm_at]
  pointwise [k0_pay20, k0_pay4, k0_pay5]
  rfl

theorem act_at (a b c e f h : FVec Ideal S320x64 .f32) (i j : FVec Ideal S1x320x64 .f32) (r : Fin 320) (n : Fin 512) :
    (k0_pay17 (F := Ideal) (k0_pay3 z) a b c e f h i j (ix2 r n) : EReal) = act (rowOf d g p y z (k0_pay15 a b c e f h i j) r) n := by
  unfold act
  rw [← gz_at]
  pointwise [k0_pay17, k0_pay3]
  rfl

/-- A tile's share of the two weight gradients, and that share added to what is there. -/
theorem gradW_at (a b : FVec Ideal S320x1024 .f32) (j : S1024x1024.Idx) :
    (k0_pay26 (F := Ideal) (k0_pay6 a) b j : EReal) = ∑ r : Fin 320, b (ix2 r (j 0)) * a (ix2 r (j 1)) := by
  pointwise [k0_pay26, k0_pay6]
theorem moreW_at (a b : FVec Ideal S320x1024 .f32) (x : FVec Ideal S1024x1024 .f32) (j : S1024x1024.Idx) :
    (k0_pay27 (F := Ideal) (k0_pay6 a) b x j : EReal) = x j + ∑ r : Fin 320, b (ix2 r (j 0)) * a (ix2 r (j 1)) := by
  pointwise [k0_pay27, k0_pay26, k0_pay6]
theorem gradU_at (a : FVec Ideal S320x1024 .f32) (b : FVec Ideal S320x512 .f32) (j : S512x1024.Idx) :
    (k0_pay1 (F := Ideal) a (k0_pay39 b) j : EReal) = ∑ r : Fin 320, b (ix2 r (j 0)) * a (ix2 r (j 1)) := by
  pointwise [k0_pay1, k0_pay39]
theorem moreU_at (a : FVec Ideal S320x1024 .f32) (b : FVec Ideal S320x512 .f32) (x : FVec Ideal S512x1024 .f32) (j : S512x1024.Idx) :
    (k0_pay2 (F := Ideal) a (k0_pay39 b) x j : EReal) = x j + ∑ r : Fin 320, b (ix2 r (j 0)) * a (ix2 r (j 1)) := by
  pointwise [k0_pay2, k0_pay1, k0_pay39]

/-- The eight heads side by side. -/
theorem row_at (a0 a1 a2 a3 a4 a5 a6 a7 : FVec Ideal S1x320x64 .f32) (r : Fin 320) (q : Fin 8 → Fin 64 → EReal)
    (h0 : ∀ l, a0 (ix3 0 r l) = q 0 l) (h1 : ∀ l, a1 (ix3 0 r l) = q 1 l) (h2 : ∀ l, a2 (ix3 0 r l) = q 2 l) (h3 : ∀ l, a3 (ix3 0 r l) = q 3 l)
    (h4 : ∀ l, a4 (ix3 0 r l) = q 4 l) (h5 : ∀ l, a5 (ix3 0 r l) = q 5 l) (h6 : ∀ l, a6 (ix3 0 r l) = q 6 l) (h7 : ∀ l, a7 (ix3 0 r l) = q 7 l)
    (n : Fin 512) : (k0_pay15 (F := Ideal) (k0_pay9 a0) (k0_pay10 a1) (k0_pay11 a2) (k0_pay12 a3) (k0_pay13 a4) (k0_pay14 a5) a6 a7 (ix2 r n) : EReal)
      = q (head n) (lane n) := by
  unfold head lane
  pointwise [k0_pay15, k0_pay9, k0_pay10, k0_pay11, k0_pay12, k0_pay13, k0_pay14]
  simp only [h0, h1, h2, h3, h4, h5, h6, h7]
  have := n.isLt
  split_ifs <;> refine congrArg₂ q (Fin.ext ?_) (Fin.ext ?_) <;> simp only [Fin.val_zero, Fin.val_one, Fin.val_two, Fin.reduceFinMk, Fin.isValue] <;> first | omega | (show _ = _ / 64; rw [eq_comm, Nat.div_eq_iff (by omega)]; constructor <;> simp <;> omega)

/-- The eight heads cut apart. -/
theorem head0_at (x : FVec Ideal S320x512 .f32) (r : Fin 320) (l : Fin 64) :
    (k0_pay31 (F := Ideal) (k0_pay30 z (k0_pay16 z) x) (ix3 0 r l) : EReal) = k0_pay28 (F := Ideal) z (k0_pay16 z) x (ix2 r ⟨l.val, by omega⟩) := by
  pointwise [k0_pay31, k0_pay30]
theorem head1_at (x : FVec Ideal S320x512 .f32) (r : Fin 320) (l : Fin 64) :
    (k0_pay32 (F := Ideal) x (ix3 0 r l) : EReal) = x (ix2 r ⟨64 + l.val, by omega⟩) := by pointwise [k0_pay32]
theorem head2_at (x : FVec Ideal S320x512 .f32) (r : Fin 320) (l : Fin 64) :
    (k0_pay33 (F := Ideal) x (ix3 0 r l) : EReal) = x (ix2 r ⟨128 + l.val, by omega⟩) := by pointwise [k0_pay33]
theorem head3_at (x : FVec Ideal S320x512 .f32) (r : Fin 320) (l : Fin 64) :
    (k0_pay34 (F := Ideal) x (ix3 0 r l) : EReal) = x (ix2 r ⟨192 + l.val, by omega⟩) := by pointwise [k0_pay34]
theorem head4_at (x : FVec Ideal S320x512 .f32) (r : Fin 320) (l : Fin 64) :
    (k0_pay35 (F := Ideal) x (ix3 0 r l) : EReal) = x (ix2 r ⟨256 + l.val, by omega⟩) := by pointwise [k0_pay35]
theorem head5_at (x : FVec Ideal S320x512 .f32) (r : Fin 320) (l : Fin 64) :
    (k0_pay36 (F := Ideal) x (ix3 0 r l) : EReal) = x (ix2 r ⟨320 + l.val, by omega⟩) := by pointwise [k0_pay36]
theorem head6_at (x : FVec Ideal S320x512 .f32) (r : Fin 320) (l : Fin 64) :
    (k0_pay37 (F := Ideal) x (ix3 0 r l) : EReal) = x (ix2 r ⟨384 + l.val, by omega⟩) := by pointwise [k0_pay37]
theorem head7_at (x : FVec Ideal S320x512 .f32) (r : Fin 320) (l : Fin 64) :
    (k0_pay38 (F := Ideal) x (ix3 0 r l) : EReal) = x (ix2 r ⟨448 + l.val, by omega⟩) := by pointwise [k0_pay38]

end Cert.Kernel8Ideal.Post

end
-- ==== Proof.Post8Ref.lean ====
/- The merge's gradients in the reference, at an index. -/
module

public import proofs.«01_k».proof.Defs
public import proofs.«01_k».proof.Proof.PostMath
public import proofs.«01_k».proof.Proof.Gen.Reference8Ideal.Run
public import proofs.«01_k».proof.Proof.Gen.Reference8Ideal.Read
public import Idealize.ShloMosaic.Lib.Pipeline.ValueKit

@[expose] public section

set_option maxRecDepth 16384

noncomputable section

namespace Cert.Reference8Ideal.Post

open Idealize.ShloMosaic Idealize.ShloMosaic.TcCoe Idealize.SL.Sem
open Cert.Reference8Ideal Cert.Reference8Ideal.Gen Cert.Reference8Ideal.Read Cert.Proj Cert.Gate Cert.Post

variable (d : FVec Ideal S8208x1024 .f32) (g : FVec Ideal S8208x4736 .f32) (o : FVec Ideal S8x8208x64 .f32) (p : FVec Ideal S8208x1024 .f32)
variable (u : FVec Ideal S512x1024 .f32) (w : FVec Ideal S1024x1024 .f32)

/-- Row `r` of the arguments; its second branch is the forward pass's. -/
def rowOf (r : Fin 8208) : Row where
  dh := fun j => d (ix2 r j)
  gp := fun k => g (ix2 r ⟨2048 + k.val, by omega⟩)
  gm := fun k => g (ix2 r ⟨2048 + (1024 + k.val), by omega⟩)
  p := fun k => p (ix2 r k)
  y := fun k => val_main_v6 (F := Ideal) g o u (ix2 r k)
  z := fun n => g (ix2 r ⟨4096 + n.val, by omega⟩)
  o := fun n => o (ix3 (head n) r (lane n))

abbrev mat : Fin 1024 → Fin 1024 → EReal := fun k j => w (ix2 k j)
abbrev up : Fin 512 → Fin 1024 → EReal := fun n k => u (ix2 n k)

/-- A row of the heads, rows before heads. -/
theorem ref_row (r : Fin 8208) (n : Fin 512) : (val_main_v3 (F := Ideal) o (ix2 r n) : EReal) = o (ix3 (head n) r (lane n)) := by
  have e : idx_main_v2 (idx_main_v3 (ix2 r n)) = ix3 (head n) r (lane n) := by
    have := n.isLt
    funext a
    fin_cases a
    · exact Fin.ext (show (r.val * 512 + n.val) / 64 % 8 = n.val / 64 by omega)
    · exact Fin.ext (show (r.val * 512 + n.val) / 512 = r.val by omega)
    · exact Fin.ext (show (r.val * 512 + n.val) % 64 = n.val % 64 by omega)
  rw [val_main_v3_apply, val_main_v2_apply, e]

/-- The three gates. -/
theorem ref_gz (r : Fin 8208) (n : Fin 512) : (val_main_v4_2 (F := Ideal) g (ix2 r n) : EReal) = gate ((rowOf d g o p u r).z n) := by
  unfold gate Ideal.logistic rowOf
  pointwise [val_main_v4_2, val_main_call0_v4, val_main_call0_cst_0, val_main_call0_v3, val_main_call0_v2, val_main_call0_cst,
    val_main_call0_v1, val_main_call0_v0, val_main_v1]
theorem ref_gp (r : Fin 8208) (k : Fin 1024) : (val_main_v13 (F := Ideal) g (ix2 r k) : EReal) = gate ((rowOf d g o p u r).gp k) := by
  unfold gate Ideal.logistic rowOf
  pointwise [val_main_v13, val_main_v12, val_main_cst_0, val_main_v11, val_main_v10, val_main_cst, val_main_v9, val_main_v8, val_main_v7, val_main_v0]
theorem ref_gm (r : Fin 8208) (k : Fin 1024) : (val_main_v24 (F := Ideal) g (ix2 r k) : EReal) = gate ((rowOf d g o p u r).gm k) := by
  unfold gate Ideal.logistic rowOf
  pointwise [val_main_v24, val_main_v23, val_main_cst_3, val_main_v22, val_main_v21, val_main_cst_2, val_main_v20, val_main_v19, val_main_v18, val_main_v0]

theorem ref_dm (r : Fin 8208) (k : Fin 1024) : (val_main_v33 (F := Ideal) d w (ix2 r k) : EReal) = dm (rowOf d g o p u r) (mat w) k := by
  unfold dm rowOf
  pointwise [val_main_v33]

theorem ref_dy (r : Fin 8208) (k : Fin 1024) : (val_main_v34 (F := Ideal) d g w (ix2 r k) : EReal) = dy (rowOf d g o p u r) (mat w) k := by
  unfold dy
  rw [← ref_dm, ← ref_gm, mul_comm]
  pointwise [val_main_v34]

theorem ref_da (r : Fin 8208) (n : Fin 512) : (val_main_v45 (F := Ideal) d g u w (ix2 r n) : EReal) = da (rowOf d g o p u r) (mat w) (up u) n := by
  unfold da
  simp only [← ref_dy]
  pointwise [val_main_v45]

theorem ref_gradP (r : Fin 8208) (k : Fin 1024) : (val_main_v38 (F := Ideal) d g w (ix2 r k) : EReal) = gradP (rowOf d g o p u r) (mat w) k := by
  unfold gradP
  rw [← ref_dm, ← ref_gp, mul_comm]
  pointwise [val_main_v38]

theorem ref_gradGp (r : Fin 8208) (k : Fin 1024) : (val_main_v40 (F := Ideal) d g p w (ix2 r k) : EReal) = gradGp (rowOf d g o p u r) (mat w) k := by
  unfold gradGp
  rw [← ref_dm, ← ref_gp]
  pointwise [val_main_v40, val_main_v39, val_main_v16, val_main_v15, val_main_v14, val_main_cst_1]
  rfl

theorem ref_gradGm (r : Fin 8208) (k : Fin 1024) : (val_main_v36 (F := Ideal) d g o u w (ix2 r k) : EReal) = gradGm (rowOf d g o p u r) (mat w) k := by
  unfold gradGm
  rw [← ref_dm, ← ref_gm]
  pointwise [val_main_v36, val_main_v35, val_main_v27, val_main_v26, val_main_v25, val_main_cst_4]
  rfl

theorem ref_gradO (r : Fin 8208) (n : Fin 512) : (val_main_v47 (F := Ideal) d g u w (ix2 r n) : EReal) = gradO (rowOf d g o p u r) (mat w) (up u) n := by
  unfold gradO
  rw [← ref_da, ← ref_gz]
  pointwise [val_main_v47, val_main_v4_0, val_main_v1]
  rfl

/-- The heads' gate: the product rule, and the factored form where the gradient is finite. -/
theorem ref_gradZ (r : Fin 8208) (n : Fin 512) (h : IsReal (da (rowOf d g o p u r) (mat w) (up u) n * (rowOf d g o p u r).o n)) :
    (val_main_v48 (F := Ideal) d g o u w (ix2 r n) : EReal) = gradZ (rowOf d g o p u r) (mat w) (up u) n := by
  refine Eq.trans ?_ (silu_grad _ _ _ h).symm
  rw [← ref_da, ← ref_gz]
  have e : (rowOf d g o p u r).o n = (val_main_v3 (F := Ideal) o (ix2 r n) : EReal) := (ref_row o r n).symm
  rw [e]
  pointwise [val_main_v48, val_main_call1_v1, val_main_call1_v2, val_main_call1_v0, val_main_v46, val_main_v4_1, val_main_call0_v7, val_main_call0_v6,
    val_main_call0_cst_1, val_main_v1]
  rfl

theorem ref_merged (r : Fin 8208) (k : Fin 1024) : (val_main_v29 (F := Ideal) g o p u (ix2 r k) : EReal) = merged (rowOf d g o p u r) k := by
  unfold merged
  rw [← ref_gp, ← ref_gm]
  pointwise [val_main_v29, val_main_v28, val_main_v17]
  rfl

theorem ref_act (r : Fin 8208) (n : Fin 512) : (val_main_v5 (F := Ideal) g o (ix2 r n) : EReal) = act (rowOf d g o p u r) n := by
  unfold act
  rw [← ref_gz]
  have e : (rowOf d g o p u r).o n = (val_main_v3 (F := Ideal) o (ix2 r n) : EReal) := (ref_row o r n).symm
  rw [e]
  pointwise [val_main_v5, val_main_v4_0, val_main_v1]
  rfl

/-- The forward pass's second branch. -/
theorem ref_branch (r : Fin 8208) (k : Fin 1024) : (val_main_v6 (F := Ideal) g o u (ix2 r k) : EReal)
    = ∑ n : Fin 512, val_main_v5 (F := Ideal) g o (ix2 r n) * u (ix2 n k) := by
  pointwise [val_main_v6]

/-- The five results. -/
theorem ref_w (k j : Fin 1024) : (val_main_v32 (F := Ideal) d g o p u (ix2 k j) : EReal)
    = ∑ r : Fin 8208, merged (rowOf d g o p u r) k * (rowOf d g o p u r).dh j := by
  simp only [← ref_merged]
  refine Eq.trans ?_ (Finset.sum_congr rfl fun r _ => mul_comm (d (ix2 r j) : EReal) _)
  pointwise [val_main_v32, val_main_v31]

theorem ref_u (n : Fin 512) (k : Fin 1024) : (val_main_v44 (F := Ideal) d g o w (ix2 n k) : EReal)
    = ∑ r : Fin 8208, act (rowOf d g o p u r) n * dy (rowOf d g o p u r) (mat w) k := by
  simp only [← ref_act, ← ref_dy]
  refine Eq.trans ?_ (Finset.sum_congr rfl fun r _ => mul_comm (val_main_v34 (F := Ideal) d g w (ix2 r k) : EReal) _)
  pointwise [val_main_v44, val_main_v43]

theorem ref_p (r : Fin 8320) (k : Fin 1024) : (val_main_v55 (F := Ideal) d g w (ix2 r k) : EReal)
    = front (fun r => val_main_v38 (F := Ideal) d g w (ix2 r k)) r := by
  unfold front
  pointwise [val_main_v55, val_main_v54, val_main_cst_8]

theorem ref_gates (r : Fin 8320) (k : Fin 2560) : (val_main_v53 (F := Ideal) d g o p u w (ix2 r k) : EReal)
    = front (fun r => val_main_v51 (F := Ideal) d g o p u w (ix2 r k)) r := by
  unfold front
  pointwise [val_main_v53, val_main_v52, val_main_cst_7]

theorem ref_gates_p (r : Fin 8208) (k : Fin 1024) : (val_main_v51 (F := Ideal) d g o p u w (ix2 r ⟨k.val, by omega⟩) : EReal)
    = val_main_v40 (F := Ideal) d g p w (ix2 r k) := by
  have := k.isLt
  pointwise [val_main_v51, val_main_v42, val_main_v37, val_main_cst_5, val_main_v41, val_main_cst_6]
  rw [dif_pos (show k.val < 2048 by omega), dif_neg (fun h => h.1), zero_add]
theorem ref_gates_m (r : Fin 8208) (k : Fin 1024) : (val_main_v51 (F := Ideal) d g o p u w (ix2 r ⟨1024 + k.val, by omega⟩) : EReal)
    = val_main_v36 (F := Ideal) d g o u w (ix2 r k) := by
  have := k.isLt
  pointwise [val_main_v51, val_main_v42, val_main_v37, val_main_cst_5, val_main_v41, val_main_cst_6]
  rw [dif_pos (show 1024 + k.val < 2048 by omega)]
theorem ref_gates_z (r : Fin 8208) (n : Fin 512) : (val_main_v51 (F := Ideal) d g o p u w (ix2 r ⟨2048 + n.val, by omega⟩) : EReal)
    = val_main_v48 (F := Ideal) d g o u w (ix2 r n) := by
  have := n.isLt
  pointwise [val_main_v51]

theorem ref_o (k : Fin 8) (r : Fin 8320) (l : Fin 64) : (val_main_v56 (F := Ideal) d g u w (ix3 k r l) : EReal)
    = front (fun r => val_main_v47 (F := Ideal) d g u w (ix2 r ⟨64 * k.val + l.val, by omega⟩)) r := by
  have e : ∀ r : Fin 8208, (val_main_v50 (F := Ideal) d g u w (ix3 k r l) : EReal) = val_main_v47 (F := Ideal) d g u w (ix2 r ⟨64 * k.val + l.val, by omega⟩) := fun r => by
    have i : idx_main_v49 (idx_main_v50 (ix3 k r l)) = ix2 r ⟨64 * k.val + l.val, by omega⟩ := by
      have := k.isLt
      have := l.isLt
      funext a
      fin_cases a
      · exact Fin.ext (show ((r.val * 8 + k.val) * 64 + l.val) / 512 = r.val by omega)
      · exact Fin.ext (show ((r.val * 8 + k.val) * 64 + l.val) % 512 = 64 * k.val + l.val by omega)
    rw [val_main_v50_apply, val_main_v49_apply, i]
  simp only [← e]
  unfold front
  pointwise [val_main_v56, val_main_cst_9]

end Cert.Reference8Ideal.Post

end
-- ==== Proof.Finite8.lean ====
/- The merge's precondition read: the gradient, the heads and the two weights are real numbers. -/
module

public import proofs.«01_k».proof.Pre_finite8
public import proofs.«01_k».proof.Proof.Finite
public import proofs.«01_k».proof.Proof.PostMath

@[expose] public section

noncomputable section

namespace Cert.Pre_finite8

open Idealize.ShloMosaic Cert.Post

/-- The shape relations of the precondition's operations. -/
theorem facts : Facts where
  bcast_S_S8208x1024 := by decide
  reducesTo_S8208x1024_S_d0_1 := by decide
  h_S_ := by decide
  bcast_S_S8x8208x64 := by decide
  reducesTo_S8x8208x64_S_d0_1_2 := by decide
  bcast_S_S512x1024 := by decide
  reducesTo_S512x1024_S_d0_1 := by decide
  bcast_S_S1024x1024 := by decide
  reducesTo_S1024x1024_S_d0_1 := by decide

variable [Facts]
open Facts

/-- An array all of whose magnitudes are below infinity is an array of real numbers. -/
theorem all {s : Shape} {ds : List (Fin s.rank)} (b : S_.BroadcastsInDim s (![] : Fin 0 → Fin s.rank)) (r : s.ReducesTo ds S_) (x : FVec Ideal s .f32) (j : S_.Idx)
    (e : Host.reduce IntOp.andi (cmpf .olt (Host.absf x) (broadcastInDim s ![] b (constant S_ .f32 0x7F800000#32)))
      (constantI S_ 1 1#1) r h_S_ j = 1#1) (i : s.Idx) : IsReal (x i) :=
  haveI : Subsingleton S_.Idx := ⟨fun a b => funext fun k => k.elim0⟩
  ⟨_, Cert.Pre_finite.real_of_lt _ (Host.reduce_andi_all _ _ _ _ j e i)⟩

/-- Where the precondition holds the four arguments are real numbers. -/
theorem real (d : FVec Ideal S8208x1024 .f32) (g : FVec Ideal S8208x4736 .f32) (o : FVec Ideal S8x8208x64 .f32) (p : FVec Ideal S8208x1024 .f32)
    (u : FVec Ideal S512x1024 .f32) (w : FVec Ideal S1024x1024 .f32) (e : fn (F := Ideal) d g o p u w = fun _ => 1#1) :
    (∀ i, IsReal (d i)) ∧ (∀ i, IsReal (o i)) ∧ (∀ i, IsReal (u i)) ∧ ∀ i, IsReal (w i) := by
  have e0 := congrFun e (fun a => a.elim0)
  obtain ⟨e123, e4⟩ := Cert.Pre_finite.andi_one _ _ e0
  obtain ⟨e12, e3⟩ := Cert.Pre_finite.andi_one _ _ e123
  obtain ⟨e1, e2⟩ := Cert.Pre_finite.andi_one _ _ e12
  exact ⟨all bcast_S_S8208x1024 reducesTo_S8208x1024_S_d0_1 d (fun a => a.elim0) e1, all bcast_S_S8x8208x64 reducesTo_S8x8208x64_S_d0_1_2 o (fun a => a.elim0) e2,
    all bcast_S_S512x1024 reducesTo_S512x1024_S_d0_1 u (fun a => a.elim0) e3, all bcast_S_S1024x1024 reducesTo_S1024x1024_S_d0_1 w (fun a => a.elim0) e4⟩

end Cert.Pre_finite8

end
-- ==== Proof.Post8.lean ====
/- The merge of the two branches and the output projection, backward: the call's five results are the reference's. -/
module

public import proofs.«01_k».proof.Proof.Post8Tile
public import proofs.«01_k».proof.Proof.Post8Ref
public import proofs.«01_k».proof.Proof.Finite8

@[expose] public section

set_option maxRecDepth 16384

noncomputable section

namespace Cert.Kernel8Ideal.Post

open Idealize.ShloMosaic Idealize.ShloMosaic.TcCoe Idealize.SL.Sem
open Cert.Kernel8Ideal Cert.Kernel8Ideal.Gen Cert.Proj Cert.Gate Cert.Post

variable (m : (ℓ : Loc nD τ sig) → Buf (Elt Ideal) ℓ) (c : Dev nD)

/-- The arrays as the call is given them. -/
def eD : FVec Ideal S8320x1024 .f32 := V m c main_v25
def eG : FVec Ideal S8320x4736 .f32 := V m c main_v26
def eO : FVec Ideal S8x8320x64 .f32 := V m c main_v27
def eP : FVec Ideal S8320x1024 .f32 := V m c main_v28
def eY : FVec Ideal S8320x1024 .f32 := V m c main_v29
def eU : FVec Ideal S512x1024 .bf16 := V m c main_v30
def eW : FVec Ideal S1024x1024 .bf16 := V m c main_v31

/-- The tiles' places. -/
theorem idx : ∀ t : Fin cfg0.N, win0_0.index t = ![t.val, 0] ∧ win0_1.index t = ![t.val, 1] ∧ win0_2.index t = ![t.val, 8]
    ∧ win0_3.index t = ![0, t.val, 0] ∧ win0_4.index t = ![t.val, 0] ∧ win0_5.index t = ![t.val, 0] ∧ win0_6.index t = ![0, 0]
    ∧ win0_7.index t = ![0, 0] ∧ win0_8.index t = ![t.val, 0] ∧ win0_9.index t = ![t.val, 0] ∧ win0_10.index t = ![0, t.val, 0]
    ∧ win0_11.index t = ![0, 0] ∧ win0_12.index t = ![0, 0] :=
  (by decide +kernel : ∀ t : Fin grid0.N, _)

theorem lt (t : Fin cfg0.N) : t.val < 26 := Nat.lt_of_lt_of_eq t.isLt N_0
/-- Row `r` of tile `t`. -/
def at_ (t : Fin cfg0.N) (r : Fin 320) : Fin 8320 := ⟨t.val * 320 + r.val, by have := lt t; omega⟩

theorem d_tile (t : Fin cfg0.N) (r : Fin 320) (n : Fin 1024) : (iblk m c 0 t : FVec Ideal S320x1024 .f32) (ix2 r n) = eD m c (ix2 (at_ t r) n) := by
  unfold at_ eD
  blk_ext [iblk, idx t]
/-- The gates are columns 2048 to 4095 of the projection, and `z` the 512 after them. -/
theorem g_tile (t : Fin cfg0.N) (r : Fin 320) (n : Fin 2048) :
    (X0_1 m c t : FVec Ideal S320x2048 .f32) (ix2 r n) = eG m c (ix2 (at_ t r) ⟨2048 + n.val, by omega⟩) := by
  unfold X0_1 Pipeline.Window.fill
  rw [dif_pos (moved0_1 t (ix2 r n))]
  unfold at_ eG
  blk_ext [iblk, idx t]
theorem z_tile (t : Fin cfg0.N) (r : Fin 320) (n : Fin 512) :
    (X0_2 m c t : FVec Ideal S320x512 .f32) (ix2 r n) = eG m c (ix2 (at_ t r) ⟨4096 + n.val, by omega⟩) := by
  unfold X0_2 Pipeline.Window.fill
  rw [dif_pos (moved0_2 t (ix2 r n))]
  unfold at_ eG
  blk_ext [iblk, idx t]
theorem o_tile (t : Fin cfg0.N) (k : Fin 8) (r : Fin 320) (l : Fin 64) :
    (iblk m c 3 t : FVec Ideal S8x320x64 .f32) (ix3 k r l) = eO m c (ix3 k (at_ t r) l) := by
  unfold at_ eO
  blk_ext [iblk, idx t]
theorem p_tile (t : Fin cfg0.N) (r : Fin 320) (n : Fin 1024) : (iblk m c 4 t : FVec Ideal S320x1024 .f32) (ix2 r n) = eP m c (ix2 (at_ t r) n) := by
  unfold at_ eP
  blk_ext [iblk, idx t]
theorem y_tile (t : Fin cfg0.N) (r : Fin 320) (n : Fin 1024) : (iblk m c 5 t : FVec Ideal S320x1024 .f32) (ix2 r n) = eY m c (ix2 (at_ t r) n) := by
  unfold at_ eY
  blk_ext [iblk, idx t]
theorem u_tile (t : Fin cfg0.N) (n : Fin 512) (j : Fin 1024) : (iblk m c 6 t : FVec Ideal S512x1024 .bf16) (ix2 n j) = eU m c (ix2 n j) := by
  unfold eU
  blk_ext [iblk, idx t]
theorem w_tile (t : Fin cfg0.N) (n : Fin 1024) (j : Fin 1024) : (iblk m c 7 t : FVec Ideal S1024x1024 .bf16) (ix2 n j) = eW m c (ix2 n j) := by
  unfold eW
  blk_ext [iblk, idx t]

/-- Head `k` of a tile's block of heads. -/
theorem head_tile (t : Fin cfg0.N) (k : ℕ) (hk : k < 8) (inb) (r : Fin 320) (l : Fin 64) :
    View.ld (iblk m c 3 t : FVec Ideal S8x320x64 .f32) (Rect.unit ![k, 0, 0] ![1, 320, 64] inb) (ix3 0 r l) = eO m c (ix3 ⟨k, hk⟩ (at_ t r) l) := by
  rw [View.ld_unit_apply_of _ _ _ _ _ (ix3 ⟨k, hk⟩ r l) (fun a => by fin_cases a <;> simp [ix3])]
  exact o_tile m c t _ r l

/-- A tile's heads side by side. -/
def oRow (t : Fin cfg0.N) : FVec Ideal S320x512 .f32 := fun i => eO m c (ix3 (head (i 1)) (at_ t (i 0)) (lane (i 1)))

theorem o_cat (t : Fin cfg0.N) (i0 i1 i2 i3 i4 i5 i6 i7) :
    k0_pay15 (F := Ideal) (k0_pay9 (View.ld (iblk m c 3 t : FVec Ideal S8x320x64 .f32) (Rect.unit ![0, 0, 0] ![1, 320, 64] i0)))
      (k0_pay10 (View.ld (iblk m c 3 t : FVec Ideal S8x320x64 .f32) (Rect.unit ![1, 0, 0] ![1, 320, 64] i1)))
      (k0_pay11 (View.ld (iblk m c 3 t : FVec Ideal S8x320x64 .f32) (Rect.unit ![2, 0, 0] ![1, 320, 64] i2)))
      (k0_pay12 (View.ld (iblk m c 3 t : FVec Ideal S8x320x64 .f32) (Rect.unit ![3, 0, 0] ![1, 320, 64] i3)))
      (k0_pay13 (View.ld (iblk m c 3 t : FVec Ideal S8x320x64 .f32) (Rect.unit ![4, 0, 0] ![1, 320, 64] i4)))
      (k0_pay14 (View.ld (iblk m c 3 t : FVec Ideal S8x320x64 .f32) (Rect.unit ![5, 0, 0] ![1, 320, 64] i5)))
      (View.ld (iblk m c 3 t : FVec Ideal S8x320x64 .f32) (Rect.unit ![6, 0, 0] ![1, 320, 64] i6))
      (View.ld (iblk m c 3 t : FVec Ideal S8x320x64 .f32) (Rect.unit ![7, 0, 0] ![1, 320, 64] i7)) = oRow m c t := by
  funext i
  idx_vars i
  exact row_at _ _ _ _ _ _ _ _ i0 (fun k l => eO m c (ix3 k (at_ t i0) l)) (head_tile m c t 0 (by omega) _ i0) (head_tile m c t 1 (by omega) _ i0)
    (head_tile m c t 2 (by omega) _ i0) (head_tile m c t 3 (by omega) _ i0) (head_tile m c t 4 (by omega) _ i0) (head_tile m c t 5 (by omega) _ i0)
    (head_tile m c t 6 (by omega) _ i0) (head_tile m c t 7 (by omega) _ i0) i1

/-- Row `r` of the arrays given; and a tile's row is one of them. -/
def eRow (r : Fin 8320) : Row where
  dh := fun j => eD m c (ix2 r j)
  gp := fun k => eG m c (ix2 r ⟨2048 + k.val, by omega⟩)
  gm := fun k => eG m c (ix2 r ⟨2048 + (1024 + k.val), by omega⟩)
  p := fun k => eP m c (ix2 r k)
  y := fun k => eY m c (ix2 r k)
  z := fun n => eG m c (ix2 r ⟨4096 + n.val, by omega⟩)
  o := fun n => eO m c (ix3 (head n) r (lane n))

theorem row_tile (t : Fin cfg0.N) (r : Fin 320) :
    rowOf (iblk m c 0 t) (X0_1 m c t) (iblk m c 4 t) (iblk m c 5 t) (X0_2 m c t) (oRow m c t) r = eRow m c (at_ t r) := by
  unfold rowOf eRow
  simp only [d_tile, g_tile, p_tile, y_tile, z_tile]
  rfl

theorem mat_tile (t : Fin cfg0.N) : mat (iblk m c 7 t) = mat (eW m c) := funext fun k => funext fun j => w_tile m c t k j
theorem up_tile (t : Fin cfg0.N) : up (iblk m c 6 t) = up (eU m c) := funext fun n => funext fun k => u_tile m c t n k

/-- The five results, of the arrays given. -/
def outG : FVec Ideal S8320x2560 .bf16 := fun i =>
  if h : (i 1).val < 1024 then gradGp (eRow m c (i 0)) (mat (eW m c)) ⟨(i 1).val, h⟩
  else if h' : (i 1).val < 2048 then gradGm (eRow m c (i 0)) (mat (eW m c)) ⟨(i 1).val - 1024, by omega⟩
  else gradZ (eRow m c (i 0)) (mat (eW m c)) (up (eU m c)) ⟨(i 1).val - 2048, by have : (i 1).val < 2560 := (i 1).isLt; omega⟩
def outP : FVec Ideal S8320x1024 .bf16 := fun i => gradP (eRow m c (i 0)) (mat (eW m c)) (i 1)
def outO : FVec Ideal S8x8320x64 .f32 := fun i => gradO (eRow m c (i 1)) (mat (eW m c)) (up (eU m c))
  ⟨64 * (i 0).val + (i 2).val, by have : (i 0).val < 8 := (i 0).isLt; have : (i 2).val < 64 := (i 2).isLt; omega⟩
def outW : FVec Ideal S1024x1024 .f32 := fun i => ∑ r : Fin 8320, merged (eRow m c r) (i 0) * (eRow m c r).dh (i 1)
def outU : FVec Ideal S512x1024 .f32 := fun i => ∑ r : Fin 8320, act (eRow m c r) (i 0) * dy (eRow m c r) (mat (eW m c)) (i 1)

/-- The columns of the three gates. -/
abbrev pc (k : Fin 1024) : Fin 2560 := ⟨k.val, by omega⟩
abbrev mc (k : Fin 1024) : Fin 2560 := ⟨1024 + k.val, by omega⟩
abbrev zc (n : Fin 512) : Fin 2560 := ⟨2048 + n.val, by omega⟩

theorem outG_p (r : Fin 8320) (q : Fin 2560) (k : Fin 1024) (h : q.val = k.val) : outG m c (ix2 r q) = gradGp (eRow m c r) (mat (eW m c)) k := by
  obtain rfl : q = pc k := Fin.ext h
  exact dif_pos k.isLt
theorem outG_m (r : Fin 8320) (q : Fin 2560) (k : Fin 1024) (h : q.val = 1024 + k.val) : outG m c (ix2 r q) = gradGm (eRow m c r) (mat (eW m c)) k := by
  obtain rfl : q = mc k := Fin.ext h
  have e : (⟨1024 + k.val - 1024, by omega⟩ : Fin 1024) = k := Fin.ext (by show 1024 + k.val - 1024 = k.val; omega)
  refine (dif_neg (show ¬ 1024 + k.val < 1024 by omega)).trans ((dif_pos (show 1024 + k.val < 2048 by omega)).trans ?_)
  exact congrArg (gradGm (eRow m c r) (mat (eW m c))) e
theorem outG_z (r : Fin 8320) (q : Fin 2560) (n : Fin 512) (h : q.val = 2048 + n.val) : outG m c (ix2 r q) = gradZ (eRow m c r) (mat (eW m c)) (up (eU m c)) n := by
  obtain rfl : q = zc n := Fin.ext h
  have e : (⟨2048 + n.val - 2048, by omega⟩ : Fin 512) = n := Fin.ext (by show 2048 + n.val - 2048 = n.val; omega)
  refine (dif_neg (show ¬ 2048 + n.val < 1024 by omega)).trans ((dif_neg (show ¬ 2048 + n.val < 2048 by omega)).trans ?_)
  exact congrArg (gradZ (eRow m c r) (mat (eW m c)) (up (eU m c))) e

theorem cases (t : Fin cfg0.N) : t.val = 0 ∨ 1 ≤ t.val := by omega

theorem final9 : (dats m 0 c).arrAt 9 cfg0.N = outP m c := by
  refine (dats m 0 c).arrAt_eq_of_covers 9 _ (by decide +kernel) fun t hf y => ?_
  blk_simp
  rw [after0_9]
  idx_vars y
  have b := lt t
  have q : ((View.whole main_v32_1).slice (win0_9.rect t)).emb (ix2 y0 y1) = ix2 (at_ t y0) y1 := by
    unfold at_
    blk_ext [idx t]
  rw [q]
  have e := gradP_at (iblk m c 0 t) (X0_1 m c t) (iblk m c 4 t) (iblk m c 5 t) (X0_2 m c t) (oRow m c t) (iblk m c 7 t) y0 y1
  rw [row_tile, mat_tile] at e
  rcases cases t with ht | ht
  · rw [outsAt0_A m c t (by omega) (by omega) (by omega) (by omega)]; frame_out; exact e
  · rw [outsAt0_B m c t (by omega) (by omega) (by omega) (by omega)]; frame_out; exact e

/-- The stored blocks of columns of the gates' gradient. -/
theorem gp_tile (t : Fin cfg0.N) (r : Fin 320) (q : Fin 2560) (x : S320x1024.Idx) (h0 : r.val = (x 0).val) (h1 : q.val = (x 1).val) :
    (k0_pay24 (F := Ideal) (k0_pay4 (iblk m c 4 t)) (k0_pay7 (iblk m c 0 t) (iblk m c 7 t)) (k0_pay18 (k0_pay8 (X0_1 m c t))) x : EReal) = outG m c (ix2 (at_ t r) q) := by
  idx_vars x
  obtain rfl : r = x0 := Fin.ext h0
  refine (gradGp_at _ _ _ (iblk m c 5 t) (X0_2 m c t) (oRow m c t) _ r x1).trans ?_
  rw [row_tile, mat_tile]
  exact (outG_p m c _ q x1 h1).symm
theorem gm_tile (t : Fin cfg0.N) (r : Fin 320) (q : Fin 2560) (x : S320x1024.Idx) (h0 : r.val = (x 0).val) (h1 : q.val = 1024 + (x 1).val) :
    (k0_pay25 (F := Ideal) (k0_pay5 (iblk m c 5 t)) (k0_pay7 (iblk m c 0 t) (iblk m c 7 t)) (k0_pay19 (k0_pay8 (X0_1 m c t))) x : EReal) = outG m c (ix2 (at_ t r) q) := by
  idx_vars x
  obtain rfl : r = x0 := Fin.ext h0
  refine (gradGm_at _ _ (iblk m c 4 t) _ (X0_2 m c t) (oRow m c t) _ r x1).trans ?_
  rw [row_tile, mat_tile]
  exact (outG_m m c _ q x1 h1).symm
theorem gz_tile (t : Fin cfg0.N) (r : Fin 320) (q : Fin 2560) (o) (ho : o = oRow m c t) (x : S320x512.Idx) (h0 : r.val = (x 0).val) (h1 : q.val = 2048 + (x 1).val) :
    (k0_pay29 (F := Ideal) (k0_pay3 (X0_2 m c t)) o (k0_pay16 (k0_pay3 (X0_2 m c t))) (k0_pay22 (k0_pay7 (iblk m c 0 t) (iblk m c 7 t)) (k0_pay8 (X0_1 m c t)) (iblk m c 6 t)) x : EReal)
      = outG m c (ix2 (at_ t r) q) := by
  subst ho
  idx_vars x
  obtain rfl : r = x0 := Fin.ext h0
  refine (gradZ_at _ _ (iblk m c 4 t) (iblk m c 5 t) _ _ _ _ r x1).trans ?_
  rw [row_tile, mat_tile, up_tile]
  exact (outG_z m c _ q x1 h1).symm

theorem final8 : (dats m 0 c).arrAt 8 cfg0.N = outG m c := by
  refine (dats m 0 c).arrAt_eq_of_covers 8 _ (by decide +kernel) fun t hf y => ?_
  blk_simp
  rw [after0_8]
  idx_vars y
  have b := lt t
  have q : ((View.whole main_v32_0).slice (win0_8.rect t)).emb (ix2 y0 y1) = ix2 (at_ t y0) y1 := by
    unfold at_
    blk_ext [idx t]
  rw [q]
  rcases cases t with ht | ht
  · rw [outsAt0_A m c t (by omega) (by omega) (by omega) (by omega)]; frame_out
    canon_tiles x h using View.cover_of_tiledBy _ ![320, 128] (by sl_kernel_rfl) _
    · exact gz_tile m c t y0 y1 _ (o_cat m c t _ _ _ _ _ _ _ _) x h0 h1
    · exact gm_tile m c t y0 y1 x h0 h1
    · exact gp_tile m c t y0 y1 x h0 h1
  · rw [outsAt0_B m c t (by omega) (by omega) (by omega) (by omega)]; frame_out
    canon_tiles x h using View.cover_of_tiledBy _ ![320, 128] (by sl_kernel_rfl) _
    · exact gz_tile m c t y0 y1 _ (o_cat m c t _ _ _ _ _ _ _ _) x h0 h1
    · exact gm_tile m c t y0 y1 x h0 h1
    · exact gp_tile m c t y0 y1 x h0 h1

/-- The heads' gradient. -/
theorem do_at (t : Fin cfg0.N) (r : Fin 320) (n : Fin 512) :
    (k0_pay28 (F := Ideal) (k0_pay3 (X0_2 m c t)) (k0_pay16 (k0_pay3 (X0_2 m c t))) (k0_pay22 (k0_pay7 (iblk m c 0 t) (iblk m c 7 t)) (k0_pay8 (X0_1 m c t)) (iblk m c 6 t)) (ix2 r n) : EReal)
      = gradO (eRow m c (at_ t r)) (mat (eW m c)) (up (eU m c)) n := by
  refine (gradO_at _ _ (iblk m c 4 t) (iblk m c 5 t) _ (oRow m c t) _ _ r n).trans ?_
  rw [row_tile, mat_tile, up_tile]

theorem o_piece (t : Fin cfg0.N) (y0 : Fin 8) (r : Fin 320) (l : Fin 64) (k : ℕ) (hk : k < 8) (f : FVec Ideal S1x320x64 .f32)
    (e : ∀ (r : Fin 320) (l : Fin 64), (f (ix3 0 r l) : EReal) = gradO (eRow m c (at_ t r)) (mat (eW m c)) (up (eU m c)) ⟨64 * k + l.val, by omega⟩)
    (x : S1x320x64.Idx) (h0 : y0.val = k + (x 0).val) (h1 : r.val = (x 1).val) (h2 : l.val = (x 2).val) : (f x : EReal) = outO m c (ix3 y0 (at_ t r) l) := by
  idx_vars x
  obtain rfl : x0 = 0 := Subsingleton.elim _ _
  obtain rfl : r = x1 := Fin.ext h1
  obtain rfl : l = x2 := Fin.ext h2
  have hy : y0.val = k := h0
  refine (e r l).trans ?_
  exact congrArg (gradO (eRow m c (at_ t r)) (mat (eW m c)) (up (eU m c))) (Fin.ext (by show 64 * k + l.val = 64 * y0.val + l.val; rw [hy]))

theorem final10 : (dats m 0 c).arrAt 10 cfg0.N = outO m c := by
  refine (dats m 0 c).arrAt_eq_of_covers 10 _ (by decide +kernel) fun t hf y => ?_
  blk_simp
  rw [after0_10]
  idx_vars y
  have b := lt t
  have q : ((View.whole main_v32_2).slice (win0_10.rect t)).emb (ix3 y0 y1 y2) = ix3 y0 (at_ t y1) y2 := by
    unfold at_
    blk_ext [idx t]
  rw [q]
  rcases cases t with ht | ht
  · rw [outsAt0_A m c t (by omega) (by omega) (by omega) (by omega)]; frame_out
    canon_tiles x h
    · exact o_piece m c t y0 y1 y2 7 (by omega) _ (fun r l => (head7_at _ r l).trans ((do_at m c t r _).trans (congrArg _ (Fin.ext (by show 448 + l.val = 64 * 7 + l.val; omega))))) x h0 h1 h2
    · exact o_piece m c t y0 y1 y2 6 (by omega) _ (fun r l => (head6_at _ r l).trans ((do_at m c t r _).trans (congrArg _ (Fin.ext (by show 384 + l.val = 64 * 6 + l.val; omega))))) x h0 h1 h2
    · exact o_piece m c t y0 y1 y2 5 (by omega) _ (fun r l => (head5_at _ r l).trans ((do_at m c t r _).trans (congrArg _ (Fin.ext (by show 320 + l.val = 64 * 5 + l.val; omega))))) x h0 h1 h2
    · exact o_piece m c t y0 y1 y2 4 (by omega) _ (fun r l => (head4_at _ r l).trans ((do_at m c t r _).trans (congrArg _ (Fin.ext (by show 256 + l.val = 64 * 4 + l.val; omega))))) x h0 h1 h2
    · exact o_piece m c t y0 y1 y2 3 (by omega) _ (fun r l => (head3_at _ r l).trans ((do_at m c t r _).trans (congrArg _ (Fin.ext (by show 192 + l.val = 64 * 3 + l.val; omega))))) x h0 h1 h2
    · exact o_piece m c t y0 y1 y2 2 (by omega) _ (fun r l => (head2_at _ r l).trans ((do_at m c t r _).trans (congrArg _ (Fin.ext (by show 128 + l.val = 64 * 2 + l.val; omega))))) x h0 h1 h2
    · exact o_piece m c t y0 y1 y2 1 (by omega) _ (fun r l => (head1_at _ r l).trans ((do_at m c t r _).trans (congrArg _ (Fin.ext (by show 64 + l.val = 64 * 1 + l.val; omega))))) x h0 h1 h2
    · exact o_piece m c t y0 y1 y2 0 (by omega) _ (fun r l => (head0_at _ _ r l).trans ((do_at m c t r _).trans (congrArg _ (Fin.ext (by show l.val = 64 * 0 + l.val; omega))))) x (h0.trans (zero_add _).symm) h1 h2
  · rw [outsAt0_B m c t (by omega) (by omega) (by omega) (by omega)]; frame_out
    canon_tiles x h
    · exact o_piece m c t y0 y1 y2 7 (by omega) _ (fun r l => (head7_at _ r l).trans ((do_at m c t r _).trans (congrArg _ (Fin.ext (by show 448 + l.val = 64 * 7 + l.val; omega))))) x h0 h1 h2
    · exact o_piece m c t y0 y1 y2 6 (by omega) _ (fun r l => (head6_at _ r l).trans ((do_at m c t r _).trans (congrArg _ (Fin.ext (by show 384 + l.val = 64 * 6 + l.val; omega))))) x h0 h1 h2
    · exact o_piece m c t y0 y1 y2 5 (by omega) _ (fun r l => (head5_at _ r l).trans ((do_at m c t r _).trans (congrArg _ (Fin.ext (by show 320 + l.val = 64 * 5 + l.val; omega))))) x h0 h1 h2
    · exact o_piece m c t y0 y1 y2 4 (by omega) _ (fun r l => (head4_at _ r l).trans ((do_at m c t r _).trans (congrArg _ (Fin.ext (by show 256 + l.val = 64 * 4 + l.val; omega))))) x h0 h1 h2
    · exact o_piece m c t y0 y1 y2 3 (by omega) _ (fun r l => (head3_at _ r l).trans ((do_at m c t r _).trans (congrArg _ (Fin.ext (by show 192 + l.val = 64 * 3 + l.val; omega))))) x h0 h1 h2
    · exact o_piece m c t y0 y1 y2 2 (by omega) _ (fun r l => (head2_at _ r l).trans ((do_at m c t r _).trans (congrArg _ (Fin.ext (by show 128 + l.val = 64 * 2 + l.val; omega))))) x h0 h1 h2
    · exact o_piece m c t y0 y1 y2 1 (by omega) _ (fun r l => (head1_at _ r l).trans ((do_at m c t r _).trans (congrArg _ (Fin.ext (by show 64 + l.val = 64 * 1 + l.val; omega))))) x h0 h1 h2
    · exact o_piece m c t y0 y1 y2 0 (by omega) _ (fun r l => (head0_at _ _ r l).trans ((do_at m c t r _).trans (congrArg _ (Fin.ext (by show l.val = 64 * 0 + l.val; omega))))) x (h0.trans (zero_add _).symm) h1 h2

theorem w_sum (t : Fin cfg0.N) (j : S1024x1024.Idx) :
    ∑ r : Fin 320, (k0_pay20 (F := Ideal) (k0_pay4 (iblk m c 4 t)) (k0_pay5 (iblk m c 5 t)) (k0_pay8 (X0_1 m c t)) (ix2 r (j 0)) : EReal) * (iblk m c 0 t : FVec Ideal S320x1024 .f32) (ix2 r (j 1))
      = ∑ r : Fin 320, merged (eRow m c (at_ t r)) (j 0) * (eRow m c (at_ t r)).dh (j 1) :=
  Finset.sum_congr rfl fun r _ => congrArg₂ (· * ·)
    ((merged_at (iblk m c 0 t) _ _ _ (X0_2 m c t) (oRow m c t) r (j 0)).trans (congrArg (fun R => merged R (j 0)) (row_tile m c t r))) (d_tile m c t r (j 1))

theorem final11 : (dats m 0 c).arrAt 11 cfg0.N = outW m c := by
  refine (dats m 0 c).arrAt_eq_of_covers 11 _ (by decide +kernel) fun t hf y => ?_
  blk_simp
  rw [after0_11, Pipeline.eq_sum_fin_of_reset_step_apply_of_flush (fun n h => (outsAt0 m c n h).2.2.2.1) 26 (fun _ => 0)
    (fun t j => ∑ r : Fin 320, merged (eRow m c (at_ t r)) (j 0) * (eRow m c (at_ t r)).dh (j 1))
    (fun t h j => by
      have b := lt t
      rw [outsAt0_A m c t h (by omega) h (by omega)]; frame_out; rw [gradW_at]; exact (w_sum m c t j).trans (zero_add _).symm)
    (fun t h j => by
      rw [outsAt0_B m c t h (by omega) h (by omega)]; frame_out; rw [moreW_at]; exact congrArg₂ (· + ·) rfl (w_sum m c t j))
    t ((flush0_11 t).mp hf) _, zero_add]
  idx_vars y
  have q : ((View.whole main_v32_3).slice (win0_11.rect t)).emb (ix2 y0 y1) = ix2 y0 y1 := by blk_ext [idx t]
  rw [q]
  unfold outW
  refine Fin.sum_mul_add_congr fun s k hl => ?_
  have b : t.val / 26 = 0 := Nat.div_eq_of_lt (lt t)
  have e : at_ ⟨26 * (t.val / 26) + s.val, Pipeline.run_point_lt_of_flush t ((flush0_11 t).mp hf) s⟩ k = ⟨s.val * 320 + k.val, hl⟩ :=
    Fin.ext (by show (26 * (t.val / 26) + s.val) * 320 + k.val = s.val * 320 + k.val; rw [b, mul_zero, zero_add])
  rw [← e]
  rfl

theorem u_sum (t : Fin cfg0.N) (a b e f h k : FVec Ideal S320x64 .f32) (i l : FVec Ideal S1x320x64 .f32) (ho : k0_pay15 (F := Ideal) a b e f h k i l = oRow m c t) (j : S512x1024.Idx) :
    ∑ r : Fin 320, (k0_pay17 (F := Ideal) (k0_pay3 (X0_2 m c t)) a b e f h k i l (ix2 r (j 0)) : EReal) * k0_pay21 (F := Ideal) (k0_pay7 (iblk m c 0 t) (iblk m c 7 t)) (k0_pay8 (X0_1 m c t)) (ix2 r (j 1))
      = ∑ r : Fin 320, act (eRow m c (at_ t r)) (j 0) * dy (eRow m c (at_ t r)) (mat (eW m c)) (j 1) :=
  Finset.sum_congr rfl fun r _ => congrArg₂ (· * ·)
    (by
      refine (act_at (iblk m c 0 t) (X0_1 m c t) (iblk m c 4 t) (iblk m c 5 t) _ a b e f h k i l r (j 0)).trans ?_
      rw [ho, row_tile])
    (by
      refine (dy_at _ _ (iblk m c 4 t) (iblk m c 5 t) (X0_2 m c t) (oRow m c t) _ r (j 1)).trans ?_
      rw [row_tile, mat_tile])

theorem final12 : (dats m 0 c).arrAt 12 cfg0.N = outU m c := by
  refine (dats m 0 c).arrAt_eq_of_covers 12 _ (by decide +kernel) fun t hf y => ?_
  blk_simp
  rw [after0_12, Pipeline.eq_sum_fin_of_reset_step_apply_of_flush (fun n h => (outsAt0 m c n h).2.2.2.2) 26 (fun _ => 0)
    (fun t j => ∑ r : Fin 320, act (eRow m c (at_ t r)) (j 0) * dy (eRow m c (at_ t r)) (mat (eW m c)) (j 1))
    (fun t h j => by
      have b := lt t
      rw [outsAt0_A m c t h (by omega) h (by omega)]; frame_out; rw [gradU_at]
      exact (u_sum m c t _ _ _ _ _ _ _ _ (o_cat m c t _ _ _ _ _ _ _ _) j).trans (zero_add _).symm)
    (fun t h j => by
      rw [outsAt0_B m c t h (by omega) h (by omega)]; frame_out; rw [moreU_at]
      exact congrArg₂ (· + ·) rfl (u_sum m c t _ _ _ _ _ _ _ _ (o_cat m c t _ _ _ _ _ _ _ _) j))
    t ((flush0_12 t).mp hf) _, zero_add]
  idx_vars y
  have q : ((View.whole main_v32_4).slice (win0_12.rect t)).emb (ix2 y0 y1) = ix2 y0 y1 := by blk_ext [idx t]
  rw [q]
  unfold outU
  refine Fin.sum_mul_add_congr fun s k hl => ?_
  have b : t.val / 26 = 0 := Nat.div_eq_of_lt (lt t)
  have e : at_ ⟨26 * (t.val / 26) + s.val, Pipeline.run_point_lt_of_flush t ((flush0_12 t).mp hf) s⟩ k = ⟨s.val * 320 + k.val, hl⟩ :=
    Fin.ext (by show (26 * (t.val / 26) + s.val) * 320 + k.val = s.val * 320 + k.val; rw [b, mul_zero, zero_add])
  rw [← e]
  rfl

/-- 112 rows of zeros in front: of a matrix's rows, and of each head's. -/
theorem padX_at (d : FVec Ideal S8208x1024 .f32) (r : Fin 8320) (n : Fin 1024) :
    (pad S8320x1024 ![112, 0] ![0, 0] ![0, 0] d (constant (F := Ideal) S_ .f32 0x00000000#32) pads_S8208x1024_S8320x1024_11200_000 h_S_ (ix2 r n) : EReal)
      = front (fun r => d (ix2 r n)) r := by
  unfold front
  pointwise []
theorem padG_at (d : FVec Ideal S8208x4736 .f32) (r : Fin 8320) (n : Fin 4736) :
    (pad S8320x4736 ![112, 0] ![0, 0] ![0, 0] d (constant (F := Ideal) S_ .f32 0x00000000#32) pads_S8208x4736_S8320x4736_11200_000 h_S_ (ix2 r n) : EReal)
      = front (fun r => d (ix2 r n)) r := by
  unfold front
  pointwise []
theorem padO_at (d : FVec Ideal S8x8208x64 .f32) (k : Fin 8) (r : Fin 8320) (n : Fin 64) :
    (pad S8x8320x64 ![0, 112, 0] ![0, 0, 0] ![0, 0, 0] d (constant (F := Ideal) S_ .f32 0x00000000#32) pads_S8x8208x64_S8x8320x64_000_11200_000 h_S_ (ix3 k r n) : EReal)
      = front (fun r => d (ix3 k r n)) r := by
  unfold front
  pointwise []

/-- The arguments. -/
abbrev aD : FVec Ideal S8208x1024 .f32 := m ((c : Thread nD τ).loc main_arg0)
abbrev aG : FVec Ideal S8208x4736 .f32 := m ((c : Thread nD τ).loc main_arg1)
abbrev aO : FVec Ideal S8x8208x64 .f32 := m ((c : Thread nD τ).loc main_arg2)
abbrev aP : FVec Ideal S8208x1024 .f32 := m ((c : Thread nD τ).loc main_arg3)
abbrev aU : FVec Ideal S512x1024 .f32 := m ((c : Thread nD τ).loc main_arg4)
abbrev aW : FVec Ideal S1024x1024 .f32 := m ((c : Thread nD τ).loc main_arg5)
/-- The branch of the heads, computed on the host. -/
abbrev aY : FVec Ideal S8208x1024 .f32 := Cert.Reference8Ideal.Read.val_main_v6 (F := Ideal) (aG m c) (aO m c) (aU m c)

theorem eD_eq : eD m c = pad S8320x1024 ![112, 0] ![0, 0] ![0, 0] (aD m c) (constant (F := Ideal) S_ .f32 0x00000000#32) pads_S8208x1024_S8320x1024_11200_000 h_S_ := by
  unfold eD; entry_read; rfl
theorem eG_eq : eG m c = pad S8320x4736 ![112, 0] ![0, 0] ![0, 0] (aG m c) (constant (F := Ideal) S_ .f32 0x00000000#32) pads_S8208x4736_S8320x4736_11200_000 h_S_ := by
  unfold eG; entry_read; rfl
theorem eO_eq : eO m c = pad S8x8320x64 ![0, 112, 0] ![0, 0, 0] ![0, 0, 0] (aO m c) (constant (F := Ideal) S_ .f32 0x00000000#32) pads_S8x8208x64_S8x8320x64_000_11200_000 h_S_ := by
  unfold eO; entry_read; rfl
theorem eP_eq : eP m c = pad S8320x1024 ![112, 0] ![0, 0] ![0, 0] (aP m c) (constant (F := Ideal) S_ .f32 0x00000000#32) pads_S8208x1024_S8320x1024_11200_000 h_S_ := by
  unfold eP; entry_read; rfl
theorem eY_eq : eY m c = pad S8320x1024 ![112, 0] ![0, 0] ![0, 0] (aY m c) (constant (F := Ideal) S_ .f32 0x00000000#32) pads_S8208x1024_S8320x1024_11200_000 h_S_ := by
  unfold eY; entry_read; rfl
theorem eU_eq : eU m c = truncf .bf16 (aU m c) bitsLt_bf16_f32 := by unfold eU; entry_read; rfl
theorem eW_eq : eW m c = truncf .bf16 (aW m c) bitsLt_bf16_f32 := by unfold eW; entry_read; rfl

theorem eD_at (r : Fin 8320) (n : Fin 1024) : eD m c (ix2 r n) = front (fun r => aD m c (ix2 r n)) r := by rw [eD_eq]; exact padX_at _ r n
theorem eG_at (r : Fin 8320) (n : Fin 4736) : eG m c (ix2 r n) = front (fun r => aG m c (ix2 r n)) r := by rw [eG_eq]; exact padG_at _ r n
theorem eO_at (k : Fin 8) (r : Fin 8320) (n : Fin 64) : eO m c (ix3 k r n) = front (fun r => aO m c (ix3 k r n)) r := by rw [eO_eq]; exact padO_at _ k r n
theorem eP_at (r : Fin 8320) (n : Fin 1024) : eP m c (ix2 r n) = front (fun r => aP m c (ix2 r n)) r := by rw [eP_eq]; exact padX_at _ r n
theorem eY_at (r : Fin 8320) (n : Fin 1024) : eY m c (ix2 r n) = front (fun r => aY m c (ix2 r n)) r := by rw [eY_eq]; exact padX_at _ r n
theorem eU_at (n : Fin 512) (j : Fin 1024) : eU m c (ix2 n j) = aU m c (ix2 n j) := by rw [eU_eq]; rfl
theorem eW_at (n : Fin 1024) (j : Fin 1024) : eW m c (ix2 n j) = aW m c (ix2 n j) := by rw [eW_eq]; rfl

/-- The reference's results. -/
def refG : FVec Ideal S8320x2560 .bf16 := Cert.Reference8Ideal.Read.val_main_v53 (F := Ideal) (aD m c) (aG m c) (aO m c) (aP m c) (aU m c) (aW m c)
def refP : FVec Ideal S8320x1024 .bf16 := Cert.Reference8Ideal.Read.val_main_v55 (F := Ideal) (aD m c) (aG m c) (aW m c)
def refO : FVec Ideal S8x8320x64 .f32 := Cert.Reference8Ideal.Read.val_main_v56 (F := Ideal) (aD m c) (aG m c) (aU m c) (aW m c)
def refW : FVec Ideal S1024x1024 .f32 := Cert.Reference8Ideal.Read.val_main_v32 (F := Ideal) (aD m c) (aG m c) (aO m c) (aP m c) (aU m c)
def refU : FVec Ideal S512x1024 .f32 := Cert.Reference8Ideal.Read.val_main_v44 (F := Ideal) (aD m c) (aG m c) (aO m c) (aW m c)

/-- Row `r` of the arguments: row `112 + r` of the arrays given. The rows before have no gradient. -/
abbrev rRow (r : Fin 8208) : Row := Cert.Reference8Ideal.Post.rowOf (aD m c) (aG m c) (aO m c) (aP m c) (aU m c) r

theorem row_high (r : Fin 8320) (h : 112 ≤ r.val) : eRow m c r = rRow m c ⟨r.val - 112, by omega⟩ := by
  unfold eRow rRow Cert.Reference8Ideal.Post.rowOf
  simp only [eD_at, eG_at, eO_at, eP_at, eY_at, front_high _ r h]
theorem row_low (r : Fin 8320) (h : r.val < 112) (j : Fin 1024) : (eRow m c r).dh j = 0 := (eD_at m c r j).trans (front_low _ r h)
theorem mat_eq : mat (eW m c) = Cert.Reference8Ideal.Post.mat (aW m c) := funext fun k => funext fun j => eW_at m c k j
theorem up_eq : up (eU m c) = Cert.Reference8Ideal.Post.up (aU m c) := funext fun n => funext fun k => eU_at m c n k

/-- A function of a row that vanishes without a gradient. -/
theorem of_row (f : Row → EReal) (z : ∀ R : Row, (∀ j, R.dh j = 0) → f R = 0) (r : Fin 8320) :
    f (eRow m c r) = front (fun r => f (rRow m c r)) r := by
  by_cases h : 112 ≤ r.val
  · rw [front_high _ r h, row_high m c r h]
  · rw [front_low _ r (by omega)]
    exact z _ (row_low m c r (by omega))

theorem sum_of_front (a : Fin 8208 → EReal) : ∑ r, front a r = ∑ r, a r :=
  sum_front _ _ (fun r h => front_low a r h) fun r => (front_high a _ (show 112 ≤ 112 + r.val by omega)).trans
    (congrArg a (Fin.ext (by show 112 + r.val - 112 = r.val; omega)))

theorem leavesP : (dats m 0 c).arrAt 9 cfg0.N = refP m c := by
  refine (final9 m c).trans (funext fun i => ?_)
  idx_vars i
  refine Eq.trans ?_ (Cert.Reference8Ideal.Post.ref_p (aD m c) (aG m c) (aW m c) i0 i1).symm
  refine (of_row m c (fun R => gradP R (mat (eW m c)) i1) (fun R z => gradP_zero R _ z i1) i0).trans ?_
  rw [mat_eq]
  exact congrArg (fun f => front f i0) (funext fun r => (Cert.Reference8Ideal.Post.ref_gradP (aD m c) (aG m c) (aO m c) (aP m c) (aU m c) (aW m c) r i1).symm)

theorem leavesO : (dats m 0 c).arrAt 10 cfg0.N = refO m c := by
  refine (final10 m c).trans (funext fun i => ?_)
  idx_vars i
  refine Eq.trans ?_ (Cert.Reference8Ideal.Post.ref_o (aD m c) (aG m c) (aU m c) (aW m c) i0 i1 i2).symm
  refine (of_row m c (fun R => gradO R (mat (eW m c)) (up (eU m c)) ⟨64 * i0.val + i2.val, by omega⟩) (fun R z => gradO_zero R _ _ z _) i1).trans ?_
  rw [mat_eq, up_eq]
  exact congrArg (fun f => front f i1) (funext fun r => (Cert.Reference8Ideal.Post.ref_gradO (aD m c) (aG m c) (aO m c) (aP m c) (aU m c) (aW m c) r _).symm)

theorem leavesW : (dats m 0 c).arrAt 11 cfg0.N = refW m c := by
  refine (final11 m c).trans (funext fun i => ?_)
  idx_vars i
  refine Eq.trans ?_ (Cert.Reference8Ideal.Post.ref_w (aD m c) (aG m c) (aO m c) (aP m c) (aU m c) i0 i1).symm
  refine (Finset.sum_congr rfl fun r _ => of_row m c (fun R => merged R i0 * R.dh i1) (fun R z => by show merged R i0 * R.dh i1 = 0; rw [z, mul_zero]) r).trans ?_
  exact sum_of_front _

theorem leavesU : (dats m 0 c).arrAt 12 cfg0.N = refU m c := by
  refine (final12 m c).trans (funext fun i => ?_)
  idx_vars i
  refine Eq.trans ?_ (Cert.Reference8Ideal.Post.ref_u (aD m c) (aG m c) (aO m c) (aP m c) (aU m c) (aW m c) i0 i1).symm
  refine (Finset.sum_congr rfl fun r _ => of_row m c (fun R => act R i0 * dy R (mat (eW m c)) i1)
    (fun R z => by show act R i0 * dy R _ i1 = 0; rw [dy_zero R _ z, mul_zero]) r).trans ?_
  rw [mat_eq]
  exact sum_of_front _

/-- Of finite gradient, heads and weights: the product with a head is finite. -/
theorem leavesG (fin : (∀ i, IsReal (aD m c i)) ∧ (∀ i, IsReal (aO m c i)) ∧ (∀ i, IsReal (aU m c i)) ∧ ∀ i, IsReal (aW m c i)) :
    (dats m 0 c).arrAt 8 cfg0.N = refG m c := by
  obtain ⟨fd, fo, fu, fw⟩ := fin
  refine (final8 m c).trans (funext fun i => ?_)
  idx_vars i
  refine Eq.trans ?_ (Cert.Reference8Ideal.Post.ref_gates (aD m c) (aG m c) (aO m c) (aP m c) (aU m c) (aW m c) i0 i1).symm
  have l := i1.isLt
  by_cases h : i1.val < 1024
  · obtain ⟨k, rfl⟩ : ∃ k : Fin 1024, i1 = pc k := ⟨⟨i1.val, h⟩, rfl⟩
    refine (outG_p m c i0 _ k rfl).trans ?_
    refine (of_row m c (fun R => gradGp R (mat (eW m c)) k) (fun R z => gradGp_zero R _ z k) i0).trans ?_
    rw [mat_eq]
    exact congrArg (fun f => front f i0) (funext fun r => ((Cert.Reference8Ideal.Post.ref_gates_p (aD m c) (aG m c) (aO m c) (aP m c) (aU m c) (aW m c) r k).trans
      (Cert.Reference8Ideal.Post.ref_gradGp (aD m c) (aG m c) (aO m c) (aP m c) (aU m c) (aW m c) r k)).symm)
  · by_cases h' : i1.val < 2048
    · obtain ⟨k, rfl⟩ : ∃ k : Fin 1024, i1 = mc k := ⟨⟨i1.val - 1024, by omega⟩, Fin.ext (by show i1.val = 1024 + (i1.val - 1024); omega)⟩
      refine (outG_m m c i0 _ k rfl).trans ?_
      refine (of_row m c (fun R => gradGm R (mat (eW m c)) k) (fun R z => gradGm_zero R _ z k) i0).trans ?_
      rw [mat_eq]
      exact congrArg (fun f => front f i0) (funext fun r => ((Cert.Reference8Ideal.Post.ref_gates_m (aD m c) (aG m c) (aO m c) (aP m c) (aU m c) (aW m c) r k).trans
        (Cert.Reference8Ideal.Post.ref_gradGm (aD m c) (aG m c) (aO m c) (aP m c) (aU m c) (aW m c) r k)).symm)
    · obtain ⟨n, rfl⟩ : ∃ n : Fin 512, i1 = zc n := ⟨⟨i1.val - 2048, by omega⟩, Fin.ext (by show i1.val = 2048 + (i1.val - 2048); omega)⟩
      refine (outG_z m c i0 _ n rfl).trans ?_
      refine (of_row m c (fun R => gradZ R (mat (eW m c)) (up (eU m c)) n) (fun R z => gradZ_zero R _ _ z n) i0).trans ?_
      rw [mat_eq, up_eq]
      exact congrArg (fun f => front f i0) (funext fun r => ((Cert.Reference8Ideal.Post.ref_gates_z (aD m c) (aG m c) (aO m c) (aP m c) (aU m c) (aW m c) r n).trans
        (Cert.Reference8Ideal.Post.ref_gradZ (aD m c) (aG m c) (aO m c) (aP m c) (aU m c) (aW m c) r n
          ((da_real _ _ _ (fun j => fd _) (fun k j => fw _) (fun n k => fu _) n).mul (fo _)))).symm)

/-- The value claim. -/
theorem algebraic : algebraic_Kernel8Ideal_Reference8Ideal_pre_finite8 (hKernel8Ideal := Cert.Kernel8Ideal.Gen.facts) (hReference8Ideal := Cert.Reference8Ideal.Gen.facts)
    (hPre_finite8 := Cert.Pre_finite8.facts) := by
  intro m g m' g' pre same
  refine ⟨refG m, refP m, refO m, refW m, refU m, ?_, ?_⟩
  · refine (θ_run Cert.Kernel8Ideal.defs _ _).mono (fun r h c => ?_) (Cert.Kernel8Ideal.Value.run_blocks m g)
    obtain ⟨h0, h1, h2, h3, h4, rest⟩ := h c
    exact ⟨h0.trans (leavesG m c (haveI := Cert.Pre_finite8.facts; Cert.Pre_finite8.real _ _ _ _ _ _ (pre c))), h1.trans (leavesP m c), h2.trans (leavesO m c), h3.trans (leavesW m c),
      h4.trans (leavesU m c), rest⟩
  · refine (θ_run Cert.Reference8Ideal.defs _ _).mono (fun r h c => ?_) (Cert.Reference8Ideal.Value.run m' g')
    obtain ⟨h0, h1, h2, h3, h4, rest⟩ := h c
    obtain ⟨s0, s1, s2, s3, s4, s5⟩ := same c
    refine ⟨h0.trans ?_, h1.trans ?_, h2.trans ?_, h3.trans ?_, h4.trans ?_, rest⟩
    · refine (Cert.Reference8Ideal.Read.val_main_v53_eq m' c).trans ?_
      rw [s0, s1, s2, s3, s4, s5]; rfl
    · refine (Cert.Reference8Ideal.Read.val_main_v55_eq _ _ _).trans ?_
      rw [s0, s1, s5]; rfl
    · refine (Cert.Reference8Ideal.Read.val_main_v56_eq _ _ _ _).trans ?_
      rw [s0, s1, s4, s5]; rfl
    · refine (Cert.Reference8Ideal.Read.val_main_v32_eq _ _ _ _ _).trans ?_
      rw [s0, s1, s2, s3, s4]; rfl
    · refine (Cert.Reference8Ideal.Read.val_main_v44_eq _ _ _ _).trans ?_
      rw [s0, s1, s2, s5]; rfl

end Cert.Kernel8Ideal.Post

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.IdealFrame
public import proofs.«01_k».proof.Proof.BitsFrame
public import proofs.«01_k».proof.Proof.Value
public import proofs.«01_k».proof.Proof.Weight2
public import proofs.«01_k».proof.Proof.Norm3
public import proofs.«01_k».proof.Proof.Weight4
public import proofs.«01_k».proof.Proof.Weight5
public import proofs.«01_k».proof.Proof.Norm6
public import proofs.«01_k».proof.Proof.Post7
public import proofs.«01_k».proof.Proof.Post8
public import Idealize.ShloMosaic.Adequacy
public import Idealize.ShloMosaic.Init

@[expose] public section

noncomputable section

namespace Cert.Proof

open Idealize.ShloMosaic Idealize.SL.Sem Cert.Kernel

/-- The reference ends with its arguments as they were, and has no counter. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono
    (fun r h => ⟨fun c => (h c).2.2.2, sem_eq_zero_of_no_sems rfl r.2⟩) (Cert.ReferenceIdeal.Value.run m g)

/-- The idealization changes three constants: the score of a masked pair and the two factors that turn a natural
    exponent into a binary one. -/
theorem preserves : preserves_Kernel_KernelIdeal :=
  ⟨IdealRules.named_const.statement Cert.KernelIdeal.κ "mask" .f32 0xF149F2CA#32 _ rfl,
    IdealRules.named_const.statement Cert.KernelIdeal.κ "exp2_scale" .f32 0x3E16C740#32 _ rfl,
    IdealRules.named_const.statement Cert.KernelIdeal.κ "log2_e" .f32 0x3FB8AA3B#32 _ rfl⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, Cert.Pre_finite.facts, Cert.Pre_finite8.facts,
  fun m g _ => Cert.Kernel.Body.frame m g, fun m g _ => Cert.KernelIdeal.Body.frame m g, fun m g _ => Cert.KernelIdeal.Body.frame m g,
  fun m g _ => reference_frame m g, fun m g _ => reference_frame m g,
  fun m g _ => Cert.Kernel2.Gen.frame m g, fun m g _ => Cert.Kernel2Ideal.Gen.frame m g,
  fun m g _ => (θ_run Cert.Reference2Ideal.defs _ _).mono
    (fun r h => ⟨fun c => (h c).2, sem_eq_zero_of_no_sems rfl r.2⟩) (Cert.Reference2Ideal.Value.run m g),
  fun m g _ => Cert.Kernel3.Gen.frame m g, fun m g _ => Cert.Kernel3Ideal.Gen.frame m g,
  fun m g _ => (θ_run Cert.Reference3Ideal.defs _ _).mono
    (fun r h => ⟨fun c => (h c).2.2, sem_eq_zero_of_no_sems rfl r.2⟩) (Cert.Reference3Ideal.Value.run m g),
  fun m g _ => Cert.Kernel4.Gen.frame m g, fun m g _ => Cert.Kernel4Ideal.Gen.frame m g,
  fun m g _ => (θ_run Cert.Reference4Ideal.defs _ _).mono
    (fun r h => ⟨fun c => (h c).2, sem_eq_zero_of_no_sems rfl r.2⟩) (Cert.Reference4Ideal.Value.run m g),
  fun m g _ => Cert.Kernel5.Gen.frame m g, fun m g _ => Cert.Kernel5Ideal.Gen.frame m g,
  fun m g _ => (θ_run Cert.Reference5Ideal.defs _ _).mono
    (fun r h => ⟨fun c => (h c).2, sem_eq_zero_of_no_sems rfl r.2⟩) (Cert.Reference5Ideal.Value.run m g),
  fun m g _ => Cert.Kernel6.Gen.frame m g, fun m g _ => Cert.Kernel6Ideal.Gen.frame m g,
  fun m g _ => (θ_run Cert.Reference6Ideal.defs _ _).mono
    (fun r h => ⟨fun c => (h c).2.2, sem_eq_zero_of_no_sems rfl r.2⟩) (Cert.Reference6Ideal.Value.run m g),
  fun m g _ => Cert.Kernel7.Gen.frame m g, fun m g _ => Cert.Kernel7Ideal.Gen.frame m g,
  fun m g _ => (θ_run Cert.Reference7Ideal.defs _ _).mono
    (fun r h => ⟨fun c => (h c).2.2, sem_eq_zero_of_no_sems rfl r.2⟩) (Cert.Reference7Ideal.Value.run m g),
  fun m g _ => Cert.Kernel8.Gen.frame m g, fun m g _ => Cert.Kernel8Ideal.Gen.frame m g, fun m g _ => Cert.Kernel8Ideal.Gen.frame m g,
  fun m g _ => (θ_run Cert.Reference8Ideal.defs _ _).mono
    (fun r h => ⟨fun c => (h c).2.2.2.2.2, sem_eq_zero_of_no_sems rfl r.2⟩) (Cert.Reference8Ideal.Value.run m g),
  fun m g _ => (θ_run Cert.Reference8Ideal.defs _ _).mono
    (fun r h => ⟨fun c => (h c).2.2.2.2.2, sem_eq_zero_of_no_sems rfl r.2⟩) (Cert.Reference8Ideal.Value.run m g),
  preserves, algebraic,
  trivial, Cert.Kernel2Ideal.Weight.algebraic,
  trivial, Cert.Kernel3Ideal.Norm.algebraic,
  trivial, Cert.Kernel4Ideal.Weight.algebraic,
  trivial, Cert.Kernel5Ideal.Weight.algebraic,
  trivial, Cert.Kernel6Ideal.Norm.algebraic,
  trivial, Cert.Kernel7Ideal.Post.algebraic,
  trivial, Cert.Kernel8Ideal.Post.algebraic⟩

end Cert.Proof

end
